-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v29)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v25)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v21)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v21) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4)) (v1 : (c : Dev Cert.Kernel29Ideal.nD) → Buf (Elt Ideal) ((c.tc : Thread Cert.Kernel29Ideal.nD Cert.Kernel29Ideal.τ).loc Cert.Kernel29Ideal.main_v5)) (v2 : (c : Dev Cert.Kernel29Ideal.nD) → Buf (Elt Ideal) ((c.tc : Thread Cert.Kernel29Ideal.nD Cert.Kernel29Ideal.τ).loc Cert.Kernel29Ideal.main_v6)) (v3 : (c : Dev Cert.Kernel29Ideal.nD) → Buf (Elt Ideal) ((c.tc : Thread Cert.Kernel29Ideal.nD Cert.Kernel29Ideal.τ).loc Cert.Kernel29Ideal.main_v7)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4) = v0 c
          ∧ r.2.mem ((c.tc : Thread Cert.Kernel29Ideal.nD Cert.Kernel29Ideal.τ).loc Cert.Kernel29Ideal.main_v5) = v1 c
          ∧ r.2.mem ((c.tc : Thread Cert.Kernel29Ideal.nD Cert.Kernel29Ideal.τ).loc Cert.Kernel29Ideal.main_v6) = v2 c
          ∧ r.2.mem ((c.tc : Thread Cert.Kernel29Ideal.nD Cert.Kernel29Ideal.τ).loc Cert.Kernel29Ideal.main_v7) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_v26) = v1 c
          ∧ r.2.mem ((c.tc : Thread Cert.Reference29Ideal.nD Cert.Reference29Ideal.τ).loc Cert.Reference29Ideal.main_v7) = v2 c
          ∧ r.2.mem ((c.tc : Thread Cert.Reference29Ideal.nD Cert.Reference29Ideal.τ).loc Cert.Reference29Ideal.main_v13) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4)) (v1 : (c : Dev Cert.Kernel30Ideal.nD) → Buf (Elt Ideal) ((c.tc : Thread Cert.Kernel30Ideal.nD Cert.Kernel30Ideal.τ).loc Cert.Kernel30Ideal.main_v5)) (v2 : (c : Dev Cert.Kernel30Ideal.nD) → Buf (Elt Ideal) ((c.tc : Thread Cert.Kernel30Ideal.nD Cert.Kernel30Ideal.τ).loc Cert.Kernel30Ideal.main_v6)) (v3 : (c : Dev Cert.Kernel30Ideal.nD) → Buf (Elt Ideal) ((c.tc : Thread Cert.Kernel30Ideal.nD Cert.Kernel30Ideal.τ).loc Cert.Kernel30Ideal.main_v7)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4) = v0 c
          ∧ r.2.mem ((c.tc : Thread Cert.Kernel30Ideal.nD Cert.Kernel30Ideal.τ).loc Cert.Kernel30Ideal.main_v5) = v1 c
          ∧ r.2.mem ((c.tc : Thread Cert.Kernel30Ideal.nD Cert.Kernel30Ideal.τ).loc Cert.Kernel30Ideal.main_v6) = v2 c
          ∧ r.2.mem ((c.tc : Thread Cert.Kernel30Ideal.nD Cert.Kernel30Ideal.τ).loc Cert.Kernel30Ideal.main_v7) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_v26) = v1 c
          ∧ r.2.mem ((c.tc : Thread Cert.Reference30Ideal.nD Cert.Reference30Ideal.τ).loc Cert.Reference30Ideal.main_v7) = v2 c
          ∧ r.2.mem ((c.tc : Thread Cert.Reference30Ideal.nD Cert.Reference30Ideal.τ).loc Cert.Reference30Ideal.main_v13) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v10) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v30) = v0 c
          ∧ r.2.mem ((c.tc : Thread Cert.Reference32Ideal.nD Cert.Reference32Ideal.τ).loc Cert.Reference32Ideal.main_v31) = v1 c
          ∧ r.2.mem ((c.tc : Thread Cert.Reference32Ideal.nD Cert.Reference32Ideal.τ).loc Cert.Reference32Ideal.main_v32) = v2 c
          ∧ r.2.mem ((c.tc : Thread Cert.Reference32Ideal.nD Cert.Reference32Ideal.τ).loc Cert.Reference32Ideal.main_v33) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v35) = v0 c
          ∧ r.2.mem ((c.tc : Thread Cert.Reference33Ideal.nD Cert.Reference33Ideal.τ).loc Cert.Reference33Ideal.main_v18) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v3)) (v1 : (c : Dev Cert.Kernel34Ideal.nD) → Buf (Elt Ideal) ((c.tc : Thread Cert.Kernel34Ideal.nD Cert.Kernel34Ideal.τ).loc Cert.Kernel34Ideal.main_v6)) (v2 : (c : Dev Cert.Kernel34Ideal.nD) → Buf (Elt Ideal) ((c.tc : Thread Cert.Kernel34Ideal.nD Cert.Kernel34Ideal.τ).loc Cert.Kernel34Ideal.main_v8)) (v3 : (c : Dev Cert.Kernel34Ideal.nD) → Buf (Elt Ideal) ((c.tc : Thread Cert.Kernel34Ideal.nD Cert.Kernel34Ideal.τ).loc Cert.Kernel34Ideal.main_v10)) (v4 : (c : Dev Cert.Kernel34Ideal.nD) → Buf (Elt Ideal) ((c.tc : Thread Cert.Kernel34Ideal.nD Cert.Kernel34Ideal.τ).loc Cert.Kernel34Ideal.main_v12)) (v5 : (c : Dev Cert.Kernel34Ideal.nD) → Buf (Elt Ideal) ((c.tc : Thread Cert.Kernel34Ideal.nD Cert.Kernel34Ideal.τ).loc Cert.Kernel34Ideal.main_v14)) (v6 : (c : Dev Cert.Kernel34Ideal.nD) → Buf (Elt Ideal) ((c.tc : Thread Cert.Kernel34Ideal.nD Cert.Kernel34Ideal.τ).loc Cert.Kernel34Ideal.main_v16)) (v7 : (c : Dev Cert.Kernel34Ideal.nD) → Buf (Elt Ideal) ((c.tc : Thread Cert.Kernel34Ideal.nD Cert.Kernel34Ideal.τ).loc Cert.Kernel34Ideal.main_v18)) (v8 : (c : Dev Cert.Kernel34Ideal.nD) → Buf (Elt Ideal) ((c.tc : Thread Cert.Kernel34Ideal.nD Cert.Kernel34Ideal.τ).loc Cert.Kernel34Ideal.main_v20)) (v9 : (c : Dev Cert.Kernel34Ideal.nD) → Buf (Elt Ideal) ((c.tc : Thread Cert.Kernel34Ideal.nD Cert.Kernel34Ideal.τ).loc Cert.Kernel34Ideal.main_v22)) (v10 : (c : Dev Cert.Kernel34Ideal.nD) → Buf (Elt Ideal) ((c.tc : Thread Cert.Kernel34Ideal.nD Cert.Kernel34Ideal.τ).loc Cert.Kernel34Ideal.main_v24)) (v11 : (c : Dev Cert.Kernel34Ideal.nD) → Buf (Elt Ideal) ((c.tc : Thread Cert.Kernel34Ideal.nD Cert.Kernel34Ideal.τ).loc Cert.Kernel34Ideal.main_v26)) (v12 : (c : Dev Cert.Kernel34Ideal.nD) → Buf (Elt Ideal) ((c.tc : Thread Cert.Kernel34Ideal.nD Cert.Kernel34Ideal.τ).loc Cert.Kernel34Ideal.main_v28)) (v13 : (c : Dev Cert.Kernel34Ideal.nD) → Buf (Elt Ideal) ((c.tc : Thread Cert.Kernel34Ideal.nD Cert.Kernel34Ideal.τ).loc Cert.Kernel34Ideal.main_v30)) (v14 : (c : Dev Cert.Kernel34Ideal.nD) → Buf (Elt Ideal) ((c.tc : Thread Cert.Kernel34Ideal.nD Cert.Kernel34Ideal.τ).loc Cert.Kernel34Ideal.main_v32)) (v15 : (c : Dev Cert.Kernel34Ideal.nD) → Buf (Elt Ideal) ((c.tc : Thread Cert.Kernel34Ideal.nD Cert.Kernel34Ideal.τ).loc Cert.Kernel34Ideal.main_v34)) (v16 : (c : Dev Cert.Kernel34Ideal.nD) → Buf (Elt Ideal) ((c.tc : Thread Cert.Kernel34Ideal.nD Cert.Kernel34Ideal.τ).loc Cert.Kernel34Ideal.main_v36)) (v17 : (c : Dev Cert.Kernel34Ideal.nD) → Buf (Elt Ideal) ((c.tc : Thread Cert.Kernel34Ideal.nD Cert.Kernel34Ideal.τ).loc Cert.Kernel34Ideal.main_v39)) (v18 : (c : Dev Cert.Kernel34Ideal.nD) → Buf (Elt Ideal) ((c.tc : Thread Cert.Kernel34Ideal.nD Cert.Kernel34Ideal.τ).loc Cert.Kernel34Ideal.main_v41)) (v19 : (c : Dev Cert.Kernel34Ideal.nD) → Buf (Elt Ideal) ((c.tc : Thread Cert.Kernel34Ideal.nD Cert.Kernel34Ideal.τ).loc Cert.Kernel34Ideal.main_v43)) (v20 : (c : Dev Cert.Kernel34Ideal.nD) → Buf (Elt Ideal) ((c.tc : Thread Cert.Kernel34Ideal.nD Cert.Kernel34Ideal.τ).loc Cert.Kernel34Ideal.main_v45)) (v21 : (c : Dev Cert.Kernel34Ideal.nD) → Buf (Elt Ideal) ((c.tc : Thread Cert.Kernel34Ideal.nD Cert.Kernel34Ideal.τ).loc Cert.Kernel34Ideal.main_v47)) (v22 : (c : Dev Cert.Kernel34Ideal.nD) → Buf (Elt Ideal) ((c.tc : Thread Cert.Kernel34Ideal.nD Cert.Kernel34Ideal.τ).loc Cert.Kernel34Ideal.main_v49)) (v23 : (c : Dev Cert.Kernel34Ideal.nD) → Buf (Elt Ideal) ((c.tc : Thread Cert.Kernel34Ideal.nD Cert.Kernel34Ideal.τ).loc Cert.Kernel34Ideal.main_v51)) (v24 : (c : Dev Cert.Kernel34Ideal.nD) → Buf (Elt Ideal) ((c.tc : Thread Cert.Kernel34Ideal.nD Cert.Kernel34Ideal.τ).loc Cert.Kernel34Ideal.main_v53)) (v25 : (c : Dev Cert.Kernel34Ideal.nD) → Buf (Elt Ideal) ((c.tc : Thread Cert.Kernel34Ideal.nD Cert.Kernel34Ideal.τ).loc Cert.Kernel34Ideal.main_v55)) (v26 : (c : Dev Cert.Kernel34Ideal.nD) → Buf (Elt Ideal) ((c.tc : Thread Cert.Kernel34Ideal.nD Cert.Kernel34Ideal.τ).loc Cert.Kernel34Ideal.main_v57)) (v27 : (c : Dev Cert.Kernel34Ideal.nD) → Buf (Elt Ideal) ((c.tc : Thread Cert.Kernel34Ideal.nD Cert.Kernel34Ideal.τ).loc Cert.Kernel34Ideal.main_v59)) (v28 : (c : Dev Cert.Kernel34Ideal.nD) → Buf (Elt Ideal) ((c.tc : Thread Cert.Kernel34Ideal.nD Cert.Kernel34Ideal.τ).loc Cert.Kernel34Ideal.main_v61)) (v29 : (c : Dev Cert.Kernel34Ideal.nD) → Buf (Elt Ideal) ((c.tc : Thread Cert.Kernel34Ideal.nD Cert.Kernel34Ideal.τ).loc Cert.Kernel34Ideal.main_v63)) (v30 : (c : Dev Cert.Kernel34Ideal.nD) → Buf (Elt Ideal) ((c.tc : Thread Cert.Kernel34Ideal.nD Cert.Kernel34Ideal.τ).loc Cert.Kernel34Ideal.main_v65)) (v31 : (c : Dev Cert.Kernel34Ideal.nD) → Buf (Elt Ideal) ((c.tc : Thread Cert.Kernel34Ideal.nD Cert.Kernel34Ideal.τ).loc Cert.Kernel34Ideal.main_v67)) (v32 : (c : Dev Cert.Kernel34Ideal.nD) → Buf (Elt Ideal) ((c.tc : Thread Cert.Kernel34Ideal.nD Cert.Kernel34Ideal.τ).loc Cert.Kernel34Ideal.main_v69)) (v33 : (c : Dev Cert.Kernel34Ideal.nD) → Buf (Elt Ideal) ((c.tc : Thread Cert.Kernel34Ideal.nD Cert.Kernel34Ideal.τ).loc Cert.Kernel34Ideal.main_v72)) (v34 : (c : Dev Cert.Kernel34Ideal.nD) → Buf (Elt Ideal) ((c.tc : Thread Cert.Kernel34Ideal.nD Cert.Kernel34Ideal.τ).loc Cert.Kernel34Ideal.main_v74)) (v35 : (c : Dev Cert.Kernel34Ideal.nD) → Buf (Elt Ideal) ((c.tc : Thread Cert.Kernel34Ideal.nD Cert.Kernel34Ideal.τ).loc Cert.Kernel34Ideal.main_v76)) (v36 : (c : Dev Cert.Kernel34Ideal.nD) → Buf (Elt Ideal) ((c.tc : Thread Cert.Kernel34Ideal.nD Cert.Kernel34Ideal.τ).loc Cert.Kernel34Ideal.main_v78)) (v37 : (c : Dev Cert.Kernel34Ideal.nD) → Buf (Elt Ideal) ((c.tc : Thread Cert.Kernel34Ideal.nD Cert.Kernel34Ideal.τ).loc Cert.Kernel34Ideal.main_v80)) (v38 : (c : Dev Cert.Kernel34Ideal.nD) → Buf (Elt Ideal) ((c.tc : Thread Cert.Kernel34Ideal.nD Cert.Kernel34Ideal.τ).loc Cert.Kernel34Ideal.main_v82)) (v39 : (c : Dev Cert.Kernel34Ideal.nD) → Buf (Elt Ideal) ((c.tc : Thread Cert.Kernel34Ideal.nD Cert.Kernel34Ideal.τ).loc Cert.Kernel34Ideal.main_v84)) (v40 : (c : Dev Cert.Kernel34Ideal.nD) → Buf (Elt Ideal) ((c.tc : Thread Cert.Kernel34Ideal.nD Cert.Kernel34Ideal.τ).loc Cert.Kernel34Ideal.main_v86)) (v41 : (c : Dev Cert.Kernel34Ideal.nD) → Buf (Elt Ideal) ((c.tc : Thread Cert.Kernel34Ideal.nD Cert.Kernel34Ideal.τ).loc Cert.Kernel34Ideal.main_v88)) (v42 : (c : Dev Cert.Kernel34Ideal.nD) → Buf (Elt Ideal) ((c.tc : Thread Cert.Kernel34Ideal.nD Cert.Kernel34Ideal.τ).loc Cert.Kernel34Ideal.main_v90)) (v43 : (c : Dev Cert.Kernel34Ideal.nD) → Buf (Elt Ideal) ((c.tc : Thread Cert.Kernel34Ideal.nD Cert.Kernel34Ideal.τ).loc Cert.Kernel34Ideal.main_v92)) (v44 : (c : Dev Cert.Kernel34Ideal.nD) → Buf (Elt Ideal) ((c.tc : Thread Cert.Kernel34Ideal.nD Cert.Kernel34Ideal.τ).loc Cert.Kernel34Ideal.main_v94)) (v45 : (c : Dev Cert.Kernel34Ideal.nD) → Buf (Elt Ideal) ((c.tc : Thread Cert.Kernel34Ideal.nD Cert.Kernel34Ideal.τ).loc Cert.Kernel34Ideal.main_v96)) (v46 : (c : Dev Cert.Kernel34Ideal.nD) → Buf (Elt Ideal) ((c.tc : Thread Cert.Kernel34Ideal.nD Cert.Kernel34Ideal.τ).loc Cert.Kernel34Ideal.main_v98)) (v47 : (c : Dev Cert.Kernel34Ideal.nD) → Buf (Elt Ideal) ((c.tc : Thread Cert.Kernel34Ideal.nD Cert.Kernel34Ideal.τ).loc Cert.Kernel34Ideal.main_v100)) (v48 : (c : Dev Cert.Kernel34Ideal.nD) → Buf (Elt Ideal) ((c.tc : Thread Cert.Kernel34Ideal.nD Cert.Kernel34Ideal.τ).loc Cert.Kernel34Ideal.main_v102)) (v49 : (c : Dev Cert.Kernel34Ideal.nD) → Buf (Elt Ideal) ((c.tc : Thread Cert.Kernel34Ideal.nD Cert.Kernel34Ideal.τ).loc Cert.Kernel34Ideal.main_v105)) (v50 : (c : Dev Cert.Kernel34Ideal.nD) → Buf (Elt Ideal) ((c.tc : Thread Cert.Kernel34Ideal.nD Cert.Kernel34Ideal.τ).loc Cert.Kernel34Ideal.main_v107)) (v51 : (c : Dev Cert.Kernel34Ideal.nD) → Buf (Elt Ideal) ((c.tc : Thread Cert.Kernel34Ideal.nD Cert.Kernel34Ideal.τ).loc Cert.Kernel34Ideal.main_v109)) (v52 : (c : Dev Cert.Kernel34Ideal.nD) → Buf (Elt Ideal) ((c.tc : Thread Cert.Kernel34Ideal.nD Cert.Kernel34Ideal.τ).loc Cert.Kernel34Ideal.main_v111)) (v53 : (c : Dev Cert.Kernel34Ideal.nD) → Buf (Elt Ideal) ((c.tc : Thread Cert.Kernel34Ideal.nD Cert.Kernel34Ideal.τ).loc Cert.Kernel34Ideal.main_v113)) (v54 : (c : Dev Cert.Kernel34Ideal.nD) → Buf (Elt Ideal) ((c.tc : Thread Cert.Kernel34Ideal.nD Cert.Kernel34Ideal.τ).loc Cert.Kernel34Ideal.main_v115)) (v55 : (c : Dev Cert.Kernel34Ideal.nD) → Buf (Elt Ideal) ((c.tc : Thread Cert.Kernel34Ideal.nD Cert.Kernel34Ideal.τ).loc Cert.Kernel34Ideal.main_v117)) (v56 : (c : Dev Cert.Kernel34Ideal.nD) → Buf (Elt Ideal) ((c.tc : Thread Cert.Kernel34Ideal.nD Cert.Kernel34Ideal.τ).loc Cert.Kernel34Ideal.main_v119)) (v57 : (c : Dev Cert.Kernel34Ideal.nD) → Buf (Elt Ideal) ((c.tc : Thread Cert.Kernel34Ideal.nD Cert.Kernel34Ideal.τ).loc Cert.Kernel34Ideal.main_v121)) (v58 : (c : Dev Cert.Kernel34Ideal.nD) → Buf (Elt Ideal) ((c.tc : Thread Cert.Kernel34Ideal.nD Cert.Kernel34Ideal.τ).loc Cert.Kernel34Ideal.main_v123)) (v59 : (c : Dev Cert.Kernel34Ideal.nD) → Buf (Elt Ideal) ((c.tc : Thread Cert.Kernel34Ideal.nD Cert.Kernel34Ideal.τ).loc Cert.Kernel34Ideal.main_v125)) (v60 : (c : Dev Cert.Kernel34Ideal.nD) → Buf (Elt Ideal) ((c.tc : Thread Cert.Kernel34Ideal.nD Cert.Kernel34Ideal.τ).loc Cert.Kernel34Ideal.main_v127)) (v61 : (c : Dev Cert.Kernel34Ideal.nD) → Buf (Elt Ideal) ((c.tc : Thread Cert.Kernel34Ideal.nD Cert.Kernel34Ideal.τ).loc Cert.Kernel34Ideal.main_v129)) (v62 : (c : Dev Cert.Kernel34Ideal.nD) → Buf (Elt Ideal) ((c.tc : Thread Cert.Kernel34Ideal.nD Cert.Kernel34Ideal.τ).loc Cert.Kernel34Ideal.main_v131)) (v63 : (c : Dev Cert.Kernel34Ideal.nD) → Buf (Elt Ideal) ((c.tc : Thread Cert.Kernel34Ideal.nD Cert.Kernel34Ideal.τ).loc Cert.Kernel34Ideal.main_v133)) (v64 : (c : Dev Cert.Kernel34Ideal.nD) → Buf (Elt Ideal) ((c.tc : Thread Cert.Kernel34Ideal.nD Cert.Kernel34Ideal.τ).loc Cert.Kernel34Ideal.main_v135)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v3) = v0 c
          ∧ r.2.mem ((c.tc : Thread Cert.Kernel34Ideal.nD Cert.Kernel34Ideal.τ).loc Cert.Kernel34Ideal.main_v6) = v1 c
          ∧ r.2.mem ((c.tc : Thread Cert.Kernel34Ideal.nD Cert.Kernel34Ideal.τ).loc Cert.Kernel34Ideal.main_v8) = v2 c
          ∧ r.2.mem ((c.tc : Thread Cert.Kernel34Ideal.nD Cert.Kernel34Ideal.τ).loc Cert.Kernel34Ideal.main_v10) = v3 c
          ∧ r.2.mem ((c.tc : Thread Cert.Kernel34Ideal.nD Cert.Kernel34Ideal.τ).loc Cert.Kernel34Ideal.main_v12) = v4 c
          ∧ r.2.mem ((c.tc : Thread Cert.Kernel34Ideal.nD Cert.Kernel34Ideal.τ).loc Cert.Kernel34Ideal.main_v14) = v5 c
          ∧ r.2.mem ((c.tc : Thread Cert.Kernel34Ideal.nD Cert.Kernel34Ideal.τ).loc Cert.Kernel34Ideal.main_v16) = v6 c
          ∧ r.2.mem ((c.tc : Thread Cert.Kernel34Ideal.nD Cert.Kernel34Ideal.τ).loc Cert.Kernel34Ideal.main_v18) = v7 c
          ∧ r.2.mem ((c.tc : Thread Cert.Kernel34Ideal.nD Cert.Kernel34Ideal.τ).loc Cert.Kernel34Ideal.main_v20) = v8 c
          ∧ r.2.mem ((c.tc : Thread Cert.Kernel34Ideal.nD Cert.Kernel34Ideal.τ).loc Cert.Kernel34Ideal.main_v22) = v9 c
          ∧ r.2.mem ((c.tc : Thread Cert.Kernel34Ideal.nD Cert.Kernel34Ideal.τ).loc Cert.Kernel34Ideal.main_v24) = v10 c
          ∧ r.2.mem ((c.tc : Thread Cert.Kernel34Ideal.nD Cert.Kernel34Ideal.τ).loc Cert.Kernel34Ideal.main_v26) = v11 c
          ∧ r.2.mem ((c.tc : Thread Cert.Kernel34Ideal.nD Cert.Kernel34Ideal.τ).loc Cert.Kernel34Ideal.main_v28) = v12 c
          ∧ r.2.mem ((c.tc : Thread Cert.Kernel34Ideal.nD Cert.Kernel34Ideal.τ).loc Cert.Kernel34Ideal.main_v30) = v13 c
          ∧ r.2.mem ((c.tc : Thread Cert.Kernel34Ideal.nD Cert.Kernel34Ideal.τ).loc Cert.Kernel34Ideal.main_v32) = v14 c
          ∧ r.2.mem ((c.tc : Thread Cert.Kernel34Ideal.nD Cert.Kernel34Ideal.τ).loc Cert.Kernel34Ideal.main_v34) = v15 c
          ∧ r.2.mem ((c.tc : Thread Cert.Kernel34Ideal.nD Cert.Kernel34Ideal.τ).loc Cert.Kernel34Ideal.main_v36) = v16 c
          ∧ r.2.mem ((c.tc : Thread Cert.Kernel34Ideal.nD Cert.Kernel34Ideal.τ).loc Cert.Kernel34Ideal.main_v39) = v17 c
          ∧ r.2.mem ((c.tc : Thread Cert.Kernel34Ideal.nD Cert.Kernel34Ideal.τ).loc Cert.Kernel34Ideal.main_v41) = v18 c
          ∧ r.2.mem ((c.tc : Thread Cert.Kernel34Ideal.nD Cert.Kernel34Ideal.τ).loc Cert.Kernel34Ideal.main_v43) = v19 c
          ∧ r.2.mem ((c.tc : Thread Cert.Kernel34Ideal.nD Cert.Kernel34Ideal.τ).loc Cert.Kernel34Ideal.main_v45) = v20 c
          ∧ r.2.mem ((c.tc : Thread Cert.Kernel34Ideal.nD Cert.Kernel34Ideal.τ).loc Cert.Kernel34Ideal.main_v47) = v21 c
          ∧ r.2.mem ((c.tc : Thread Cert.Kernel34Ideal.nD Cert.Kernel34Ideal.τ).loc Cert.Kernel34Ideal.main_v49) = v22 c
          ∧ r.2.mem ((c.tc : Thread Cert.Kernel34Ideal.nD Cert.Kernel34Ideal.τ).loc Cert.Kernel34Ideal.main_v51) = v23 c
          ∧ r.2.mem ((c.tc : Thread Cert.Kernel34Ideal.nD Cert.Kernel34Ideal.τ).loc Cert.Kernel34Ideal.main_v53) = v24 c
          ∧ r.2.mem ((c.tc : Thread Cert.Kernel34Ideal.nD Cert.Kernel34Ideal.τ).loc Cert.Kernel34Ideal.main_v55) = v25 c
          ∧ r.2.mem ((c.tc : Thread Cert.Kernel34Ideal.nD Cert.Kernel34Ideal.τ).loc Cert.Kernel34Ideal.main_v57) = v26 c
          ∧ r.2.mem ((c.tc : Thread Cert.Kernel34Ideal.nD Cert.Kernel34Ideal.τ).loc Cert.Kernel34Ideal.main_v59) = v27 c
          ∧ r.2.mem ((c.tc : Thread Cert.Kernel34Ideal.nD Cert.Kernel34Ideal.τ).loc Cert.Kernel34Ideal.main_v61) = v28 c
          ∧ r.2.mem ((c.tc : Thread Cert.Kernel34Ideal.nD Cert.Kernel34Ideal.τ).loc Cert.Kernel34Ideal.main_v63) = v29 c
          ∧ r.2.mem ((c.tc : Thread Cert.Kernel34Ideal.nD Cert.Kernel34Ideal.τ).loc Cert.Kernel34Ideal.main_v65) = v30 c
          ∧ r.2.mem ((c.tc : Thread Cert.Kernel34Ideal.nD Cert.Kernel34Ideal.τ).loc Cert.Kernel34Ideal.main_v67) = v31 c
          ∧ r.2.mem ((c.tc : Thread Cert.Kernel34Ideal.nD Cert.Kernel34Ideal.τ).loc Cert.Kernel34Ideal.main_v69) = v32 c
          ∧ r.2.mem ((c.tc : Thread Cert.Kernel34Ideal.nD Cert.Kernel34Ideal.τ).loc Cert.Kernel34Ideal.main_v72) = v33 c
          ∧ r.2.mem ((c.tc : Thread Cert.Kernel34Ideal.nD Cert.Kernel34Ideal.τ).loc Cert.Kernel34Ideal.main_v74) = v34 c
          ∧ r.2.mem ((c.tc : Thread Cert.Kernel34Ideal.nD Cert.Kernel34Ideal.τ).loc Cert.Kernel34Ideal.main_v76) = v35 c
          ∧ r.2.mem ((c.tc : Thread Cert.Kernel34Ideal.nD Cert.Kernel34Ideal.τ).loc Cert.Kernel34Ideal.main_v78) = v36 c
          ∧ r.2.mem ((c.tc : Thread Cert.Kernel34Ideal.nD Cert.Kernel34Ideal.τ).loc Cert.Kernel34Ideal.main_v80) = v37 c
          ∧ r.2.mem ((c.tc : Thread Cert.Kernel34Ideal.nD Cert.Kernel34Ideal.τ).loc Cert.Kernel34Ideal.main_v82) = v38 c
          ∧ r.2.mem ((c.tc : Thread Cert.Kernel34Ideal.nD Cert.Kernel34Ideal.τ).loc Cert.Kernel34Ideal.main_v84) = v39 c
          ∧ r.2.mem ((c.tc : Thread Cert.Kernel34Ideal.nD Cert.Kernel34Ideal.τ).loc Cert.Kernel34Ideal.main_v86) = v40 c
          ∧ r.2.mem ((c.tc : Thread Cert.Kernel34Ideal.nD Cert.Kernel34Ideal.τ).loc Cert.Kernel34Ideal.main_v88) = v41 c
          ∧ r.2.mem ((c.tc : Thread Cert.Kernel34Ideal.nD Cert.Kernel34Ideal.τ).loc Cert.Kernel34Ideal.main_v90) = v42 c
          ∧ r.2.mem ((c.tc : Thread Cert.Kernel34Ideal.nD Cert.Kernel34Ideal.τ).loc Cert.Kernel34Ideal.main_v92) = v43 c
          ∧ r.2.mem ((c.tc : Thread Cert.Kernel34Ideal.nD Cert.Kernel34Ideal.τ).loc Cert.Kernel34Ideal.main_v94) = v44 c
          ∧ r.2.mem ((c.tc : Thread Cert.Kernel34Ideal.nD Cert.Kernel34Ideal.τ).loc Cert.Kernel34Ideal.main_v96) = v45 c
          ∧ r.2.mem ((c.tc : Thread Cert.Kernel34Ideal.nD Cert.Kernel34Ideal.τ).loc Cert.Kernel34Ideal.main_v98) = v46 c
          ∧ r.2.mem ((c.tc : Thread Cert.Kernel34Ideal.nD Cert.Kernel34Ideal.τ).loc Cert.Kernel34Ideal.main_v100) = v47 c
          ∧ r.2.mem ((c.tc : Thread Cert.Kernel34Ideal.nD Cert.Kernel34Ideal.τ).loc Cert.Kernel34Ideal.main_v102) = v48 c
          ∧ r.2.mem ((c.tc : Thread Cert.Kernel34Ideal.nD Cert.Kernel34Ideal.τ).loc Cert.Kernel34Ideal.main_v105) = v49 c
          ∧ r.2.mem ((c.tc : Thread Cert.Kernel34Ideal.nD Cert.Kernel34Ideal.τ).loc Cert.Kernel34Ideal.main_v107) = v50 c
          ∧ r.2.mem ((c.tc : Thread Cert.Kernel34Ideal.nD Cert.Kernel34Ideal.τ).loc Cert.Kernel34Ideal.main_v109) = v51 c
          ∧ r.2.mem ((c.tc : Thread Cert.Kernel34Ideal.nD Cert.Kernel34Ideal.τ).loc Cert.Kernel34Ideal.main_v111) = v52 c
          ∧ r.2.mem ((c.tc : Thread Cert.Kernel34Ideal.nD Cert.Kernel34Ideal.τ).loc Cert.Kernel34Ideal.main_v113) = v53 c
          ∧ r.2.mem ((c.tc : Thread Cert.Kernel34Ideal.nD Cert.Kernel34Ideal.τ).loc Cert.Kernel34Ideal.main_v115) = v54 c
          ∧ r.2.mem ((c.tc : Thread Cert.Kernel34Ideal.nD Cert.Kernel34Ideal.τ).loc Cert.Kernel34Ideal.main_v117) = v55 c
          ∧ r.2.mem ((c.tc : Thread Cert.Kernel34Ideal.nD Cert.Kernel34Ideal.τ).loc Cert.Kernel34Ideal.main_v119) = v56 c
          ∧ r.2.mem ((c.tc : Thread Cert.Kernel34Ideal.nD Cert.Kernel34Ideal.τ).loc Cert.Kernel34Ideal.main_v121) = v57 c
          ∧ r.2.mem ((c.tc : Thread Cert.Kernel34Ideal.nD Cert.Kernel34Ideal.τ).loc Cert.Kernel34Ideal.main_v123) = v58 c
          ∧ r.2.mem ((c.tc : Thread Cert.Kernel34Ideal.nD Cert.Kernel34Ideal.τ).loc Cert.Kernel34Ideal.main_v125) = v59 c
          ∧ r.2.mem ((c.tc : Thread Cert.Kernel34Ideal.nD Cert.Kernel34Ideal.τ).loc Cert.Kernel34Ideal.main_v127) = v60 c
          ∧ r.2.mem ((c.tc : Thread Cert.Kernel34Ideal.nD Cert.Kernel34Ideal.τ).loc Cert.Kernel34Ideal.main_v129) = v61 c
          ∧ r.2.mem ((c.tc : Thread Cert.Kernel34Ideal.nD Cert.Kernel34Ideal.τ).loc Cert.Kernel34Ideal.main_v131) = v62 c
          ∧ r.2.mem ((c.tc : Thread Cert.Kernel34Ideal.nD Cert.Kernel34Ideal.τ).loc Cert.Kernel34Ideal.main_v133) = v63 c
          ∧ r.2.mem ((c.tc : Thread Cert.Kernel34Ideal.nD Cert.Kernel34Ideal.τ).loc Cert.Kernel34Ideal.main_v135) = v64 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v219) = v0 c
          ∧ r.2.mem ((c.tc : Thread Cert.Reference34Ideal.nD Cert.Reference34Ideal.τ).loc Cert.Reference34Ideal.main_v27) = v1 c
          ∧ r.2.mem ((c.tc : Thread Cert.Reference34Ideal.nD Cert.Reference34Ideal.τ).loc Cert.Reference34Ideal.main_v30) = v2 c
          ∧ r.2.mem ((c.tc : Thread Cert.Reference34Ideal.nD Cert.Reference34Ideal.τ).loc Cert.Reference34Ideal.main_v33) = v3 c
          ∧ r.2.mem ((c.tc : Thread Cert.Reference34Ideal.nD Cert.Reference34Ideal.τ).loc Cert.Reference34Ideal.main_v36) = v4 c
          ∧ r.2.mem ((c.tc : Thread Cert.Reference34Ideal.nD Cert.Reference34Ideal.τ).loc Cert.Reference34Ideal.main_v39) = v5 c
          ∧ r.2.mem ((c.tc : Thread Cert.Reference34Ideal.nD Cert.Reference34Ideal.τ).loc Cert.Reference34Ideal.main_v42) = v6 c
          ∧ r.2.mem ((c.tc : Thread Cert.Reference34Ideal.nD Cert.Reference34Ideal.τ).loc Cert.Reference34Ideal.main_v45) = v7 c
          ∧ r.2.mem ((c.tc : Thread Cert.Reference34Ideal.nD Cert.Reference34Ideal.τ).loc Cert.Reference34Ideal.main_v48) = v8 c
          ∧ r.2.mem ((c.tc : Thread Cert.Reference34Ideal.nD Cert.Reference34Ideal.τ).loc Cert.Reference34Ideal.main_v51) = v9 c
          ∧ r.2.mem ((c.tc : Thread Cert.Reference34Ideal.nD Cert.Reference34Ideal.τ).loc Cert.Reference34Ideal.main_v54) = v10 c
          ∧ r.2.mem ((c.tc : Thread Cert.Reference34Ideal.nD Cert.Reference34Ideal.τ).loc Cert.Reference34Ideal.main_v57) = v11 c
          ∧ r.2.mem ((c.tc : Thread Cert.Reference34Ideal.nD Cert.Reference34Ideal.τ).loc Cert.Reference34Ideal.main_v60) = v12 c
          ∧ r.2.mem ((c.tc : Thread Cert.Reference34Ideal.nD Cert.Reference34Ideal.τ).loc Cert.Reference34Ideal.main_v63) = v13 c
          ∧ r.2.mem ((c.tc : Thread Cert.Reference34Ideal.nD Cert.Reference34Ideal.τ).loc Cert.Reference34Ideal.main_v66) = v14 c
          ∧ r.2.mem ((c.tc : Thread Cert.Reference34Ideal.nD Cert.Reference34Ideal.τ).loc Cert.Reference34Ideal.main_v69) = v15 c
          ∧ r.2.mem ((c.tc : Thread Cert.Reference34Ideal.nD Cert.Reference34Ideal.τ).loc Cert.Reference34Ideal.main_v72) = v16 c
          ∧ r.2.mem ((c.tc : Thread Cert.Reference34Ideal.nD Cert.Reference34Ideal.τ).loc Cert.Reference34Ideal.main_v75) = v17 c
          ∧ r.2.mem ((c.tc : Thread Cert.Reference34Ideal.nD Cert.Reference34Ideal.τ).loc Cert.Reference34Ideal.main_v78) = v18 c
          ∧ r.2.mem ((c.tc : Thread Cert.Reference34Ideal.nD Cert.Reference34Ideal.τ).loc Cert.Reference34Ideal.main_v81) = v19 c
          ∧ r.2.mem ((c.tc : Thread Cert.Reference34Ideal.nD Cert.Reference34Ideal.τ).loc Cert.Reference34Ideal.main_v84) = v20 c
          ∧ r.2.mem ((c.tc : Thread Cert.Reference34Ideal.nD Cert.Reference34Ideal.τ).loc Cert.Reference34Ideal.main_v87) = v21 c
          ∧ r.2.mem ((c.tc : Thread Cert.Reference34Ideal.nD Cert.Reference34Ideal.τ).loc Cert.Reference34Ideal.main_v90) = v22 c
          ∧ r.2.mem ((c.tc : Thread Cert.Reference34Ideal.nD Cert.Reference34Ideal.τ).loc Cert.Reference34Ideal.main_v93) = v23 c
          ∧ r.2.mem ((c.tc : Thread Cert.Reference34Ideal.nD Cert.Reference34Ideal.τ).loc Cert.Reference34Ideal.main_v96) = v24 c
          ∧ r.2.mem ((c.tc : Thread Cert.Reference34Ideal.nD Cert.Reference34Ideal.τ).loc Cert.Reference34Ideal.main_v99) = v25 c
          ∧ r.2.mem ((c.tc : Thread Cert.Reference34Ideal.nD Cert.Reference34Ideal.τ).loc Cert.Reference34Ideal.main_v102) = v26 c
          ∧ r.2.mem ((c.tc : Thread Cert.Reference34Ideal.nD Cert.Reference34Ideal.τ).loc Cert.Reference34Ideal.main_v105) = v27 c
          ∧ r.2.mem ((c.tc : Thread Cert.Reference34Ideal.nD Cert.Reference34Ideal.τ).loc Cert.Reference34Ideal.main_v108) = v28 c
          ∧ r.2.mem ((c.tc : Thread Cert.Reference34Ideal.nD Cert.Reference34Ideal.τ).loc Cert.Reference34Ideal.main_v111) = v29 c
          ∧ r.2.mem ((c.tc : Thread Cert.Reference34Ideal.nD Cert.Reference34Ideal.τ).loc Cert.Reference34Ideal.main_v114) = v30 c
          ∧ r.2.mem ((c.tc : Thread Cert.Reference34Ideal.nD Cert.Reference34Ideal.τ).loc Cert.Reference34Ideal.main_v117) = v31 c
          ∧ r.2.mem ((c.tc : Thread Cert.Reference34Ideal.nD Cert.Reference34Ideal.τ).loc Cert.Reference34Ideal.main_v120) = v32 c
          ∧ r.2.mem ((c.tc : Thread Cert.Reference34Ideal.nD Cert.Reference34Ideal.τ).loc Cert.Reference34Ideal.main_v123) = v33 c
          ∧ r.2.mem ((c.tc : Thread Cert.Reference34Ideal.nD Cert.Reference34Ideal.τ).loc Cert.Reference34Ideal.main_v126) = v34 c
          ∧ r.2.mem ((c.tc : Thread Cert.Reference34Ideal.nD Cert.Reference34Ideal.τ).loc Cert.Reference34Ideal.main_v129) = v35 c
          ∧ r.2.mem ((c.tc : Thread Cert.Reference34Ideal.nD Cert.Reference34Ideal.τ).loc Cert.Reference34Ideal.main_v132) = v36 c
          ∧ r.2.mem ((c.tc : Thread Cert.Reference34Ideal.nD Cert.Reference34Ideal.τ).loc Cert.Reference34Ideal.main_v135) = v37 c
          ∧ r.2.mem ((c.tc : Thread Cert.Reference34Ideal.nD Cert.Reference34Ideal.τ).loc Cert.Reference34Ideal.main_v138) = v38 c
          ∧ r.2.mem ((c.tc : Thread Cert.Reference34Ideal.nD Cert.Reference34Ideal.τ).loc Cert.Reference34Ideal.main_v141) = v39 c
          ∧ r.2.mem ((c.tc : Thread Cert.Reference34Ideal.nD Cert.Reference34Ideal.τ).loc Cert.Reference34Ideal.main_v144) = v40 c
          ∧ r.2.mem ((c.tc : Thread Cert.Reference34Ideal.nD Cert.Reference34Ideal.τ).loc Cert.Reference34Ideal.main_v147) = v41 c
          ∧ r.2.mem ((c.tc : Thread Cert.Reference34Ideal.nD Cert.Reference34Ideal.τ).loc Cert.Reference34Ideal.main_v150) = v42 c
          ∧ r.2.mem ((c.tc : Thread Cert.Reference34Ideal.nD Cert.Reference34Ideal.τ).loc Cert.Reference34Ideal.main_v153) = v43 c
          ∧ r.2.mem ((c.tc : Thread Cert.Reference34Ideal.nD Cert.Reference34Ideal.τ).loc Cert.Reference34Ideal.main_v156) = v44 c
          ∧ r.2.mem ((c.tc : Thread Cert.Reference34Ideal.nD Cert.Reference34Ideal.τ).loc Cert.Reference34Ideal.main_v159) = v45 c
          ∧ r.2.mem ((c.tc : Thread Cert.Reference34Ideal.nD Cert.Reference34Ideal.τ).loc Cert.Reference34Ideal.main_v162) = v46 c
          ∧ r.2.mem ((c.tc : Thread Cert.Reference34Ideal.nD Cert.Reference34Ideal.τ).loc Cert.Reference34Ideal.main_v165) = v47 c
          ∧ r.2.mem ((c.tc : Thread Cert.Reference34Ideal.nD Cert.Reference34Ideal.τ).loc Cert.Reference34Ideal.main_v168) = v48 c
          ∧ r.2.mem ((c.tc : Thread Cert.Reference34Ideal.nD Cert.Reference34Ideal.τ).loc Cert.Reference34Ideal.main_v171) = v49 c
          ∧ r.2.mem ((c.tc : Thread Cert.Reference34Ideal.nD Cert.Reference34Ideal.τ).loc Cert.Reference34Ideal.main_v174) = v50 c
          ∧ r.2.mem ((c.tc : Thread Cert.Reference34Ideal.nD Cert.Reference34Ideal.τ).loc Cert.Reference34Ideal.main_v177) = v51 c
          ∧ r.2.mem ((c.tc : Thread Cert.Reference34Ideal.nD Cert.Reference34Ideal.τ).loc Cert.Reference34Ideal.main_v180) = v52 c
          ∧ r.2.mem ((c.tc : Thread Cert.Reference34Ideal.nD Cert.Reference34Ideal.τ).loc Cert.Reference34Ideal.main_v183) = v53 c
          ∧ r.2.mem ((c.tc : Thread Cert.Reference34Ideal.nD Cert.Reference34Ideal.τ).loc Cert.Reference34Ideal.main_v186) = v54 c
          ∧ r.2.mem ((c.tc : Thread Cert.Reference34Ideal.nD Cert.Reference34Ideal.τ).loc Cert.Reference34Ideal.main_v189) = v55 c
          ∧ r.2.mem ((c.tc : Thread Cert.Reference34Ideal.nD Cert.Reference34Ideal.τ).loc Cert.Reference34Ideal.main_v192) = v56 c
          ∧ r.2.mem ((c.tc : Thread Cert.Reference34Ideal.nD Cert.Reference34Ideal.τ).loc Cert.Reference34Ideal.main_v195) = v57 c
          ∧ r.2.mem ((c.tc : Thread Cert.Reference34Ideal.nD Cert.Reference34Ideal.τ).loc Cert.Reference34Ideal.main_v198) = v58 c
          ∧ r.2.mem ((c.tc : Thread Cert.Reference34Ideal.nD Cert.Reference34Ideal.τ).loc Cert.Reference34Ideal.main_v201) = v59 c
          ∧ r.2.mem ((c.tc : Thread Cert.Reference34Ideal.nD Cert.Reference34Ideal.τ).loc Cert.Reference34Ideal.main_v204) = v60 c
          ∧ r.2.mem ((c.tc : Thread Cert.Reference34Ideal.nD Cert.Reference34Ideal.τ).loc Cert.Reference34Ideal.main_v207) = v61 c
          ∧ r.2.mem ((c.tc : Thread Cert.Reference34Ideal.nD Cert.Reference34Ideal.τ).loc Cert.Reference34Ideal.main_v210) = v62 c
          ∧ r.2.mem ((c.tc : Thread Cert.Reference34Ideal.nD Cert.Reference34Ideal.τ).loc Cert.Reference34Ideal.main_v213) = v63 c
          ∧ r.2.mem ((c.tc : Thread Cert.Reference34Ideal.nD Cert.Reference34Ideal.τ).loc Cert.Reference34Ideal.main_v216) = v64 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite.lean ====
abbrev S4096x512 : Shape := ⟨2, ![4096, 512]⟩
abbrev S512x1024 : Shape := ⟨2, ![512, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S512x1024 : S_.BroadcastsInDim S512x1024 (![] : Fin 0 → Fin S512x1024.rank)

variable [Facts]

def fn {F : FTy → Type} [FloatOps F] (main_arg0 : FVec F S4096x512 .bf16) (main_arg1 : FVec F S512x1024 .bf16) (main_arg2 : FVec F S4096x512 .bf16) : IVec S4096x512 1 × IVec S512x1024 1 × IVec S4096x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S512x1024 .f32 := (extf .f32 · bitsLt_bf16_f32) main_arg1
  let main_v5 : FVec F S512x1024 .f32 := Host.absf main_v4
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  (main_v3, main_v7, main_v11)
-- ==== Kernel.lean ====
abbrev S4096x512 : Shape := ⟨2, ![4096, 512]⟩
abbrev S512x1024 : Shape := ⟨2, ![512, 1024]⟩
abbrev S2x512x512 : Shape := ⟨3, ![2, 512, 512]⟩
abbrev S2048x128 : Shape := ⟨2, ![2048, 128]⟩
abbrev S256x128 : Shape := ⟨2, ![256, 128]⟩
abbrev S2x256x128 : Shape := ⟨3, ![2, 256, 128]⟩
abbrev S2048x256 : Shape := ⟨2, ![2048, 256]⟩
abbrev S2048 : Shape := ⟨1, ![2048]⟩
abbrev S2048x1 : Shape := ⟨2, ![2048, 1]⟩
abbrev S1x256x128 : Shape := ⟨3, ![1, 256, 128]⟩
abbrev S1x512x512 : Shape := ⟨3, ![1, 512, 512]⟩
abbrev S512x512 : Shape := ⟨2, ![512, 512]⟩

abbrev nBuf : Space → Nat
  | .hbm => 10
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .bf16⟩
  | .hbm, ⟨3, _⟩ => ⟨S4096x512, .bf16⟩
  | .hbm, ⟨4, _⟩ => ⟨S2x512x512, .bf16⟩
  | .hbm, ⟨5, _⟩ => ⟨S1x512x512, .bf16⟩
  | .hbm, ⟨6, _⟩ => ⟨S512x512, .bf16⟩
  | .hbm, ⟨7, _⟩ => ⟨S1x512x512, .bf16⟩
  | .hbm, ⟨8, _⟩ => ⟨S512x512, .bf16⟩
  | .hbm, ⟨9, _⟩ => ⟨S512x1024, .bf16⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2x256x128, .bf16⟩
  | .local _ .vmem, ⟨11, _⟩ => ⟨S2x256x128, .bf16⟩
  | .local _ .vmem, ⟨12, _⟩ => ⟨S256x128, .f32⟩
  | .local _ .vmem, ⟨13, _⟩ => ⟨S256x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_36 : BitVec 32 := 0#32
  let v83 : BitVec 1 := Scalar.cmpi .eq arg2 c0_i32_36
  let v84 : BitVec 32 := Scalar.extui v83
  let c0_i32_37 : BitVec 32 := 0#32
  let v85 : BitVec 1 := Scalar.cmpi .ne v84 c0_i32_37
  v85

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S4096x512 : Shape := ⟨2, ![4096, 512]⟩
abbrev S512x1024 : Shape := ⟨2, ![512, 1024]⟩
abbrev S2x2048x4x128 : Shape := ⟨4, ![2, 2048, 4, 128]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .bf16⟩
  | .hbm, ⟨3, _⟩ => ⟨S4096x512, .f32⟩
  | .hbm, ⟨4, _⟩ => ⟨S512x1024, .f32⟩
  | .hbm, ⟨5, _⟩ => ⟨S2x2048x4x128, .f32⟩
  | .hbm, ⟨6, _⟩ => ⟨S2x256x1024, .f32⟩
  | .hbm, ⟨7, _⟩ => ⟨S2x256x512, .f32⟩
  | .hbm, ⟨8, _⟩ => ⟨S2x256x512, .f32⟩
  | .hbm, ⟨9, _⟩ => ⟨S2x256x4x128, .f32⟩
  | .hbm, ⟨10, _⟩ => ⟨S2x256x4x128, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .i1⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S2x4x2048, .f32⟩
  | .hbm, ⟨39, _⟩ => ⟨S2x4x2048, .f32⟩
  | .hbm, ⟨40, _⟩ => ⟨S2x4x2048x1, .f32⟩
  | .hbm, ⟨41, _⟩ => ⟨S2x4x2048x256, .f32⟩
  | .hbm, ⟨42, _⟩ => ⟨S2x4x2048x256, .f32⟩
  | .hbm, ⟨43, _⟩ => ⟨S2x4x2048x256, .f32⟩
  | .hbm, ⟨44, _⟩ => ⟨S_, .f32⟩
  | .hbm, ⟨45, _⟩ => ⟨S2x4x2048, .f32⟩
  | .hbm, ⟨46, _⟩ => ⟨S2x4x2048x1, .f32⟩
  | .hbm, ⟨47, _⟩ => ⟨S2x4x2048x256, .f32⟩
  | .hbm, ⟨48, _⟩ => ⟨S2x4x2048x256, .f32⟩
  | .hbm, ⟨49, _⟩ => ⟨S2x4x2048x1, .f32⟩
  | .hbm, ⟨50, _⟩ => ⟨S_, .f32⟩
  | .hbm, ⟨51, _⟩ => ⟨S2x4x2048x1, .f32⟩
  | .hbm, ⟨52, _⟩ => ⟨S2x4x2048x1, .f32⟩
  | .hbm, ⟨53, _⟩ => ⟨S2x4x128x2048, .f32⟩
  | .hbm, ⟨54, _⟩ => ⟨S2x2048x4x128, .f32⟩
  | .hbm, ⟨55, _⟩ => ⟨S4096x512, .f32⟩
  | .hbm, ⟨56, _⟩ => ⟨S4096x512, .f32⟩
  | .hbm, ⟨57, _⟩ => ⟨S2x2048x4x128, .f32⟩
  | .hbm, ⟨58, _⟩ => ⟨S2x4x128x2048, .f32⟩
  | .hbm, ⟨59, _⟩ => ⟨S2x4x2048x256, .f32⟩
  | .hbm, ⟨60, _⟩ => ⟨S2x4x128x256, .f32⟩
  | .hbm, ⟨61, _⟩ => ⟨S2x256x4x128, .f32⟩
  | .hbm, ⟨62, _⟩ => ⟨S2x4x2048x256, .f32⟩
  | .hbm, ⟨63, _⟩ => ⟨S2x4x2048x256, .f32⟩
  | .hbm, ⟨64, _⟩ => ⟨S2x4x2048x256, .f32⟩
  | .hbm, ⟨65, _⟩ => ⟨S_, .f32⟩
  | .hbm, ⟨66, _⟩ => ⟨S2x4x2048, .f32⟩
  | .hbm, ⟨67, _⟩ => ⟨S2x4x2048x1, .f32⟩
  | .hbm, ⟨68, _⟩ => ⟨S2x4x2048x1, .f32⟩
  | .hbm, ⟨69, _⟩ => ⟨S2x4x2048x256, .f32⟩
  | .hbm, ⟨70, _⟩ => ⟨S2x4x2048x256, .f32⟩
  | .hbm, ⟨71, _⟩ => ⟨S_, .f32⟩
  | .hbm, ⟨72, _⟩ => ⟨S2x4x2048, .f32⟩
  | .hbm, ⟨73, _⟩ => ⟨S2x4x2048x256, .f32⟩
  | .hbm, ⟨74, _⟩ => ⟨S2x4x2048x256, .f32⟩
  | .hbm, ⟨75, _⟩ => ⟨S2x4x2048x256, .f32⟩
  | .hbm, ⟨76, _⟩ => ⟨S_, .f32⟩
  | .hbm, ⟨77, _⟩ => ⟨S2x4x2048x256, .f32⟩
  | .hbm, ⟨78, _⟩ => ⟨S2x4x2048x256, .f32⟩
  | .hbm, ⟨79, _⟩ => ⟨S2x4x256x128, .f32⟩
  | .hbm, ⟨80, _⟩ => ⟨S2x256x4x128, .f32⟩
  | .hbm, ⟨81, _⟩ => ⟨S2x4x2048x128, .f32⟩
  | .hbm, ⟨82, _⟩ => ⟨S2x2048x4x128, .f32⟩
  | .hbm, ⟨83, _⟩ => ⟨S2x256x512, .f32⟩
  | .hbm, ⟨84, _⟩ => ⟨S2x256x512, .f32⟩
  | .hbm, ⟨85, _⟩ => ⟨S2x256x1024, .f32⟩
  | .hbm, ⟨86, _⟩ => ⟨S512x1024, .f32⟩
  | .hbm, ⟨87, _⟩ => ⟨S4096x512, .f32⟩
  | .hbm, ⟨88, _⟩ => ⟨S4096x512, .bf16⟩
  | .hbm, ⟨89, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Kernel2.lean ====
abbrev S2816x1024 : Shape := ⟨2, ![2816, 1024]⟩
abbrev S4096x1024 : Shape := ⟨2, ![4096, 1024]⟩
abbrev S4096x2816 : Shape := ⟨2, ![4096, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S4096x1024, .bf16⟩
  | .hbm, ⟨2, _⟩ => ⟨S2816x1024, .bf16⟩
  | .hbm, ⟨3, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .bf16⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4096x2816, .f32⟩
  | .hbm, ⟨9, _⟩ => ⟨S4096x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S1024x5632 : Shape := ⟨2, ![1024, 5632]⟩
abbrev S4096x5632 : Shape := ⟨2, ![4096, 5632]⟩
abbrev S5632x1024 : Shape := ⟨2, ![5632, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S4096x5632, .bf16⟩
  | .hbm, ⟨2, _⟩ => ⟨S5632x1024, .f32⟩
  | .hbm, ⟨3, _⟩ => ⟨S5632x1024, .bf16⟩
  | .hbm, ⟨4, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x5632 : Shape := ⟨2, ![1024, 5632]⟩
abbrev S4096x5632 : Shape := ⟨2, ![4096, 5632]⟩
abbrev S_ : Shape := ⟨0, ![]⟩
abbrev S4096x1024 : Shape := ⟨2, ![4096, 1024]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S4096x5632, .bf16⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x5632, .f32⟩
  | .hbm, ⟨6, _⟩ => ⟨S5632x1024, .f32⟩
  | .hbm, ⟨7, _⟩ => ⟨S1024x5632, .f32⟩
  | .hbm, ⟨8, _⟩ => ⟨S4096x1024, .f32⟩
  | .hbm, ⟨9, _⟩ => ⟨S4096x1024, .bf16⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S4096x5632 : Shape := ⟨2, ![4096, 5632]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩
abbrev S1024x5632 : Shape := ⟨2, ![1024, 5632]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S5632x1024, .bf16⟩
  | .hbm, ⟨3, _⟩ => ⟨S1024x5632, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | .hbm, ⟨10, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S1024x8480 : Shape := ⟨2, ![1024, 8480]⟩
abbrev S4096x8480 : Shape := ⟨2, ![4096, 8480]⟩
abbrev S4096x1024 : Shape := ⟨2, ![4096, 1024]⟩
abbrev S4096x288 : Shape := ⟨2, ![4096, 288]⟩
abbrev S4096x64 : Shape := ⟨2, ![4096, 64]⟩
abbrev S_ : Shape := ⟨0, ![]⟩
abbrev S4096x128 : Shape := ⟨2, ![4096, 128]⟩
abbrev S4096x160 : Shape := ⟨2, ![4096, 160]⟩
abbrev S4096x256 : Shape := ⟨2, ![4096, 256]⟩
abbrev S4096x512 : Shape := ⟨2, ![4096, 512]⟩
abbrev S8480x1024 : Shape := ⟨2, ![8480, 1024]⟩
abbrev S3072x1024 : Shape := ⟨2, ![3072, 1024]⟩
abbrev S5120x1024 : Shape := ⟨2, ![5120, 1024]⟩
abbrev S288x1024 : Shape := ⟨2, ![288, 1024]⟩
abbrev S64x1024 : Shape := ⟨2, ![64, 1024]⟩
abbrev S128x1024 : Shape := ⟨2, ![128, 1024]⟩
abbrev S160x1024 : Shape := ⟨2, ![160, 1024]⟩
abbrev S256x1024 : Shape := ⟨2, ![256, 1024]⟩
abbrev S512x1024 : Shape := ⟨2, ![512, 1024]⟩
abbrev S8704x1024 : Shape := ⟨2, ![8704, 1024]⟩
abbrev S2048x256 : Shape := ⟨2, ![2048, 256]⟩
abbrev S2048x1024 : Shape := ⟨2, ![2048, 1024]⟩

abbrev nBuf : Space → Nat
  | .hbm => 44
  | .vmem => 23
  | .smem => 0
  | _ => 0

abbrev bufTy : (tb : Table) → Fin (tcTables nBuf tb) → BufTy
  | .hbm, ⟨0, _⟩ => ⟨S1024x8480, .f32⟩
  | .hbm, ⟨1, _⟩ => ⟨S4096x8480, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x288, .bf16⟩
  | .hbm, ⟨11, _⟩ => ⟨S4096x64, .bf16⟩
  | .hbm, ⟨12, _⟩ => ⟨S_, .i32⟩
  | .hbm, ⟨13, _⟩ => ⟨S_, .bf16⟩
  | .hbm, ⟨14, _⟩ => ⟨S4096x128, .bf16⟩
  | .hbm, ⟨15, _⟩ => ⟨S4096x64, .bf16⟩
  | .hbm, ⟨16, _⟩ => ⟨S_, .i32⟩
  | .hbm, ⟨17, _⟩ => ⟨S_, .bf16⟩
  | .hbm, ⟨18, _⟩ => ⟨S4096x128, .bf16⟩
  | .hbm, ⟨19, _⟩ => ⟨S4096x160, .bf16⟩
  | .hbm, ⟨20, _⟩ => ⟨S_, .i32⟩
  | .hbm, ⟨21, _⟩ => ⟨S_, .bf16⟩
  | .hbm, ⟨22, _⟩ => ⟨S4096x256, .bf16⟩
  | .hbm, ⟨23, _⟩ => ⟨S4096x512, .bf16⟩
  | .hbm, ⟨24, _⟩ => ⟨S8480x1024, .f32⟩
  | .hbm, ⟨25, _⟩ => ⟨S3072x1024, .f32⟩
  | .hbm, ⟨26, _⟩ => ⟨S5120x1024, .f32⟩
  | .hbm, ⟨27, _⟩ => ⟨S288x1024, .f32⟩
  | .hbm, ⟨28, _⟩ => ⟨S64x1024, .f32⟩
  | .hbm, ⟨29, _⟩ => ⟨S_, .i32⟩
  | .hbm, ⟨30, _⟩ => ⟨S_, .f32⟩
  | .hbm, ⟨31, _⟩ => ⟨S128x1024, .f32⟩
  | .hbm, ⟨32, _⟩ => ⟨S64x1024, .f32⟩
  | .hbm, ⟨33, _⟩ => ⟨S_, .i32⟩
  | .hbm, ⟨34, _⟩ => ⟨S_, .f32⟩
  | .hbm, ⟨35, _⟩ => ⟨S128x1024, .f32⟩
  | .hbm, ⟨36, _⟩ => ⟨S160x1024, .f32⟩
  | .hbm, ⟨37, _⟩ => ⟨S_, .i32⟩
  | .hbm, ⟨38, _⟩ => ⟨S_, .f32⟩
  | .hbm, ⟨39, _⟩ => ⟨S256x1024, .f32⟩
  | .hbm, ⟨40, _⟩ => ⟨S512x1024, .f32⟩
  | .hbm, ⟨41, _⟩ => ⟨S8704x1024, .f32⟩
  | .hbm, ⟨42, _⟩ => ⟨S8704x1024, .bf16⟩
  | .hbm, ⟨43, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S256x1024, .bf16⟩
  | .local _ .vmem, ⟨19, _⟩ => ⟨S256x1024, .bf16⟩
  | .local _ .vmem, ⟨20, _⟩ => ⟨S2048x1024, .bf16⟩
  | .local _ .vmem, ⟨21, _⟩ => ⟨S2048x1024, .bf16⟩
  | .local _ .vmem, ⟨22, _⟩ => ⟨S2048x1024, .f32⟩
  | _, _ => ⟨S1024x8480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_call2_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_call3_v0 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call4_v0 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_call5_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 34], ![false, false]⟩

def k0_cond11 (i : grid0.Coords) : BitVec 1 :=
  let arg1 : BitVec 32 := BitVec.ofNat 32 (i 1).val
  let c33_i32 : BitVec 32 := 33#32
  let v48 : BitVec 1 := Scalar.cmpi .eq arg1 c33_i32
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.subi arg1 c28_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference6Ideal.lean ====
abbrev S1024x8480 : Shape := ⟨2, ![1024, 8480]⟩
abbrev S4096x8480 : Shape := ⟨2, ![4096, 8480]⟩
abbrev S_ : Shape := ⟨0, ![]⟩
abbrev S4096x1024 : Shape := ⟨2, ![4096, 1024]⟩
abbrev S8480x1024 : Shape := ⟨2, ![8480, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8480, .f32⟩
  | .hbm, ⟨1, _⟩ => ⟨S4096x8480, .bf16⟩
  | .hbm, ⟨2, _⟩ => ⟨S_, .f32⟩
  | .hbm, ⟨3, _⟩ => ⟨S4096x1024, .f32⟩
  | .hbm, ⟨4, _⟩ => ⟨S4096x8480, .f32⟩
  | .hbm, ⟨5, _⟩ => ⟨S4096x8480, .f32⟩
  | .hbm, ⟨6, _⟩ => ⟨S8480x1024, .f32⟩
  | .hbm, ⟨7, _⟩ => ⟨S1024x8480, .f32⟩
  | .hbm, ⟨8, _⟩ => ⟨S4096x1024, .f32⟩
  | .hbm, ⟨9, _⟩ => ⟨S4096x1024, .bf16⟩
  | _, _ => ⟨S1024x8480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S4096x8480 : Shape := ⟨2, ![4096, 8480]⟩
abbrev S4096x288 : Shape := ⟨2, ![4096, 288]⟩
abbrev S4096x64 : Shape := ⟨2, ![4096, 64]⟩
abbrev S_ : Shape := ⟨0, ![]⟩
abbrev S4096x128 : Shape := ⟨2, ![4096, 128]⟩
abbrev S4096x160 : Shape := ⟨2, ![4096, 160]⟩
abbrev S4096x256 : Shape := ⟨2, ![4096, 256]⟩
abbrev S4096x512 : Shape := ⟨2, ![4096, 512]⟩
abbrev S8704x1024 : Shape := ⟨2, ![8704, 1024]⟩
abbrev S1024x1024 : Shape := ⟨2, ![1024, 1024]⟩
abbrev S1024x512 : Shape := ⟨2, ![1024, 512]⟩
abbrev S512x1024 : Shape := ⟨2, ![512, 1024]⟩
abbrev S3072x1024 : Shape := ⟨2, ![3072, 1024]⟩
abbrev S64x1024 : Shape := ⟨2, ![64, 1024]⟩
abbrev S160x1024 : Shape := ⟨2, ![160, 1024]⟩
abbrev S288x1024 : Shape := ⟨2, ![288, 1024]⟩
abbrev S5120x1024 : Shape := ⟨2, ![5120, 1024]⟩
abbrev S8480x1024 : Shape := ⟨2, ![8480, 1024]⟩
abbrev S1024x8480 : Shape := ⟨2, ![1024, 8480]⟩

abbrev nBuf : Space → Nat
  | .hbm => 34
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x8480, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x288, .bf16⟩
  | .hbm, ⟨11, _⟩ => ⟨S4096x64, .bf16⟩
  | .hbm, ⟨12, _⟩ => ⟨S_, .i32⟩
  | .hbm, ⟨13, _⟩ => ⟨S_, .bf16⟩
  | .hbm, ⟨14, _⟩ => ⟨S4096x128, .bf16⟩
  | .hbm, ⟨15, _⟩ => ⟨S4096x64, .bf16⟩
  | .hbm, ⟨16, _⟩ => ⟨S_, .i32⟩
  | .hbm, ⟨17, _⟩ => ⟨S_, .bf16⟩
  | .hbm, ⟨18, _⟩ => ⟨S4096x128, .bf16⟩
  | .hbm, ⟨19, _⟩ => ⟨S4096x160, .bf16⟩
  | .hbm, ⟨20, _⟩ => ⟨S_, .i32⟩
  | .hbm, ⟨21, _⟩ => ⟨S_, .bf16⟩
  | .hbm, ⟨22, _⟩ => ⟨S4096x256, .bf16⟩
  | .hbm, ⟨23, _⟩ => ⟨S4096x512, .bf16⟩
  | .hbm, ⟨24, _⟩ => ⟨S8704x1024, .bf16⟩
  | .hbm, ⟨25, _⟩ => ⟨S3072x1024, .bf16⟩
  | .hbm, ⟨26, _⟩ => ⟨S512x1024, .bf16⟩
  | .hbm, ⟨27, _⟩ => ⟨S64x1024, .bf16⟩
  | .hbm, ⟨28, _⟩ => ⟨S64x1024, .bf16⟩
  | .hbm, ⟨29, _⟩ => ⟨S160x1024, .bf16⟩
  | .hbm, ⟨30, _⟩ => ⟨S288x1024, .bf16⟩
  | .hbm, ⟨31, _⟩ => ⟨S5120x1024, .bf16⟩
  | .hbm, ⟨32, _⟩ => ⟨S8480x1024, .bf16⟩
  | .hbm, ⟨33, _⟩ => ⟨S1024x8480, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_call2_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![17, 4], ![false, false]⟩

def k0_cond11 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c4_i32 : BitVec 32 := 4#32
  let v1 : BitVec 1 := Scalar.cmpi .slt arg0 c4_i32
  let v2 : BitVec 1 := Scalar.andi v0 v1
  let c0_i32 : BitVec 32 := 0#32
  let v3 : BitVec 32 := Scalar.select v2 arg1 c0_i32
  let c2_i32_0 : BitVec 32 := 2#32
  let v4 : BitVec 32 := Scalar.subi arg0 c2_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg0 c4_i32
  let c6_i32 : BitVec 32 := 6#32
  let v1 : BitVec 1 := Scalar.cmpi .slt arg0 c6_i32
  let v2 : BitVec 1 := Scalar.andi v0 v1
  let c0_i32 : BitVec 32 := 0#32
  let v3 : BitVec 32 := Scalar.select v2 arg1 c0_i32
  let c4_i32_0 : BitVec 32 := 4#32
  let v4 : BitVec 32 := Scalar.subi arg0 c4_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg0 c6_i32
  let c8_i32 : BitVec 32 := 8#32
  let v1 : BitVec 1 := Scalar.cmpi .slt arg0 c8_i32
  let v2 : BitVec 1 := Scalar.andi v0 v1
  let c0_i32 : BitVec 32 := 0#32
  let v3 : BitVec 32 := Scalar.select v2 arg1 c0_i32
  let c6_i32_0 : BitVec 32 := 6#32
  let v4 : BitVec 32 := Scalar.subi arg0 c6_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg0 c8_i32
  let c10_i32 : BitVec 32 := 10#32
  let v1 : BitVec 1 := Scalar.cmpi .slt arg0 c10_i32
  let v2 : BitVec 1 := Scalar.andi v0 v1
  let c0_i32 : BitVec 32 := 0#32
  let v3 : BitVec 32 := Scalar.select v2 arg1 c0_i32
  let c8_i32_0 : BitVec 32 := 8#32
  let v4 : BitVec 32 := Scalar.subi arg0 c8_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .sge arg0 c10_i32
  let c12_i32 : BitVec 32 := 12#32
  let v1 : BitVec 1 := Scalar.cmpi .slt arg0 c12_i32
  let v2 : BitVec 1 := Scalar.andi v0 v1
  let c0_i32 : BitVec 32 := 0#32
  let v3 : BitVec 32 := Scalar.select v2 arg1 c0_i32
  let c10_i32_0 : BitVec 32 := 10#32
  let v4 : BitVec 32 := Scalar.subi arg0 c10_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .sge arg0 c12_i32
  let c14_i32 : BitVec 32 := 14#32
  let v1 : BitVec 1 := Scalar.cmpi .slt arg0 c14_i32
  let v2 : BitVec 1 := Scalar.andi v0 v1
  let c0_i32 : BitVec 32 := 0#32
  let v3 : BitVec 32 := Scalar.select v2 arg1 c0_i32
  let c12_i32_0 : BitVec 32 := 12#32
  let v4 : BitVec 32 := Scalar.subi arg0 c12_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_8 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 1 := Scalar.cmpi .sge arg0 c14_i32
  let c16_i32 : BitVec 32 := 16#32
  let v1 : BitVec 1 := Scalar.cmpi .slt arg0 c16_i32
  let v2 : BitVec 1 := Scalar.andi v0 v1
  let c0_i32 : BitVec 32 := 0#32
  let v3 : BitVec 32 := Scalar.select v2 arg1 c0_i32
  let c14_i32_0 : BitVec 32 := 14#32
  let v4 : BitVec 32 := Scalar.subi arg0 c14_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c17_i32 : BitVec 32 := 17#32
  let v1 : BitVec 1 := Scalar.cmpi .slt arg0 c17_i32
  let v2 : BitVec 1 := Scalar.andi v0 v1
  let c0_i32 : BitVec 32 := 0#32
  let v3 : BitVec 32 := Scalar.select v2 arg1 c0_i32
  let c16_i32_0 : BitVec 32 := 16#32
  let v4 : BitVec 32 := Scalar.subi arg0 c16_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S4096x1024 : Shape := ⟨2, ![4096, 1024]⟩
abbrev S4096x8480 : Shape := ⟨2, ![4096, 8480]⟩
abbrev S_ : Shape := ⟨0, ![]⟩
abbrev S1024x8480 : Shape := ⟨2, ![1024, 8480]⟩
abbrev S8480x1024 : Shape := ⟨2, ![8480, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8480, .bf16⟩
  | .hbm, ⟨2, _⟩ => ⟨S_, .f32⟩
  | .hbm, ⟨3, _⟩ => ⟨S1024x8480, .f32⟩
  | .hbm, ⟨4, _⟩ => ⟨S4096x1024, .f32⟩
  | .hbm, ⟨5, _⟩ => ⟨S4096x8480, .f32⟩
  | .hbm, ⟨6, _⟩ => ⟨S4096x8480, .f32⟩
  | .hbm, ⟨7, _⟩ => ⟨S8480x1024, .f32⟩
  | .hbm, ⟨8, _⟩ => ⟨S1024x8480, .f32⟩
  | .hbm, ⟨9, _⟩ => ⟨S4096x1024, .f32⟩
  | .hbm, ⟨10, _⟩ => ⟨S1024x8480, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x8480 : Shape := ⟨2, ![1024, 8480]⟩
abbrev S8480x1024 : Shape := ⟨2, ![8480, 1024]⟩
abbrev S3072x1024 : Shape := ⟨2, ![3072, 1024]⟩
abbrev S5120x1024 : Shape := ⟨2, ![5120, 1024]⟩
abbrev S288x1024 : Shape := ⟨2, ![288, 1024]⟩
abbrev S64x1024 : Shape := ⟨2, ![64, 1024]⟩
abbrev S_ : Shape := ⟨0, ![]⟩
abbrev S128x1024 : Shape := ⟨2, ![128, 1024]⟩
abbrev S160x1024 : Shape := ⟨2, ![160, 1024]⟩
abbrev S256x1024 : Shape := ⟨2, ![256, 1024]⟩
abbrev S512x1024 : Shape := ⟨2, ![512, 1024]⟩
abbrev S8704x1024 : Shape := ⟨2, ![8704, 1024]⟩
abbrev S4096x8704 : Shape := ⟨2, ![4096, 8704]⟩
abbrev S2048x1024 : Shape := ⟨2, ![2048, 1024]⟩
abbrev S2048x512 : Shape := ⟨2, ![2048, 512]⟩
abbrev S4096x3072 : Shape := ⟨2, ![4096, 3072]⟩
abbrev S4096x512 : Shape := ⟨2, ![4096, 512]⟩
abbrev S4096x64 : Shape := ⟨2, ![4096, 64]⟩
abbrev S4096x160 : Shape := ⟨2, ![4096, 160]⟩
abbrev S4096x288 : Shape := ⟨2, ![4096, 288]⟩
abbrev S4096x5120 : Shape := ⟨2, ![4096, 5120]⟩
abbrev S4096x8480 : Shape := ⟨2, ![4096, 8480]⟩

abbrev nBuf : Space → Nat
  | .hbm => 30
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8480, .f32⟩
  | .hbm, ⟨2, _⟩ => ⟨S8480x1024, .f32⟩
  | .hbm, ⟨3, _⟩ => ⟨S3072x1024, .f32⟩
  | .hbm, ⟨4, _⟩ => ⟨S5120x1024, .f32⟩
  | .hbm, ⟨5, _⟩ => ⟨S288x1024, .f32⟩
  | .hbm, ⟨6, _⟩ => ⟨S64x1024, .f32⟩
  | .hbm, ⟨7, _⟩ => ⟨S_, .i32⟩
  | .hbm, ⟨8, _⟩ => ⟨S_, .f32⟩
  | .hbm, ⟨9, _⟩ => ⟨S128x1024, .f32⟩
  | .hbm, ⟨10, _⟩ => ⟨S64x1024, .f32⟩
  | .hbm, ⟨11, _⟩ => ⟨S_, .i32⟩
  | .hbm, ⟨12, _⟩ => ⟨S_, .f32⟩
  | .hbm, ⟨13, _⟩ => ⟨S128x1024, .f32⟩
  | .hbm, ⟨14, _⟩ => ⟨S160x1024, .f32⟩
  | .hbm, ⟨15, _⟩ => ⟨S_, .i32⟩
  | .hbm, ⟨16, _⟩ => ⟨S_, .f32⟩
  | .hbm, ⟨17, _⟩ => ⟨S256x1024, .f32⟩
  | .hbm, ⟨18, _⟩ => ⟨S512x1024, .f32⟩
  | .hbm, ⟨19, _⟩ => ⟨S8704x1024, .f32⟩
  | .hbm, ⟨20, _⟩ => ⟨S8704x1024, .bf16⟩
  | .hbm, ⟨21, _⟩ => ⟨S4096x8704, .f32⟩
  | .hbm, ⟨22, _⟩ => ⟨S4096x3072, .f32⟩
  | .hbm, ⟨23, _⟩ => ⟨S4096x512, .f32⟩
  | .hbm, ⟨24, _⟩ => ⟨S4096x64, .f32⟩
  | .hbm, ⟨25, _⟩ => ⟨S4096x64, .f32⟩
  | .hbm, ⟨26, _⟩ => ⟨S4096x160, .f32⟩
  | .hbm, ⟨27, _⟩ => ⟨S4096x288, .f32⟩
  | .hbm, ⟨28, _⟩ => ⟨S4096x5120, .f32⟩
  | .hbm, ⟨29, _⟩ => ⟨S4096x8480, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call2_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x8480 : Shape := ⟨2, ![1024, 8480]⟩
abbrev S4096x8480 : Shape := ⟨2, ![4096, 8480]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8480, .f32⟩
  | .hbm, ⟨2, _⟩ => ⟨S4096x1024, .f32⟩
  | .hbm, ⟨3, _⟩ => ⟨S4096x8480, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S2816x1024, .bf16⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x2816, .f32⟩
  | .hbm, ⟨3, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S1024x1024 : Shape := ⟨2, ![1024, 1024]⟩
abbrev S4096x1024 : Shape := ⟨2, ![4096, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .bf16⟩
  | .hbm, ⟨2, _⟩ => ⟨S1024x1024, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x1024 : Shape := ⟨2, ![4096, 1024]⟩
abbrev S1024x512 : Shape := ⟨2, ![1024, 512]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S1024x512, .bf16⟩
  | .hbm, ⟨3, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S4096x1024, .f32⟩
  | .hbm, ⟨3, _⟩ => ⟨S4096x512, .f32⟩
  | .hbm, ⟨4, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S1024x512 : Shape := ⟨2, ![1024, 512]⟩
abbrev S4096x512 : Shape := ⟨2, ![4096, 512]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S4096x512, .bf16⟩
  | .hbm, ⟨2, _⟩ => ⟨S1024x512, .bf16⟩
  | .hbm, ⟨3, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S2048x1024, .bf16⟩
  | .local _ .vmem, ⟨4, _⟩ => ⟨S2048x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S1024x512 : Shape := ⟨2, ![1024, 512]⟩
abbrev S4096x512 : Shape := ⟨2, ![4096, 512]⟩
abbrev S_ : Shape := ⟨0, ![]⟩
abbrev S4096x1024 : Shape := ⟨2, ![4096, 1024]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S4096x512, .bf16⟩
  | .hbm, ⟨2, _⟩ => ⟨S_, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S512x1024, .f32⟩
  | .hbm, ⟨7, _⟩ => ⟨S1024x512, .f32⟩
  | .hbm, ⟨8, _⟩ => ⟨S4096x1024, .f32⟩
  | .hbm, ⟨9, _⟩ => ⟨S4096x1024, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x1024 : Shape := ⟨2, ![4096, 1024]⟩
abbrev S4096x512 : Shape := ⟨2, ![4096, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S4096x1024, .f32⟩
  | .hbm, ⟨10, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S512x1024 : Shape := ⟨2, ![512, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .f32⟩
  | .hbm, ⟨2, _⟩ => ⟨S1024x1024, .bf16⟩
  | .hbm, ⟨3, _⟩ => ⟨S512x1024, .bf16⟩
  | .local _ .vmem, ⟨0, _⟩ => ⟨S512x1024, .bf16⟩
  | .local _ .vmem, ⟨1, _⟩ => ⟨S1024x1024, .bf16⟩
  | .local _ .vmem, ⟨2, _⟩ => ⟨S512x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S512x1024 : Shape := ⟨2, ![512, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .f32⟩
  | .hbm, ⟨2, _⟩ => ⟨S512x1024, .f32⟩
  | .hbm, ⟨3, _⟩ => ⟨S512x1024, .f32⟩
  | .hbm, ⟨4, _⟩ => ⟨S512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S1024x1024 : Shape := ⟨2, ![1024, 1024]⟩
abbrev S512x1024 : Shape := ⟨2, ![512, 1024]⟩

abbrev nBuf : Space → Nat
  | .hbm => 4
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S512x1024, .bf16⟩
  | .hbm, ⟨2, _⟩ => ⟨S1024x1024, .bf16⟩
  | .hbm, ⟨3, _⟩ => ⟨S512x1024, .bf16⟩
  | .local _ .vmem, ⟨0, _⟩ => ⟨S512x1024, .bf16⟩
  | .local _ .vmem, ⟨1, _⟩ => ⟨S1024x1024, .bf16⟩
  | .local _ .vmem, ⟨2, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S1024x1024 : Shape := ⟨2, ![1024, 1024]⟩
abbrev S512x1024 : Shape := ⟨2, ![512, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S512x1024, .bf16⟩
  | .hbm, ⟨2, _⟩ => ⟨S_, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S512x1024, .f32⟩
  | .hbm, ⟨9, _⟩ => ⟨S512x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S512x1024 : Shape := ⟨2, ![512, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S_, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S512x1024, .f32⟩
  | .hbm, ⟨10, _⟩ => ⟨S1024x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S512x1024, .bf16⟩
  | .hbm, ⟨3, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .f32⟩
  | .local _ .vmem, ⟨4, _⟩ => ⟨S2048x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x512, .f32⟩
  | .hbm, ⟨3, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S512x1024 : Shape := ⟨2, ![512, 1024]⟩
abbrev S4096x1024 : Shape := ⟨2, ![4096, 1024]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S4096x1024, .bf16⟩
  | .hbm, ⟨2, _⟩ => ⟨S512x1024, .bf16⟩
  | .hbm, ⟨3, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S512x1024 : Shape := ⟨2, ![512, 1024]⟩
abbrev S4096x1024 : Shape := ⟨2, ![4096, 1024]⟩
abbrev S_ : Shape := ⟨0, ![]⟩
abbrev S4096x512 : Shape := ⟨2, ![4096, 512]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4096x1024, .bf16⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S4096x512, .f32⟩
  | .hbm, ⟨9, _⟩ => ⟨S4096x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S4096x512, .f32⟩
  | .hbm, ⟨10, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel23.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference23Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S8x128x512, .bf16⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference24Ideal.lean ====
abbrev S8x128x512 : Shape := ⟨3, ![8, 128, 512]⟩
abbrev S128x512 : Shape := ⟨2, ![128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S8x352x1024 : Shape := ⟨3, ![8, 352, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x64x128, .bf16⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .local _ .vmem, ⟨0, _⟩ => ⟨S8x64x128, .bf16⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | _, _ => ⟨S8x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x64x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference26Ideal.lean ====
abbrev S8x64x128 : Shape := ⟨3, ![8, 64, 128]⟩
abbrev S64x128 : Shape := ⟨2, ![64, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x64x128, .bf16⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S8x64x128, .f32⟩
  | .hbm, ⟨5, _⟩ => ⟨S_, .f32⟩
  | .hbm, ⟨6, _⟩ => ⟨S64x128, .f32⟩
  | .hbm, ⟨7, _⟩ => ⟨S_, .f32⟩
  | .hbm, ⟨8, _⟩ => ⟨S64x128, .f32⟩
  | .hbm, ⟨9, _⟩ => ⟨S64x128, .f32⟩
  | .hbm, ⟨10, _⟩ => ⟨S_, .f32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S_, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S_, .f32⟩
  | .hbm, ⟨26, _⟩ => ⟨S64x128, .f32⟩
  | .hbm, ⟨27, _⟩ => ⟨S64x128, .f32⟩
  | .hbm, ⟨28, _⟩ => ⟨S64x128, .f32⟩
  | .hbm, ⟨29, _⟩ => ⟨S_, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S64x128, .f32⟩
  | .hbm, ⟨37, _⟩ => ⟨S_, .f32⟩
  | .hbm, ⟨38, _⟩ => ⟨S64x128, .f32⟩
  | .hbm, ⟨39, _⟩ => ⟨S64x128, .f32⟩
  | _, _ => ⟨S8x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S8x160x128 : Shape := ⟨3, ![8, 160, 128]⟩
abbrev S160x128 : Shape := ⟨2, ![160, 128]⟩
abbrev S8x80x128 : Shape := ⟨3, ![8, 80, 128]⟩
abbrev S80x128 : Shape := ⟨2, ![80, 128]⟩
abbrev S1x80x128 : Shape := ⟨3, ![1, 80, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x160x128, .bf16⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .hbm, ⟨7, _⟩ => ⟨S160x128, .f32⟩
  | .local _ .vmem, ⟨0, _⟩ => ⟨S8x80x128, .bf16⟩
  | .local _ .vmem, ⟨1, _⟩ => ⟨S8x80x128, .bf16⟩
  | .local _ .vmem, ⟨2, _⟩ => ⟨S80x128, .f32⟩
  | .local _ .vmem, ⟨3, _⟩ => ⟨S80x128, .f32⟩
  | .local _ .vmem, ⟨4, _⟩ => ⟨S80x128, .f32⟩
  | .local _ .vmem, ⟨5, _⟩ => ⟨S80x128, .f32⟩
  | .local _ .vmem, ⟨6, _⟩ => ⟨S80x128, .f32⟩
  | .local _ .vmem, ⟨7, _⟩ => ⟨S80x128, .f32⟩
  | .local _ .vmem, ⟨8, _⟩ => ⟨S80x128, .f32⟩
  | .local _ .vmem, ⟨9, _⟩ => ⟨S80x128, .f32⟩
  | .local _ .vmem, ⟨10, _⟩ => ⟨S80x128, .f32⟩
  | .local _ .vmem, ⟨11, _⟩ => ⟨S80x128, .f32⟩
  | .local _ .vmem, ⟨12, _⟩ => ⟨S80x128, .f32⟩
  | .local _ .vmem, ⟨13, _⟩ => ⟨S80x128, .f32⟩
  | .local _ .vmem, ⟨14, _⟩ => ⟨S80x128, .f32⟩
  | .local _ .vmem, ⟨15, _⟩ => ⟨S80x128, .f32⟩
  | _, _ => ⟨S8x160x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x80x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S80x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S80x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S80x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S80x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S80x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S80x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S80x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference27Ideal.lean ====
abbrev S8x160x128 : Shape := ⟨3, ![8, 160, 128]⟩
abbrev S160x128 : Shape := ⟨2, ![160, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x160x128, .bf16⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S8x160x128, .f32⟩
  | .hbm, ⟨5, _⟩ => ⟨S_, .f32⟩
  | .hbm, ⟨6, _⟩ => ⟨S160x128, .f32⟩
  | .hbm, ⟨7, _⟩ => ⟨S_, .f32⟩
  | .hbm, ⟨8, _⟩ => ⟨S160x128, .f32⟩
  | .hbm, ⟨9, _⟩ => ⟨S160x128, .f32⟩
  | .hbm, ⟨10, _⟩ => ⟨S_, .f32⟩
  | .hbm, ⟨11, _⟩ => ⟨S160x128, .f32⟩
  | .hbm, ⟨12, _⟩ => ⟨S160x128, .f32⟩
  | .hbm, ⟨13, _⟩ => ⟨S160x128, .f32⟩
  | .hbm, ⟨14, _⟩ => ⟨S_, .f32⟩
  | .hbm, ⟨15, _⟩ => ⟨S160x128, .f32⟩
  | .hbm, ⟨16, _⟩ => ⟨S160x128, .f32⟩
  | .hbm, ⟨17, _⟩ => ⟨S160x128, .f32⟩
  | .hbm, ⟨18, _⟩ => ⟨S_, .f32⟩
  | .hbm, ⟨19, _⟩ => ⟨S160x128, .f32⟩
  | .hbm, ⟨20, _⟩ => ⟨S160x128, .f32⟩
  | .hbm, ⟨21, _⟩ => ⟨S160x128, .f32⟩
  | .hbm, ⟨22, _⟩ => ⟨S_, .f32⟩
  | .hbm, ⟨23, _⟩ => ⟨S160x128, .f32⟩
  | .hbm, ⟨24, _⟩ => ⟨S160x128, .f32⟩
  | .hbm, ⟨25, _⟩ => ⟨S_, .f32⟩
  | .hbm, ⟨26, _⟩ => ⟨S160x128, .f32⟩
  | .hbm, ⟨27, _⟩ => ⟨S160x128, .f32⟩
  | .hbm, ⟨28, _⟩ => ⟨S160x128, .f32⟩
  | .hbm, ⟨29, _⟩ => ⟨S_, .f32⟩
  | .hbm, ⟨30, _⟩ => ⟨S160x128, .f32⟩
  | .hbm, ⟨31, _⟩ => ⟨S160x128, .f32⟩
  | .hbm, ⟨32, _⟩ => ⟨S160x128, .f32⟩
  | .hbm, ⟨33, _⟩ => ⟨S_, .f32⟩
  | .hbm, ⟨34, _⟩ => ⟨S160x128, .f32⟩
  | .hbm, ⟨35, _⟩ => ⟨S160x128, .f32⟩
  | .hbm, ⟨36, _⟩ => ⟨S160x128, .f32⟩
  | .hbm, ⟨37, _⟩ => ⟨S_, .f32⟩
  | .hbm, ⟨38, _⟩ => ⟨S160x128, .f32⟩
  | .hbm, ⟨39, _⟩ => ⟨S160x128, .f32⟩
  | _, _ => ⟨S8x160x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S8x512x128 : Shape := ⟨3, ![8, 512, 128]⟩
abbrev S512x128 : Shape := ⟨2, ![512, 128]⟩
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x128x128, .bf16⟩
  | .local _ .vmem, ⟨1, _⟩ => ⟨S8x128x128, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference28Ideal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S8x1060x1024 : Shape := ⟨3, ![8, 1060, 1024]⟩
abbrev S1024x1060 : Shape := ⟨2, ![1024, 1060]⟩
abbrev S1060x1024 : Shape := ⟨2, ![1060, 1024]⟩
abbrev S8x1060x128 : Shape := ⟨3, ![8, 1060, 128]⟩
abbrev S1060x128 : Shape := ⟨2, ![1060, 128]⟩
abbrev S1x1060x128 : Shape := ⟨3, ![1, 1060, 128]⟩

abbrev nBuf : Space → Nat
  | .hbm => 15
  | .vmem => 16
  | .smem => 0
  | _ => 0

abbrev bufTy : (tb : Table) → Fin (tcTables nBuf tb) → BufTy
  | .hbm, ⟨0, _⟩ => ⟨S8x1060x1024, .bf16⟩
  | .hbm, ⟨1, _⟩ => ⟨S1024x1060, .f32⟩
  | .hbm, ⟨2, _⟩ => ⟨S1024x1060, .f32⟩
  | .hbm, ⟨3, _⟩ => ⟨S1024x1060, .f32⟩
  | .hbm, ⟨4, _⟩ => ⟨S1060x1024, .f32⟩
  | .hbm, ⟨5, _⟩ => ⟨S1060x1024, .f32⟩
  | .hbm, ⟨6, _⟩ => ⟨S1060x1024, .f32⟩
  | .hbm, ⟨7, _⟩ => ⟨S1060x1024, .f32⟩
  | .hbm, ⟨8, _⟩ => ⟨S1060x1024, .f32⟩
  | .hbm, ⟨9, _⟩ => ⟨S1060x1024, .f32⟩
  | .hbm, ⟨10, _⟩ => ⟨S1060x1024, .f32⟩
  | .hbm, ⟨11, _⟩ => ⟨S1024x1060, .f32⟩
  | .hbm, ⟨12, _⟩ => ⟨S1024x1060, .f32⟩
  | .hbm, ⟨13, _⟩ => ⟨S1024x1060, .f32⟩
  | .hbm, ⟨14, _⟩ => ⟨S1024x1060, .f32⟩
  | .local _ .vmem, ⟨0, _⟩ => ⟨S8x1060x128, .bf16⟩
  | .local _ .vmem, ⟨1, _⟩ => ⟨S8x1060x128, .bf16⟩
  | .local _ .vmem, ⟨2, _⟩ => ⟨S1060x128, .f32⟩
  | .local _ .vmem, ⟨3, _⟩ => ⟨S1060x128, .f32⟩
  | .local _ .vmem, ⟨4, _⟩ => ⟨S1060x128, .f32⟩
  | .local _ .vmem, ⟨5, _⟩ => ⟨S1060x128, .f32⟩
  | .local _ .vmem, ⟨6, _⟩ => ⟨S1060x128, .f32⟩
  | .local _ .vmem, ⟨7, _⟩ => ⟨S1060x128, .f32⟩
  | .local _ .vmem, ⟨8, _⟩ => ⟨S1060x128, .f32⟩
  | .local _ .vmem, ⟨9, _⟩ => ⟨S1060x128, .f32⟩
  | .local _ .vmem, ⟨10, _⟩ => ⟨S1060x128, .f32⟩
  | .local _ .vmem, ⟨11, _⟩ => ⟨S1060x128, .f32⟩
  | .local _ .vmem, ⟨12, _⟩ => ⟨S1060x128, .f32⟩
  | .local _ .vmem, ⟨13, _⟩ => ⟨S1060x128, .f32⟩
  | .local _ .vmem, ⟨14, _⟩ => ⟨S1060x128, .f32⟩
  | .local _ .vmem, ⟨15, _⟩ => ⟨S1060x128, .f32⟩
  | _, _ => ⟨S8x1060x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1060x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1060x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1060x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1060x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1060x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1060x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1060x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1060x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference29Ideal.lean ====
abbrev S8x1060x1024 : Shape := ⟨3, ![8, 1060, 1024]⟩
abbrev S1024x1060 : Shape := ⟨2, ![1024, 1060]⟩
abbrev S_ : Shape := ⟨0, ![]⟩
abbrev S1060x1024 : Shape := ⟨2, ![1060, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x1060x1024, .bf16⟩
  | .hbm, ⟨1, _⟩ => ⟨S1024x1060, .f32⟩
  | .hbm, ⟨2, _⟩ => ⟨S1024x1060, .f32⟩
  | .hbm, ⟨3, _⟩ => ⟨S1024x1060, .f32⟩
  | .hbm, ⟨4, _⟩ => ⟨S8x1060x1024, .f32⟩
  | .hbm, ⟨5, _⟩ => ⟨S_, .f32⟩
  | .hbm, ⟨6, _⟩ => ⟨S1060x1024, .f32⟩
  | .hbm, ⟨7, _⟩ => ⟨S1024x1060, .f32⟩
  | .hbm, ⟨8, _⟩ => ⟨S_, .f32⟩
  | .hbm, ⟨9, _⟩ => ⟨S1024x1060, .f32⟩
  | .hbm, ⟨10, _⟩ => ⟨S1024x1060, .f32⟩
  | .hbm, ⟨11, _⟩ => ⟨S_, .f32⟩
  | .hbm, ⟨12, _⟩ => ⟨S1024x1060, .f32⟩
  | .hbm, ⟨13, _⟩ => ⟨S1024x1060, .f32⟩
  | .hbm, ⟨14, _⟩ => ⟨S1024x1060, .f32⟩
  | .hbm, ⟨15, _⟩ => ⟨S_, .f32⟩
  | .hbm, ⟨16, _⟩ => ⟨S1024x1060, .f32⟩
  | .hbm, ⟨17, _⟩ => ⟨S1024x1060, .f32⟩
  | .hbm, ⟨18, _⟩ => ⟨S1024x1060, .f32⟩
  | .hbm, ⟨19, _⟩ => ⟨S_, .f32⟩
  | .hbm, ⟨20, _⟩ => ⟨S1024x1060, .f32⟩
  | .hbm, ⟨21, _⟩ => ⟨S1024x1060, .f32⟩
  | .hbm, ⟨22, _⟩ => ⟨S1024x1060, .f32⟩
  | .hbm, ⟨23, _⟩ => ⟨S_, .f32⟩
  | .hbm, ⟨24, _⟩ => ⟨S1024x1060, .f32⟩
  | .hbm, ⟨25, _⟩ => ⟨S1024x1060, .f32⟩
  | .hbm, ⟨26, _⟩ => ⟨S_, .f32⟩
  | .hbm, ⟨27, _⟩ => ⟨S1024x1060, .f32⟩
  | .hbm, ⟨28, _⟩ => ⟨S1024x1060, .f32⟩
  | .hbm, ⟨29, _⟩ => ⟨S1024x1060, .f32⟩
  | .hbm, ⟨30, _⟩ => ⟨S_, .f32⟩
  | .hbm, ⟨31, _⟩ => ⟨S1024x1060, .f32⟩
  | .hbm, ⟨32, _⟩ => ⟨S1024x1060, .f32⟩
  | .hbm, ⟨33, _⟩ => ⟨S1024x1060, .f32⟩
  | .hbm, ⟨34, _⟩ => ⟨S_, .f32⟩
  | .hbm, ⟨35, _⟩ => ⟨S1024x1060, .f32⟩
  | .hbm, ⟨36, _⟩ => ⟨S1024x1060, .f32⟩
  | .hbm, ⟨37, _⟩ => ⟨S1024x1060, .f32⟩
  | .hbm, ⟨38, _⟩ => ⟨S_, .f32⟩
  | .hbm, ⟨39, _⟩ => ⟨S1024x1060, .f32⟩
  | .hbm, ⟨40, _⟩ => ⟨S1024x1060, .f32⟩
  | _, _ => ⟨S8x1060x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel30.lean ====
abbrev S8x704x1024 : Shape := ⟨3, ![8, 704, 1024]⟩
abbrev S1024x704 : Shape := ⟨2, ![1024, 704]⟩
abbrev S704x1024 : Shape := ⟨2, ![704, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 15
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S1024x704, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference30Ideal.lean ====
abbrev S8x704x1024 : Shape := ⟨3, ![8, 704, 1024]⟩
abbrev S1024x704 : Shape := ⟨2, ![1024, 704]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1024x704, .f32⟩
  | .hbm, ⟨8, _⟩ => ⟨S_, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel31.lean ====
abbrev S4096x5632 : Shape := ⟨2, ![4096, 5632]⟩
abbrev S4096x2816 : Shape := ⟨2, ![4096, 2816]⟩
abbrev S512x2816 : Shape := ⟨2, ![512, 2816]⟩
abbrev S512x5632 : Shape := ⟨2, ![512, 5632]⟩

abbrev nBuf : Space → Nat
  | .hbm => 3
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x5632, .bf16⟩
  | .local _ .vmem, ⟨7, _⟩ => ⟨S512x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x5632, .f32⟩
  | .hbm, ⟨27, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Kernel32.lean ====
abbrev S4096x8704 : Shape := ⟨2, ![4096, 8704]⟩
abbrev S4096x1024 : Shape := ⟨2, ![4096, 1024]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4096x8704, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference32Ideal.lean ====
abbrev S4096x8704 : Shape := ⟨2, ![4096, 8704]⟩
abbrev S4096x1024 : Shape := ⟨2, ![4096, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x8704, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .bf16⟩
  | .hbm, ⟨42, _⟩ => ⟨S4096x1024, .bf16⟩
  | .hbm, ⟨43, _⟩ => ⟨S4096x1024, .bf16⟩
  | _, _ => ⟨S4096x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel33.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference33Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel34.lean ====
abbrev S8x168x128 : Shape := ⟨3, ![8, 168, 128]⟩
abbrev S168x128 : Shape := ⟨2, ![168, 128]⟩
abbrev S1x168x128 : Shape := ⟨3, ![1, 168, 128]⟩
abbrev S21504 : Shape := ⟨1, ![21504]⟩
abbrev S1 : Shape := ⟨1, ![1]⟩
abbrev S_ : Shape := ⟨0, ![]⟩
abbrev S1024 : Shape := ⟨1, ![1024]⟩
abbrev S1x1024 : Shape := ⟨2, ![1, 1024]⟩
abbrev S3360 : Shape := ⟨1, ![3360]⟩
abbrev S1x3360 : Shape := ⟨2, ![1, 3360]⟩
abbrev S1x16x64 : Shape := ⟨3, ![1, 16, 64]⟩
abbrev S3072 : Shape := ⟨1, ![3072]⟩
abbrev S1x16x192 : Shape := ⟨3, ![1, 16, 192]⟩

abbrev nBuf : Space → Nat
  | .hbm => 143
  | .vmem => 8
  | .smem => 0
  | _ => 0

abbrev hbmTy0_0 (i : Nat) : BufTy := match i % 128 with
  | 0 => ⟨S8x168x128, .f32⟩
  | 1 => ⟨S168x128, .f32⟩
  | 2 => ⟨S168x128, .f32⟩
  | 3 => ⟨S168x128, .f32⟩
  | 4 => ⟨S168x128, .f32⟩
  | 5 => ⟨S168x128, .f32⟩
  | 6 => ⟨S168x128, .f32⟩
  | 7 => ⟨S168x128, .f32⟩
  | 8 => ⟨S21504, .f32⟩
  | 9 => ⟨S1, .f32⟩
  | 10 => ⟨S_, .f32⟩
  | 11 => ⟨S21504, .f32⟩
  | 12 => ⟨S1024, .f32⟩
  | 13 => ⟨S1x1024, .f32⟩
  | 14 => ⟨S1024, .f32⟩
  | 15 => ⟨S1x1024, .f32⟩
  | 16 => ⟨S3360, .f32⟩
  | 17 => ⟨S1x3360, .f32⟩
  | 18 => ⟨S1024, .f32⟩
  | 19 => ⟨S1x1024, .f32⟩
  | 20 => ⟨S1024, .f32⟩
  | 21 => ⟨S1x1024, .f32⟩
  | 22 => ⟨S1024, .f32⟩
  | 23 => ⟨S1x1024, .f32⟩
  | 24 => ⟨S1024, .f32⟩
  | 25 => ⟨S1x1024, .f32⟩
  | 26 => ⟨S1024, .f32⟩
  | 27 => ⟨S1x16x64, .f32⟩
  | 28 => ⟨S1024, .f32⟩
  | 29 => ⟨S1x1024, .f32⟩
  | 30 => ⟨S1024, .f32⟩
  | 31 => ⟨S1x1024, .f32⟩
  | 32 => ⟨S3072, .f32⟩
  | 33 => ⟨S1x16x192, .f32⟩
  | 34 => ⟨S1024, .f32⟩
  | 35 => ⟨S1x1024, .f32⟩
  | 36 => ⟨S1024, .f32⟩
  | 37 => ⟨S1x1024, .f32⟩
  | 38 => ⟨S1024, .f32⟩
  | 39 => ⟨S1x1024, .f32⟩
  | 40 => ⟨S1024, .f32⟩
  | 41 => ⟨S1x1024, .f32⟩
  | 42 => ⟨S1024, .f32⟩
  | 43 => ⟨S1x1024, .f32⟩
  | 44 => ⟨S21504, .f32⟩
  | 45 => ⟨S1024, .f32⟩
  | 46 => ⟨S1x1024, .f32⟩
  | 47 => ⟨S1024, .f32⟩
  | 48 => ⟨S1x1024, .f32⟩
  | 49 => ⟨S3360, .f32⟩
  | 50 => ⟨S1x3360, .f32⟩
  | 51 => ⟨S1024, .f32⟩
  | 52 => ⟨S1x1024, .f32⟩
  | 53 => ⟨S1024, .f32⟩
  | 54 => ⟨S1x1024, .f32⟩
  | 55 => ⟨S1024, .f32⟩
  | 56 => ⟨S1x1024, .f32⟩
  | 57 => ⟨S1024, .f32⟩
  | 58 => ⟨S1x1024, .f32⟩
  | 59 => ⟨S1024, .f32⟩
  | 60 => ⟨S1x16x64, .f32⟩
  | 61 => ⟨S1024, .f32⟩
  | 62 => ⟨S1x1024, .f32⟩
  | 63 => ⟨S1024, .f32⟩
  | 64 => ⟨S1x1024, .f32⟩
  | 65 => ⟨S3072, .f32⟩
  | 66 => ⟨S1x16x192, .f32⟩
  | 67 => ⟨S1024, .f32⟩
  | 68 => ⟨S1x1024, .f32⟩
  | 69 => ⟨S1024, .f32⟩
  | 70 => ⟨S1x1024, .f32⟩
  | 71 => ⟨S1024, .f32⟩
  | 72 => ⟨S1x1024, .f32⟩
  | 73 => ⟨S1024, .f32⟩
  | 74 => ⟨S1x1024, .f32⟩
  | 75 => ⟨S1024, .f32⟩
  | 76 => ⟨S1x1024, .f32⟩
  | 77 => ⟨S21504, .f32⟩
  | 78 => ⟨S1024, .f32⟩
  | 79 => ⟨S1x1024, .f32⟩
  | 80 => ⟨S1024, .f32⟩
  | 81 => ⟨S1x1024, .f32⟩
  | 82 => ⟨S3360, .f32⟩
  | 83 => ⟨S1x3360, .f32⟩
  | 84 => ⟨S1024, .f32⟩
  | 85 => ⟨S1x1024, .f32⟩
  | 86 => ⟨S1024, .f32⟩
  | 87 => ⟨S1x1024, .f32⟩
  | 88 => ⟨S1024, .f32⟩
  | 89 => ⟨S1x1024, .f32⟩
  | 90 => ⟨S1024, .f32⟩
  | 91 => ⟨S1x1024, .f32⟩
  | 92 => ⟨S1024, .f32⟩
  | 93 => ⟨S1x16x64, .f32⟩
  | 94 => ⟨S1024, .f32⟩
  | 95 => ⟨S1x1024, .f32⟩
  | 96 => ⟨S1024, .f32⟩
  | 97 => ⟨S1x1024, .f32⟩
  | 98 => ⟨S3072, .f32⟩
  | 99 => ⟨S1x16x192, .f32⟩
  | 100 => ⟨S1024, .f32⟩
  | 101 => ⟨S1x1024, .f32⟩
  | 102 => ⟨S1024, .f32⟩
  | 103 => ⟨S1x1024, .f32⟩
  | 104 => ⟨S1024, .f32⟩
  | 105 => ⟨S1x1024, .f32⟩
  | 106 => ⟨S1024, .f32⟩
  | 107 => ⟨S1x1024, .f32⟩
  | 108 => ⟨S1024, .f32⟩
  | 109 => ⟨S1x1024, .f32⟩
  | 110 => ⟨S21504, .f32⟩
  | 111 => ⟨S1024, .f32⟩
  | 112 => ⟨S1x1024, .f32⟩
  | 113 => ⟨S1024, .f32⟩
  | 114 => ⟨S1x1024, .f32⟩
  | 115 => ⟨S3360, .f32⟩
  | 116 => ⟨S1x3360, .f32⟩
  | 117 => ⟨S1024, .f32⟩
  | 118 => ⟨S1x1024, .f32⟩
  | 119 => ⟨S1024, .f32⟩
  | 120 => ⟨S1x1024, .f32⟩
  | 121 => ⟨S1024, .f32⟩
  | 122 => ⟨S1x1024, .f32⟩
  | 123 => ⟨S1024, .f32⟩
  | 124 => ⟨S1x1024, .f32⟩
  | 125 => ⟨S1024, .f32⟩
  | 126 => ⟨S1x16x64, .f32⟩
  | 127 => ⟨S1024, .f32⟩
  | _ => ⟨S8x168x128, .f32⟩

abbrev hbmTy0_1 (i : Nat) : BufTy := match i % 128 with
  | 0 => ⟨S1x1024, .f32⟩
  | 1 => ⟨S1024, .f32⟩
  | 2 => ⟨S1x1024, .f32⟩
  | 3 => ⟨S3072, .f32⟩
  | 4 => ⟨S1x16x192, .f32⟩
  | 5 => ⟨S1024, .f32⟩
  | 6 => ⟨S1x1024, .f32⟩
  | 7 => ⟨S1024, .f32⟩
  | 8 => ⟨S1x1024, .f32⟩
  | 9 => ⟨S1024, .f32⟩
  | 10 => ⟨S1x1024, .f32⟩
  | 11 => ⟨S1024, .f32⟩
  | 12 => ⟨S1x1024, .f32⟩
  | 13 => ⟨S1024, .f32⟩
  | 14 => ⟨S1x1024, .f32⟩
  | _ => ⟨S8x168x128, .f32⟩

abbrev hbmTy (i : Nat) : BufTy := match i / 128 with
  | 0 => hbmTy0_0 i
  | 1 => hbmTy0_1 i
  | _ => ⟨S8x168x128, .f32⟩

abbrev bufTy : (tb : Table) → Fin (tcTables nBuf tb) → BufTy
  | .hbm, ⟨i, _⟩ => hbmTy i
  | .local _ .vmem, ⟨0, _⟩ => ⟨S8x168x128, .f32⟩
  | .local _ .vmem, ⟨1, _⟩ => ⟨S168x128, .f32⟩
  | .local _ .vmem, ⟨2, _⟩ => ⟨S168x128, .f32⟩
  | .local _ .vmem, ⟨3, _⟩ => ⟨S168x128, .f32⟩
  | .local _ .vmem, ⟨4, _⟩ => ⟨S168x128, .f32⟩
  | .local _ .vmem, ⟨5, _⟩ => ⟨S168x128, .f32⟩
  | .local _ .vmem, ⟨6, _⟩ => ⟨S168x128, .f32⟩
  | .local _ .vmem, ⟨7, _⟩ => ⟨S168x128, .f32⟩
  | _, _ => ⟨S8x168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference34Ideal.lean ====
abbrev S8x168x128 : Shape := ⟨3, ![8, 168, 128]⟩
abbrev S168x128 : Shape := ⟨2, ![168, 128]⟩
abbrev S_ : Shape := ⟨0, ![]⟩
abbrev S21504 : Shape := ⟨1, ![21504]⟩
abbrev S1024 : Shape := ⟨1, ![1024]⟩
abbrev S1x1024 : Shape := ⟨2, ![1, 1024]⟩
abbrev S3360 : Shape := ⟨1, ![3360]⟩
abbrev S1x3360 : Shape := ⟨2, ![1, 3360]⟩
abbrev S1x16x64 : Shape := ⟨3, ![1, 16, 64]⟩
abbrev S3072 : Shape := ⟨1, ![3072]⟩
abbrev S1x16x192 : Shape := ⟨3, ![1, 16, 192]⟩
abbrev S1 : Shape := ⟨1, ![1]⟩

abbrev nBuf : Space → Nat
  | .hbm => 234
  | .vmem => 0
  | .smem => 0
  | _ => 0

abbrev hbmTy0_0 (i : Nat) : BufTy := match i % 128 with
  | 0 => ⟨S8x168x128, .f32⟩
  | 1 => ⟨S168x128, .f32⟩
  | 2 => ⟨S168x128, .f32⟩
  | 3 => ⟨S168x128, .f32⟩
  | 4 => ⟨S_, .f32⟩
  | 5 => ⟨S168x128, .f32⟩
  | 6 => ⟨S_, .f32⟩
  | 7 => ⟨S168x128, .f32⟩
  | 8 => ⟨S168x128, .f32⟩
  | 9 => ⟨S_, .f32⟩
  | 10 => ⟨S168x128, .f32⟩
  | 11 => ⟨S168x128, .f32⟩
  | 12 => ⟨S168x128, .f32⟩
  | 13 => ⟨S_, .f32⟩
  | 14 => ⟨S168x128, .f32⟩
  | 15 => ⟨S168x128, .f32⟩
  | 16 => ⟨S168x128, .f32⟩
  | 17 => ⟨S_, .f32⟩
  | 18 => ⟨S168x128, .f32⟩
  | 19 => ⟨S168x128, .f32⟩
  | 20 => ⟨S168x128, .f32⟩
  | 21 => ⟨S_, .f32⟩
  | 22 => ⟨S168x128, .f32⟩
  | 23 => ⟨S168x128, .f32⟩
  | 24 => ⟨S_, .f32⟩
  | 25 => ⟨S168x128, .f32⟩
  | 26 => ⟨S168x128, .f32⟩
  | 27 => ⟨S168x128, .f32⟩
  | 28 => ⟨S_, .f32⟩
  | 29 => ⟨S168x128, .f32⟩
  | 30 => ⟨S168x128, .f32⟩
  | 31 => ⟨S168x128, .f32⟩
  | 32 => ⟨S_, .f32⟩
  | 33 => ⟨S168x128, .f32⟩
  | 34 => ⟨S168x128, .f32⟩
  | 35 => ⟨S168x128, .f32⟩
  | 36 => ⟨S_, .f32⟩
  | 37 => ⟨S168x128, .f32⟩
  | 38 => ⟨S168x128, .f32⟩
  | 39 => ⟨S21504, .f32⟩
  | 40 => ⟨S1024, .f32⟩
  | 41 => ⟨S1x1024, .f32⟩
  | 42 => ⟨S21504, .f32⟩
  | 43 => ⟨S1024, .f32⟩
  | 44 => ⟨S1x1024, .f32⟩
  | 45 => ⟨S21504, .f32⟩
  | 46 => ⟨S3360, .f32⟩
  | 47 => ⟨S1x3360, .f32⟩
  | 48 => ⟨S21504, .f32⟩
  | 49 => ⟨S1024, .f32⟩
  | 50 => ⟨S1x1024, .f32⟩
  | 51 => ⟨S21504, .f32⟩
  | 52 => ⟨S1024, .f32⟩
  | 53 => ⟨S1x1024, .f32⟩
  | 54 => ⟨S21504, .f32⟩
  | 55 => ⟨S1024, .f32⟩
  | 56 => ⟨S1x1024, .f32⟩
  | 57 => ⟨S21504, .f32⟩
  | 58 => ⟨S1024, .f32⟩
  | 59 => ⟨S1x1024, .f32⟩
  | 60 => ⟨S21504, .f32⟩
  | 61 => ⟨S1024, .f32⟩
  | 62 => ⟨S1x16x64, .f32⟩
  | 63 => ⟨S21504, .f32⟩
  | 64 => ⟨S1024, .f32⟩
  | 65 => ⟨S1x1024, .f32⟩
  | 66 => ⟨S21504, .f32⟩
  | 67 => ⟨S1024, .f32⟩
  | 68 => ⟨S1x1024, .f32⟩
  | 69 => ⟨S21504, .f32⟩
  | 70 => ⟨S3072, .f32⟩
  | 71 => ⟨S1x16x192, .f32⟩
  | 72 => ⟨S21504, .f32⟩
  | 73 => ⟨S1024, .f32⟩
  | 74 => ⟨S1x1024, .f32⟩
  | 75 => ⟨S21504, .f32⟩
  | 76 => ⟨S1024, .f32⟩
  | 77 => ⟨S1x1024, .f32⟩
  | 78 => ⟨S21504, .f32⟩
  | 79 => ⟨S1024, .f32⟩
  | 80 => ⟨S1x1024, .f32⟩
  | 81 => ⟨S21504, .f32⟩
  | 82 => ⟨S1024, .f32⟩
  | 83 => ⟨S1x1024, .f32⟩
  | 84 => ⟨S21504, .f32⟩
  | 85 => ⟨S1024, .f32⟩
  | 86 => ⟨S1x1024, .f32⟩
  | 87 => ⟨S21504, .f32⟩
  | 88 => ⟨S1024, .f32⟩
  | 89 => ⟨S1x1024, .f32⟩
  | 90 => ⟨S21504, .f32⟩
  | 91 => ⟨S1024, .f32⟩
  | 92 => ⟨S1x1024, .f32⟩
  | 93 => ⟨S21504, .f32⟩
  | 94 => ⟨S3360, .f32⟩
  | 95 => ⟨S1x3360, .f32⟩
  | 96 => ⟨S21504, .f32⟩
  | 97 => ⟨S1024, .f32⟩
  | 98 => ⟨S1x1024, .f32⟩
  | 99 => ⟨S21504, .f32⟩
  | 100 => ⟨S1024, .f32⟩
  | 101 => ⟨S1x1024, .f32⟩
  | 102 => ⟨S21504, .f32⟩
  | 103 => ⟨S1024, .f32⟩
  | 104 => ⟨S1x1024, .f32⟩
  | 105 => ⟨S21504, .f32⟩
  | 106 => ⟨S1024, .f32⟩
  | 107 => ⟨S1x1024, .f32⟩
  | 108 => ⟨S21504, .f32⟩
  | 109 => ⟨S1024, .f32⟩
  | 110 => ⟨S1x16x64, .f32⟩
  | 111 => ⟨S21504, .f32⟩
  | 112 => ⟨S1024, .f32⟩
  | 113 => ⟨S1x1024, .f32⟩
  | 114 => ⟨S21504, .f32⟩
  | 115 => ⟨S1024, .f32⟩
  | 116 => ⟨S1x1024, .f32⟩
  | 117 => ⟨S21504, .f32⟩
  | 118 => ⟨S3072, .f32⟩
  | 119 => ⟨S1x16x192, .f32⟩
  | 120 => ⟨S21504, .f32⟩
  | 121 => ⟨S1024, .f32⟩
  | 122 => ⟨S1x1024, .f32⟩
  | 123 => ⟨S21504, .f32⟩
  | 124 => ⟨S1024, .f32⟩
  | 125 => ⟨S1x1024, .f32⟩
  | 126 => ⟨S21504, .f32⟩
  | 127 => ⟨S1024, .f32⟩
  | _ => ⟨S8x168x128, .f32⟩

abbrev hbmTy0_1 (i : Nat) : BufTy := match i % 128 with
  | 0 => ⟨S1x1024, .f32⟩
  | 1 => ⟨S21504, .f32⟩
  | 2 => ⟨S1024, .f32⟩
  | 3 => ⟨S1x1024, .f32⟩
  | 4 => ⟨S21504, .f32⟩
  | 5 => ⟨S1024, .f32⟩
  | 6 => ⟨S1x1024, .f32⟩
  | 7 => ⟨S21504, .f32⟩
  | 8 => ⟨S1024, .f32⟩
  | 9 => ⟨S1x1024, .f32⟩
  | 10 => ⟨S21504, .f32⟩
  | 11 => ⟨S1024, .f32⟩
  | 12 => ⟨S1x1024, .f32⟩
  | 13 => ⟨S21504, .f32⟩
  | 14 => ⟨S3360, .f32⟩
  | 15 => ⟨S1x3360, .f32⟩
  | 16 => ⟨S21504, .f32⟩
  | 17 => ⟨S1024, .f32⟩
  | 18 => ⟨S1x1024, .f32⟩
  | 19 => ⟨S21504, .f32⟩
  | 20 => ⟨S1024, .f32⟩
  | 21 => ⟨S1x1024, .f32⟩
  | 22 => ⟨S21504, .f32⟩
  | 23 => ⟨S1024, .f32⟩
  | 24 => ⟨S1x1024, .f32⟩
  | 25 => ⟨S21504, .f32⟩
  | 26 => ⟨S1024, .f32⟩
  | 27 => ⟨S1x1024, .f32⟩
  | 28 => ⟨S21504, .f32⟩
  | 29 => ⟨S1024, .f32⟩
  | 30 => ⟨S1x16x64, .f32⟩
  | 31 => ⟨S21504, .f32⟩
  | 32 => ⟨S1024, .f32⟩
  | 33 => ⟨S1x1024, .f32⟩
  | 34 => ⟨S21504, .f32⟩
  | 35 => ⟨S1024, .f32⟩
  | 36 => ⟨S1x1024, .f32⟩
  | 37 => ⟨S21504, .f32⟩
  | 38 => ⟨S3072, .f32⟩
  | 39 => ⟨S1x16x192, .f32⟩
  | 40 => ⟨S21504, .f32⟩
  | 41 => ⟨S1024, .f32⟩
  | 42 => ⟨S1x1024, .f32⟩
  | 43 => ⟨S21504, .f32⟩
  | 44 => ⟨S1024, .f32⟩
  | 45 => ⟨S1x1024, .f32⟩
  | 46 => ⟨S21504, .f32⟩
  | 47 => ⟨S1024, .f32⟩
  | 48 => ⟨S1x1024, .f32⟩
  | 49 => ⟨S21504, .f32⟩
  | 50 => ⟨S1024, .f32⟩
  | 51 => ⟨S1x1024, .f32⟩
  | 52 => ⟨S21504, .f32⟩
  | 53 => ⟨S1024, .f32⟩
  | 54 => ⟨S1x1024, .f32⟩
  | 55 => ⟨S21504, .f32⟩
  | 56 => ⟨S1024, .f32⟩
  | 57 => ⟨S1x1024, .f32⟩
  | 58 => ⟨S21504, .f32⟩
  | 59 => ⟨S1024, .f32⟩
  | 60 => ⟨S1x1024, .f32⟩
  | 61 => ⟨S21504, .f32⟩
  | 62 => ⟨S3360, .f32⟩
  | 63 => ⟨S1x3360, .f32⟩
  | 64 => ⟨S21504, .f32⟩
  | 65 => ⟨S1024, .f32⟩
  | 66 => ⟨S1x1024, .f32⟩
  | 67 => ⟨S21504, .f32⟩
  | 68 => ⟨S1024, .f32⟩
  | 69 => ⟨S1x1024, .f32⟩
  | 70 => ⟨S21504, .f32⟩
  | 71 => ⟨S1024, .f32⟩
  | 72 => ⟨S1x1024, .f32⟩
  | 73 => ⟨S21504, .f32⟩
  | 74 => ⟨S1024, .f32⟩
  | 75 => ⟨S1x1024, .f32⟩
  | 76 => ⟨S21504, .f32⟩
  | 77 => ⟨S1024, .f32⟩
  | 78 => ⟨S1x16x64, .f32⟩
  | 79 => ⟨S21504, .f32⟩
  | 80 => ⟨S1024, .f32⟩
  | 81 => ⟨S1x1024, .f32⟩
  | 82 => ⟨S21504, .f32⟩
  | 83 => ⟨S1024, .f32⟩
  | 84 => ⟨S1x1024, .f32⟩
  | 85 => ⟨S21504, .f32⟩
  | 86 => ⟨S3072, .f32⟩
  | 87 => ⟨S1x16x192, .f32⟩
  | 88 => ⟨S21504, .f32⟩
  | 89 => ⟨S1024, .f32⟩
  | 90 => ⟨S1x1024, .f32⟩
  | 91 => ⟨S21504, .f32⟩
  | 92 => ⟨S1024, .f32⟩
  | 93 => ⟨S1x1024, .f32⟩
  | 94 => ⟨S21504, .f32⟩
  | 95 => ⟨S1024, .f32⟩
  | 96 => ⟨S1x1024, .f32⟩
  | 97 => ⟨S21504, .f32⟩
  | 98 => ⟨S1024, .f32⟩
  | 99 => ⟨S1x1024, .f32⟩
  | 100 => ⟨S21504, .f32⟩
  | 101 => ⟨S1024, .f32⟩
  | 102 => ⟨S1x1024, .f32⟩
  | 103 => ⟨S21504, .f32⟩
  | 104 => ⟨S1, .f32⟩
  | 105 => ⟨S_, .f32⟩
  | _ => ⟨S8x168x128, .f32⟩

abbrev hbmTy (i : Nat) : BufTy := match i / 128 with
  | 0 => hbmTy0_0 i
  | 1 => hbmTy0_1 i
  | _ => ⟨S8x168x128, .f32⟩

abbrev bufTy : (tb : Table) → Fin (tcTables nBuf tb) → BufTy
  | .hbm, ⟨i, _⟩ => hbmTy i
  | _, _ => ⟨S8x168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩

abbrev nD : Nat := 1
abbrev τ : Topo := Topo.v7x

variable {F : FTy → Type} [FloatOps F]
-- ==== Proof.SoftmaxGrad.lean ====
/- The gradient of a softmax row, over the extended reals: what a kernel that differentiates through the row's maximum
   computes is what differentiating with the maximum held fixed computes. -/
module

public import Idealize.ShloMosaic.PureOps.Ideal.Laws

@[expose] public section

noncomputable section

namespace Cert.SoftmaxGrad

open Idealize.ShloMosaic

/-- The word of negative infinity is the bottom of the extended reals. -/
theorem ofBits_bot : Ideal.ofBits .f32 (4286578688#32) = (⊥ : EReal) := by
  simp only [Ideal.ofBits, Ideal.ieee]
  simp

/-- The word of zero is zero. -/
theorem ofBits_zero : Ideal.ofBits .f32 (0#32) = (0 : EReal) := by
  simp only [Ideal.ofBits, Ideal.ieee]
  simp

/-- The word of one is one. -/
theorem ofBits_one : Ideal.ofBits .f32 (1065353216#32) = (1 : EReal) := by
  simp [Ideal.ofBits, Ideal.ieee, Nat.shiftRight_eq_div_pow]
  rw [← EReal.coe_mul, ← EReal.coe_one]
  norm_num

/-- The sum of real numbers, taken in the extended reals, is their real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A row's maximum from negative infinity is at least every entry. -/
theorem le_fold_max {n : ℕ} (s : Fin n → EReal) (j : Fin n) : s j ≤ Finset.univ.fold max ⊥ s :=
  Finset.le_fold_max (s j) |>.mpr (.inr ⟨j, Finset.mem_univ j, le_rfl⟩)

/-- A row's maximum from negative infinity is negative infinity or one of the entries. -/
theorem fold_max_mem {n : ℕ} (s : Fin n → EReal) :
    Finset.univ.fold max ⊥ s = ⊥ ∨ ∃ j, s j = Finset.univ.fold max ⊥ s := by
  rcases (Finset.le_fold_max (b := ⊥) (f := s) (s := Finset.univ) (Finset.univ.fold max ⊥ s)).mp le_rfl with h | ⟨j, _, h⟩
  · exact .inl (le_bot_iff.mp h)
  · exact .inr ⟨j, le_antisymm (le_fold_max s j) h⟩

/-- The maximum of a row of which some entry is above negative infinity and none is positive infinity is a real number,
    and one of the entries. -/
theorem fold_max_real {n : ℕ} (s : Fin n → EReal) (hs : ∀ j, s j ≠ ⊤) (hex : ∃ j, s j ≠ ⊥) :
    ∃ μ : ℝ, Finset.univ.fold max ⊥ s = (μ : EReal) ∧ (∀ j, s j ≤ (μ : EReal)) ∧ ∃ j, s j = (μ : EReal) := by
  obtain ⟨j₀, h₀⟩ := hex
  rcases fold_max_mem s with h | ⟨j, h⟩
  · exact absurd (le_bot_iff.mp (h ▸ le_fold_max s j₀)) h₀
  · have hb : s j ≠ ⊥ := fun hb => h₀ (le_bot_iff.mp (hb ▸ h ▸ le_fold_max s j₀))
    refine ⟨(s j).toReal, ?_, ?_, ⟨j, ?_⟩⟩
    · rw [EReal.coe_toReal (hs j) hb, h]
    · intro i; rw [EReal.coe_toReal (hs j) hb, h]; exact le_fold_max s i
    · rw [EReal.coe_toReal (hs j) hb]

/-- What the row's quantities are worth as real numbers: the exponentials `ε`, their positive sum, and the number of
    entries at the maximum. -/
theorem reals {n : ℕ} (s : Fin n → EReal) (hs : ∀ j, s j ≠ ⊤) (hex : ∃ j, s j ≠ ⊥) :
    ∃ ε : Fin n → ℝ, (∀ j, Ideal.exp (s j - Finset.univ.fold max ⊥ s) = (ε j : EReal)) ∧ 0 < ∑ j, ε j := by
  obtain ⟨μ, hμ, hle, j₀, hj₀⟩ := fold_max_real s hs hex
  rw [hμ]
  have he : ∀ j, ∃ x : ℝ, Ideal.exp (s j - (μ : EReal)) = (x : EReal) ∧ 0 ≤ x ∧ (s j = (μ : EReal) → 0 < x) := by
    intro j
    by_cases hb : s j = ⊥
    · refine ⟨0, ?_, le_rfl, fun h => ?_⟩
      · rw [hb, EReal.bot_sub, Ideal.exp_bot, EReal.coe_zero]
      · rw [hb] at h; exact absurd h.symm (EReal.coe_ne_bot μ)
    · refine ⟨Real.exp ((s j).toReal - μ), ?_, (Real.exp_pos _).le, fun _ => Real.exp_pos _⟩
      rw [← Ideal.exp_coe, EReal.coe_sub, EReal.coe_toReal (hs j) hb]
  choose ε h1 h2 h3 using he
  refine ⟨ε, h1, ?_⟩
  exact Finset.sum_pos' (fun j _ => h2 j) ⟨j₀, Finset.mem_univ _, h3 j₀ hj₀⟩

/-- The real gradient of a softmax row: `ε` the exponentials, `γ` the gradients of the probabilities. -/
def grad {n : ℕ} (ε γ : Fin n → ℝ) (j : Fin n) : ℝ :=
  (γ j * (1 / ∑ i, ε i) - (∑ i, ε i * γ i) * (1 / ((∑ i, ε i) * ∑ i, ε i))) * ε j

/-- The gradient of a softmax row sums to zero. -/
theorem sum_grad {n : ℕ} (ε γ : Fin n → ℝ) (h : 0 < ∑ j, ε j) : ∑ j, grad ε γ j = 0 := by
  have hne : (∑ j, ε j) ≠ 0 := h.ne'
  have : ∑ j, grad ε γ j = (∑ i, ε i * γ i) * (1 / ∑ i, ε i)
      - (∑ i, ε i * γ i) * (1 / ((∑ i, ε i) * ∑ i, ε i)) * ∑ i, ε i := by
    rw [Finset.sum_mul, Finset.mul_sum, ← Finset.sum_sub_distrib]
    exact Finset.sum_congr rfl fun j _ => by unfold grad; ring
  rw [this]; field_simp; ring

section Row

variable {n : ℕ} (s g : Fin n → EReal)

/-- The row's maximum. -/
def mx : EReal := Finset.univ.fold max ⊥ s
/-- The exponential of an entry, the maximum taken off. -/
def ex (j : Fin n) : EReal := Ideal.exp (s j - mx s)
/-- The sum of the exponentials. -/
def tot : EReal := ∑ j, ex s j
/-- One where the entry is the maximum, zero elsewhere. -/
def mask (j : Fin n) : EReal := if s j = mx s then 1 else 0

/-- The gradient of the scores before the maximum's share is added, the kernel's operations in their order. -/
def part (j : Fin n) : EReal :=
  (g j * Ideal.div 1 (tot s) + (0 - (∑ k, ex s k * g k) * Ideal.div 1 (tot s * tot s))) * ex s j

/-- The gradient of the scores, the maximum differentiated through: its share is spread over the entries at the
    maximum. -/
def through (j : Fin n) : EReal :=
  part s g j + Ideal.div (∑ k, (0 - part s g k)) (∑ k, mask s k) * mask s j

/-- The gradient of the scores with the maximum held fixed. -/
def fixed (j : Fin n) : EReal :=
  (Ideal.div (g j) (tot s) + (0 + -(0 + ∑ k, g k * Ideal.div 1 (tot s * tot s) * ex s k))) * ex s j

variable {s g}

/-- Both gradients are the real one. -/
theorem through_fixed_real (hs : ∀ j, s j ≠ ⊤) (hex : ∃ j, s j ≠ ⊥) (hg : ∀ j, ∃ γ : ℝ, g j = (γ : EReal)) (j : Fin n) :
    ∃ x : ℝ, through s g j = (x : EReal) ∧ fixed s g j = (x : EReal) := by
  obtain ⟨ε, hε, hpos⟩ := reals s hs hex
  choose γ hγ using hg
  have hσ : (∑ j, ε j) ≠ 0 := hpos.ne'
  have hσ2 : (∑ j, ε j) * (∑ j, ε j) ≠ 0 := mul_ne_zero hσ hσ
  have hex' : ∀ j, ex s j = (ε j : EReal) := hε
  have htot : tot s = ((∑ j, ε j : ℝ) : EReal) := by
    unfold tot; rw [← coe_sum]; exact Finset.sum_congr rfl fun j _ => hex' j
  have hdot : ∑ k, ex s k * g k = ((∑ k, ε k * γ k : ℝ) : EReal) := by
    rw [← coe_sum]; exact Finset.sum_congr rfl fun j _ => by rw [hex', hγ, EReal.coe_mul]
  have hpart : ∀ j, part s g j = (grad ε γ j : EReal) := by
    intro j
    unfold part grad
    rw [htot, hdot, ← EReal.coe_mul, Ideal.div_coe hσ, Ideal.div_coe hσ2, hγ, hex', one_mul, one_mul, zero_sub]
    norm_cast
  have hsum : ∑ k, (0 - part s g k) = 0 := by
    have : ∑ k, (0 - part s g k) = ((∑ k, - grad ε γ k : ℝ) : EReal) := by
      rw [← coe_sum]; exact Finset.sum_congr rfl fun j _ => by rw [hpart, zero_sub, EReal.coe_neg]
    rw [this, Finset.sum_neg_distrib, sum_grad ε γ hpos, neg_zero, EReal.coe_zero]
  have hcnt : ∃ c : ℝ, ∑ k, mask s k = (c : EReal) ∧ c ≠ 0 := by
    obtain ⟨μ, hμ, _, j₀, hj₀⟩ := fold_max_real s hs hex
    refine ⟨∑ k, if s k = mx s then 1 else 0, ?_, ?_⟩
    · rw [← coe_sum]; exact Finset.sum_congr rfl fun k _ => by unfold mask; split <;> simp
    · refine (Finset.sum_pos' (fun k _ => by split <;> norm_num) ⟨j₀, Finset.mem_univ _, ?_⟩).ne'
      rw [if_pos (by rw [hj₀]; exact hμ.symm)]; exact one_pos
  obtain ⟨c, hc, hc0⟩ := hcnt
  refine ⟨grad ε γ j, ?_, ?_⟩
  · unfold through
    rw [hsum, hc, Ideal.div_coe hc0, zero_mul, zero_mul, add_zero, hpart]
  · unfold fixed
    have : ∑ k, g k * Ideal.div 1 (tot s * tot s) * ex s k
        = (((∑ i, ε i * γ i) * (1 / ((∑ i, ε i) * ∑ i, ε i)) : ℝ) : EReal) := by
      rw [Finset.sum_mul, ← coe_sum]
      refine Finset.sum_congr rfl fun k _ => ?_
      rw [htot, ← EReal.coe_mul, Ideal.div_coe hσ2, one_mul, hγ, hex', ← EReal.coe_mul, ← EReal.coe_mul]
      congr 1; ring
    rw [this, htot, Ideal.div_coe hσ, hγ, hex', zero_add, zero_add]
    unfold grad
    norm_cast

/-- Differentiating through the maximum and holding it fixed give one gradient. -/
theorem through_eq_fixed (hs : ∀ j, s j ≠ ⊤) (hex : ∃ j, s j ≠ ⊥) (hg : ∀ j, ∃ γ : ℝ, g j = (γ : EReal)) (j : Fin n) :
    through s g j = fixed s g j := by
  obtain ⟨x, h1, h2⟩ := through_fixed_real hs hex hg j
  rw [h1, h2]

/-- A probability: the exponential times one over the sum is the exponential divided by the sum. -/
theorem prob_eq (hs : ∀ j, s j ≠ ⊤) (hex : ∃ j, s j ≠ ⊥) (j : Fin n) :
    ex s j * Ideal.div 1 (tot s) = Ideal.div (ex s j) (tot s) := by
  obtain ⟨ε, hε, hpos⟩ := reals s hs hex
  have htot : tot s = ((∑ j, ε j : ℝ) : EReal) := by
    unfold tot; rw [← coe_sum]; exact Finset.sum_congr rfl fun j _ => hε j
  rw [htot, Ideal.div_coe hpos.ne', Ideal.div_coe hpos.ne', one_mul]

end Row

end Cert.SoftmaxGrad

end
-- ==== Proof.CrossMath.lean ====
/- Memory cross-attention and its gradient on one batch row and one head: 2048 queries against 256 memory rows, 128
   columns a head. -/
module

public import proofs.«01_k».proof.Proof.SoftmaxGrad

@[expose] public section

noncomputable section

namespace Cert.CrossAttn

open Idealize.ShloMosaic Cert.SoftmaxGrad

/-- A head's query-sized block. -/
abbrev QB := Fin 2048 → Fin 128 → EReal
/-- A head's memory-sized block. -/
abbrev MB := Fin 256 → Fin 128 → EReal

/-- The scale of the scores, one over the square root of 128 as a float. -/
def scale : EReal := Ideal.ofBits .f32 1035273459#32

/-- The scores of a query row. -/
def sc (Q : QB) (K : MB) (i : Fin 2048) (j : Fin 256) : EReal := (∑ d, Q i d * K j d) * scale
/-- The gradients of a row's probabilities. -/
def gp (D : QB) (V : MB) (i : Fin 2048) (j : Fin 256) : EReal := ∑ d, D i d * V j d

/-- The gradient of the products of queries and keys, the maximum held fixed. -/
def ds (Q : QB) (K V : MB) (D : QB) (i : Fin 2048) (j : Fin 256) : EReal := fixed (sc Q K i) (gp D V i) j * scale
/-- The gradient of the products of queries and keys, the maximum differentiated through. -/
def ds' (Q : QB) (K V : MB) (D : QB) (i : Fin 2048) (j : Fin 256) : EReal := through (sc Q K i) (gp D V i) j * scale

/-- The queries' gradient. -/
def dq (Q : QB) (K V : MB) (D : QB) (i : Fin 2048) (d : Fin 128) : EReal := ∑ j, ds Q K V D i j * K j d
/-- The keys' gradient. -/
def dk (Q : QB) (K V : MB) (D : QB) (j : Fin 256) (d : Fin 128) : EReal := ∑ i, ds Q K V D i j * Q i d
/-- The values' gradient. -/
def dv (Q : QB) (K : MB) (D : QB) (j : Fin 256) (d : Fin 128) : EReal :=
  ∑ i, D i d * Ideal.div (ex (sc Q K i) j) (tot (sc Q K i))

/-- Every entry of a block is a real number. -/
def Real2 {n : ℕ} (X : Fin n → Fin 128 → EReal) : Prop := ∀ i d, ∃ x : ℝ, X i d = (x : EReal)

/-- The scale is a real number. -/
theorem scale_real : ∃ x : ℝ, scale = (x : EReal) := by
  unfold scale
  simp only [Ideal.ofBits, Ideal.ieee]
  split_ifs <;> first | exact ⟨_, rfl⟩ | simp_all

/-- A product of rows of real numbers is a real number. -/
theorem dot_real {n m : ℕ} {X : Fin n → Fin 128 → EReal} {Y : Fin m → Fin 128 → EReal} (hX : Real2 X) (hY : Real2 Y)
    (i : Fin n) (j : Fin m) : ∃ x : ℝ, ∑ d, X i d * Y j d = (x : EReal) := by
  choose x hx using hX
  choose y hy using hY
  exact ⟨∑ d, x i d * y j d, by
    rw [← coe_sum]; exact Finset.sum_congr rfl fun d _ => by rw [hx, hy, EReal.coe_mul]⟩

theorem sc_real {Q : QB} {K : MB} (hQ : Real2 Q) (hK : Real2 K) (i : Fin 2048) (j : Fin 256) :
    ∃ x : ℝ, sc Q K i j = (x : EReal) := by
  obtain ⟨x, hx⟩ := dot_real hQ hK i j
  obtain ⟨y, hy⟩ := scale_real
  exact ⟨x * y, by unfold sc; rw [hx, hy, EReal.coe_mul]⟩

theorem sc_ne_top {Q : QB} {K : MB} (hQ : Real2 Q) (hK : Real2 K) (i : Fin 2048) (j : Fin 256) : sc Q K i j ≠ ⊤ := by
  obtain ⟨x, hx⟩ := sc_real hQ hK i j
  rw [hx]; exact EReal.coe_ne_top x

theorem sc_ne_bot {Q : QB} {K : MB} (hQ : Real2 Q) (hK : Real2 K) (i : Fin 2048) : ∃ j, sc Q K i j ≠ ⊥ := by
  obtain ⟨x, hx⟩ := sc_real hQ hK i 0
  exact ⟨0, by rw [hx]; exact EReal.coe_ne_bot x⟩

/-- On real inputs, differentiating through the maximum is differentiating with it held fixed. -/
theorem ds'_eq {Q : QB} {K V : MB} {D : QB} (hQ : Real2 Q) (hK : Real2 K) (hV : Real2 V) (hD : Real2 D)
    (i : Fin 2048) (j : Fin 256) : ds' Q K V D i j = ds Q K V D i j := by
  unfold ds' ds
  rw [through_eq_fixed (sc_ne_top hQ hK i) (sc_ne_bot hQ hK i) (show ∀ j, ∃ γ : ℝ, gp D V i j = (γ : EReal) from fun j => dot_real hD hV i j)]

/-- On real inputs, a probability by the reciprocal of the sum is the quotient by it. -/
theorem prob {Q : QB} {K : MB} (hQ : Real2 Q) (hK : Real2 K) (i : Fin 2048) (j : Fin 256) :
    ex (sc Q K i) j * Ideal.div 1 (tot (sc Q K i)) = Ideal.div (ex (sc Q K i) j) (tot (sc Q K i)) :=
  prob_eq (sc_ne_top hQ hK i) (sc_ne_bot hQ hK i) j

end Cert.CrossAttn

end
-- ==== Proof.CrossPay.lean ====
/- What the kernel's body computes from a grid point's four blocks, over the extended reals. -/
module

public import proofs.«01_k».proof.Proof.Gen.KernelIdeal.Frame
public import proofs.«01_k».proof.Proof.CrossMath
public import Idealize.ShloMosaic.Lib.Pipeline.ValueKit

@[expose] public section

set_option maxRecDepth 16384

noncomputable section

namespace Cert.KernelIdeal.Cross

open Cert.KernelIdeal Cert.KernelIdeal.Gen Cert.CrossAttn Cert.SoftmaxGrad
open Idealize.ShloMosaic Idealize.ShloMosaic.TcCoe

/-- A query-sized block as a matrix. -/
abbrev mq (x : FVec Ideal S2048x128 .bf16) : QB := fun i d => x (ix2 i d)
/-- A memory-sized block as a matrix. -/
abbrev mm (x : FVec Ideal S256x128 .bf16) : MB := fun i d => x (ix2 i d)

variable (q : FVec Ideal S2048x128 .bf16) (k v : FVec Ideal S256x128 .bf16) (o : FVec Ideal S2048x128 .bf16)

theorem p6 (i : Fin 2048) (j : Fin 256) : k0_pay6 (F := Ideal) q k (ix2 i j) = sc (mq q) (mm k) i j := by
  pointwise [k0_pay6]
  rfl

theorem p7 (i : Fin 2048) : k0_pay7 (F := Ideal) q k (ix1 i) = mx (sc (mq q) (mm k) i) := by
  unfold k0_pay7
  have hf := p6 q k i
  generalize k0_pay6 (F := Ideal) q k = y at *
  pointwise []
  simp only [hf]
  unfold mx
  rw [← ofBits_bot]

theorem p8 (i : Fin 2048) (j : Fin 256) : k0_pay8 (F := Ideal) q k (ix2 i j) = mask (sc (mq q) (mm k) i) j := by
  unfold k0_pay8
  have hf := p6 q k i j
  have hm := p7 q k i
  generalize k0_pay6 (F := Ideal) q k = y at *
  generalize k0_pay7 (F := Ideal) q k = z at *
  pointwise []
  rw [hf, hm]
  have h1 : (FloatOps.sitofp (F := Ideal) .f32 (1#32) : EReal) = 1 := by
    show (((1#32 : BitVec 32).toInt : ℝ) : EReal) = 1
    simp
  have h0 : (FloatOps.sitofp (F := Ideal) .f32 (0#32) : EReal) = 0 := by
    show (((0#32 : BitVec 32).toInt : ℝ) : EReal) = 0
    simp
  unfold mask
  split <;> rename_i hs
  · simpa [hs] using h1
  · simpa [hs] using h0

theorem p9 (i : Fin 2048) : k0_pay9 (F := Ideal) q k (ix1 i) = ∑ j, mask (sc (mq q) (mm k) i) j := by
  unfold k0_pay9
  have hf := p8 q k i
  generalize k0_pay8 (F := Ideal) q k = y at *
  pointwise []
  simp only [hf]

theorem p10 (i : Fin 2048) (j : Fin 256) : k0_pay10 (F := Ideal) q k (ix2 i j) = ex (sc (mq q) (mm k) i) j := by
  unfold k0_pay10
  have hf := p6 q k i j
  have hm := p7 q k i
  generalize k0_pay6 (F := Ideal) q k = y at *
  generalize k0_pay7 (F := Ideal) q k = z at *
  pointwise []
  rw [hf, hm]
  rfl

theorem p11 (i : Fin 2048) (u : Fin 1) : k0_pay11 (F := Ideal) q k (ix2 i u) = tot (sc (mq q) (mm k) i) := by
  unfold k0_pay11
  have hf := p10 q k i
  generalize k0_pay10 (F := Ideal) q k = y at *
  pointwise []
  simp only [hf]
  rfl

theorem p12 (i : Fin 2048) (u : Fin 1) : k0_pay12 (F := Ideal) q k (ix2 i u) = Ideal.div 1 (tot (sc (mq q) (mm k) i)) := by
  unfold k0_pay12
  have hf := p11 q k i u
  generalize k0_pay11 (F := Ideal) q k = y at *
  pointwise []
  rw [hf]

theorem p13 (i : Fin 2048) (u : Fin 1) : k0_pay13 (F := Ideal) q k (ix2 i u)
    = Ideal.div 1 (tot (sc (mq q) (mm k) i) * tot (sc (mq q) (mm k) i)) := by
  unfold k0_pay13
  have hf := p11 q k i u
  generalize k0_pay11 (F := Ideal) q k = y at *
  pointwise []
  rw [hf]

theorem p15 (i : Fin 2048) (j : Fin 256) : k0_pay15 (F := Ideal) v o (ix2 i j) = gp (mq o) (mm v) i j := by
  pointwise [k0_pay15, k0_pay14]
  rfl

/-- The gradient of the products of queries and keys. -/
theorem p17 (i : Fin 2048) (j : Fin 256) :
    k0_pay17 (F := Ideal) (k0_pay8 q k) (k0_pay9 q k) (k0_pay10 q k) (k0_pay12 q k) (k0_pay13 q k) (k0_pay15 v o) (ix2 i j)
      = ds' (mq q) (mm k) (mm v) (mq o) i j := by
  have h8 := p8 q k i
  have h9 := p9 q k i
  have h10 := p10 q k i
  have h12 := p12 q k i 0
  have h13 := p13 q k i 0
  have h15 := p15 v o i
  generalize k0_pay8 (F := Ideal) q k = y8 at *
  generalize k0_pay9 (F := Ideal) q k = y9 at *
  generalize k0_pay10 (F := Ideal) q k = y10 at *
  generalize k0_pay12 (F := Ideal) q k = y12 at *
  generalize k0_pay13 (F := Ideal) q k = y13 at *
  generalize k0_pay15 (F := Ideal) v o = y15 at *
  pointwise [k0_pay17]
  simp only [Fin.sum_univ_one, h8, h9, h10, h12, h13, h15]
  rfl

/-- The queries' gradient the body stores. -/
theorem p18 (i : Fin 2048) (d : Fin 128) :
    k0_pay18 (F := Ideal) k (k0_pay8 q k) (k0_pay9 q k) (k0_pay10 q k) (k0_pay12 q k) (k0_pay13 q k) (k0_pay15 v o) (ix2 i d)
      = ∑ j, ds' (mq q) (mm k) (mm v) (mq o) i j * mm k j d := by
  unfold k0_pay18
  have hf := p17 q k v o i
  generalize k0_pay17 (F := Ideal) (k0_pay8 q k) (k0_pay9 q k) (k0_pay10 q k) (k0_pay12 q k) (k0_pay13 q k) (k0_pay15 v o) = y at *
  pointwise []
  simp only [hf]

/-- The keys' gradient the body adds into its scratch. -/
theorem p19 (a : FVec Ideal S256x128 .f32) (j : Fin 256) (d : Fin 128) :
    k0_pay19 (F := Ideal) q (k0_pay8 q k) (k0_pay9 q k) (k0_pay10 q k) (k0_pay12 q k) (k0_pay13 q k) (k0_pay15 v o) a (ix2 j d)
      = a (ix2 j d) + ∑ i, ds' (mq q) (mm k) (mm v) (mq o) i j * mq q i d := by
  unfold k0_pay19
  have hf : ∀ i, _ := fun i => p17 q k v o i j
  generalize k0_pay17 (F := Ideal) (k0_pay8 q k) (k0_pay9 q k) (k0_pay10 q k) (k0_pay12 q k) (k0_pay13 q k) (k0_pay15 v o) = y at *
  pointwise []
  simp only [hf]

/-- The values' gradient. -/
theorem p16 (j : Fin 256) (d : Fin 128) : k0_pay16 (F := Ideal) q k o (ix2 j d)
    = ∑ i, ex (sc (mq q) (mm k) i) j * Ideal.div 1 (tot (sc (mq q) (mm k) i)) * mq o i d := by
  unfold k0_pay16
  have h10 : ∀ i, _ := fun i => p10 q k i j
  have h12 : ∀ i, _ := fun i => p12 q k i 0
  generalize k0_pay10 (F := Ideal) q k = y10 at *
  generalize k0_pay12 (F := Ideal) q k = y12 at *
  pointwise [k0_pay14]
  simp only [h10, h12]

/-- The keys' gradient the body stores, from zero. -/
theorem p2 (j : Fin 256) (d : Fin 128) (u : Fin 1) :
    k0_pay2 (F := Ideal) (k0_pay19 (F := Ideal) q (k0_pay8 q k) (k0_pay9 q k) (k0_pay10 q k) (k0_pay12 q k) (k0_pay13 q k) (k0_pay15 v o) (k0_pay4 (F := Ideal))) (ix3 u j d)
      = ∑ i, ds' (mq q) (mm k) (mm v) (mq o) i j * mq q i d := by
  have hf := p19 q k v o (k0_pay4 (F := Ideal)) j d
  have h4 : k0_pay4 (F := Ideal) (ix2 j d) = (0 : EReal) := by pointwise [k0_pay4]
  rw [h4, zero_add] at hf
  generalize k0_pay19 (F := Ideal) q (k0_pay8 q k) (k0_pay9 q k) (k0_pay10 q k) (k0_pay12 q k) (k0_pay13 q k) (k0_pay15 v o) (k0_pay4 (F := Ideal)) = y at *
  pointwise [k0_pay2]
  exact hf

/-- The values' gradient the body stores, from zero. -/
theorem p3 (j : Fin 256) (d : Fin 128) (u : Fin 1) :
    k0_pay3 (F := Ideal) (k0_pay1 (F := Ideal) (k0_pay16 q k o) (k0_pay5 (F := Ideal))) (ix3 u j d)
      = ∑ i, ex (sc (mq q) (mm k) i) j * Ideal.div 1 (tot (sc (mq q) (mm k) i)) * mq o i d := by
  have hf := p16 q k o j d
  generalize k0_pay16 (F := Ideal) q k o = y at *
  pointwise [k0_pay3, k0_pay1, k0_pay5]
  exact hf

end Cert.KernelIdeal.Cross

end
-- ==== Proof.CrossRef.lean ====
/- The reference's two results read at an index: memory cross-attention's gradient, head by head. -/
module

public import proofs.«01_k».proof.Proof.Gen.ReferenceIdeal.Read
public import proofs.«01_k».proof.Proof.CrossMath
public import Idealize.ShloMosaic.Lib.Pipeline.ValueKit

@[expose] public section

set_option maxRecDepth 16384

noncomputable section

namespace Cert.ReferenceIdeal.Cross

open Cert.ReferenceIdeal Cert.ReferenceIdeal.Gen Cert.ReferenceIdeal.Read Cert.CrossAttn Cert.SoftmaxGrad
open Idealize.ShloMosaic Idealize.ShloMosaic.TcCoe

variable (x0 : FVec Ideal S4096x512 .bf16) (x1 : FVec Ideal S512x1024 .bf16) (x2 : FVec Ideal S4096x512 .bf16)

/-- Batch row `b`, head `h` of a query-sized array. -/
def qb (x : FVec Ideal S4096x512 .bf16) (b : Fin 2) (h : Fin 4) : QB := fun i d =>
  x (ix2 ⟨b.val * 2048 + i.val, by omega⟩ ⟨h.val * 128 + d.val, by omega⟩)
/-- The keys of batch row `b`, head `h`. -/
def kb (x : FVec Ideal S512x1024 .bf16) (b : Fin 2) (h : Fin 4) : MB := fun j d =>
  x (ix2 ⟨b.val * 256 + j.val, by omega⟩ ⟨h.val * 128 + d.val, by omega⟩)
/-- The values of batch row `b`, head `h`. -/
def vb (x : FVec Ideal S512x1024 .bf16) (b : Fin 2) (h : Fin 4) : MB := fun j d =>
  x (ix2 ⟨b.val * 256 + j.val, by omega⟩ ⟨512 + h.val * 128 + d.val, by omega⟩)

/-- An index of rank 2 by its coordinates. -/
theorem ext2 {n m : ℕ} {i j : Shape.Idx ⟨2, ![n, m]⟩} (h0 : (i 0).val = (j 0).val) (h1 : (i 1).val = (j 1).val) : i = j :=
  funext fun a => match a with | ⟨0, _⟩ => Fin.ext h0 | ⟨1, _⟩ => Fin.ext h1
/-- An index of rank 3 by its coordinates. -/
theorem ext3 {n m k : ℕ} {i j : Shape.Idx ⟨3, ![n, m, k]⟩} (h0 : (i 0).val = (j 0).val) (h1 : (i 1).val = (j 1).val)
    (h2 : (i 2).val = (j 2).val) : i = j :=
  funext fun a => match a with | ⟨0, _⟩ => Fin.ext h0 | ⟨1, _⟩ => Fin.ext h1 | ⟨2, _⟩ => Fin.ext h2
/-- An index of rank 4 by its coordinates. -/
theorem ext4 {n m k l : ℕ} {i j : Shape.Idx ⟨4, ![n, m, k, l]⟩} (h0 : (i 0).val = (j 0).val) (h1 : (i 1).val = (j 1).val)
    (h2 : (i 2).val = (j 2).val) (h3 : (i 3).val = (j 3).val) : i = j :=
  funext fun a => match a with
    | ⟨0, _⟩ => Fin.ext h0 | ⟨1, _⟩ => Fin.ext h1 | ⟨2, _⟩ => Fin.ext h2 | ⟨3, _⟩ => Fin.ext h3

theorem r2 (b : Fin 2) (i : Fin 2048) (h : Fin 4) (d : Fin 128) :
    val_main_v2 (F := Ideal) x0 (ix4 b i h d) = qb x0 b h i d := by
  rw [val_main_v2_apply, val_main_v0_apply]
  refine congrArg x0 (ext2 ?_ ?_)
  · show (((b.val * 2048 + i.val) * 4 + h.val) * 128 + d.val) / 512 = b.val * 2048 + i.val; omega
  · show (((b.val * 2048 + i.val) * 4 + h.val) * 128 + d.val) % 512 = h.val * 128 + d.val; omega

theorem r43 (b : Fin 2) (i : Fin 2048) (h : Fin 4) (d : Fin 128) :
    val_main_v43 (F := Ideal) x2 (ix4 b i h d) = qb x2 b h i d := r2 x2 b i h d

theorem r6 (b : Fin 2) (j : Fin 256) (h : Fin 4) (d : Fin 128) :
    val_main_v6 (F := Ideal) x1 (ix4 b j h d) = kb x1 b h j d := by
  rw [val_main_v6_apply, val_main_v4_apply, val_main_v3_apply, val_main_v1_apply]
  refine congrArg x1 (ext2 ?_ ?_)
  · show (((((b.val * 256 + j.val) * 4 + h.val) * 128 + d.val) / 131072 * 256 + (((b.val * 256 + j.val) * 4 + h.val) * 128 + d.val) / 512 % 256) * 1024
      + (((b.val * 256 + j.val) * 4 + h.val) * 128 + d.val) % 512) / 1024 = b.val * 256 + j.val
    omega
  · show (((((b.val * 256 + j.val) * 4 + h.val) * 128 + d.val) / 131072 * 256 + (((b.val * 256 + j.val) * 4 + h.val) * 128 + d.val) / 512 % 256) * 1024
      + (((b.val * 256 + j.val) * 4 + h.val) * 128 + d.val) % 512) % 1024 = h.val * 128 + d.val
    omega

theorem r7 (b : Fin 2) (j : Fin 256) (h : Fin 4) (d : Fin 128) :
    val_main_v7 (F := Ideal) x1 (ix4 b j h d) = vb x1 b h j d := by
  rw [val_main_v7_apply, val_main_v5_apply, val_main_v3_apply, val_main_v1_apply]
  refine congrArg x1 (ext2 ?_ ?_)
  · show (((((b.val * 256 + j.val) * 4 + h.val) * 128 + d.val) / 131072 * 256 + (((b.val * 256 + j.val) * 4 + h.val) * 128 + d.val) / 512 % 256) * 1024
      + (512 + (((b.val * 256 + j.val) * 4 + h.val) * 128 + d.val) % 512)) / 1024 = b.val * 256 + j.val
    omega
  · show (((((b.val * 256 + j.val) * 4 + h.val) * 128 + d.val) / 131072 * 256 + (((b.val * 256 + j.val) * 4 + h.val) * 128 + d.val) / 512 % 256) * 1024
      + (512 + (((b.val * 256 + j.val) * 4 + h.val) * 128 + d.val) % 512)) % 1024 = 512 + h.val * 128 + d.val
    omega

/-- The scores. -/
theorem r10 (b : Fin 2) (h : Fin 4) (i : Fin 2048) (j : Fin 256) :
    val_main_v10 (F := Ideal) x0 x1 (ix4 b h i j) = sc (qb x0 b h) (kb x1 b h) i j := by
  have hl : ∀ k, lidx_main_v8 (ix4 b h i j) k = ix4 b i h k := fun k => ext4 rfl rfl rfl rfl
  have hr : ∀ k, ridx_main_v8 (ix4 b h i j) k = ix4 b j h k := fun k => ext4 rfl rfl rfl rfl
  rw [val_main_v10_apply, val_main_v8_apply]
  simp only [hl, hr, r2, r6]
  rfl

/-- The gradients of the probabilities. -/
theorem r45 (b : Fin 2) (h : Fin 4) (i : Fin 2048) (j : Fin 256) :
    val_main_v45 (F := Ideal) x1 x2 (ix4 b h i j) = gp (qb x2 b h) (vb x1 b h) i j := by
  have hl : ∀ k, val_main_v44 (F := Ideal) x2 (lidx_main_v45 (ix4 b h i j) k) = qb x2 b h i k := fun k => by
    rw [val_main_v44_apply, ← r43]; exact congrArg _ (ext4 rfl rfl rfl rfl)
  have hr : ∀ k, ridx_main_v45 (ix4 b h i j) k = ix4 b j h k := fun k => ext4 rfl rfl rfl rfl
  rw [val_main_v45_apply]
  simp only [hl, hr, r7]
  rfl

/-- The rows' maxima. -/
theorem r18 (b : Fin 2) (h : Fin 4) (i : Fin 2048) :
    val_main_v18 (F := Ideal) x0 x1 (ix3 b h i) = mx (sc (qb x0 b h) (kb x1 b h) i) := by
  have h11 : val_main_v11 (F := Ideal) x0 x1 (ix3 b h i) = mx (sc (qb x0 b h) (kb x1 b h) i) := by
    unfold val_main_v11
    have hf : ∀ j, val_main_v10 (F := Ideal) x0 x1 (ix4 b h i j) = sc (qb x0 b h) (kb x1 b h) i j := r10 x0 x1 b h i
    generalize val_main_v10 (F := Ideal) x0 x1 = y at *
    pointwise [val_main_cst_0]
    simp only [hf]
    unfold mx
    rw [← ofBits_bot]
  rw [val_main_v18_apply, h11]
  show max (Ideal.ofBits .f32 4286578688#32) _ = _
  rw [ofBits_bot, max_eq_right bot_le]

/-- The exponentials. -/
theorem r31 (b : Fin 2) (h : Fin 4) (i : Fin 2048) (j : Fin 256) :
    val_main_v31 (F := Ideal) x0 x1 (ix4 b h i j) = ex (sc (qb x0 b h) (kb x1 b h) i) j := by
  have hi : idx_main_v28 (idx_main_v29 (ix4 b h i j)) = ix3 b h i := ext3 rfl rfl rfl
  rw [val_main_v31_apply, val_main_v30_apply, val_main_v29_apply, val_main_v28_apply, hi, r18, r10]
  rfl

/-- The sums of the exponentials. -/
theorem r33 (b : Fin 2) (h : Fin 4) (i : Fin 2048) (u : Fin 1) :
    val_main_v33 (F := Ideal) x0 x1 (ix4 b h i u) = tot (sc (qb x0 b h) (kb x1 b h) i) := by
  have hi : ∀ k, idx_main_v32 (idx_main_v33 (ix4 b h i u)) k = ix4 b h i k := fun k => ext4 rfl rfl rfl rfl
  rw [val_main_v33_apply, val_main_v32_apply]
  simp only [hi, r31]
  show Ideal.ofBits .f32 0#32 + _ = _
  rw [ofBits_zero, zero_add]
  rfl

/-- The gradients of the products of queries and keys. -/
theorem r61 (b : Fin 2) (h : Fin 4) (i : Fin 2048) (j : Fin 256) :
    val_main_v61 (F := Ideal) x0 x1 x2 (ix4 b h i j) = ds (qb x0 b h) (kb x1 b h) (vb x1 b h) (qb x2 b h) i j := by
  have h54 : idx_main_v54 (ix4 b h i j) = ix4 b h i 0 := ext4 rfl rfl rfl rfl
  have h48 : ∀ k, idx_main_v48 (ix4 b h i k) = ix4 b h i 0 := fun k => ext4 rfl rfl rfl rfl
  have h51 : ∀ k, idx_main_v51 (idx_main_v52 (idx_main_v56 (idx_main_v57 (ix4 b h i j)) 0)) k = ix4 b h i k := fun k => by
    refine ext4 ?_ ?_ ?_ ?_
    · show (((b.val * 4 + h.val) * 2048 + i.val) * 1 + 0) / 8192 = b.val; omega
    · show (((b.val * 4 + h.val) * 2048 + i.val) * 1 + 0) / 2048 % 4 = h.val; omega
    · show (((b.val * 4 + h.val) * 2048 + i.val) * 1 + 0) % 2048 = i.val; omega
    · rfl
  have h38 : val_main_v38 (F := Ideal) x0 x1 (ix4 b h i 0)
      = Ideal.div 1 (tot (sc (qb x0 b h) (kb x1 b h) i) * tot (sc (qb x0 b h) (kb x1 b h) i)) := by
    rw [val_main_v38_apply, val_main_v36_apply, r33]
    show Ideal.div (Ideal.ofBits .f32 1065353216#32) _ = _
    rw [ofBits_one]; rfl
  have h50 : ∀ k, val_main_v50 (F := Ideal) x0 x1 x2 (ix4 b h i k)
      = gp (qb x2 b h) (vb x1 b h) i k
        * Ideal.div 1 (tot (sc (qb x0 b h) (kb x1 b h) i) * tot (sc (qb x0 b h) (kb x1 b h) i))
        * ex (sc (qb x0 b h) (kb x1 b h) i) k := by
    intro k
    rw [val_main_v50_apply, val_main_v49_apply, val_main_v48_apply, h48, h38, r45, r31]; rfl
  have h57 : val_main_v57 (F := Ideal) x0 x1 x2 (ix4 b h i j)
      = 0 + -(0 + ∑ k, gp (qb x2 b h) (vb x1 b h) i k
        * Ideal.div 1 (tot (sc (qb x0 b h) (kb x1 b h) i) * tot (sc (qb x0 b h) (kb x1 b h) i))
        * ex (sc (qb x0 b h) (kb x1 b h) i) k) := by
    rw [val_main_v57_apply, val_main_v56_apply, Fin.sum_univ_one, val_main_v53_apply, val_main_v52_apply,
      val_main_v51_apply]
    simp only [h51, h50]
    show Ideal.ofBits .f32 0#32 + -(Ideal.ofBits .f32 0#32 + _) = _
    rw [ofBits_zero]
  rw [val_main_v61_apply, val_main_v59_apply, val_main_v58_apply, val_main_v55_apply, val_main_v54_apply, h54, r33, r45,
    h57, r31]
  rfl

/-- The first result: the queries' gradient. -/
theorem r71 (b : Fin 2) (i : Fin 2048) (h : Fin 4) (d : Fin 128) :
    val_main_v71 (F := Ideal) x0 x1 x2 (ix2 ⟨b.val * 2048 + i.val, by omega⟩ ⟨h.val * 128 + d.val, by omega⟩)
      = dq (qb x0 b h) (kb x1 b h) (vb x1 b h) (qb x2 b h) i d := by
  have hi : idx_main_v65 (idx_main_v70 (ix2 ⟨b.val * 2048 + i.val, by omega⟩ ⟨h.val * 128 + d.val, by omega⟩)) = ix4 b h i d := by
    refine ext4 ?_ ?_ ?_ ?_
    · show ((b.val * 2048 + i.val) * 512 + (h.val * 128 + d.val)) / 1048576 = b.val; omega
    · show ((b.val * 2048 + i.val) * 512 + (h.val * 128 + d.val)) / 128 % 4 = h.val; omega
    · show ((b.val * 2048 + i.val) * 512 + (h.val * 128 + d.val)) / 512 % 2048 = i.val; omega
    · show ((b.val * 2048 + i.val) * 512 + (h.val * 128 + d.val)) % 128 = d.val; omega
  have hl : ∀ k, lidx_main_v64 (ix4 b h i d) k = ix4 b h i k := fun k => ext4 rfl rfl rfl rfl
  have hr : ∀ k, ridx_main_v64 (ix4 b h i d) k = ix4 b k h d := fun k => ext4 rfl rfl rfl rfl
  rw [val_main_v71_apply, val_main_v70_apply, val_main_v65_apply, hi, val_main_v64_apply]
  simp only [hl, hr, r61, r6]
  rfl

/-- The keys' gradient. -/
theorem r67 (b : Fin 2) (j : Fin 256) (h : Fin 4) (d : Fin 128) :
    val_main_v67 (F := Ideal) x0 x1 x2 (ix3 b j ⟨h.val * 128 + d.val, by omega⟩)
      = dk (qb x0 b h) (kb x1 b h) (vb x1 b h) (qb x2 b h) j d := by
  have hi : idx_main_v63 (idx_main_v67 (ix3 b j ⟨h.val * 128 + d.val, by omega⟩)) = ix4 b h j d := by
    refine ext4 ?_ ?_ ?_ ?_
    · show ((b.val * 256 + j.val) * 512 + (h.val * 128 + d.val)) / 131072 = b.val; omega
    · show ((b.val * 256 + j.val) * 512 + (h.val * 128 + d.val)) / 128 % 4 = h.val; omega
    · show ((b.val * 256 + j.val) * 512 + (h.val * 128 + d.val)) / 512 % 256 = j.val; omega
    · show ((b.val * 256 + j.val) * 512 + (h.val * 128 + d.val)) % 128 = d.val; omega
  have hl : ∀ k, lidx_main_v62 (ix4 b h j d) k = ix4 b h k j := fun k => ext4 rfl rfl rfl rfl
  have hr : ∀ k, ridx_main_v62 (ix4 b h j d) k = ix4 b k h d := fun k => ext4 rfl rfl rfl rfl
  rw [val_main_v67_apply, val_main_v63_apply, hi, val_main_v62_apply]
  simp only [hl, hr, r61, r2]
  rfl

/-- The values' gradient. -/
theorem r66 (b : Fin 2) (j : Fin 256) (h : Fin 4) (d : Fin 128) :
    val_main_v66 (F := Ideal) x0 x1 x2 (ix3 b j ⟨h.val * 128 + d.val, by omega⟩)
      = dv (qb x0 b h) (kb x1 b h) (qb x2 b h) j d := by
  have hi : idx_main_v47 (idx_main_v66 (ix3 b j ⟨h.val * 128 + d.val, by omega⟩)) = ix4 b h d j := by
    refine ext4 ?_ ?_ ?_ ?_
    · show ((b.val * 256 + j.val) * 512 + (h.val * 128 + d.val)) / 131072 = b.val; omega
    · show ((b.val * 256 + j.val) * 512 + (h.val * 128 + d.val)) / 128 % 4 = h.val; omega
    · show ((b.val * 256 + j.val) * 512 + (h.val * 128 + d.val)) % 128 = d.val; omega
    · show ((b.val * 256 + j.val) * 512 + (h.val * 128 + d.val)) / 512 % 256 = j.val; omega
  have hl : ∀ k, val_main_v44 (F := Ideal) x2 (lidx_main_v46 (ix4 b h d j) k) = qb x2 b h k d := fun k => by
    rw [val_main_v44_apply, ← r43]; exact congrArg _ (ext4 rfl rfl rfl rfl)
  have hr : ∀ k, val_main_v35 (F := Ideal) x0 x1 (ridx_main_v46 (ix4 b h d j) k)
      = Ideal.div (ex (sc (qb x0 b h) (kb x1 b h) k) j) (tot (sc (qb x0 b h) (kb x1 b h) k)) := fun k => by
    have h1 : ridx_main_v46 (ix4 b h d j) k = ix4 b h k j := ext4 rfl rfl rfl rfl
    have h2 : idx_main_v34 (ix4 b h k j) = ix4 b h k 0 := ext4 rfl rfl rfl rfl
    rw [h1, val_main_v35_apply, val_main_v34_apply, h2, r31, r33]; rfl
  rw [val_main_v66_apply, val_main_v47_apply, hi, val_main_v46_apply]
  simp only [hl, hr]
  rfl

/-- The second result, its first 512 columns: the keys' gradient. -/
theorem r72_k (b : Fin 2) (j : Fin 256) (h : Fin 4) (d : Fin 128) :
    val_main_v72 (F := Ideal) x0 x1 x2 (ix2 ⟨b.val * 256 + j.val, by omega⟩ ⟨h.val * 128 + d.val, by omega⟩)
      = dk (qb x0 b h) (kb x1 b h) (vb x1 b h) (qb x2 b h) j d := by
  have hi : idx_main_v69 (ix2 ⟨b.val * 256 + j.val, by omega⟩ ⟨h.val * 128 + d.val, by omega⟩)
      = ix3 b j ⟨h.val * 128 + d.val, by omega⟩ := by
    refine ext3 ?_ ?_ ?_
    · show ((b.val * 256 + j.val) * 1024 + (h.val * 128 + d.val)) / 262144 = b.val; omega
    · show ((b.val * 256 + j.val) * 1024 + (h.val * 128 + d.val)) / 1024 % 256 = j.val; omega
    · show ((b.val * 256 + j.val) * 1024 + (h.val * 128 + d.val)) % 1024 = h.val * 128 + d.val; omega
  rw [val_main_v72_apply, val_main_v69_apply, hi, ← r67]
  unfold val_main_v68
  exact concatenate_pair_apply_left (t := S2x256x1024) (s₁ := S2x256x512) (s₂ := S2x256x512) 2 _ _ _ _ rfl (ix3 (n0 := 2) (n1 := 256) (n2 := 512) b j ⟨h.val * 128 + d.val, by omega⟩)
    (fun a => match a with | ⟨0, _⟩ => rfl | ⟨1, _⟩ => rfl | ⟨2, _⟩ => rfl)

/-- The second result, its last 512 columns: the values' gradient. -/
theorem r72_v (b : Fin 2) (j : Fin 256) (h : Fin 4) (d : Fin 128) :
    val_main_v72 (F := Ideal) x0 x1 x2 (ix2 ⟨b.val * 256 + j.val, by omega⟩ ⟨512 + h.val * 128 + d.val, by omega⟩)
      = dv (qb x0 b h) (kb x1 b h) (qb x2 b h) j d := by
  have hi : idx_main_v69 (ix2 ⟨b.val * 256 + j.val, by omega⟩ ⟨512 + h.val * 128 + d.val, by omega⟩)
      = ix3 b j ⟨512 + h.val * 128 + d.val, by omega⟩ := by
    refine ext3 ?_ ?_ ?_
    · show ((b.val * 256 + j.val) * 1024 + (512 + h.val * 128 + d.val)) / 262144 = b.val; omega
    · show ((b.val * 256 + j.val) * 1024 + (512 + h.val * 128 + d.val)) / 1024 % 256 = j.val; omega
    · show ((b.val * 256 + j.val) * 1024 + (512 + h.val * 128 + d.val)) % 1024 = 512 + h.val * 128 + d.val; omega
  rw [val_main_v72_apply, val_main_v69_apply, hi, ← r66 x0 x1 x2]
  unfold val_main_v68
  exact concatenate_pair_apply_right (t := S2x256x1024) (s₁ := S2x256x512) (s₂ := S2x256x512) 2 _ _ _ _ rfl rfl (ix3 (n0 := 2) (n1 := 256) (n2 := 512) b j ⟨h.val * 128 + d.val, by omega⟩)
    (fun a ha => match a, ha with | ⟨0, _⟩, _ => rfl | ⟨1, _⟩, _ => rfl | ⟨2, _⟩, ha => absurd rfl ha)
    (by show h.val * 128 + d.val + 512 = 512 + h.val * 128 + d.val; omega)

end Cert.ReferenceIdeal.Cross

end
-- ==== Proof.CrossValue.lean ====
/- The kernel's two output arrays, and the results the host takes from them, are the reference's. -/
module

public import proofs.«01_k».proof.Proof.CrossPay
public import proofs.«01_k».proof.Proof.CrossRef

@[expose] public section

set_option maxRecDepth 16384

noncomputable section

namespace Cert.KernelIdeal.Cross

open Cert.KernelIdeal Cert.KernelIdeal.Gen Cert.CrossAttn Cert.SoftmaxGrad
open Idealize.ShloMosaic Idealize.ShloMosaic.TcCoe Idealize.SL.Sem
open Idealize.ShloMosaic.Pipeline (Dat)

variable (m : (ℓ : Loc nD τ sig) → Buf (Elt Ideal) ℓ)

/-- Which blocks a grid point stages: batch row `t / 4`, head `t % 4`. -/
theorem idx : ∀ t : Fin cfg0.N,
    win0_0.index t = ![t.val / 4, t.val % 4] ∧ win0_1.index t = ![t.val / 4, t.val % 4]
    ∧ win0_2.index t = ![t.val / 4, 4 + t.val % 4] ∧ win0_3.index t = ![t.val / 4, t.val % 4]
    ∧ win0_4.index t = ![t.val / 4, t.val % 4] ∧ win0_5.index t = ![0, t.val / 4, t.val % 4] :=
  (by decide +kernel : ∀ t : Fin grid0.N, _)

abbrev a0 (c : Dev nD) : FVec Ideal S4096x512 .bf16 := m ((c.tc : Thread nD τ).loc main_arg0)
abbrev a1 (c : Dev nD) : FVec Ideal S512x1024 .bf16 := m ((c.tc : Thread nD τ).loc main_arg1)
abbrev a2 (c : Dev nD) : FVec Ideal S4096x512 .bf16 := m ((c.tc : Thread nD τ).loc main_arg2)

/-- The batch row of a grid point. -/
def bt (t : Fin cfg0.N) : Fin 2 := ⟨t.val / 4, by have : t.val < 8 := lt_of_lt_of_eq t.isLt N_0; omega⟩
/-- The head of a grid point. -/
def hd (t : Fin cfg0.N) : Fin 4 := ⟨t.val % 4, by omega⟩

theorem blk0 (c : Dev nD) (t : Fin cfg0.N) : mq (iblk m c 0 t) = Cert.ReferenceIdeal.Cross.qb (a0 m c) (bt t) (hd t) := by
  funext i d
  have ht : t.val < 8 := lt_of_lt_of_eq t.isLt N_0
  show (iblk m c 0 t : FVec Ideal S2048x128 .bf16) (ix2 i d)
    = a0 m c (ix2 ⟨t.val / 4 * 2048 + i.val, by omega⟩ ⟨t.val % 4 * 128 + d.val, by omega⟩)
  blk_point [iblk, V, idx t]

theorem blk1 (c : Dev nD) (t : Fin cfg0.N) : mm (iblk m c 1 t) = Cert.ReferenceIdeal.Cross.kb (a1 m c) (bt t) (hd t) := by
  funext i d
  have ht : t.val < 8 := lt_of_lt_of_eq t.isLt N_0
  show (iblk m c 1 t : FVec Ideal S256x128 .bf16) (ix2 i d)
    = a1 m c (ix2 ⟨t.val / 4 * 256 + i.val, by omega⟩ ⟨t.val % 4 * 128 + d.val, by omega⟩)
  blk_point [iblk, V, idx t]

theorem blk2 (c : Dev nD) (t : Fin cfg0.N) : mm (iblk m c 2 t) = Cert.ReferenceIdeal.Cross.vb (a1 m c) (bt t) (hd t) := by
  funext i d
  have ht : t.val < 8 := lt_of_lt_of_eq t.isLt N_0
  show (iblk m c 2 t : FVec Ideal S256x128 .bf16) (ix2 i d)
    = a1 m c (ix2 ⟨t.val / 4 * 256 + i.val, by omega⟩ ⟨512 + t.val % 4 * 128 + d.val, by omega⟩)
  blk_point [iblk, V, idx t]

theorem blk3 (c : Dev nD) (t : Fin cfg0.N) : mq (iblk m c 3 t) = Cert.ReferenceIdeal.Cross.qb (a2 m c) (bt t) (hd t) := by
  funext i d
  have ht : t.val < 8 := lt_of_lt_of_eq t.isLt N_0
  show (iblk m c 3 t : FVec Ideal S2048x128 .bf16) (ix2 i d)
    = a2 m c (ix2 ⟨t.val / 4 * 2048 + i.val, by omega⟩ ⟨t.val % 4 * 128 + d.val, by omega⟩)
  blk_point [iblk, V, idx t]

/-- Every entry of the three arguments is a real number. -/
structure Fin3 (c : Dev nD) : Prop where
  h0 : ∀ i, ∃ x : ℝ, a0 m c i = (x : EReal)
  h1 : ∀ i, ∃ x : ℝ, a1 m c i = (x : EReal)
  h2 : ∀ i, ∃ x : ℝ, a2 m c i = (x : EReal)

variable {m}

theorem Fin3.q {c : Dev nD} (h : Fin3 m c) {b : Fin 2} {e : Fin 4} : Real2 (Cert.ReferenceIdeal.Cross.qb (a0 m c) b e) :=
  fun _ _ => h.h0 _
theorem Fin3.k {c : Dev nD} (h : Fin3 m c) {b : Fin 2} {e : Fin 4} : Real2 (Cert.ReferenceIdeal.Cross.kb (a1 m c) b e) :=
  fun _ _ => h.h1 _
theorem Fin3.v {c : Dev nD} (h : Fin3 m c) {b : Fin 2} {e : Fin 4} : Real2 (Cert.ReferenceIdeal.Cross.vb (a1 m c) b e) :=
  fun _ _ => h.h1 _
theorem Fin3.o {c : Dev nD} (h : Fin3 m c) {b : Fin 2} {e : Fin 4} : Real2 (Cert.ReferenceIdeal.Cross.qb (a2 m c) b e) :=
  fun _ _ => h.h2 _

/-- The array of the queries' gradient. -/
theorem final4 {c : Dev nD} (h : Fin3 m c) : (dats m 0 c).arrAt 4 (cfgs 0).N
    = Cert.ReferenceIdeal.Read.val_main_v71 (F := Ideal) (a0 m c) (a1 m c) (a2 m c) := by
  refine (dats m 0 c).arrAt_eq_of_covers 4 _ (by decide +kernel) fun t _ y => ?_
  blk_simp
  rw [after0_4]
  unfold outsAt0
  frame_out
  have ht : t.val < 8 := lt_of_lt_of_eq t.isLt N_0
  idx_vars y
  have he : ((View.whole main_v0_0).slice (win0_4.rect t)).emb (ix2 y0 y1)
      = ix2 ⟨(bt t).val * 2048 + y0.val, by omega⟩ ⟨(hd t).val * 128 + y1.val, by omega⟩ := by
    unfold bt hd
    refine Cert.ReferenceIdeal.Cross.ext2 ?_ ?_ <;> blk_simp [idx t]
  rw [he, Cert.ReferenceIdeal.Cross.r71]
  refine (p18 _ _ _ _ y0 y1).trans ?_
  rw [blk0, blk1, blk2, blk3]
  unfold dq
  refine Finset.sum_congr rfl fun j _ => ?_
  rw [ds'_eq h.q h.k h.v h.o]

/-- The keys' gradient of a grid point, at the point's rows and columns. -/
theorem point_k {c : Dev nD} (h : Fin3 m c) (t : Fin cfg0.N) (j : Fin 256) (d : Fin 128) (r : Fin 512) (l : Fin 1024)
    (hr : r.val = t.val / 4 * 256 + j.val) (hl : l.val = t.val % 4 * 128 + d.val) :
    ∑ i, ds' (mq (iblk m c 0 t)) (mm (iblk m c 1 t)) (mm (iblk m c 2 t)) (mq (iblk m c 3 t)) i j * mq (iblk m c 0 t) i d
      = Cert.ReferenceIdeal.Read.val_main_v72 (F := Ideal) (a0 m c) (a1 m c) (a2 m c) (ix2 r l) := by
  have ht : t.val < 8 := lt_of_lt_of_eq t.isLt N_0
  have hr' : r = ⟨(bt t).val * 256 + j.val, by omega⟩ := Fin.ext hr
  have hl' : l = ⟨(hd t).val * 128 + d.val, by omega⟩ := Fin.ext hl
  rw [hr', hl', Cert.ReferenceIdeal.Cross.r72_k, blk0, blk1, blk2, blk3]
  unfold dk
  refine Finset.sum_congr rfl fun i _ => ?_
  rw [ds'_eq h.q h.k h.v h.o]

/-- The values' gradient of a grid point, at the point's rows and columns. -/
theorem point_v {c : Dev nD} (h : Fin3 m c) (t : Fin cfg0.N) (j : Fin 256) (d : Fin 128) (r : Fin 512) (l : Fin 1024)
    (hr : r.val = t.val / 4 * 256 + j.val) (hl : l.val = 512 + (t.val % 4 * 128 + d.val)) :
    ∑ i, ex (sc (mq (iblk m c 0 t)) (mm (iblk m c 1 t)) i) j * Ideal.div 1 (tot (sc (mq (iblk m c 0 t)) (mm (iblk m c 1 t)) i))
        * mq (iblk m c 3 t) i d
      = Cert.ReferenceIdeal.Read.val_main_v72 (F := Ideal) (a0 m c) (a1 m c) (a2 m c) (ix2 r l) := by
  have ht : t.val < 8 := lt_of_lt_of_eq t.isLt N_0
  have hr' : r = ⟨(bt t).val * 256 + j.val, by omega⟩ := Fin.ext hr
  have hl' : l = ⟨512 + (hd t).val * 128 + d.val, by omega⟩ := Fin.ext (by rw [hl]; unfold hd; simp; omega)
  rw [hr', hl', Cert.ReferenceIdeal.Cross.r72_v, blk0, blk1, blk3]
  unfold dv
  refine Finset.sum_congr rfl fun i _ => ?_
  rw [prob h.q h.k, mul_comm]

/-- The array of the keys' and the values' gradients. -/
theorem final5 {c : Dev nD} (h : Fin3 m c) : (dats m 0 c).arrAt 5 (cfgs 0).N
    = fun i : S2x512x512.Idx => if (i 0).val = 0
        then Cert.ReferenceIdeal.Read.val_main_v72 (F := Ideal) (a0 m c) (a1 m c) (a2 m c) (ix2 (i 1) ⟨(i 2).val, by have : (i 2).val < 512 := (i 2).isLt; omega⟩)
        else Cert.ReferenceIdeal.Read.val_main_v72 (F := Ideal) (a0 m c) (a1 m c) (a2 m c) (ix2 (i 1) ⟨512 + (i 2).val, by have : (i 2).val < 512 := (i 2).isLt; omega⟩) := by
  refine (dats m 0 c).arrAt_eq_of_covers 5 _ (by decide +kernel) fun t _ y => ?_
  blk_simp
  rw [after0_5]
  unfold outsAt0
  frame_out
  have ht : t.val < 8 := lt_of_lt_of_eq t.isLt N_0
  canon_tiles x hx
  · rw [if_neg (by omega)]
    idx_vars x
    refine (p3 _ _ _ x1 x2 x0).trans (point_v h t x1 x2 _ _ ?_ ?_)
    · blk_simp [idx t]; omega
    · blk_simp [idx t]; show 512 + (t.val % 4 * 128 + (y 2).val) = _; omega
  · rw [if_pos (by blk_simp [idx t]; omega)]
    idx_vars x
    refine (p2 _ _ _ _ x1 x2 x0).trans (point_k h t x1 x2 _ _ ?_ ?_)
    · blk_simp [idx t]; omega
    · blk_simp [idx t]; show t.val % 4 * 128 + (y 2).val = _; omega

end Cert.KernelIdeal.Cross

end
-- ==== Proof.RealEntries.lean ====
/- What the precondition says of an array: each of its entries is a real number. -/
module

public import proofs.«01_k».proof.Proof.SoftmaxGrad

@[expose] public section

noncomputable section

namespace Cert.RealEntries

open Idealize.ShloMosaic

/-- The bound of the precondition's comparison. -/
theorem ofBits_top : Ideal.ofBits .f32 0x7F800000#32 = (⊤ : EReal) := by
  simp [Ideal.ofBits, Ideal.ieee]

/-- A value whose absolute value is below +∞ is a real number. -/
theorem real_of_lt {x : EReal} (h : max x (-x) < ⊤) : ∃ r : ℝ, x = (r : EReal) := by
  induction x using EReal.rec with
  | bot => simp at h
  | coe r => exact ⟨r, rfl⟩
  | top => simp at h

theorem real_of_cmp {x : EReal} (h : Ideal.cmp .olt (max x (-x)) (Ideal.ofBits .f32 0x7F800000#32) = 1#1) :
    ∃ r : ℝ, x = (r : EReal) := by
  refine real_of_lt ?_
  rw [ofBits_top] at h
  by_contra hn
  have : Ideal.cmp .olt (max x (-x)) ⊤ = 0#1 := by
    unfold Ideal.cmp
    simp [hn]
  rw [this] at h
  exact absurd h (by decide)

end Cert.RealEntries

end
-- ==== Proof.CrossPre.lean ====
/- The precondition read, and the two gradients the host takes out of the kernel's second array. -/
module

public import proofs.«01_k».proof.Proof.CrossValue
public import proofs.«01_k».proof.Proof.RealEntries
public import proofs.«01_k».proof.Defs
public import proofs.«01_k».proof.Proof.Gen.Pre_finite
public import Idealize.ShloMosaic.Lib.Claim

@[expose] public section

set_option maxRecDepth 16384

noncomputable section

namespace Cert.KernelIdeal.Cross

open Cert.KernelIdeal Cert.KernelIdeal.Gen Cert.RealEntries
open Idealize.ShloMosaic Idealize.ShloMosaic.TcCoe Idealize.SL.Sem
open Idealize.ShloMosaic.Pipeline (Dat)

variable {m : (ℓ : Loc nD τ sig) → Buf (Elt Ideal) ℓ}

theorem fin3 (h : Cert.Pre_KernelIdeal_finite m) (c : Dev nD) : Fin3 m c :=
  ⟨fun i => real_of_cmp (congrFun (h c).1 i), fun i => real_of_cmp (congrFun (h c).2.1 i),
    fun i => real_of_cmp (congrFun (h c).2.2 i)⟩

/-- What the host lines after the region leave in the second result. -/
theorem tail_eq (c : Dev nD) :
    Pipeline.afterTail₀ cfgs (dats m) 0 (V0 m) [hostOps1] c main_v5
      = concatenate S512x1024 1 [⟨S512x512, shapeCast S512x512 (extractStridedSlice S1x512x512 ![0, 0, 0] ((dats m 0 c).arrAt 5 (cfgs 0).N : FVec Ideal S2x512x512 .bf16) slices_S2x512x512_S1x512x512_0_0_0) shapeCasts_S1x512x512_S512x512⟩,
          ⟨S512x512, shapeCast S512x512 (extractStridedSlice S1x512x512 ![1, 0, 0] ((dats m 0 c).arrAt 5 (cfgs 0).N : FVec Ideal S2x512x512 .bf16) slices_S2x512x512_S1x512x512_1_0_0) shapeCasts_S1x512x512_S512x512⟩]
          concatenates_S512x512_S512x512_S512x1024_d1 := by
  unfold Pipeline.afterTail₀
  rw [← (dats m 0 c).withArrays_arrAt sharedIn0 (V0 m c) (A_eq m c) 5]
  simp only [List.flatten_cons, List.flatten_nil, List.append_nil]
  unfold_abbrev_sides
  after_results
  rfl

theorem result2 (c : Dev nD) (h : Fin3 m c) :
    Pipeline.afterTail₀ cfgs (dats m) 0 (V0 m) [hostOps1] c main_v5
      = Cert.ReferenceIdeal.Read.val_main_v72 (F := Ideal) (a0 m c) (a1 m c) (a2 m c) := by
  rw [tail_eq, final5 h]
  generalize Cert.ReferenceIdeal.Read.val_main_v72 (F := Ideal) (a0 m c) (a1 m c) (a2 m c) = R
  funext i
  idx_vars i
  by_cases hi : i1.val < 512
  · refine (concatenate_pair_apply_left (t := S512x1024) (s₁ := S512x512) (s₂ := S512x512) 1 _ _ _ _ rfl
      (ix2 (n0 := 512) (n1 := 512) i0 ⟨i1.val, hi⟩) (fun a => match a with | ⟨0, _⟩ => rfl | ⟨1, _⟩ => rfl)).trans ?_
    pointwise []
  · refine (concatenate_pair_apply_right (t := S512x1024) (s₁ := S512x512) (s₂ := S512x512) 1 _ _ _ _ rfl rfl
      (ix2 (n0 := 512) (n1 := 512) i0 ⟨i1.val - 512, by omega⟩) (fun a ha => match a, ha with | ⟨0, _⟩, _ => rfl | ⟨1, _⟩, ha => absurd rfl ha)
      (by show i1.val - 512 + 512 = i1.val; omega)).trans ?_
    pointwise []
    exact congrArg (fun j => R (ix2 i0 j)) (Fin.ext (by show 512 + (i1.val - 512) = i1.val; omega))

end Cert.KernelIdeal.Cross

end
-- ==== Proof.FfnOutDx.lean ====
/- The gradient of the gated network's activations: every block the kernel multiplies out in one step. -/
module

public import proofs.«01_k».proof.Proof.Gen.Kernel2Ideal.Frame
public import proofs.«01_k».proof.Proof.Gen.Reference2Ideal.Read
public import Idealize.ShloMosaic.Lib.Pipeline.ValueKit

@[expose] public section

set_option maxRecDepth 16384

noncomputable section

namespace Cert.Kernel2Ideal.Prod

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages: rows `t / 2`, columns `t % 2`. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

abbrev a0 (c : Dev nD) : FVec Ideal S2816x1024 .f32 := m ((c.tc : Thread nD τ).loc main_arg0)
abbrev a1 (c : Dev nD) : FVec Ideal S4096x1024 .bf16 := m ((c.tc : Thread nD τ).loc main_arg1)

/-- The product of a block of rows with the transpose of a block of columns. -/
theorem pay (x : FVec Ideal S2048x1024 .bf16) (y : FVec Ideal S1408x1024 .bf16) (i : Fin 2048) (j : Fin 1408) :
    k0_pay1 (F := Ideal) x y (ix2 i j) = ∑ k : Fin 1024, x (ix2 i k) * y (ix2 j k) := by
  pointwise [k0_pay1]

/-- The kernel's array is the reference's. -/
theorem final (c : Dev nD) : (dats m 0 c).arrAt 2 (cfgs 0).N
    = Cert.Reference2Ideal.Read.val_main_v6 (F := Ideal) (a0 m c) (a1 m c) := by
  refine (dats m 0 c).arrAt_eq_of_covers 2 _ (by decide +kernel) fun t _ y => ?_
  blk_simp
  rw [after0_2]
  unfold out0_2
  frame_out
  have ht : t.val < 4 := lt_of_lt_of_eq t.isLt N_0
  idx_vars y
  have he : ((View.whole main_v1).slice (win0_2.rect t)).emb (ix2 y0 y1)
      = ix2 ⟨t.val / 2 * 2048 + y0.val, by omega⟩ ⟨t.val % 2 * 1408 + y1.val, by omega⟩ := by
    refine funext fun a => Fin.ext ?_
    match a with
    | ⟨0, _⟩ => blk_simp [idx t]
    | ⟨1, _⟩ => blk_simp [idx t]
  rw [he]
  refine (pay _ _ y0 y1).trans ?_
  rw [Cert.Reference2Ideal.Read.val_main_v6_apply, Cert.Reference2Ideal.Read.val_main_v5_apply]
  refine Finset.sum_congr rfl fun k _ => ?_
  rw [Cert.Reference2Ideal.Read.val_main_v2_apply]
  congr 1
  · blk_point [iblk, V, idx t]
  · blk_point [iblk, V, idx t]

end Cert.Kernel2Ideal.Prod

end
-- ==== Proof.FfnOutDw.lean ====
/- The gradient of the gated network's output weights: the rows of the batch summed in two tiles. -/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

namespace Cert.Kernel3Ideal.Prod

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages: weight rows `t / 2`, batch tile `t % 2`. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

abbrev a0 (c : Dev nD) : FVec Ideal S4096x2816 .bf16 := m ((c.tc : Thread nD τ).loc main_arg0)
abbrev a1 (c : Dev nD) : FVec Ideal S4096x1024 .bf16 := m ((c.tc : Thread nD τ).loc main_arg1)

/-- The product of the transpose of one block with another. -/
theorem pay1 (x : FVec Ideal S2048x1408 .bf16) (y : FVec Ideal S2048x1024 .bf16) (i : Fin 1408) (j : Fin 1024) :
    k0_pay1 (F := Ideal) x y (ix2 i j) = ∑ k : Fin 2048, x (ix2 k i) * y (ix2 k j) := by
  pointwise [k0_pay1]

/-- What the first tile leaves in the running sum. -/
theorem pay2 (x : FVec Ideal S2048x1408 .bf16) (y : FVec Ideal S2048x1024 .bf16) (i : S1408x1024.Idx) :
    k0_pay2 (F := Ideal) x y i = 0 + k0_pay1 (F := Ideal) x y i := by
  unfold k0_pay2
  generalize k0_pay1 (F := Ideal) x y = z
  rw [zero_add]
  idx_vars i
  pointwise []

/-- What a later tile leaves in the running sum. -/
theorem pay3 (x : FVec Ideal S2048x1408 .bf16) (y : FVec Ideal S2048x1024 .bf16) (a : FVec Ideal S1408x1024 .f32)
    (i : S1408x1024.Idx) : k0_pay3 (F := Ideal) x y a i = a i + k0_pay1 (F := Ideal) x y i := by
  unfold k0_pay3
  generalize k0_pay1 (F := Ideal) x y = z
  idx_vars i
  pointwise []

/-- The running sum at the point that stores it. -/
theorem acc (c : Dev nD) (t : Fin cfg0.N) (ht : t.val % 2 = 1) (i : S1408x1024.Idx) :
    (outsAt0 m c t.val t.isLt).2 i = 0 + ∑ s : Fin 2, k0_pay1 (F := Ideal)
      (iblk m c 0 ⟨2 * (t.val / 2) + s.val, by omega⟩) (iblk m c 1 ⟨2 * (t.val / 2) + s.val, by omega⟩) i :=
  Pipeline.eq_sum_fin_of_reset_step_apply_of_flush (fun n h => (outsAt0 m c n h).2) 2 (fun _ => 0)
    (fun t => k0_pay1 (F := Ideal) (iblk m c 0 t) (iblk m c 1 t))
    (fun t h j => by
      show (outsAt0 m c t.val t.isLt).2 j = _
      rw [outsAt0_A m c t h (by omega) (by omega)]; frame_out; exact pay2 _ _ j)
    (fun t h j => by
      show (outsAt0 m c t.val t.isLt).2 j = (outsAt0 m c (t.val - 1) _).2 j + _
      rw [outsAt0_B m c t h (by omega) (by omega)]; frame_out
      refine (pay3 _ _ _ j).trans ?_
      rw [read_unread_whole]) t ht i

/-- What that point stores is the running sum. -/
theorem out (c : Dev nD) (t : Fin cfg0.N) (ht : t.val % 2 = 1) (i : S1408x1024.Idx) :
    (outsAt0 m c t.val t.isLt).1 i = (outsAt0 m c t.val t.isLt).2 i := by
  rw [outsAt0_B m c t (by omega) (by omega) (by omega)]
  frame_out
  rfl

/-- The kernel's array is the reference's. -/
theorem final (c : Dev nD) : (dats m 0 c).arrAt 2 (cfgs 0).N
    = Cert.Reference3Ideal.Read.val_main_v7 (F := Ideal) (a0 m c) (a1 m c) := by
  refine (dats m 0 c).arrAt_eq_of_covers 2 _ (by decide +kernel) fun t hf y => ?_
  have hm := (flush0_2 t).mp hf
  blk_simp
  rw [after0_2]
  have ht : t.val < 4 := lt_of_lt_of_eq t.isLt N_0
  refine (out m c t hm _).trans ((acc m c t hm _).trans ?_)
  idx_vars y
  have he : ((View.whole main_v0).slice (win0_2.rect t)).emb (ix2 y0 y1)
      = ix2 ⟨t.val / 2 * 1408 + y0.val, by omega⟩ y1 := by
    refine funext fun a => Fin.ext ?_
    match a with
    | ⟨0, _⟩ => blk_simp [idx t]
    | ⟨1, _⟩ => blk_simp [idx t]
  rw [he, zero_add, Cert.Reference3Ideal.Read.val_main_v7_apply, Cert.Reference3Ideal.Read.val_main_v5_apply,
    Cert.Reference3Ideal.Read.val_main_v4_apply]
  refine Eq.trans (Finset.sum_congr rfl fun s _ => pay1 _ _ _ _) ?_
  refine Fin.sum_mul_add_congr fun s k hl => ?_
  rw [Cert.Reference3Ideal.Read.val_main_v3_apply, Cert.Reference3Ideal.Read.val_main_v1_apply, mul_comm]
  have hs : (⟨2 * (t.val / 2) + s.val, by omega⟩ : Fin 4).val % 2 = s.val ∧ (2 * (t.val / 2) + s.val) / 2 = t.val / 2 := by
    constructor <;> simp only [] <;> omega
  congr 1
  · blk_point [iblk, V, idx ⟨2 * (t.val / 2) + s.val, lt_of_lt_of_eq (by omega) N_0.symm⟩]
  · blk_point [iblk, V, idx ⟨2 * (t.val / 2) + s.val, lt_of_lt_of_eq (by omega) N_0.symm⟩]

end Cert.Kernel3Ideal.Prod

end
-- ==== Proof.FfnInDx.lean ====
/- The gradient of the gated network's input: its columns summed in four tiles. -/
module

public import proofs.«01_k».proof.Proof.Gen.Kernel4Ideal.Frame
public import proofs.«01_k».proof.Proof.Gen.Reference4Ideal.Read
public import Idealize.ShloMosaic.Lib.Pipeline.ValueKit
public import Idealize.ShloMosaic.Lib.Pipeline.ReadBack

@[expose] public section

set_option maxRecDepth 16384

noncomputable section

namespace Cert.Kernel4Ideal.Prod

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages: batch rows `t / 4`, tile of columns `t % 4`. -/
theorem idx : ∀ t : Fin cfg0.N, win0_0.index t = ![t.val / 4, t.val % 4] ∧ win0_1.index t = ![t.val % 4, 0]
    ∧ win0_2.index t = ![t.val / 4, 0] :=
  (by decide +kernel : ∀ t : Fin grid0.N, _)

abbrev a0 (c : Dev nD) : FVec Ideal S1024x5632 .f32 := m ((c.tc : Thread nD τ).loc main_arg0)
abbrev a1 (c : Dev nD) : FVec Ideal S4096x5632 .bf16 := m ((c.tc : Thread nD τ).loc main_arg1)

/-- The product of two blocks. -/
theorem pay1 (x : FVec Ideal S1024x1408 .bf16) (y : FVec Ideal S1408x1024 .bf16) (i : Fin 1024) (j : Fin 1024) :
    k0_pay1 (F := Ideal) x y (ix2 i j) = ∑ k : Fin 1408, x (ix2 i k) * y (ix2 k j) := by
  pointwise [k0_pay1]

/-- What the first tile leaves in the running sum. -/
theorem pay2 (x : FVec Ideal S1024x1408 .bf16) (y : FVec Ideal S1408x1024 .bf16) (i : S1024x1024.Idx) :
    k0_pay2 (F := Ideal) x y i = 0 + k0_pay1 (F := Ideal) x y i := by
  unfold k0_pay2
  generalize k0_pay1 (F := Ideal) x y = z
  rw [zero_add]
  idx_vars i
  pointwise []

/-- What a later tile leaves in the running sum. -/
theorem pay3 (x : FVec Ideal S1024x1408 .bf16) (y : FVec Ideal S1408x1024 .bf16) (a : FVec Ideal S1024x1024 .f32)
    (i : S1024x1024.Idx) : k0_pay3 (F := Ideal) x y a i = a i + k0_pay1 (F := Ideal) x y i := by
  unfold k0_pay3
  generalize k0_pay1 (F := Ideal) x y = z
  idx_vars i
  pointwise []

/-- The running sum at the point that stores it. -/
theorem acc (c : Dev nD) (t : Fin cfg0.N) (ht : t.val % 4 = 3) (i : S1024x1024.Idx) :
    (outsAt0 m c t.val t.isLt).2 i = 0 + ∑ s : Fin 4, k0_pay1 (F := Ideal)
      (iblk m c 0 ⟨4 * (t.val / 4) + s.val, by omega⟩) (iblk m c 1 ⟨4 * (t.val / 4) + s.val, by omega⟩) i :=
  Pipeline.eq_sum_fin_of_reset_step_apply_of_flush (fun n h => (outsAt0 m c n h).2) 4 (fun _ => 0)
    (fun t => k0_pay1 (F := Ideal) (iblk m c 0 t) (iblk m c 1 t))
    (fun t h j => by
      show (outsAt0 m c t.val t.isLt).2 j = _
      rw [outsAt0_A m c t h (by omega) (by omega)]; frame_out; exact pay2 _ _ j)
    (fun t h j => by
      show (outsAt0 m c t.val t.isLt).2 j = (outsAt0 m c (t.val - 1) _).2 j + _
      by_cases h3 : t.val % 4 = 3
      · rw [outsAt0_C m c t h (by omega) h3]; frame_out
        refine (pay3 _ _ _ j).trans ?_
        rw [read_unread_whole]
      · rw [outsAt0_B m c t h (by omega) h3]; frame_out
        refine (pay3 _ _ _ j).trans ?_
        rw [read_unread_whole]) t ht i

/-- What that point stores is the running sum. -/
theorem out (c : Dev nD) (t : Fin cfg0.N) (ht : t.val % 4 = 3) (i : S1024x1024.Idx) :
    (outsAt0 m c t.val t.isLt).1 i = (outsAt0 m c t.val t.isLt).2 i := by
  rw [outsAt0_C m c t (by omega) (by omega) (by omega)]
  frame_out
  rfl

/-- The kernel's array is the reference's. -/
theorem final (c : Dev nD) : (dats m 0 c).arrAt 2 (cfgs 0).N
    = Cert.Reference4Ideal.Read.val_main_v6 (F := Ideal) (a0 m c) (a1 m c) := by
  refine (dats m 0 c).arrAt_eq_of_covers 2 _ (by decide +kernel) fun t hf y => ?_
  have hm := (flush0_2 t).mp hf
  blk_simp
  rw [after0_2]
  have ht : t.val < 16 := lt_of_lt_of_eq t.isLt N_0
  refine (out m c t hm _).trans ((acc m c t hm _).trans ?_)
  idx_vars y
  have he : ((View.whole main_v2).slice (win0_2.rect t)).emb (ix2 y0 y1)
      = ix2 ⟨t.val / 4 * 1024 + y0.val, by omega⟩ y1 := by
    refine funext fun a => Fin.ext ?_
    match a with
    | ⟨0, _⟩ => blk_simp [idx t]
    | ⟨1, _⟩ => blk_simp [idx t]
  rw [he, zero_add, Cert.Reference4Ideal.Read.val_main_v6_apply, Cert.Reference4Ideal.Read.val_main_v5_apply]
  refine Eq.trans (Finset.sum_congr rfl fun s _ => pay1 _ _ _ _) ?_
  refine Fin.sum_mul_add_congr fun s k hl => ?_
  rw [Cert.Reference4Ideal.Read.val_main_v2_apply]
  have hs : (⟨4 * (t.val / 4) + s.val, by omega⟩ : Fin 16).val % 4 = s.val ∧ (4 * (t.val / 4) + s.val) / 4 = t.val / 4 := by
    constructor <;> simp only [] <;> omega
  congr 1
  · blk_point [iblk, V, idx ⟨4 * (t.val / 4) + s.val, lt_of_lt_of_eq (by omega) N_0.symm⟩]
  · blk_point [iblk, V, idx ⟨4 * (t.val / 4) + s.val, lt_of_lt_of_eq (by omega) N_0.symm⟩]

end Cert.Kernel4Ideal.Prod

end
-- ==== Proof.FfnInDw.lean ====
/- The gradient of the gated network's input weights: the rows of the batch summed in two tiles. -/
module

public import proofs.«01_k».proof.Proof.Gen.Kernel5Ideal.Frame
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

namespace Cert.Kernel5Ideal.Prod

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages: weight columns `t / 2`, batch tile `t % 2`. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

abbrev a0 (c : Dev nD) : FVec Ideal S4096x1024 .bf16 := m ((c.tc : Thread nD τ).loc main_arg0)
abbrev a1 (c : Dev nD) : FVec Ideal S4096x5632 .bf16 := m ((c.tc : Thread nD τ).loc main_arg1)

/-- The product of the transpose of one block with another. -/
theorem pay1 (x : FVec Ideal S2048x1408 .bf16) (y : FVec Ideal S2048x1024 .bf16) (i : Fin 1408) (j : Fin 1024) :
    k0_pay1 (F := Ideal) x y (ix2 i j) = ∑ k : Fin 2048, x (ix2 k i) * y (ix2 k j) := by
  pointwise [k0_pay1]

/-- What the first tile leaves in the running sum. -/
theorem pay2 (x : FVec Ideal S2048x1408 .bf16) (y : FVec Ideal S2048x1024 .bf16) (i : S1408x1024.Idx) :
    k0_pay2 (F := Ideal) x y i = 0 + k0_pay1 (F := Ideal) x y i := by
  unfold k0_pay2
  generalize k0_pay1 (F := Ideal) x y = z
  rw [zero_add]
  idx_vars i
  pointwise []

/-- What a later tile leaves in the running sum. -/
theorem pay3 (x : FVec Ideal S2048x1408 .bf16) (y : FVec Ideal S2048x1024 .bf16) (a : FVec Ideal S1408x1024 .f32)
    (i : S1408x1024.Idx) : k0_pay3 (F := Ideal) x y a i = a i + k0_pay1 (F := Ideal) x y i := by
  unfold k0_pay3
  generalize k0_pay1 (F := Ideal) x y = z
  idx_vars i
  pointwise []

/-- The running sum at the point that stores it. -/
theorem acc (c : Dev nD) (t : Fin cfg0.N) (ht : t.val % 2 = 1) (i : S1408x1024.Idx) :
    (outsAt0 m c t.val t.isLt).2 i = 0 + ∑ s : Fin 2, k0_pay1 (F := Ideal)
      (iblk m c 0 ⟨2 * (t.val / 2) + s.val, by omega⟩) (iblk m c 1 ⟨2 * (t.val / 2) + s.val, by omega⟩) i :=
  Pipeline.eq_sum_fin_of_reset_step_apply_of_flush (fun n h => (outsAt0 m c n h).2) 2 (fun _ => 0)
    (fun t => k0_pay1 (F := Ideal) (iblk m c 0 t) (iblk m c 1 t))
    (fun t h j => by
      show (outsAt0 m c t.val t.isLt).2 j = _
      rw [outsAt0_A m c t h (by omega) (by omega)]; frame_out; exact pay2 _ _ j)
    (fun t h j => by
      show (outsAt0 m c t.val t.isLt).2 j = (outsAt0 m c (t.val - 1) _).2 j + _
      rw [outsAt0_B m c t h (by omega) (by omega)]; frame_out
      refine (pay3 _ _ _ j).trans ?_
      rw [read_unread_whole]) t ht i

/-- What that point stores is the running sum. -/
theorem out (c : Dev nD) (t : Fin cfg0.N) (ht : t.val % 2 = 1) (i : S1408x1024.Idx) :
    (outsAt0 m c t.val t.isLt).1 i = (outsAt0 m c t.val t.isLt).2 i := by
  rw [outsAt0_B m c t (by omega) (by omega) (by omega)]
  frame_out
  rfl

/-- The kernel's array is the reference's gradient before the transposition. -/
theorem final (c : Dev nD) : (dats m 0 c).arrAt 2 (cfgs 0).N
    = Cert.Reference5Ideal.Read.val_main_v4 (F := Ideal) (a0 m c) (a1 m c) := by
  refine (dats m 0 c).arrAt_eq_of_covers 2 _ (by decide +kernel) fun t hf y => ?_
  have hm := (flush0_2 t).mp hf
  blk_simp
  rw [after0_2]
  have ht : t.val < 8 := lt_of_lt_of_eq t.isLt N_0
  refine (out m c t hm _).trans ((acc m c t hm _).trans ?_)
  idx_vars y
  have he : ((View.whole main_v0).slice (win0_2.rect t)).emb (ix2 y0 y1)
      = ix2 ⟨t.val / 2 * 1408 + y0.val, by omega⟩ y1 := by
    refine funext fun a => Fin.ext ?_
    match a with
    | ⟨0, _⟩ => blk_simp [idx t]
    | ⟨1, _⟩ => blk_simp [idx t]
  rw [he, zero_add, Cert.Reference5Ideal.Read.val_main_v4_apply]
  refine Eq.trans (Finset.sum_congr rfl fun s _ => pay1 _ _ _ _) ?_
  refine Fin.sum_mul_add_congr fun s k hl => ?_
  rw [Cert.Reference5Ideal.Read.val_main_v3_apply, Cert.Reference5Ideal.Read.val_main_v1_apply]
  have hs : (⟨2 * (t.val / 2) + s.val, by omega⟩ : Fin 8).val % 2 = s.val ∧ (2 * (t.val / 2) + s.val) / 2 = t.val / 2 := by
    constructor <;> simp only [] <;> omega
  congr 1
  · blk_point [iblk, V, idx ⟨2 * (t.val / 2) + s.val, lt_of_lt_of_eq (by omega) N_0.symm⟩]
  · blk_point [iblk, V, idx ⟨2 * (t.val / 2) + s.val, lt_of_lt_of_eq (by omega) N_0.symm⟩]

/-- What the host's transposition after the kernel leaves in the result. -/
theorem tail_eq (c : Dev nD) : Pipeline.afterTail₀ cfgs (dats m) 0 (V0 m) [hostOps1] c main_v1
    = transpose S1024x5632 [1, 0] ((dats m 0 c).arrAt 2 (cfgs 0).N : FVec Ideal S5632x1024 .bf16) transposes_S5632x1024_S1024x5632_1_0 := by
  unfold Pipeline.afterTail₀
  rw [← Pipeline.withArrays_arr (cfgs 0).spec (by decide) c (V0 m c) (fun w => (dats m 0 c).arrAt w (cfgs 0).N) 2]
  simp only [List.flatten_cons, List.flatten_nil, List.append_nil]
  unfold_abbrev_sides
  after_results

/-- The kernel's result is the reference's. -/
theorem result (c : Dev nD) : Pipeline.afterTail₀ cfgs (dats m) 0 (V0 m) [hostOps1] c main_v1
    = Cert.Reference5Ideal.Read.val_main_v7 (F := Ideal) (a0 m c) (a1 m c) := by
  rw [tail_eq, final]
  rfl

end Cert.Kernel5Ideal.Prod

end
-- ==== Proof.Place.lean ====
/- The columns of the network's first product, in the order in which the version keeps them.

   reference.py's order of the 8480 columns is: receptance, key and value (3072 columns), the three low-rank pieces (64, 64 and 160), and
   the rest (5120). The version moves the low-rank pieces to the end and pads them with zeros to 128, 128 and 256 columns. -/
module

public import Idealize.ShloMosaic.PureOps.Ideal.Laws

@[expose] public section

namespace Cert.Place

/-- Where a column of reference.py stands in the version's order. -/
def place (j : Fin 8480) : Fin 8704 :=
  ⟨if j.val < 3072 then j.val else if j.val < 3136 then j.val + 5120 else if j.val < 3200 then j.val + 5184
    else if j.val < 3360 then j.val + 5248 else j.val - 288, by have := j.isLt; split_ifs <;> omega⟩

/-- The columns of zeros. -/
def zeros (p : Fin 8704) : Prop :=
  8256 ≤ p.val ∧ p.val < 8320 ∨ 8384 ≤ p.val ∧ p.val < 8448 ∨ 8608 ≤ p.val

/-- The place of a column, as a number. -/
theorem place_val (j : Fin 8480) : (place j).val =
    if j.val < 3072 then j.val else if j.val < 3136 then j.val + 5120 else if j.val < 3200 then j.val + 5184
    else if j.val < 3360 then j.val + 5248 else j.val - 288 := rfl

/-- The same, case by case. -/
theorem place_cases (j : Fin 8480) : j.val < 3072 ∧ (place j).val = j.val
    ∨ 3072 ≤ j.val ∧ j.val < 3136 ∧ (place j).val = j.val + 5120
    ∨ 3136 ≤ j.val ∧ j.val < 3200 ∧ (place j).val = j.val + 5184
    ∨ 3200 ≤ j.val ∧ j.val < 3360 ∧ (place j).val = j.val + 5248
    ∨ 3360 ≤ j.val ∧ (place j).val = j.val - 288 := by
  have h := place_val j
  generalize place j = p at h
  split_ifs at h <;> omega

/-- Two columns have two places. -/
theorem place_inj : Function.Injective place := fun i j h => by
  have h := congrArg Fin.val h
  rw [place_val, place_val] at h
  have := i.isLt
  have := j.isLt
  refine Fin.ext ?_
  split_ifs at h <;> omega

/-- Every column that is not one of zeros is the place of a column. -/
theorem exists_place (p : Fin 8704) (h : ¬zeros p) : ∃ j, place j = p := by
  unfold zeros at h
  have hp := p.isLt
  by_cases h1 : p.val < 3072
  · refine ⟨⟨p.val, by omega⟩, Fin.ext ?_⟩
    rw [place_val]; dsimp only; split_ifs; all_goals omega
  by_cases h2 : p.val < 8192
  · refine ⟨⟨p.val + 288, by omega⟩, Fin.ext ?_⟩
    rw [place_val]; dsimp only; split_ifs; all_goals omega
  by_cases h3 : p.val < 8256
  · refine ⟨⟨p.val - 5120, by omega⟩, Fin.ext ?_⟩
    rw [place_val]; dsimp only; split_ifs; all_goals omega
  by_cases h4 : p.val < 8384
  · refine ⟨⟨p.val - 5184, by omega⟩, Fin.ext ?_⟩
    rw [place_val]; dsimp only; split_ifs; all_goals omega
  · refine ⟨⟨p.val - 5248, by omega⟩, Fin.ext ?_⟩
    rw [place_val]; dsimp only; split_ifs; all_goals omega

/-- A sum whose other terms are zero is the sum over the places of an injection. -/
theorem sum_places {n k : Nat} (g : Fin n → Fin k) (hg : Function.Injective g) (f : Fin k → EReal)
    (h : ∀ p, (∀ j, g j ≠ p) → f p = 0) : ∑ p, f p = ∑ j, f (g j) :=
  (Finset.sum_of_injOn g hg.injOn (fun _ _ => Finset.mem_coe.mpr (Finset.mem_univ _))
    (fun p _ hp => h p fun j hj => hp ⟨j, Finset.mem_coe.mpr (Finset.mem_univ _), hj⟩) (fun _ _ => rfl)).symm

/-- A sum over the version's columns is the sum over reference.py's, where the columns of zeros add nothing. -/
theorem sum_place (f : Fin 8704 → EReal) (h : ∀ p, zeros p → f p = 0) : ∑ p, f p = ∑ j, f (place j) := by
  refine sum_places place place_inj f fun p hp => ?_
  by_contra hz
  obtain ⟨j, hj⟩ := exists_place p (fun hz' => hz (h p hz'))
  exact hp j hj

/-- The order of the columns, as the host's operations compute it. -/
theorem ladder (M : Fin 8480 → EReal) (z : EReal) (j : Fin 8480) (p : Fin 8704) (hp : place j = p) :
    (if h : p.val < 3072 then M ⟨p.val, by omega⟩
      else if h : p.val - 3072 < 5120 then M ⟨3360 + (p.val - 3072), by omega⟩
      else if h : p.val - 3072 - 5120 < 128 then
        if h : p.val - 3072 - 5120 < 64 then M ⟨3072 + (p.val - 3072 - 5120), by omega⟩ else z
      else if h : p.val - 3072 - 5120 - 128 < 128 then
        if h : p.val - 3072 - 5120 - 128 < 64 then M ⟨3072 + (64 + (p.val - 3072 - 5120 - 128)), by omega⟩ else z
      else if h : p.val - 3072 - 5120 - 128 - 128 < 160 then
        M ⟨3072 + (128 + (p.val - 3072 - 5120 - 128 - 128)), by omega⟩ else z) = M j := by
  have hj := j.isLt
  have hc := place_cases j
  rw [hp] at hc
  have e : ∀ q : Fin 8480, q.val = j.val → M q = M j := fun q h => by rw [Fin.ext h]
  rcases hc with hc | hc | hc | hc | hc <;> split_ifs <;> first
    | omega
    | exact e _ (by dsimp only; omega)

/-- A row in the version's order: the entry that has its place there, or zero. -/
noncomputable def spread (M : Fin 8480 → EReal) (p : Fin 8704) : EReal :=
  if h : p.val < 3072 then M ⟨p.val, by omega⟩
  else if h : p.val < 8192 then M ⟨p.val + 288, by omega⟩
  else if h : p.val < 8256 then M ⟨p.val - 5120, by omega⟩
  else if h : p.val < 8320 then 0
  else if h : p.val < 8384 then M ⟨p.val - 5184, by omega⟩
  else if h : p.val < 8448 then 0
  else if h : p.val < 8608 then M ⟨p.val - 5248, by omega⟩
  else 0

/-- At a place it is the entry. -/
theorem spread_place (M : Fin 8480 → EReal) (j : Fin 8480) : spread M (place j) = M j := by
  have hj := j.isLt
  have hc := place_cases j
  generalize place j = p at hc
  have e : ∀ q : Fin 8480, q.val = j.val → M q = M j := fun q h => by rw [Fin.ext h]
  unfold spread
  rcases hc with hc | hc | hc | hc | hc <;> split_ifs <;> first
    | omega
    | exact e _ (by dsimp only; omega)

/-- At a column of zeros it is zero. -/
theorem spread_zeros (M : Fin 8480 → EReal) (p : Fin 8704) (h : zeros p) : spread M p = 0 := by
  unfold zeros at h
  unfold spread
  split_ifs <;> first
    | rfl
    | omega

/-- The columns before the low-rank pieces. -/
theorem spread_low (M : Fin 8480 → EReal) (p : Fin 8704) (q : Fin 8480) (h : p.val < 3072) (hq : q.val = p.val) :
    M q = spread M p := by
  unfold spread
  rw [dif_pos h]
  exact congrArg M (Fin.ext hq)

/-- The columns that follow them in reference.py's order. -/
theorem spread_mid (M : Fin 8480 → EReal) (p : Fin 8704) (q : Fin 8480) (h : 3072 ≤ p.val) (h' : p.val < 8192)
    (hq : q.val = p.val + 288) : M q = spread M p := by
  unfold spread
  rw [dif_neg (by omega), dif_pos h']
  exact congrArg M (Fin.ext hq)

/-- The low-rank pieces, padded, as the host's operations put them together. -/
theorem spread_high (M : Fin 8480 → EReal) (p : Fin 8704) (l : Fin 512) (z : EReal) (hz : z = 0) (h : p.val = 8192 + l.val) :
    (if h : l.val < 128 then
        if h : l.val < 64 then M ⟨3072 + l.val, by omega⟩ else z
      else if h : l.val - 128 < 128 then
        if h : l.val - 128 < 64 then M ⟨3072 + (64 + (l.val - 128)), by omega⟩ else z
      else if h : l.val - 128 - 128 < 160 then M ⟨3072 + (128 + (l.val - 128 - 128)), by omega⟩ else z) = spread M p := by
  subst hz
  have e : ∀ q q' : Fin 8480, q.val = q'.val → M q = M q' := fun q q' h => by rw [Fin.ext h]
  unfold spread
  split_ifs <;> first
    | omega
    | exact e _ _ (by dsimp only; omega)
    | exact (rfl : (0 : EReal) = 0)

end Cert.Place
-- ==== Proof.InProjDx.lean ====
/- The gradient of the network's input through its first product.

   The version contracts over nine arrays, one after the other: eight slices of the columns of the incoming gradient, 1024 columns each, and
   the low-rank pieces, padded with zeros to 512 columns. A grid point stages 256 columns of each; the columns it adds are of one of them. -/
module

public import proofs.«01_k».proof.Proof.Gen.Kernel6Ideal.Frame
public import proofs.«01_k».proof.Proof.Gen.Reference6Ideal.Read
public import proofs.«01_k».proof.Proof.Place
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel6Ideal.Prod

open Cert.Kernel6Ideal Cert.Kernel6Ideal.Gen Cert.Place
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S1024x8480 .f32 := m ((c.tc : Thread nD τ).loc main_arg0)
abbrev a1 (c : Dev nD) : FVec Ideal S4096x8480 .bf16 := m ((c.tc : Thread nD τ).loc main_arg1)

/-! ## What the launch finds -/

/-- The weights: transposed, their rows in the version's order. -/
def wts (c : Dev nD) : FVec Ideal S8704x1024 .bf16 := V m c main_v28

/-- The low-rank pieces: padded, side by side. -/
def lora (c : Dev nD) : FVec Ideal S4096x512 .bf16 := V m c main_v15

/-- The columns from 0. -/
def slab0 (c : Dev nD) : FVec Ideal S4096x1024 .bf16 := V m c main_v0

/-- The columns from 1024. -/
def slab1 (c : Dev nD) : FVec Ideal S4096x1024 .bf16 := V m c main_v1

/-- The columns from 2048. -/
def slab2 (c : Dev nD) : FVec Ideal S4096x1024 .bf16 := V m c main_v2

/-- The columns from 3360. -/
def slab3 (c : Dev nD) : FVec Ideal S4096x1024 .bf16 := V m c main_v3

/-- The columns from 4384. -/
def slab4 (c : Dev nD) : FVec Ideal S4096x1024 .bf16 := V m c main_v4

/-- The columns from 5408. -/
def slab5 (c : Dev nD) : FVec Ideal S4096x1024 .bf16 := V m c main_v5

/-- The columns from 6432. -/
def slab6 (c : Dev nD) : FVec Ideal S4096x1024 .bf16 := V m c main_v6

/-- The columns from 7456. -/
def slab7 (c : Dev nD) : FVec Ideal S4096x1024 .bf16 := V m c main_v7

set_option maxRecDepth 200000 in
/-- A row of the weights is the column of the argument that has its place there. -/
theorem wts_place (c : Dev nD) (j : Fin 8480) (k : Fin 1024) : wts m c (ix2 (place j) k) = a0 m c (ix2 k j) := by
  generalize hp : place j = p
  unfold wts V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at
  after_reads_at
  after_reads_at
  exact ladder (fun q => a0 m c (ix2 k q)) _ j p hp

/-- The integer zero as a number. -/
theorem zero_pad : (FloatOps.sitofp (F := Ideal) FTy.bf16 (0#32) : EReal) = 0 := by
  show (((0#32 : BitVec 32).toInt : ℝ) : EReal) = 0
  simp

set_option maxRecDepth 200000 in
/-- The low-rank pieces are the last columns in the version's order. -/
theorem lora_apply (c : Dev nD) (i : Fin 4096) (l : Fin 512) (p : Fin 8704) (hp : p.val = 8192 + l.val) :
    lora m c (ix2 i l) = spread (fun q => a1 m c (ix2 i q)) p := by
  unfold lora V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at
  after_reads_at
  exact spread_high (fun q => a1 m c (ix2 i q)) p l _ zero_pad hp

set_option maxRecDepth 200000 in
theorem slab0_apply (c : Dev nD) (i : Fin 4096) (l : Fin 1024) : slab0 m c (ix2 i l) = a1 m c (ix2 i ⟨0 + l.val, by omega⟩) := by
  unfold slab0 V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at

set_option maxRecDepth 200000 in
theorem slab1_apply (c : Dev nD) (i : Fin 4096) (l : Fin 1024) : slab1 m c (ix2 i l) = a1 m c (ix2 i ⟨1024 + l.val, by omega⟩) := by
  unfold slab1 V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at

set_option maxRecDepth 200000 in
theorem slab2_apply (c : Dev nD) (i : Fin 4096) (l : Fin 1024) : slab2 m c (ix2 i l) = a1 m c (ix2 i ⟨2048 + l.val, by omega⟩) := by
  unfold slab2 V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at

set_option maxRecDepth 200000 in
theorem slab3_apply (c : Dev nD) (i : Fin 4096) (l : Fin 1024) : slab3 m c (ix2 i l) = a1 m c (ix2 i ⟨3360 + l.val, by omega⟩) := by
  unfold slab3 V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at

set_option maxRecDepth 200000 in
theorem slab4_apply (c : Dev nD) (i : Fin 4096) (l : Fin 1024) : slab4 m c (ix2 i l) = a1 m c (ix2 i ⟨4384 + l.val, by omega⟩) := by
  unfold slab4 V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at

set_option maxRecDepth 200000 in
theorem slab5_apply (c : Dev nD) (i : Fin 4096) (l : Fin 1024) : slab5 m c (ix2 i l) = a1 m c (ix2 i ⟨5408 + l.val, by omega⟩) := by
  unfold slab5 V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at

set_option maxRecDepth 200000 in
theorem slab6_apply (c : Dev nD) (i : Fin 4096) (l : Fin 1024) : slab6 m c (ix2 i l) = a1 m c (ix2 i ⟨6432 + l.val, by omega⟩) := by
  unfold slab6 V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at

set_option maxRecDepth 200000 in
theorem slab7_apply (c : Dev nD) (i : Fin 4096) (l : Fin 1024) : slab7 m c (ix2 i l) = a1 m c (ix2 i ⟨7456 + l.val, by omega⟩) := by
  unfold slab7 V
  simp only [hostOps0, hostOps0_1, hostOps0_2, hostOps0_3, hostOps0_4, hostOps0_5, hostOps0_6,
    hostOps0_7, hostOps0_8, hostOps0_9, hostOps0_10, hostOps0_11, hostOps0_12, List.flatten_cons,
    List.flatten_nil, List.append_nil, List.cons_append, List.nil_append]
  after_reads_at

/-! ## Which blocks a grid point stages -/

theorem idx0 : ∀ t : Fin cfg0.N, win0_0.index t = ![t.val / 34, min (t.val % 34 - 0) 3] :=
  (by decide +kernel : ∀ t : Fin grid0.N, _)

theorem idx1 : ∀ t : Fin cfg0.N, win0_1.index t = ![t.val / 34, min (t.val % 34 - 4) 3] :=
  (by decide +kernel : ∀ t : Fin grid0.N, _)

theorem idx2 : ∀ t : Fin cfg0.N, win0_2.index t = ![t.val / 34, min (t.val % 34 - 8) 3] :=
  (by decide +kernel : ∀ t : Fin grid0.N, _)

theorem idx3 : ∀ t : Fin cfg0.N, win0_3.index t = ![t.val / 34, min (t.val % 34 - 12) 3] :=
  (by decide +kernel : ∀ t : Fin grid0.N, _)

theorem idx4 : ∀ t : Fin cfg0.N, win0_4.index t = ![t.val / 34, min (t.val % 34 - 16) 3] :=
  (by decide +kernel : ∀ t : Fin grid0.N, _)

theorem idx5 : ∀ t : Fin cfg0.N, win0_5.index t = ![t.val / 34, min (t.val % 34 - 20) 3] :=
  (by decide +kernel : ∀ t : Fin grid0.N, _)

theorem idx6 : ∀ t : Fin cfg0.N, win0_6.index t = ![t.val / 34, min (t.val % 34 - 24) 3] :=
  (by decide +kernel : ∀ t : Fin grid0.N, _)

theorem idx7 : ∀ t : Fin cfg0.N, win0_7.index t = ![t.val / 34, min (t.val % 34 - 28) 3] :=
  (by decide +kernel : ∀ t : Fin grid0.N, _)

theorem idx8 : ∀ t : Fin cfg0.N, win0_8.index t = ![t.val / 34, min (t.val % 34 - 32) 1] :=
  (by decide +kernel : ∀ t : Fin grid0.N, _)

theorem idx9 : ∀ t : Fin cfg0.N, win0_9.index t = ![t.val % 34, 0] :=
  (by decide +kernel : ∀ t : Fin grid0.N, _)

theorem idx10 : ∀ t : Fin cfg0.N, win0_10.index t = ![t.val / 34, 0] :=
  (by decide +kernel : ∀ t : Fin grid0.N, _)

theorem block0 (c : Dev nD) (t : Fin cfg0.N) (r : Fin 2048) (k : Fin 256) (i : Fin 4096) (l : Fin 1024)
    (hi : i.val = t.val / 34 * 2048 + r.val) (hl : l.val = min (t.val % 34 - 0) 3 * 256 + k.val) :
    (iblk m c 0 t : FVec Ideal S2048x256 .bf16) (ix2 r k) = slab0 m c (ix2 i l) := by
  show slab0 m c (((cfg0.win 0).blk t).view.emb (ix2 r k)) = _
  generalize slab0 m c = W
  refine congrArg W (funext fun a => Fin.ext ?_)
  match a with
  | ⟨0, _⟩ => blk_simp [idx0 t, hi]
  | ⟨1, _⟩ => blk_simp [idx0 t, hl]

theorem block1 (c : Dev nD) (t : Fin cfg0.N) (r : Fin 2048) (k : Fin 256) (i : Fin 4096) (l : Fin 1024)
    (hi : i.val = t.val / 34 * 2048 + r.val) (hl : l.val = min (t.val % 34 - 4) 3 * 256 + k.val) :
    (iblk m c 1 t : FVec Ideal S2048x256 .bf16) (ix2 r k) = slab1 m c (ix2 i l) := by
  show slab1 m c (((cfg0.win 1).blk t).view.emb (ix2 r k)) = _
  generalize slab1 m c = W
  refine congrArg W (funext fun a => Fin.ext ?_)
  match a with
  | ⟨0, _⟩ => blk_simp [idx1 t, hi]
  | ⟨1, _⟩ => blk_simp [idx1 t, hl]

theorem block2 (c : Dev nD) (t : Fin cfg0.N) (r : Fin 2048) (k : Fin 256) (i : Fin 4096) (l : Fin 1024)
    (hi : i.val = t.val / 34 * 2048 + r.val) (hl : l.val = min (t.val % 34 - 8) 3 * 256 + k.val) :
    (iblk m c 2 t : FVec Ideal S2048x256 .bf16) (ix2 r k) = slab2 m c (ix2 i l) := by
  show slab2 m c (((cfg0.win 2).blk t).view.emb (ix2 r k)) = _
  generalize slab2 m c = W
  refine congrArg W (funext fun a => Fin.ext ?_)
  match a with
  | ⟨0, _⟩ => blk_simp [idx2 t, hi]
  | ⟨1, _⟩ => blk_simp [idx2 t, hl]

theorem block3 (c : Dev nD) (t : Fin cfg0.N) (r : Fin 2048) (k : Fin 256) (i : Fin 4096) (l : Fin 1024)
    (hi : i.val = t.val / 34 * 2048 + r.val) (hl : l.val = min (t.val % 34 - 12) 3 * 256 + k.val) :
    (iblk m c 3 t : FVec Ideal S2048x256 .bf16) (ix2 r k) = slab3 m c (ix2 i l) := by
  show slab3 m c (((cfg0.win 3).blk t).view.emb (ix2 r k)) = _
  generalize slab3 m c = W
  refine congrArg W (funext fun a => Fin.ext ?_)
  match a with
  | ⟨0, _⟩ => blk_simp [idx3 t, hi]
  | ⟨1, _⟩ => blk_simp [idx3 t, hl]

theorem block4 (c : Dev nD) (t : Fin cfg0.N) (r : Fin 2048) (k : Fin 256) (i : Fin 4096) (l : Fin 1024)
    (hi : i.val = t.val / 34 * 2048 + r.val) (hl : l.val = min (t.val % 34 - 16) 3 * 256 + k.val) :
    (iblk m c 4 t : FVec Ideal S2048x256 .bf16) (ix2 r k) = slab4 m c (ix2 i l) := by
  show slab4 m c (((cfg0.win 4).blk t).view.emb (ix2 r k)) = _
  generalize slab4 m c = W
  refine congrArg W (funext fun a => Fin.ext ?_)
  match a with
  | ⟨0, _⟩ => blk_simp [idx4 t, hi]
  | ⟨1, _⟩ => blk_simp [idx4 t, hl]

theorem block5 (c : Dev nD) (t : Fin cfg0.N) (r : Fin 2048) (k : Fin 256) (i : Fin 4096) (l : Fin 1024)
    (hi : i.val = t.val / 34 * 2048 + r.val) (hl : l.val = min (t.val % 34 - 20) 3 * 256 + k.val) :
    (iblk m c 5 t : FVec Ideal S2048x256 .bf16) (ix2 r k) = slab5 m c (ix2 i l) := by
  show slab5 m c (((cfg0.win 5).blk t).view.emb (ix2 r k)) = _
  generalize slab5 m c = W
  refine congrArg W (funext fun a => Fin.ext ?_)
  match a with
  | ⟨0, _⟩ => blk_simp [idx5 t, hi]
  | ⟨1, _⟩ => blk_simp [idx5 t, hl]

theorem block6 (c : Dev nD) (t : Fin cfg0.N) (r : Fin 2048) (k : Fin 256) (i : Fin 4096) (l : Fin 1024)
    (hi : i.val = t.val / 34 * 2048 + r.val) (hl : l.val = min (t.val % 34 - 24) 3 * 256 + k.val) :
    (iblk m c 6 t : FVec Ideal S2048x256 .bf16) (ix2 r k) = slab6 m c (ix2 i l) := by
  show slab6 m c (((cfg0.win 6).blk t).view.emb (ix2 r k)) = _
  generalize slab6 m c = W
  refine congrArg W (funext fun a => Fin.ext ?_)
  match a with
  | ⟨0, _⟩ => blk_simp [idx6 t, hi]
  | ⟨1, _⟩ => blk_simp [idx6 t, hl]

theorem block7 (c : Dev nD) (t : Fin cfg0.N) (r : Fin 2048) (k : Fin 256) (i : Fin 4096) (l : Fin 1024)
    (hi : i.val = t.val / 34 * 2048 + r.val) (hl : l.val = min (t.val % 34 - 28) 3 * 256 + k.val) :
    (iblk m c 7 t : FVec Ideal S2048x256 .bf16) (ix2 r k) = slab7 m c (ix2 i l) := by
  show slab7 m c (((cfg0.win 7).blk t).view.emb (ix2 r k)) = _
  generalize slab7 m c = W
  refine congrArg W (funext fun a => Fin.ext ?_)
  match a with
  | ⟨0, _⟩ => blk_simp [idx7 t, hi]
  | ⟨1, _⟩ => blk_simp [idx7 t, hl]

theorem block8 (c : Dev nD) (t : Fin cfg0.N) (r : Fin 2048) (k : Fin 256) (i : Fin 4096) (l : Fin 512)
    (hi : i.val = t.val / 34 * 2048 + r.val) (hl : l.val = min (t.val % 34 - 32) 1 * 256 + k.val) :
    (iblk m c 8 t : FVec Ideal S2048x256 .bf16) (ix2 r k) = lora m c (ix2 i l) := by
  show lora m c (((cfg0.win 8).blk t).view.emb (ix2 r k)) = _
  generalize lora m c = W
  refine congrArg W (funext fun a => Fin.ext ?_)
  match a with
  | ⟨0, _⟩ => blk_simp [idx8 t, hi]
  | ⟨1, _⟩ => blk_simp [idx8 t, hl]

theorem block9 (c : Dev nD) (t : Fin cfg0.N) (k : Fin 256) (j : Fin 1024) (p : Fin 8704) (hp : p.val = t.val % 34 * 256 + k.val) :
    (iblk m c 9 t : FVec Ideal S256x1024 .bf16) (ix2 k j) = wts m c (ix2 p j) := by
  show wts m c (((cfg0.win 9).blk t).view.emb (ix2 k j)) = _
  generalize wts m c = W
  refine congrArg W (funext fun a => Fin.ext ?_)
  match a with
  | ⟨0, _⟩ => blk_simp [idx9 t, hp]
  | ⟨1, _⟩ => blk_simp [idx9 t, hp]

/-- The block whose columns a grid point adds. -/
def piece (c : Dev nD) (t : Fin cfg0.N) : FVec Ideal S2048x256 .bf16 :=
  if t.val % 34 ≤ 3 then iblk m c 0 t else if t.val % 34 ≤ 7 then iblk m c 1 t
  else if t.val % 34 ≤ 11 then iblk m c 2 t else if t.val % 34 ≤ 15 then iblk m c 3 t
  else if t.val % 34 ≤ 19 then iblk m c 4 t else if t.val % 34 ≤ 23 then iblk m c 5 t
  else if t.val % 34 ≤ 27 then iblk m c 6 t else if t.val % 34 ≤ 31 then iblk m c 7 t else iblk m c 8 t

theorem piece0 (c : Dev nD) (t : Fin cfg0.N) (h : t.val % 34 ≤ 3) : piece m c t = iblk m c 0 t := by
  unfold piece
  rw [if_pos (by omega)]

theorem piece1 (c : Dev nD) (t : Fin cfg0.N) (h : 4 ≤ t.val % 34 ∧ t.val % 34 ≤ 7) : piece m c t = iblk m c 1 t := by
  unfold piece
  rw [if_neg (by omega), if_pos (by omega)]

theorem piece2 (c : Dev nD) (t : Fin cfg0.N) (h : 8 ≤ t.val % 34 ∧ t.val % 34 ≤ 11) : piece m c t = iblk m c 2 t := by
  unfold piece
  rw [if_neg (by omega), if_neg (by omega), if_pos (by omega)]

theorem piece3 (c : Dev nD) (t : Fin cfg0.N) (h : 12 ≤ t.val % 34 ∧ t.val % 34 ≤ 15) : piece m c t = iblk m c 3 t := by
  unfold piece
  rw [if_neg (by omega), if_neg (by omega), if_neg (by omega), if_pos (by omega)]

theorem piece4 (c : Dev nD) (t : Fin cfg0.N) (h : 16 ≤ t.val % 34 ∧ t.val % 34 ≤ 19) : piece m c t = iblk m c 4 t := by
  unfold piece
  rw [if_neg (by omega), if_neg (by omega), if_neg (by omega), if_neg (by omega), if_pos (by omega)]

theorem piece5 (c : Dev nD) (t : Fin cfg0.N) (h : 20 ≤ t.val % 34 ∧ t.val % 34 ≤ 23) : piece m c t = iblk m c 5 t := by
  unfold piece
  rw [if_neg (by omega), if_neg (by omega), if_neg (by omega), if_neg (by omega), if_neg (by omega), if_pos (by omega)]

theorem piece6 (c : Dev nD) (t : Fin cfg0.N) (h : 24 ≤ t.val % 34 ∧ t.val % 34 ≤ 27) : piece m c t = iblk m c 6 t := by
  unfold piece
  rw [if_neg (by omega), if_neg (by omega), if_neg (by omega), if_neg (by omega), if_neg (by omega), if_neg (by omega), if_pos (by omega)]

theorem piece7 (c : Dev nD) (t : Fin cfg0.N) (h : 28 ≤ t.val % 34 ∧ t.val % 34 ≤ 31) : piece m c t = iblk m c 7 t := by
  unfold piece
  rw [if_neg (by omega), if_neg (by omega), if_neg (by omega), if_neg (by omega), if_neg (by omega), if_neg (by omega), if_neg (by omega), if_pos (by omega)]

theorem piece8 (c : Dev nD) (t : Fin cfg0.N) (h : 32 ≤ t.val % 34) : piece m c t = iblk m c 8 t := by
  unfold piece
  rw [if_neg (by omega), if_neg (by omega), if_neg (by omega), if_neg (by omega), if_neg (by omega), if_neg (by omega), if_neg (by omega), if_neg (by omega)]

/-- It is columns of the incoming gradient in the version's order. -/
theorem piece_apply (c : Dev nD) (t : Fin cfg0.N) (r : Fin 2048) (k : Fin 256) (i : Fin 4096) (p : Fin 8704)
    (hi : i.val = t.val / 34 * 2048 + r.val) (hp : p.val = t.val % 34 * 256 + k.val) :
    piece m c t (ix2 r k) = spread (fun q => a1 m c (ix2 i q)) p := by
  have hk := k.isLt
  by_cases h0 : t.val % 34 ≤ 3
  · rw [piece0 m c t h0]
    refine (block0 m c t r k i ⟨p.val - 0, by omega⟩ hi (by dsimp only; omega)).trans ((slab0_apply m c i _).trans ?_)
    exact spread_low (fun q => a1 m c (ix2 i q)) p _ (by omega) (by dsimp only; omega)
  by_cases h1 : 4 ≤ t.val % 34 ∧ t.val % 34 ≤ 7
  · rw [piece1 m c t h1]
    refine (block1 m c t r k i ⟨p.val - 1024, by omega⟩ hi (by dsimp only; omega)).trans ((slab1_apply m c i _).trans ?_)
    exact spread_low (fun q => a1 m c (ix2 i q)) p _ (by omega) (by dsimp only; omega)
  by_cases h2 : 8 ≤ t.val % 34 ∧ t.val % 34 ≤ 11
  · rw [piece2 m c t h2]
    refine (block2 m c t r k i ⟨p.val - 2048, by omega⟩ hi (by dsimp only; omega)).trans ((slab2_apply m c i _).trans ?_)
    exact spread_low (fun q => a1 m c (ix2 i q)) p _ (by omega) (by dsimp only; omega)
  by_cases h3 : 12 ≤ t.val % 34 ∧ t.val % 34 ≤ 15
  · rw [piece3 m c t h3]
    refine (block3 m c t r k i ⟨p.val - 3072, by omega⟩ hi (by dsimp only; omega)).trans ((slab3_apply m c i _).trans ?_)
    exact spread_mid (fun q => a1 m c (ix2 i q)) p _ (by omega) (by omega) (by dsimp only; omega)
  by_cases h4 : 16 ≤ t.val % 34 ∧ t.val % 34 ≤ 19
  · rw [piece4 m c t h4]
    refine (block4 m c t r k i ⟨p.val - 4096, by omega⟩ hi (by dsimp only; omega)).trans ((slab4_apply m c i _).trans ?_)
    exact spread_mid (fun q => a1 m c (ix2 i q)) p _ (by omega) (by omega) (by dsimp only; omega)
  by_cases h5 : 20 ≤ t.val % 34 ∧ t.val % 34 ≤ 23
  · rw [piece5 m c t h5]
    refine (block5 m c t r k i ⟨p.val - 5120, by omega⟩ hi (by dsimp only; omega)).trans ((slab5_apply m c i _).trans ?_)
    exact spread_mid (fun q => a1 m c (ix2 i q)) p _ (by omega) (by omega) (by dsimp only; omega)
  by_cases h6 : 24 ≤ t.val % 34 ∧ t.val % 34 ≤ 27
  · rw [piece6 m c t h6]
    refine (block6 m c t r k i ⟨p.val - 6144, by omega⟩ hi (by dsimp only; omega)).trans ((slab6_apply m c i _).trans ?_)
    exact spread_mid (fun q => a1 m c (ix2 i q)) p _ (by omega) (by omega) (by dsimp only; omega)
  by_cases h7 : 28 ≤ t.val % 34 ∧ t.val % 34 ≤ 31
  · rw [piece7 m c t h7]
    refine (block7 m c t r k i ⟨p.val - 7168, by omega⟩ hi (by dsimp only; omega)).trans ((slab7_apply m c i _).trans ?_)
    exact spread_mid (fun q => a1 m c (ix2 i q)) p _ (by omega) (by omega) (by dsimp only; omega)
  have h8 : 32 ≤ t.val % 34 := by omega
  rw [piece8 m c t h8]
  refine (block8 m c t r k i ⟨p.val - 8192, by omega⟩ hi (by dsimp only; omega)).trans ?_
  exact lora_apply m c i _ p (by dsimp only; omega)

/-! ## The running sum -/

/-- The product of two blocks. -/
def prod (x : FVec Ideal S2048x256 .bf16) (y : FVec Ideal S256x1024 .bf16) : FVec Ideal S2048x1024 .f32 :=
  fun i => ∑ k : Fin 256, x (ix2 (i 0) k) * y (ix2 k (i 1))

/-- What a step leaves in the running sum. -/
theorem pay1 (a : FVec Ideal S2048x1024 .f32) (x : FVec Ideal S2048x256 .bf16) (y : FVec Ideal S256x1024 .bf16)
    (i : S2048x1024.Idx) : k0_pay1 (F := Ideal) a x y i = a i + prod x y i := by
  unfold prod
  idx_vars i
  pointwise [k0_pay1]

/-- The running sum starts at zero. -/
theorem pay6 (i : S2048x1024.Idx) : k0_pay6 (F := Ideal) i = 0 := by
  idx_vars i
  pointwise [k0_pay6]

/-- The running sum after the first step. -/
theorem first (c : Dev nD) (t : Fin cfg0.N) (h : t.val % 34 = 0) (j : S2048x1024.Idx) :
    (outsAt0 m c t.val t.isLt).2 j = 0 + prod (piece m c t) (iblk m c 9 t) j := by
  rw [piece0 m c t (by omega), outsAt0_A m c t (by omega) (by omega) (by omega) (by omega) (by omega) (by omega) (by omega) (by omega)
    (by omega) (by omega) (by omega)]
  frame_out
  refine (pay1 _ _ _ j).trans ?_
  rw [pay6]

theorem stepB (c : Dev nD) (t : Fin cfg0.N) (h : 1 ≤ t.val % 34 ∧ t.val % 34 ≤ 3) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece0 m c t (by omega), outsAt0_B m c t (by omega) (by omega) (by omega) (by omega) (by omega) (by omega) (by omega) (by omega)
    (by omega) (by omega) (by omega)]
  frame_out
  refine (pay1 _ _ _ j).trans ?_
  rw [read_unread_whole]

theorem stepC (c : Dev nD) (t : Fin cfg0.N) (h : 4 ≤ t.val % 34 ∧ t.val % 34 ≤ 7) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece1 m c t (by omega), outsAt0_C m c t (by omega) (by omega) (by omega) (by omega) (by omega) (by omega) (by omega) (by omega)
    (by omega) (by omega) (by omega)]
  frame_out
  refine (pay1 _ _ _ j).trans ?_
  rw [read_unread_whole]

theorem stepD (c : Dev nD) (t : Fin cfg0.N) (h : 8 ≤ t.val % 34 ∧ t.val % 34 ≤ 11) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece2 m c t (by omega), outsAt0_D m c t (by omega) (by omega) (by omega) (by omega) (by omega) (by omega) (by omega) (by omega)
    (by omega) (by omega) (by omega)]
  frame_out
  refine (pay1 _ _ _ j).trans ?_
  rw [read_unread_whole]

theorem stepE (c : Dev nD) (t : Fin cfg0.N) (h : 12 ≤ t.val % 34 ∧ t.val % 34 ≤ 15) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece3 m c t (by omega), outsAt0_E m c t (by omega) (by omega) (by omega) (by omega) (by omega) (by omega) (by omega) (by omega)
    (by omega) (by omega) (by omega)]
  frame_out
  refine (pay1 _ _ _ j).trans ?_
  rw [read_unread_whole]

theorem stepF (c : Dev nD) (t : Fin cfg0.N) (h : 16 ≤ t.val % 34 ∧ t.val % 34 ≤ 19) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece4 m c t (by omega), outsAt0_F m c t (by omega) (by omega) (by omega) (by omega) (by omega) (by omega) (by omega) (by omega)
    (by omega) (by omega) (by omega)]
  frame_out
  refine (pay1 _ _ _ j).trans ?_
  rw [read_unread_whole]

theorem stepG (c : Dev nD) (t : Fin cfg0.N) (h : 20 ≤ t.val % 34 ∧ t.val % 34 ≤ 23) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece5 m c t (by omega), outsAt0_G m c t (by omega) (by omega) (by omega) (by omega) (by omega) (by omega) (by omega) (by omega)
    (by omega) (by omega) (by omega)]
  frame_out
  refine (pay1 _ _ _ j).trans ?_
  rw [read_unread_whole]

theorem stepH (c : Dev nD) (t : Fin cfg0.N) (h : 24 ≤ t.val % 34 ∧ t.val % 34 ≤ 27) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece6 m c t (by omega), outsAt0_H m c t (by omega) (by omega) (by omega) (by omega) (by omega) (by omega) (by omega) (by omega)
    (by omega) (by omega) (by omega)]
  frame_out
  refine (pay1 _ _ _ j).trans ?_
  rw [read_unread_whole]

theorem stepI (c : Dev nD) (t : Fin cfg0.N) (h : 28 ≤ t.val % 34 ∧ t.val % 34 ≤ 31) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece7 m c t (by omega), outsAt0_I m c t (by omega) (by omega) (by omega) (by omega) (by omega) (by omega) (by omega) (by omega)
    (by omega) (by omega) (by omega)]
  frame_out
  refine (pay1 _ _ _ j).trans ?_
  rw [read_unread_whole]

theorem stepJ (c : Dev nD) (t : Fin cfg0.N) (h : t.val % 34 = 32) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece8 m c t (by omega), outsAt0_J m c t (by omega) (by omega) (by omega) (by omega) (by omega) (by omega) (by omega) (by omega)
    (by omega) (by omega) (by omega)]
  frame_out
  refine (pay1 _ _ _ j).trans ?_
  rw [read_unread_whole]

theorem stepK (c : Dev nD) (t : Fin cfg0.N) (h : t.val % 34 = 33) (j : S2048x1024.Idx) :
    (outsAt0 m c t.val t.isLt).2 j = (outsAt0 m c (t.val - 1) (Nat.lt_of_le_of_lt (Nat.sub_le _ _) t.isLt)).2 j + prod (piece m c t) (iblk m c 9 t) j := by
  rw [piece8 m c t (by omega), outsAt0_K m c t (by omega) (by omega) (by omega) (by omega) (by omega) (by omega) (by omega) (by omega)
    (by omega) (by omega) (by omega)]
  frame_out
  refine (pay1 _ _ _ j).trans ?_
  rw [read_unread_whole]

/-- The running sum after a later step. -/
theorem step (c : Dev nD) (t : Fin cfg0.N) (h : t.val % 34 ≠ 0) (j : S2048x1024.Idx) :
    (outsAt0 m c t.val t.isLt).2 j = (outsAt0 m c (t.val - 1) (Nat.lt_of_le_of_lt (Nat.sub_le _ _) t.isLt)).2 j + prod (piece m c t) (iblk m c 9 t) j := by
  have hq : t.val % 34 < 34 := Nat.mod_lt _ (by decide)
  by_cases hB : 1 ≤ t.val % 34 ∧ t.val % 34 ≤ 3
  · exact stepB m c t hB j
  by_cases hC : 4 ≤ t.val % 34 ∧ t.val % 34 ≤ 7
  · exact stepC m c t hC j
  by_cases hD : 8 ≤ t.val % 34 ∧ t.val % 34 ≤ 11
  · exact stepD m c t hD j
  by_cases hE : 12 ≤ t.val % 34 ∧ t.val % 34 ≤ 15
  · exact stepE m c t hE j
  by_cases hF : 16 ≤ t.val % 34 ∧ t.val % 34 ≤ 19
  · exact stepF m c t hF j
  by_cases hG : 20 ≤ t.val % 34 ∧ t.val % 34 ≤ 23
  · exact stepG m c t hG j
  by_cases hH : 24 ≤ t.val % 34 ∧ t.val % 34 ≤ 27
  · exact stepH m c t hH j
  by_cases hI : 28 ≤ t.val % 34 ∧ t.val % 34 ≤ 31
  · exact stepI m c t hI j
  by_cases hJ : t.val % 34 = 32
  · exact stepJ m c t hJ j
  exact stepK m c t (by omega) j

/-- The running sum at the point that stores it. -/
theorem acc (c : Dev nD) (t : Fin cfg0.N) (ht : t.val % 34 = 33) (i : S2048x1024.Idx) :
    (outsAt0 m c t.val t.isLt).2 i = 0 + ∑ s : Fin 34, prod
      (piece m c ⟨34 * (t.val / 34) + s.val, by omega⟩) (iblk m c 9 ⟨34 * (t.val / 34) + s.val, by omega⟩) i :=
  Pipeline.eq_sum_fin_of_reset_step_apply_of_flush (fun n h => (outsAt0 m c n h).2) 34 (fun _ => 0)
    (fun t => prod (piece m c t) (iblk m c 9 t)) (fun t h j => first m c t h j) (fun t h j => step m c t h j) t ht i

/-- What that point stores is the running sum. -/
theorem out (c : Dev nD) (t : Fin cfg0.N) (ht : t.val % 34 = 33) (i : S2048x1024.Idx) :
    (outsAt0 m c t.val t.isLt).1 i = (outsAt0 m c t.val t.isLt).2 i := by
  rw [outsAt0_K m c t (by omega) (by omega) (by omega) (by omega) (by omega) (by omega) (by omega) (by omega)
    (by omega) (by omega) (by omega)]
  frame_out <;> rfl

/-! ## The result -/

/-- The sum over the version's columns is the sum over reference.py's. -/
theorem columns (c : Dev nD) (i : Fin 4096) (j : Fin 1024) :
    ∑ p : Fin 8704, spread (fun q => a1 m c (ix2 i q)) p * wts m c (ix2 p j)
      = ∑ q : Fin 8480, a1 m c (ix2 i q) * a0 m c (ix2 j q) := by
  rw [sum_place _ (fun p hz => by rw [spread_zeros _ _ hz, zero_mul])]
  refine Finset.sum_congr rfl fun q _ => ?_
  rw [spread_place, wts_place]

/-- The kernel's array is the reference's. -/
theorem final (c : Dev nD) : (dats m 0 c).arrAt 10 (cfgs 0).N
    = Cert.Reference6Ideal.Read.val_main_v6 (F := Ideal) (a0 m c) (a1 m c) := by
  refine (dats m 0 c).arrAt_eq_of_covers 10 _ (by decide +kernel) fun t hf y => ?_
  have hm := (flush0_10 t).mp hf
  blk_simp
  rw [after0_10]
  have ht : t.val < 68 := lt_of_lt_of_eq t.isLt N_0
  refine (out m c t hm _).trans ((acc m c t hm _).trans ?_)
  idx_vars y
  have he : ((View.whole main_v29).slice (win0_10.rect t)).emb (ix2 y0 y1)
      = ix2 ⟨t.val / 34 * 2048 + y0.val, by omega⟩ y1 := by
    refine funext fun a => Fin.ext ?_
    match a with
    | ⟨0, _⟩ => blk_simp [idx10 t]
    | ⟨1, _⟩ => blk_simp [idx10 t]
  rw [he, zero_add, Cert.Reference6Ideal.Read.val_main_v6_apply, Cert.Reference6Ideal.Read.val_main_v5_apply]
  refine Eq.trans ?_ ((columns m c ⟨t.val / 34 * 2048 + y0.val, by omega⟩ y1).trans ?_)
  · refine Fin.sum_mul_add_congr fun s k hl => ?_
    have hs : (34 * (t.val / 34) + s.val) % 34 = s.val ∧ (34 * (t.val / 34) + s.val) / 34 = t.val / 34 := by omega
    refine congrArg₂ (· * ·) (piece_apply m c _ y0 k _ _ ?_ ?_) (block9 m c _ k y1 _ ?_)
    · show _ = (34 * (t.val / 34) + s.val) / 34 * 2048 + y0.val
      rw [hs.2]
    · show _ = (34 * (t.val / 34) + s.val) % 34 * 256 + k.val
      rw [hs.1]
    · show _ = (34 * (t.val / 34) + s.val) % 34 * 256 + k.val
      rw [hs.1]
  · refine Finset.sum_congr rfl fun k _ => ?_
    rw [Cert.Reference6Ideal.Read.val_main_v2_apply]
    refine congrArg₂ (· * ·) (congrArg (a1 m c) (funext fun a => ?_)) (congrArg (a0 m c) (funext fun a => ?_))
    · match a with
      | ⟨0, _⟩ => rfl
      | ⟨1, _⟩ => rfl
    · match a with
      | ⟨0, _⟩ => rfl
      | ⟨1, _⟩ => rfl

end Cert.Kernel6Ideal.Prod

end
-- ==== Proof.InProjDwCase.lean ====
module

public import proofs.«01_k».proof.Proof.Gen.Kernel7Ideal.Frame
public import proofs.«01_k».proof.Proof.Gen.Kernel7Ideal.Skeleton
public import proofs.«01_k».proof.Proof.Gen.Kernel7Ideal.Points
public import Idealize.ShloMosaic.Lib.Pipeline.ValueKit
public import Idealize.ShloMosaic.Lib.Pipeline.ReadBack
public import Idealize.ShloMosaic.Lib.VecWindow

@[expose] public section

/-! The conditions of the body of the product `dzᵀ·a` for the first weight: which tile of rows it is at, and which of the nine pieces of `dz` the tile of columns lies in. -/

set_option maxRecDepth 16384

noncomputable section

namespace Cert.Kernel7Ideal.Run

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The ten input blocks, each held whole with its contents. -/
def ins (c : Dev nD) (arg2 : Memref sig .tc .vmem S1024x1024 .bf16) (arg3 : Memref sig .tc .vmem S1024x512 .bf16) (arg4 : Memref sig .tc .vmem S1024x512 .bf16) (arg5 : Memref sig .tc .vmem S1024x512 .bf16) (arg6 : Memref sig .tc .vmem S1024x512 .bf16) (arg7 : Memref sig .tc .vmem S1024x512 .bf16) (arg8 : Memref sig .tc .vmem S1024x512 .bf16) (arg9 : Memref sig .tc .vmem S1024x512 .bf16) (arg10 : Memref sig .tc .vmem S1024x512 .bf16) (arg11 : Memref sig .tc .vmem S1024x512 .bf16)
    (x0 : Vec F S1024x1024 .bf16) (x1 x2 x3 x4 x5 x6 x7 x8 x9 : Vec F S1024x512 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9)

/-- The tile of rows is the first. -/
abbrev isFirst (i : grid0.Coords) : Prop := (Scalar.cmpi .ne (Scalar.extui (Scalar.cmpi .eq (BitVec.ofNat 32 (i 1).val) 0#32)) 0#32) = 1#1

/-- The tile of columns lies in piece 0. -/
abbrev isPiece0 (i : grid0.Coords) : Prop := (Scalar.cmpi .ne (Scalar.extui (Scalar.andi (Scalar.cmpi .sge (BitVec.ofNat 32 (i 0).val) 0#32) (Scalar.cmpi .slt (BitVec.ofNat 32 (i 0).val) 2#32))) 0#32) = 1#1

/-- The tile of columns lies in piece 1. -/
abbrev isPiece1 (i : grid0.Coords) : Prop := (Scalar.cmpi .ne (Scalar.extui (Scalar.andi (Scalar.cmpi .sge (BitVec.ofNat 32 (i 0).val) 2#32) (Scalar.cmpi .slt (BitVec.ofNat 32 (i 0).val) 4#32))) 0#32) = 1#1

/-- The tile of columns lies in piece 2. -/
abbrev isPiece2 (i : grid0.Coords) : Prop := (Scalar.cmpi .ne (Scalar.extui (Scalar.andi (Scalar.cmpi .sge (BitVec.ofNat 32 (i 0).val) 4#32) (Scalar.cmpi .slt (BitVec.ofNat 32 (i 0).val) 6#32))) 0#32) = 1#1

/-- The tile of columns lies in piece 3. -/
abbrev isPiece3 (i : grid0.Coords) : Prop := (Scalar.cmpi .ne (Scalar.extui (Scalar.andi (Scalar.cmpi .sge (BitVec.ofNat 32 (i 0).val) 6#32) (Scalar.cmpi .slt (BitVec.ofNat 32 (i 0).val) 8#32))) 0#32) = 1#1

/-- The tile of columns lies in piece 4. -/
abbrev isPiece4 (i : grid0.Coords) : Prop := (Scalar.cmpi .ne (Scalar.extui (Scalar.andi (Scalar.cmpi .sge (BitVec.ofNat 32 (i 0).val) 8#32) (Scalar.cmpi .slt (BitVec.ofNat 32 (i 0).val) 10#32))) 0#32) = 1#1

/-- The tile of columns lies in piece 5. -/
abbrev isPiece5 (i : grid0.Coords) : Prop := (Scalar.cmpi .ne (Scalar.extui (Scalar.andi (Scalar.cmpi .sge (BitVec.ofNat 32 (i 0).val) 10#32) (Scalar.cmpi .slt (BitVec.ofNat 32 (i 0).val) 12#32))) 0#32) = 1#1

/-- The tile of columns lies in piece 6. -/
abbrev isPiece6 (i : grid0.Coords) : Prop := (Scalar.cmpi .ne (Scalar.extui (Scalar.andi (Scalar.cmpi .sge (BitVec.ofNat 32 (i 0).val) 12#32) (Scalar.cmpi .slt (BitVec.ofNat 32 (i 0).val) 14#32))) 0#32) = 1#1

/-- The tile of columns lies in piece 7. -/
abbrev isPiece7 (i : grid0.Coords) : Prop := (Scalar.cmpi .ne (Scalar.extui (Scalar.andi (Scalar.cmpi .sge (BitVec.ofNat 32 (i 0).val) 14#32) (Scalar.cmpi .slt (BitVec.ofNat 32 (i 0).val) 16#32))) 0#32) = 1#1

/-- The tile of columns lies in piece 8. -/
abbrev isPiece8 (i : grid0.Coords) : Prop := (Scalar.cmpi .ne (Scalar.extui (Scalar.andi (Scalar.cmpi .sge (BitVec.ofNat 32 (i 0).val) 16#32) (Scalar.cmpi .slt (BitVec.ofNat 32 (i 0).val) 17#32))) 0#32) = 1#1

/-- The tile of rows is the last. -/
abbrev isLast (i : grid0.Coords) : Prop := k0_cond11 i = 1#1

end Cert.Kernel7Ideal.Run

end
-- ==== Proof.InProjDwLo.lean ====
module

public import proofs.«01_k».proof.Proof.InProjDwCase

@[expose] public section

/-! What the body does at a tile of columns in pieces 0 to 2, at the first, an inner and the last tile of rows. -/

set_option maxRecDepth 16384

noncomputable section

namespace Cert.Kernel7Ideal.Run

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- Piece 0, the first tile of rows: the body starts the sum at zero. -/
theorem run0A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : isFirst i) (h0 : isPiece0 i) (h1 : ¬isPiece1 i) (h2 : ¬isPiece2 i) (h3 : ¬isPiece3 i) (h4 : ¬isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay7 k0_pay6 x1 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 0, the inner tile of rows: the body adds to the sum found. -/
theorem run0B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : isPiece0 i) (h1 : ¬isPiece1 i) (h2 : ¬isPiece2 i) (h3 : ¬isPiece3 i) (h4 : ¬isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay7 xs x1 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 0, the last tile of rows: the body adds to the sum found and stores it, rounded. -/
theorem run0C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : isPiece0 i) (h1 : ¬isPiece1 i) (h2 : ¬isPiece2 i) (h3 : ¬isPiece3 i) (h4 : ¬isPiece4 i) (h5 : ¬isPiece5 i) (h6 : ¬isPiece6 i) (h7 : ¬isPiece7 i) (h8 : ¬isPiece8 i) (hl : isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare (k0_pay5 (k0_pay7 xs x1 x0)) ∗ owns (c : Thread nD τ) arg13 fullShare (k0_pay7 xs x1 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

set_option maxHeartbeats 1000000 in
/-- Piece 1, the first tile of rows: the body starts the sum at zero. -/
theorem run1A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : isFirst i) (h0 : ¬isPiece0 i) (h1 : isPiece1 i) (h2 : ¬isPiece2 i) (h3 : ¬isPiece3 i) (h4 : ¬isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay8 k0_pay6 x2 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 1, the inner tile of rows: the body adds to the sum found. -/
theorem run1B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : isPiece1 i) (h2 : ¬isPiece2 i) (h3 : ¬isPiece3 i) (h4 : ¬isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay8 xs x2 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 1, the last tile of rows: the body adds to the sum found and stores it, rounded. -/
theorem run1C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : isPiece1 i) (h2 : ¬isPiece2 i) (h3 : ¬isPiece3 i) (h4 : ¬isPiece4 i) (h5 : ¬isPiece5 i) (h6 : ¬isPiece6 i) (h7 : ¬isPiece7 i) (h8 : ¬isPiece8 i) (hl : isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare (k0_pay5 (k0_pay8 xs x2 x0)) ∗ owns (c : Thread nD τ) arg13 fullShare (k0_pay8 xs x2 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

set_option maxHeartbeats 1000000 in
/-- Piece 2, the first tile of rows: the body starts the sum at zero. -/
theorem run2A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : isFirst i) (h0 : ¬isPiece0 i) (h1 : ¬isPiece1 i) (h2 : isPiece2 i) (h3 : ¬isPiece3 i) (h4 : ¬isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay9 k0_pay6 x3 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 2, the inner tile of rows: the body adds to the sum found. -/
theorem run2B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : isPiece2 i) (h3 : ¬isPiece3 i) (h4 : ¬isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay9 xs x3 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 2, the last tile of rows: the body adds to the sum found and stores it, rounded. -/
theorem run2C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : isPiece2 i) (h3 : ¬isPiece3 i) (h4 : ¬isPiece4 i) (h5 : ¬isPiece5 i) (h6 : ¬isPiece6 i) (h7 : ¬isPiece7 i) (h8 : ¬isPiece8 i) (hl : isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare (k0_pay5 (k0_pay9 xs x3 x0)) ∗ owns (c : Thread nD τ) arg13 fullShare (k0_pay9 xs x3 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

end Cert.Kernel7Ideal.Run

end
-- ==== Proof.InProjDwMid.lean ====
module

public import proofs.«01_k».proof.Proof.InProjDwCase

@[expose] public section

/-! What the body does at a tile of columns in pieces 3 to 5, at the first, an inner and the last tile of rows. -/

set_option maxRecDepth 16384

noncomputable section

namespace Cert.Kernel7Ideal.Run

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- Piece 3, the first tile of rows: the body starts the sum at zero. -/
theorem run3A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : isFirst i) (h0 : ¬isPiece0 i) (h1 : ¬isPiece1 i) (h2 : ¬isPiece2 i) (h3 : isPiece3 i) (h4 : ¬isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay10 k0_pay6 x4 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 3, the inner tile of rows: the body adds to the sum found. -/
theorem run3B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : isPiece3 i) (h4 : ¬isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay10 xs x4 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 3, the last tile of rows: the body adds to the sum found and stores it, rounded. -/
theorem run3C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : isPiece3 i) (h4 : ¬isPiece4 i) (h5 : ¬isPiece5 i) (h6 : ¬isPiece6 i) (h7 : ¬isPiece7 i) (h8 : ¬isPiece8 i) (hl : isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare (k0_pay5 (k0_pay10 xs x4 x0)) ∗ owns (c : Thread nD τ) arg13 fullShare (k0_pay10 xs x4 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

set_option maxHeartbeats 1000000 in
/-- Piece 4, the first tile of rows: the body starts the sum at zero. -/
theorem run4A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : isFirst i) (h0 : ¬isPiece0 i) (h1 : ¬isPiece1 i) (h2 : ¬isPiece2 i) (h3 : ¬isPiece3 i) (h4 : isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay11 k0_pay6 x5 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 4, the inner tile of rows: the body adds to the sum found. -/
theorem run4B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : isPiece4 i) (h5 : ¬isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay11 xs x5 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 4, the last tile of rows: the body adds to the sum found and stores it, rounded. -/
theorem run4C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : isPiece4 i) (h5 : ¬isPiece5 i) (h6 : ¬isPiece6 i) (h7 : ¬isPiece7 i) (h8 : ¬isPiece8 i) (hl : isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare (k0_pay5 (k0_pay11 xs x5 x0)) ∗ owns (c : Thread nD τ) arg13 fullShare (k0_pay11 xs x5 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

set_option maxHeartbeats 1000000 in
/-- Piece 5, the first tile of rows: the body starts the sum at zero. -/
theorem run5A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : isFirst i) (h0 : ¬isPiece0 i) (h1 : ¬isPiece1 i) (h2 : ¬isPiece2 i) (h3 : ¬isPiece3 i) (h4 : ¬isPiece4 i) (h5 : isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay1 k0_pay6 x6 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 5, the inner tile of rows: the body adds to the sum found. -/
theorem run5B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : ¬isPiece4 i) (h5 : isPiece5 i) (h6 : ¬isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay1 xs x6 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 5, the last tile of rows: the body adds to the sum found and stores it, rounded. -/
theorem run5C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : ¬isPiece4 i) (h5 : isPiece5 i) (h6 : ¬isPiece6 i) (h7 : ¬isPiece7 i) (h8 : ¬isPiece8 i) (hl : isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare (k0_pay5 (k0_pay1 xs x6 x0)) ∗ owns (c : Thread nD τ) arg13 fullShare (k0_pay1 xs x6 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

end Cert.Kernel7Ideal.Run

end
-- ==== Proof.InProjDwHi.lean ====
module

public import proofs.«01_k».proof.Proof.InProjDwCase

@[expose] public section

/-! What the body does at a tile of columns in pieces 6 to 8, at the first, an inner and the last tile of rows. -/

set_option maxRecDepth 16384

noncomputable section

namespace Cert.Kernel7Ideal.Run

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- Piece 6, the first tile of rows: the body starts the sum at zero. -/
theorem run6A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : isFirst i) (h0 : ¬isPiece0 i) (h1 : ¬isPiece1 i) (h2 : ¬isPiece2 i) (h3 : ¬isPiece3 i) (h4 : ¬isPiece4 i) (h5 : ¬isPiece5 i) (h6 : isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay2 k0_pay6 x7 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 6, the inner tile of rows: the body adds to the sum found. -/
theorem run6B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : ¬isPiece4 i) (h5 : ¬isPiece5 i) (h6 : isPiece6 i) (h7 : ¬isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay2 xs x7 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 6, the last tile of rows: the body adds to the sum found and stores it, rounded. -/
theorem run6C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : ¬isPiece4 i) (h5 : ¬isPiece5 i) (h6 : isPiece6 i) (h7 : ¬isPiece7 i) (h8 : ¬isPiece8 i) (hl : isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare (k0_pay5 (k0_pay2 xs x7 x0)) ∗ owns (c : Thread nD τ) arg13 fullShare (k0_pay2 xs x7 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

set_option maxHeartbeats 1000000 in
/-- Piece 7, the first tile of rows: the body starts the sum at zero. -/
theorem run7A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : isFirst i) (h0 : ¬isPiece0 i) (h1 : ¬isPiece1 i) (h2 : ¬isPiece2 i) (h3 : ¬isPiece3 i) (h4 : ¬isPiece4 i) (h5 : ¬isPiece5 i) (h6 : ¬isPiece6 i) (h7 : isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay3 k0_pay6 x8 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 7, the inner tile of rows: the body adds to the sum found. -/
theorem run7B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : ¬isPiece4 i) (h5 : ¬isPiece5 i) (h6 : ¬isPiece6 i) (h7 : isPiece7 i) (h8 : ¬isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay3 xs x8 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 7, the last tile of rows: the body adds to the sum found and stores it, rounded. -/
theorem run7C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : ¬isPiece4 i) (h5 : ¬isPiece5 i) (h6 : ¬isPiece6 i) (h7 : isPiece7 i) (h8 : ¬isPiece8 i) (hl : isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare (k0_pay5 (k0_pay3 xs x8 x0)) ∗ owns (c : Thread nD τ) arg13 fullShare (k0_pay3 xs x8 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

set_option maxHeartbeats 1000000 in
/-- Piece 8, the first tile of rows: the body starts the sum at zero. -/
theorem run8A (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : isFirst i) (h0 : ¬isPiece0 i) (h1 : ¬isPiece1 i) (h2 : ¬isPiece2 i) (h3 : ¬isPiece3 i) (h4 : ¬isPiece4 i) (h5 : ¬isPiece5 i) (h6 : ¬isPiece6 i) (h7 : ¬isPiece7 i) (h8 : isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay4 k0_pay6 x9 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 8, the inner tile of rows: the body adds to the sum found. -/
theorem run8B (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : ¬isPiece4 i) (h5 : ¬isPiece5 i) (h6 : ¬isPiece6 i) (h7 : ¬isPiece7 i) (h8 : isPiece8 i) (hl : ¬isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare (k0_pay4 xs x9 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr; · ipureintro; exact harg12.read_unread _
    iexact H10
  iexists _; isplitr
  swap; · iexact H11
  ipureintro
  refine (View.read_writes_full _ _ _ _ _).trans ?_
  frame_out

set_option maxHeartbeats 1000000 in
/-- Piece 8, the last tile of rows: the body adds to the sum found and stores it, rounded. -/
theorem run8C (c : Dev nD) (i : grid0.Coords) (arg2 : Memref sig .tc .vmem S1024x1024 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S512x1024 .bf16) (harg12 : arg12.IsWhole) (arg13 : Memref sig .tc .vmem S512x1024 .f32) (harg13 : arg13.IsWhole)
    (hf : ¬isFirst i) (h0 : ¬isPiece0 i) (h1 : ¬isPiece1 i) (h2 : ¬isPiece2 i) (h3 : ¬isPiece3 i) (h4 : ¬isPiece4 i) (h5 : ¬isPiece5 i) (h6 : ¬isPiece6 i) (h7 : ¬isPiece7 i) (h8 : isPiece8 i) (hl : isLast i) (x0 : Vec F S1024x1024 .bf16) (x1 x2 x3 x4 x5 x6 x7 x8 x9 : Vec F S1024x512 .bf16)
    (xo : Vec F S512x1024 .bf16) (xs : Vec F S512x1024 .f32) (E : Set ℕ) (K : PUnit → sProp 𝕄) :
    iprop(ins c arg2 arg3 arg4 arg5 arg6 arg7 arg8 arg9 arg10 arg11 x0 x1 x2 x3 x4 x5 x6 x7 x8 x9
      ∗ owns (c : Thread nD τ) arg12 fullShare xo ∗ owns (c : Thread nD τ) arg13 fullShare xs
      ∗ (iprop(ins c arg2 arg3 arg4 arg5 arg6 arg7 arg8 arg9 arg10 arg11 x0 x1 x2 x3 x4 x5 x6 x7 x8 x9
      ∗ owns (c : Thread nD τ) arg12 fullShare (k0_pay5 (k0_pay4 xs x9 x0)) ∗ owns (c : Thread nD τ) arg13 fullShare (k0_pay4 xs x9 x0)) -∗ K ⟨⟩))
    ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12 arg13 harg13) K := by
  simp only [cc0_mm_in_dw_eq_skeleton]; unfold cc0_mm_in_dw_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hf | sl_exact h0 | sl_exact h1 | sl_exact h2 | sl_exact h3 | sl_exact h4 | sl_exact h5 | sl_exact h6 | sl_exact h7 | sl_exact h8 | sl_exact hl)
  sl_step
  iapply Hk
  isplitl [H0 H1 H2 H3 H4 H5 H6 H7 H8 H9]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact H9
  isplitl [H10]
  · iexists _; isplitr
    swap; · iexact H10
    ipureintro
    refine (View.read_writes_full _ _ _ _ _).trans ?_
    frame_out
  iexists _; isplitr
  swap; · iexact H11
  ipureintro
  refine (View.read_writes_full _ _ _ _ _).trans ?_
  frame_out

end Cert.Kernel7Ideal.Run

end
-- ==== Proof.InProjDwFrame.lean ====
module

public import proofs.«01_k».proof.Proof.InProjDwLo
public import proofs.«01_k».proof.Proof.InProjDwMid
public import proofs.«01_k».proof.Proof.InProjDwHi

@[expose] public section

/-! The run of the product `dzᵀ·a` for the first weight: the sum the scratch buffer carries from one tile
of rows to the next, the pipeline's proof data, the body at every point of the grid, and the launch.  -/

set_option maxRecDepth 16384

noncomputable section

namespace Cert.Kernel7Ideal.Run

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point of the grid -/

theorem at_first : ∀ t : Fin cfg0.N, isFirst (grid0.coords t) ↔ t.val % 4 = 0 :=
  (by decide +kernel : ∀ t : Fin grid0.N, isFirst (grid0.coords t) ↔ t.val % 4 = 0)

theorem at_last : ∀ t : Fin cfg0.N, isLast (grid0.coords t) ↔ t.val % 4 = 3 :=
  (by decide +kernel : ∀ t : Fin grid0.N, isLast (grid0.coords t) ↔ t.val % 4 = 3)

theorem at_piece0 : ∀ t : Fin cfg0.N, isPiece0 (grid0.coords t) ↔ t.val / 8 = 0 :=
  (by decide +kernel : ∀ t : Fin grid0.N, isPiece0 (grid0.coords t) ↔ t.val / 8 = 0)

theorem at_piece1 : ∀ t : Fin cfg0.N, isPiece1 (grid0.coords t) ↔ t.val / 8 = 1 :=
  (by decide +kernel : ∀ t : Fin grid0.N, isPiece1 (grid0.coords t) ↔ t.val / 8 = 1)

theorem at_piece2 : ∀ t : Fin cfg0.N, isPiece2 (grid0.coords t) ↔ t.val / 8 = 2 :=
  (by decide +kernel : ∀ t : Fin grid0.N, isPiece2 (grid0.coords t) ↔ t.val / 8 = 2)

theorem at_piece3 : ∀ t : Fin cfg0.N, isPiece3 (grid0.coords t) ↔ t.val / 8 = 3 :=
  (by decide +kernel : ∀ t : Fin grid0.N, isPiece3 (grid0.coords t) ↔ t.val / 8 = 3)

theorem at_piece4 : ∀ t : Fin cfg0.N, isPiece4 (grid0.coords t) ↔ t.val / 8 = 4 :=
  (by decide +kernel : ∀ t : Fin grid0.N, isPiece4 (grid0.coords t) ↔ t.val / 8 = 4)

theorem at_piece5 : ∀ t : Fin cfg0.N, isPiece5 (grid0.coords t) ↔ t.val / 8 = 5 :=
  (by decide +kernel : ∀ t : Fin grid0.N, isPiece5 (grid0.coords t) ↔ t.val / 8 = 5)

theorem at_piece6 : ∀ t : Fin cfg0.N, isPiece6 (grid0.coords t) ↔ t.val / 8 = 6 :=
  (by decide +kernel : ∀ t : Fin grid0.N, isPiece6 (grid0.coords t) ↔ t.val / 8 = 6)

theorem at_piece7 : ∀ t : Fin cfg0.N, isPiece7 (grid0.coords t) ↔ t.val / 8 = 7 :=
  (by decide +kernel : ∀ t : Fin grid0.N, isPiece7 (grid0.coords t) ↔ t.val / 8 = 7)

theorem at_piece8 : ∀ t : Fin cfg0.N, isPiece8 (grid0.coords t) ↔ t.val / 8 = 8 :=
  (by decide +kernel : ∀ t : Fin grid0.N, isPiece8 (grid0.coords t) ↔ t.val / 8 = 8)

/-- The result's buffer is written at the last tile of rows, -/
theorem live_out : ∀ t : Fin cfg0.N, t.val % 4 = 3 → cfg0.idle 10 (grid0.coords t) = false :=
  (by decide +kernel : ∀ t : Fin grid0.N, t.val % 4 = 3 → cfg0.idle 10 (grid0.coords t) = false)

/-- and at no other; -/
theorem idle_out : ∀ t : Fin cfg0.N, ¬t.val % 4 = 3 → cfg0.idle 10 (grid0.coords t) = true :=
  (by decide +kernel : ∀ t : Fin grid0.N, ¬t.val % 4 = 3 → cfg0.idle 10 (grid0.coords t) = true)

/-- there it is not copied back. -/
theorem no_flush (t : Fin cfg0.N) (h : ¬t.val % 4 = 3) : (cfg0.win 10).flush t = false :=
  Bool.eq_false_iff.mpr fun e => h ((flush0_10 t).mp e)

/-! ## The buffers at a point -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x512 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1024 .bf16 := win0_10.stage (cfg0.slots t 10)
abbrev hs10 (t : Fin cfg0.N) : (ms10 t).IsWhole := hstage0_10 ((cfg0.slots t 10).cast nbuf0_10)

/-- The scratch buffer of the sum. -/
abbrev sc : Memref sig .tc .vmem S512x1024 .f32 := Memref.whole cc0_scratch0

theorem rest_eq (c : Dev nD) :
    (Pipeline.ΦA spec0 c : sProp 𝕄)
      = iprop(iprop((∃ d, owns (c : Thread nD τ) sc fullShare d)) ∗ (∃ r, prngReg c r)) := by
  unfold Pipeline.ΦA; rw [scopedRest0_eq]; simp only [sc, owns_whole]; try rfl

/-! ## The sum over the tiles of rows -/

/-- What the body adds at a point: the product of its piece's block with the rows' block. -/
def payAt (c : Dev nD) (t : Fin cfg0.N) (acc : Vec F S512x1024 .f32) : Vec F S512x1024 .f32 :=
  match t.val / 8 with
  | 0 => k0_pay7 acc (iblk m c 1 t) (iblk m c 0 t)
  | 1 => k0_pay8 acc (iblk m c 2 t) (iblk m c 0 t)
  | 2 => k0_pay9 acc (iblk m c 3 t) (iblk m c 0 t)
  | 3 => k0_pay10 acc (iblk m c 4 t) (iblk m c 0 t)
  | 4 => k0_pay11 acc (iblk m c 5 t) (iblk m c 0 t)
  | 5 => k0_pay1 acc (iblk m c 6 t) (iblk m c 0 t)
  | 6 => k0_pay2 acc (iblk m c 7 t) (iblk m c 0 t)
  | 7 => k0_pay3 acc (iblk m c 8 t) (iblk m c 0 t)
  | _ => k0_pay4 acc (iblk m c 9 t) (iblk m c 0 t)

/-- The scratch buffer after a point. -/
def sumAt (c : Dev nD) : (n : ℕ) → n < cfg0.N → Vec F S512x1024 .f32
  | 0, h => payAt m c ⟨0, h⟩ k0_pay6
  | n + 1, h => payAt m c ⟨n + 1, h⟩ (if (n + 1) % 4 = 0 then k0_pay6 else sumAt c n (Nat.lt_of_succ_lt h))

theorem sum_first (c : Dev nD) (t : Fin cfg0.N) (h : t.val % 4 = 0) : sumAt m c t.val t.isLt = payAt m c t k0_pay6 := by
  obtain ⟨n, hn⟩ := t
  cases n with
  | zero => rfl
  | succ n => unfold sumAt; rw [if_pos h]

theorem sum_next (c : Dev nD) (t : Fin cfg0.N) (h : ¬t.val % 4 = 0) :
    sumAt m c t.val t.isLt = payAt m c t (sumAt m c (t.val - 1) (Nat.lt_of_le_of_lt (Nat.sub_le _ _) t.isLt)) := by
  obtain ⟨n, hn⟩ := t
  cases n with
  | zero => exact absurd rfl h
  | succ n => rw [sumAt, if_neg h]; rfl

set_option maxHeartbeats 4000000 in
/-- The body at any point: the scratch buffer starts at zero at the first tile of rows and is added to; the result's
    buffer takes the rounded sum at the last. -/
theorem run (c : Dev nD) (t : Fin cfg0.N) (xo : Vec F S512x1024 .bf16) (xs S : Vec F S512x1024 .f32)
    (hS : payAt m c t (if t.val % 4 = 0 then k0_pay6 else xs) = S) (K : PUnit → sProp 𝕄) :
    iprop(ins c (ms0 t) (ms1 t) (ms2 t) (ms3 t) (ms4 t) (ms5 t) (ms6 t) (ms7 t) (ms8 t) (ms9 t) (iblk m c 0 t) (iblk m c 1 t) (iblk m c 2 t) (iblk m c 3 t) (iblk m c 4 t) (iblk m c 5 t) (iblk m c 6 t) (iblk m c 7 t) (iblk m c 8 t) (iblk m c 9 t)
      ∗ owns (c : Thread nD τ) (ms10 t) fullShare xo ∗ owns (c : Thread nD τ) sc fullShare xs
      ∗ (iprop(ins c (ms0 t) (ms1 t) (ms2 t) (ms3 t) (ms4 t) (ms5 t) (ms6 t) (ms7 t) (ms8 t) (ms9 t) (iblk m c 0 t) (iblk m c 1 t) (iblk m c 2 t) (iblk m c 3 t) (iblk m c 4 t) (iblk m c 5 t) (iblk m c 6 t) (iblk m c 7 t) (iblk m c 8 t) (iblk m c 9 t)
      ∗ owns (c : Thread nD τ) (ms10 t) fullShare (if t.val % 4 = 3 then k0_pay5 S else xo)
      ∗ owns (c : Thread nD τ) sc fullShare S) -∗ K ⟨⟩))
    ⊢ wp frame (wpE (defs₀ (F := F)) Variants.none c none) Set.univ (bodyAt0 t) K := by
  have hN : t.val < 68 := lt_of_lt_of_eq t.isLt (show cfg0.N = 68 from N_0)
  subst hS
  unfold bodyAt0
  have hc : t.val / 8 = 0 ∨ t.val / 8 = 1 ∨ t.val / 8 = 2 ∨ t.val / 8 = 3 ∨ t.val / 8 = 4 ∨ t.val / 8 = 5 ∨ t.val / 8 = 6 ∨ t.val / 8 = 7 ∨ t.val / 8 = 8 := by omega
  rcases hc with hw | hw | hw | hw | hw | hw | hw | hw | hw
  · have ep : ∀ a, payAt m c t a = k0_pay7 a (iblk m c 1 t) (iblk m c 0 t) := fun a => by unfold payAt; rw [hw]; rfl
    rw [ep]
    by_cases h0 : t.val % 4 = 0
    · have h3 : ¬t.val % 4 = 3 := by omega
      rw [if_pos h0, if_neg h3]
      exact run0A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) ((at_first t).mpr h0) ((at_piece0 t).mpr hw) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
    · rw [if_neg h0]
      by_cases h3 : t.val % 4 = 3
      · rw [if_pos h3]
        exact run0C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) ((at_piece0 t).mpr hw) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) ((at_last t).mpr h3) (iblk m c 0 t) (iblk m c 1 t) (iblk m c 2 t) (iblk m c 3 t) (iblk m c 4 t) (iblk m c 5 t) (iblk m c 6 t) (iblk m c 7 t) (iblk m c 8 t) (iblk m c 9 t) xo xs Set.univ K
      · rw [if_neg h3]
        exact run0B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) ((at_piece0 t).mpr hw) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
  · have ep : ∀ a, payAt m c t a = k0_pay8 a (iblk m c 2 t) (iblk m c 0 t) := fun a => by unfold payAt; rw [hw]; rfl
    rw [ep]
    by_cases h0 : t.val % 4 = 0
    · have h3 : ¬t.val % 4 = 3 := by omega
      rw [if_pos h0, if_neg h3]
      exact run1A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) ((at_first t).mpr h0) (fun h => absurd (hw.symm.trans ((at_piece0 t).mp h)) (by decide)) ((at_piece1 t).mpr hw) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
    · rw [if_neg h0]
      by_cases h3 : t.val % 4 = 3
      · rw [if_pos h3]
        exact run1C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) ((at_piece1 t).mpr hw) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) ((at_last t).mpr h3) (iblk m c 0 t) (iblk m c 1 t) (iblk m c 2 t) (iblk m c 3 t) (iblk m c 4 t) (iblk m c 5 t) (iblk m c 6 t) (iblk m c 7 t) (iblk m c 8 t) (iblk m c 9 t) xo xs Set.univ K
      · rw [if_neg h3]
        exact run1B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) ((at_piece1 t).mpr hw) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
  · have ep : ∀ a, payAt m c t a = k0_pay9 a (iblk m c 3 t) (iblk m c 0 t) := fun a => by unfold payAt; rw [hw]; rfl
    rw [ep]
    by_cases h0 : t.val % 4 = 0
    · have h3 : ¬t.val % 4 = 3 := by omega
      rw [if_pos h0, if_neg h3]
      exact run2A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) ((at_first t).mpr h0) (fun h => absurd (hw.symm.trans ((at_piece0 t).mp h)) (by decide)) (fun h => absurd (hw.symm.trans ((at_piece1 t).mp h)) (by decide)) ((at_piece2 t).mpr hw) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
    · rw [if_neg h0]
      by_cases h3 : t.val % 4 = 3
      · rw [if_pos h3]
        exact run2C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) ((at_piece2 t).mpr hw) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) ((at_last t).mpr h3) (iblk m c 0 t) (iblk m c 1 t) (iblk m c 2 t) (iblk m c 3 t) (iblk m c 4 t) (iblk m c 5 t) (iblk m c 6 t) (iblk m c 7 t) (iblk m c 8 t) (iblk m c 9 t) xo xs Set.univ K
      · rw [if_neg h3]
        exact run2B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) ((at_piece2 t).mpr hw) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
  · have ep : ∀ a, payAt m c t a = k0_pay10 a (iblk m c 4 t) (iblk m c 0 t) := fun a => by unfold payAt; rw [hw]; rfl
    rw [ep]
    by_cases h0 : t.val % 4 = 0
    · have h3 : ¬t.val % 4 = 3 := by omega
      rw [if_pos h0, if_neg h3]
      exact run3A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) ((at_first t).mpr h0) (fun h => absurd (hw.symm.trans ((at_piece0 t).mp h)) (by decide)) (fun h => absurd (hw.symm.trans ((at_piece1 t).mp h)) (by decide)) (fun h => absurd (hw.symm.trans ((at_piece2 t).mp h)) (by decide)) ((at_piece3 t).mpr hw) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
    · rw [if_neg h0]
      by_cases h3 : t.val % 4 = 3
      · rw [if_pos h3]
        exact run3C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) ((at_piece3 t).mpr hw) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) ((at_last t).mpr h3) (iblk m c 0 t) (iblk m c 1 t) (iblk m c 2 t) (iblk m c 3 t) (iblk m c 4 t) (iblk m c 5 t) (iblk m c 6 t) (iblk m c 7 t) (iblk m c 8 t) (iblk m c 9 t) xo xs Set.univ K
      · rw [if_neg h3]
        exact run3B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) ((at_piece3 t).mpr hw) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
  · have ep : ∀ a, payAt m c t a = k0_pay11 a (iblk m c 5 t) (iblk m c 0 t) := fun a => by unfold payAt; rw [hw]; rfl
    rw [ep]
    by_cases h0 : t.val % 4 = 0
    · have h3 : ¬t.val % 4 = 3 := by omega
      rw [if_pos h0, if_neg h3]
      exact run4A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) ((at_first t).mpr h0) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) ((at_piece4 t).mpr hw) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
    · rw [if_neg h0]
      by_cases h3 : t.val % 4 = 3
      · rw [if_pos h3]
        exact run4C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) ((at_piece4 t).mpr hw) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) ((at_last t).mpr h3) (iblk m c 0 t) (iblk m c 1 t) (iblk m c 2 t) (iblk m c 3 t) (iblk m c 4 t) (iblk m c 5 t) (iblk m c 6 t) (iblk m c 7 t) (iblk m c 8 t) (iblk m c 9 t) xo xs Set.univ K
      · rw [if_neg h3]
        exact run4B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) ((at_piece4 t).mpr hw) (fun h => absurd (hw.symm.trans ((at_piece5 t).mp h)) (by decide)) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
  · have ep : ∀ a, payAt m c t a = k0_pay1 a (iblk m c 6 t) (iblk m c 0 t) := fun a => by unfold payAt; rw [hw]; rfl
    rw [ep]
    by_cases h0 : t.val % 4 = 0
    · have h3 : ¬t.val % 4 = 3 := by omega
      rw [if_pos h0, if_neg h3]
      exact run5A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) ((at_first t).mpr h0) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) ((at_piece5 t).mpr hw) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
    · rw [if_neg h0]
      by_cases h3 : t.val % 4 = 3
      · rw [if_pos h3]
        exact run5C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) ((at_piece5 t).mpr hw) (fun h => absurd (hw.symm.trans ((at_piece6 t).mp h)) (by decide)) (fun h => absurd (hw.symm.trans ((at_piece7 t).mp h)) (by decide)) (fun h => absurd (hw.symm.trans ((at_piece8 t).mp h)) (by decide)) ((at_last t).mpr h3) (iblk m c 0 t) (iblk m c 1 t) (iblk m c 2 t) (iblk m c 3 t) (iblk m c 4 t) (iblk m c 5 t) (iblk m c 6 t) (iblk m c 7 t) (iblk m c 8 t) (iblk m c 9 t) xo xs Set.univ K
      · rw [if_neg h3]
        exact run5B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) ((at_piece5 t).mpr hw) (fun h => absurd (hw.symm.trans ((at_piece6 t).mp h)) (by decide)) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
  · have ep : ∀ a, payAt m c t a = k0_pay2 a (iblk m c 7 t) (iblk m c 0 t) := fun a => by unfold payAt; rw [hw]; rfl
    rw [ep]
    by_cases h0 : t.val % 4 = 0
    · have h3 : ¬t.val % 4 = 3 := by omega
      rw [if_pos h0, if_neg h3]
      exact run6A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) ((at_first t).mpr h0) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) ((at_piece6 t).mpr hw) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
    · rw [if_neg h0]
      by_cases h3 : t.val % 4 = 3
      · rw [if_pos h3]
        exact run6C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) ((at_piece6 t).mpr hw) (fun h => absurd (hw.symm.trans ((at_piece7 t).mp h)) (by decide)) (fun h => absurd (hw.symm.trans ((at_piece8 t).mp h)) (by decide)) ((at_last t).mpr h3) (iblk m c 0 t) (iblk m c 1 t) (iblk m c 2 t) (iblk m c 3 t) (iblk m c 4 t) (iblk m c 5 t) (iblk m c 6 t) (iblk m c 7 t) (iblk m c 8 t) (iblk m c 9 t) xo xs Set.univ K
      · rw [if_neg h3]
        exact run6B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) ((at_piece6 t).mpr hw) (fun h => absurd (hw.symm.trans ((at_piece7 t).mp h)) (by decide)) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
  · have ep : ∀ a, payAt m c t a = k0_pay3 a (iblk m c 8 t) (iblk m c 0 t) := fun a => by unfold payAt; rw [hw]; rfl
    rw [ep]
    by_cases h0 : t.val % 4 = 0
    · have h3 : ¬t.val % 4 = 3 := by omega
      rw [if_pos h0, if_neg h3]
      exact run7A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) ((at_first t).mpr h0) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) ((at_piece7 t).mpr hw) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
    · rw [if_neg h0]
      by_cases h3 : t.val % 4 = 3
      · rw [if_pos h3]
        exact run7C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) ((at_piece7 t).mpr hw) (fun h => absurd (hw.symm.trans ((at_piece8 t).mp h)) (by decide)) ((at_last t).mpr h3) (iblk m c 0 t) (iblk m c 1 t) (iblk m c 2 t) (iblk m c 3 t) (iblk m c 4 t) (iblk m c 5 t) (iblk m c 6 t) (iblk m c 7 t) (iblk m c 8 t) (iblk m c 9 t) xo xs Set.univ K
      · rw [if_neg h3]
        exact run7B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) ((at_piece7 t).mpr hw) (fun h => absurd (hw.symm.trans ((at_piece8 t).mp h)) (by decide)) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
  · have ep : ∀ a, payAt m c t a = k0_pay4 a (iblk m c 9 t) (iblk m c 0 t) := fun a => by unfold payAt; rw [hw]; rfl
    rw [ep]
    by_cases h0 : t.val % 4 = 0
    · have h3 : ¬t.val % 4 = 3 := by omega
      rw [if_pos h0, if_neg h3]
      exact run8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) ((at_first t).mpr h0) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) ((at_piece8 t).mpr hw) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K
    · rw [if_neg h0]
      by_cases h3 : t.val % 4 = 3
      · rw [if_pos h3]
        exact run8C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) ((at_piece8 t).mpr hw) ((at_last t).mpr h3) (iblk m c 0 t) (iblk m c 1 t) (iblk m c 2 t) (iblk m c 3 t) (iblk m c 4 t) (iblk m c 5 t) (iblk m c 6 t) (iblk m c 7 t) (iblk m c 8 t) (iblk m c 9 t) xo xs Set.univ K
      · rw [if_neg h3]
        exact run8B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc (Memref.isWhole_whole _) (fun h => h0 ((at_first t).mp h)) (fun h => absurd (hw.symm.trans ((at_piece0 t).mp h)) (by decide)) (fun h => absurd (hw.symm.trans ((at_piece1 t).mp h)) (by decide)) (fun h => absurd (hw.symm.trans ((at_piece2 t).mp h)) (by decide)) (fun h => absurd (hw.symm.trans ((at_piece3 t).mp h)) (by decide)) (fun h => absurd (hw.symm.trans ((at_piece4 t).mp h)) (by decide)) (fun h => absurd (hw.symm.trans ((at_piece5 t).mp h)) (by decide)) (fun h => absurd (hw.symm.trans ((at_piece6 t).mp h)) (by decide)) (fun h => absurd (hw.symm.trans ((at_piece7 t).mp h)) (by decide)) ((at_piece8 t).mpr hw) (fun h => h3 ((at_last t).mp h)) (iblk m c 0 t) (iblk m c 1 t) (iblk m c 2 t) (iblk m c 3 t) (iblk m c 4 t) (iblk m c 5 t) (iblk m c 6 t) (iblk m c 7 t) (iblk m c 8 t) (iblk m c 9 t) xo xs Set.univ K

/-! ## The pipeline's proof data -/

/-- The scratch buffer before position `n`: anything before the first point, then the sum the point before left. -/
def PhiS (c : Dev nD) : (n : ℕ) → n ≤ cfg0.N → sProp 𝕄
  | 0, _ => Pipeline.ΦA spec0 c
  | n + 1, hn => iprop(iprop(owns (c : Thread nD τ) sc fullShare (sumAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc fullShare (sumAt m c n hn)) ∗ (∃ r, prngReg c r)) := rfl

theorem PhiS_pos (c : Dev nD) (n : ℕ) (h : n ≤ cfg0.N) (hz : n ≠ 0) :
    PhiS m c n h = iprop(iprop(owns (c : Thread nD τ) sc fullShare (sumAt m c (n - 1) (by omega))) ∗ (∃ r, prngReg c r)) := by
  cases n with
  | zero => exact absurd rfl hz
  | succ n => rfl

/-- The arrays as the region finds them; after a point each input's buffer at its block and the result's at the
    rounded sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay5 (sumAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after0]

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after1]

theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl, after2]

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl, after3]

theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl, after4]

theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl, after5]

theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem leaves6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl, after6]

theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem leaves7 (c : Dev nD) (t : Fin cfg0.N) :
    (dats m 0 c).leavesExact 7 t = owns (c : Thread nD τ) (ms7 t) fullShare (iblk m c 7 t) := by
  unfold Dat.leavesExact; rw [show cfg0.idle 7 (grid0.coords t) = false from rfl, after7]

theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem leaves8 (c : Dev nD) (t : Fin cfg0.N) :
    (dats m 0 c).leavesExact 8 t = owns (c : Thread nD τ) (ms8 t) fullShare (iblk m c 8 t) := by
  unfold Dat.leavesExact; rw [show cfg0.idle 8 (grid0.coords t) = false from rfl, after8]

theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem leaves9 (c : Dev nD) (t : Fin cfg0.N) :
    (dats m 0 c).leavesExact 9 t = owns (c : Thread nD τ) (ms9 t) fullShare (iblk m c 9 t) := by
  unfold Dat.leavesExact; rw [show cfg0.idle 9 (grid0.coords t) = false from rfl, after9]

theorem after10 (c : Dev nD) (t : Fin cfg0.N) : (dats m 0 c).after 10 t = k0_pay5 (sumAt m c t.val t.isLt) := by
  dsimp only [dats]
theorem leaves10 (c : Dev nD) (t : Fin cfg0.N) (h : t.val % 4 = 3) :
    (dats m 0 c).leavesExact 10 t = owns (c : Thread nD τ) (ms10 t) fullShare (k0_pay5 (sumAt m c t.val t.isLt)) := by
  unfold Dat.leavesExact; rw [live_out t h, after10]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9]
  by_cases hz : t.val = 0
  · have hx : ∀ x, payAt m c t (if t.val % 4 = 0 then k0_pay6 else x) = sumAt m c t.val t.isLt := fun x => by
      rw [if_pos (by omega), sum_first m c t (by omega)]
    rw [PhiS_castSucc m c t, PhiS_zero m c _ _ hz, rest_eq]
    iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run m c t _ xs _ (hx xs) _)
    isplitl [H0 H1 H2 H3 H4 H5 H6 H7 H8 H9]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [HS]; · iexact HS
    unfold ins
    iintro ⟨⟨H0, H1, H2, H3, H4, H5, H6, H7, H8, H9⟩, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    by_cases h3 : t.val % 4 = 3
    · rw [leaves10 m c t h3, if_pos h3]; iexact H10
    · rw [Dat.leavesExact_idle (dats m 0 c) 10 t (idle_out t h3) (no_flush t h3), if_neg h3]; iexists _; iexact H10
  · have hx : payAt m c t (if t.val % 4 = 0 then k0_pay6 else sumAt m c (t.val - 1) (Nat.lt_of_le_of_lt (Nat.sub_le _ _) t.isLt))
        = sumAt m c t.val t.isLt := by
      by_cases h : t.val % 4 = 0
      · rw [if_pos h, sum_first m c t h]
      · rw [if_neg h, sum_next m c t h]
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run m c t _ _ _ hx _)
    isplitl [H0 H1 H2 H3 H4 H5 H6 H7 H8 H9]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [HS]; · iexact HS
    unfold ins
    iintro ⟨⟨H0, H1, H2, H3, H4, H5, H6, H7, H8, H9⟩, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    by_cases h3 : t.val % 4 = 3
    · rw [leaves10 m c t h3, if_pos h3]; iexact H10
    · rw [Dat.leavesExact_idle (dats m 0 c) 10 t (idle_out t h3) (no_flush t h3), if_neg h3]; iexists _; iexact H10

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 68 := N_0; omega), rest_eq]
  iintro ⟨HS, Hg⟩
  isplitl [HS]
  · iexists _; iexact HS
  iexact Hg

/-! ## The launch -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- THE FRAME: the arguments end as they were launched, every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel7Ideal.Run

end
-- ==== Proof.InProjDw.lean ====
/- The gradient of the network's first weight.

   The version keeps the columns of the incoming gradient in nine arrays: eight slices of 1024 columns, and the low-rank pieces, padded with
   zeros to 512 columns. A tile of 512 columns lies in one of them, and the rows of the batch are summed in four tiles. -/
module

public import proofs.«01_k».proof.Proof.InProjDwFrame
public import proofs.«01_k».proof.Proof.Gen.Reference7Ideal.Read
public import proofs.«01_k».proof.Proof.Place
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel7Ideal.Prod

open Cert.Kernel7Ideal Cert.Kernel7Ideal.Gen Cert.Kernel7Ideal.Run Cert.Place
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S4096x1024 .bf16 := m ((c.tc : Thread nD τ).loc main_arg0)
abbrev a1 (c : Dev nD) : FVec Ideal S4096x8480 .bf16 := m ((c.tc : Thread nD τ).loc main_arg1)

/-! ## What the launch finds -/

/-- The low-rank pieces: padded, side by side. -/
def lora (c : Dev nD) : FVec Ideal S4096x512 .bf16 := V m c main_v15

/-- The columns from 0. -/
def slab0 (c : Dev nD) : FVec Ideal S4096x1024 .bf16 := V m c main_v0

/-- The columns from 1024. -/
def slab1 (c : Dev nD) : FVec Ideal S4096x1024 .bf16 := V m c main_v1

/-- The columns from 2048. -/
def slab2 (c : Dev nD) : FVec Ideal S4096x1024 .bf16 := V m c main_v2

/-- The columns from 3360. -/
def slab3 (c : Dev nD) : FVec Ideal S4096x1024 .bf16 := V m c main_v3

/-- The columns from 4384. -/
def slab4 (c : Dev nD) : FVec Ideal S4096x1024 .bf16 := V m c main_v4

/-- The columns from 5408. -/
def slab5 (c : Dev nD) : FVec Ideal S4096x1024 .bf16 := V m c main_v5

/-- The columns from 6432. -/
def slab6 (c : Dev nD) : FVec Ideal S4096x1024 .bf16 := V m c main_v6

/-- The columns from 7456. -/
def slab7 (c : Dev nD) : FVec Ideal S4096x1024 .bf16 := V m c main_v7

/-- The integer zero as a number. -/
theorem zero_pad : (FloatOps.sitofp (F := Ideal) FTy.bf16 (0#32) : EReal) = 0 := by
  show (((0#32 : BitVec 32).toInt : ℝ) : EReal) = 0
  simp

set_option maxRecDepth 200000 in
/-- The low-rank pieces are the last columns in the version's order. -/
theorem lora_apply (c : Dev nD) (i : Fin 4096) (l : Fin 512) (p : Fin 8704) (hp : p.val = 8192 + l.val) :
    lora m c (ix2 i l) = spread (fun q => a1 m c (ix2 i q)) p := by
  unfold lora V V0
  simp only [hostOps0, hostOps0_1, hostOps0_2, hostOps0_3, hostOps0_4, hostOps0_5, hostOps0_6, List.flatten_cons,
    List.flatten_nil, List.append_nil, List.cons_append, List.nil_append]
  after_reads_at
  after_reads_at
  exact spread_high (fun q => a1 m c (ix2 i q)) p l _ zero_pad hp

set_option maxRecDepth 200000 in
theorem slab0_apply (c : Dev nD) (i : Fin 4096) (l : Fin 1024) : slab0 m c (ix2 i l) = a1 m c (ix2 i ⟨0 + l.val, by omega⟩) := by
  unfold slab0 V V0
  simp only [hostOps0, hostOps0_1, hostOps0_2, hostOps0_3, hostOps0_4, hostOps0_5, hostOps0_6, List.flatten_cons,
    List.flatten_nil, List.append_nil, List.cons_append, List.nil_append]
  after_reads_at

set_option maxRecDepth 200000 in
theorem slab1_apply (c : Dev nD) (i : Fin 4096) (l : Fin 1024) : slab1 m c (ix2 i l) = a1 m c (ix2 i ⟨1024 + l.val, by omega⟩) := by
  unfold slab1 V V0
  simp only [hostOps0, hostOps0_1, hostOps0_2, hostOps0_3, hostOps0_4, hostOps0_5, hostOps0_6, List.flatten_cons,
    List.flatten_nil, List.append_nil, List.cons_append, List.nil_append]
  after_reads_at

set_option maxRecDepth 200000 in
theorem slab2_apply (c : Dev nD) (i : Fin 4096) (l : Fin 1024) : slab2 m c (ix2 i l) = a1 m c (ix2 i ⟨2048 + l.val, by omega⟩) := by
  unfold slab2 V V0
  simp only [hostOps0, hostOps0_1, hostOps0_2, hostOps0_3, hostOps0_4, hostOps0_5, hostOps0_6, List.flatten_cons,
    List.flatten_nil, List.append_nil, List.cons_append, List.nil_append]
  after_reads_at

set_option maxRecDepth 200000 in
theorem slab3_apply (c : Dev nD) (i : Fin 4096) (l : Fin 1024) : slab3 m c (ix2 i l) = a1 m c (ix2 i ⟨3360 + l.val, by omega⟩) := by
  unfold slab3 V V0
  simp only [hostOps0, hostOps0_1, hostOps0_2, hostOps0_3, hostOps0_4, hostOps0_5, hostOps0_6, List.flatten_cons,
    List.flatten_nil, List.append_nil, List.cons_append, List.nil_append]
  after_reads_at

set_option maxRecDepth 200000 in
theorem slab4_apply (c : Dev nD) (i : Fin 4096) (l : Fin 1024) : slab4 m c (ix2 i l) = a1 m c (ix2 i ⟨4384 + l.val, by omega⟩) := by
  unfold slab4 V V0
  simp only [hostOps0, hostOps0_1, hostOps0_2, hostOps0_3, hostOps0_4, hostOps0_5, hostOps0_6, List.flatten_cons,
    List.flatten_nil, List.append_nil, List.cons_append, List.nil_append]
  after_reads_at

set_option maxRecDepth 200000 in
theorem slab5_apply (c : Dev nD) (i : Fin 4096) (l : Fin 1024) : slab5 m c (ix2 i l) = a1 m c (ix2 i ⟨5408 + l.val, by omega⟩) := by
  unfold slab5 V V0
  simp only [hostOps0, hostOps0_1, hostOps0_2, hostOps0_3, hostOps0_4, hostOps0_5, hostOps0_6, List.flatten_cons,
    List.flatten_nil, List.append_nil, List.cons_append, List.nil_append]
  after_reads_at

set_option maxRecDepth 200000 in
theorem slab6_apply (c : Dev nD) (i : Fin 4096) (l : Fin 1024) : slab6 m c (ix2 i l) = a1 m c (ix2 i ⟨6432 + l.val, by omega⟩) := by
  unfold slab6 V V0
  simp only [hostOps0, hostOps0_1, hostOps0_2, hostOps0_3, hostOps0_4, hostOps0_5, hostOps0_6, List.flatten_cons,
    List.flatten_nil, List.append_nil, List.cons_append, List.nil_append]
  after_reads_at

set_option maxRecDepth 200000 in
theorem slab7_apply (c : Dev nD) (i : Fin 4096) (l : Fin 1024) : slab7 m c (ix2 i l) = a1 m c (ix2 i ⟨7456 + l.val, by omega⟩) := by
  unfold slab7 V V0
  simp only [hostOps0, hostOps0_1, hostOps0_2, hostOps0_3, hostOps0_4, hostOps0_5, hostOps0_6, List.flatten_cons,
    List.flatten_nil, List.append_nil, List.cons_append, List.nil_append]
  after_reads_at

/-! ## Which blocks a grid point stages -/

theorem idx0 : ∀ t : Fin cfg0.N, win0_0.index t = ![t.val % 4, 0] :=
  (by decide +kernel : ∀ t : Fin grid0.N, _)

theorem idx1 : ∀ t : Fin cfg0.N, win0_1.index t = ![if t.val / 8 = 0 then t.val % 4 else 0, min (t.val / 4 - 0) 1] :=
  (by decide +kernel : ∀ t : Fin grid0.N, _)

theorem idx2 : ∀ t : Fin cfg0.N, win0_2.index t = ![if t.val / 8 = 1 then t.val % 4 else 0, min (t.val / 4 - 2) 1] :=
  (by decide +kernel : ∀ t : Fin grid0.N, _)

theorem idx3 : ∀ t : Fin cfg0.N, win0_3.index t = ![if t.val / 8 = 2 then t.val % 4 else 0, min (t.val / 4 - 4) 1] :=
  (by decide +kernel : ∀ t : Fin grid0.N, _)

theorem idx4 : ∀ t : Fin cfg0.N, win0_4.index t = ![if t.val / 8 = 3 then t.val % 4 else 0, min (t.val / 4 - 6) 1] :=
  (by decide +kernel : ∀ t : Fin grid0.N, _)

theorem idx5 : ∀ t : Fin cfg0.N, win0_5.index t = ![if t.val / 8 = 4 then t.val % 4 else 0, min (t.val / 4 - 8) 1] :=
  (by decide +kernel : ∀ t : Fin grid0.N, _)

theorem idx6 : ∀ t : Fin cfg0.N, win0_6.index t = ![if t.val / 8 = 5 then t.val % 4 else 0, min (t.val / 4 - 10) 1] :=
  (by decide +kernel : ∀ t : Fin grid0.N, _)

theorem idx7 : ∀ t : Fin cfg0.N, win0_7.index t = ![if t.val / 8 = 6 then t.val % 4 else 0, min (t.val / 4 - 12) 1] :=
  (by decide +kernel : ∀ t : Fin grid0.N, _)

theorem idx8 : ∀ t : Fin cfg0.N, win0_8.index t = ![if t.val / 8 = 7 then t.val % 4 else 0, min (t.val / 4 - 14) 1] :=
  (by decide +kernel : ∀ t : Fin grid0.N, _)

theorem idx9 : ∀ t : Fin cfg0.N, win0_9.index t = ![if t.val / 8 = 8 then t.val % 4 else 0, min (t.val / 4 - 16) 0] :=
  (by decide +kernel : ∀ t : Fin grid0.N, _)

theorem idx10 : ∀ t : Fin cfg0.N, win0_10.index t = ![t.val / 4, 0] :=
  (by decide +kernel : ∀ t : Fin grid0.N, _)

theorem block0 (c : Dev nD) (t : Fin cfg0.N) (r : Fin 1024) (k : Fin 512) (i : Fin 4096) (l : Fin 1024) (ht : t.val / 8 = 0)
    (hi : i.val = t.val % 4 * 1024 + r.val) (hl : l.val = min (t.val / 4 - 0) 1 * 512 + k.val) :
    (iblk m c 1 t : FVec Ideal S1024x512 .bf16) (ix2 r k) = slab0 m c (ix2 i l) := by
  show slab0 m c (((cfg0.win 1).blk t).view.emb (ix2 r k)) = _
  generalize slab0 m c = W
  refine congrArg W (funext fun a => Fin.ext ?_)
  match a with
  | ⟨0, _⟩ => blk_simp [idx1 t, if_pos ht, hi]
  | ⟨1, _⟩ => blk_simp [idx1 t, hl]

theorem block1 (c : Dev nD) (t : Fin cfg0.N) (r : Fin 1024) (k : Fin 512) (i : Fin 4096) (l : Fin 1024) (ht : t.val / 8 = 1)
    (hi : i.val = t.val % 4 * 1024 + r.val) (hl : l.val = min (t.val / 4 - 2) 1 * 512 + k.val) :
    (iblk m c 2 t : FVec Ideal S1024x512 .bf16) (ix2 r k) = slab1 m c (ix2 i l) := by
  show slab1 m c (((cfg0.win 2).blk t).view.emb (ix2 r k)) = _
  generalize slab1 m c = W
  refine congrArg W (funext fun a => Fin.ext ?_)
  match a with
  | ⟨0, _⟩ => blk_simp [idx2 t, if_pos ht, hi]
  | ⟨1, _⟩ => blk_simp [idx2 t, hl]

theorem block2 (c : Dev nD) (t : Fin cfg0.N) (r : Fin 1024) (k : Fin 512) (i : Fin 4096) (l : Fin 1024) (ht : t.val / 8 = 2)
    (hi : i.val = t.val % 4 * 1024 + r.val) (hl : l.val = min (t.val / 4 - 4) 1 * 512 + k.val) :
    (iblk m c 3 t : FVec Ideal S1024x512 .bf16) (ix2 r k) = slab2 m c (ix2 i l) := by
  show slab2 m c (((cfg0.win 3).blk t).view.emb (ix2 r k)) = _
  generalize slab2 m c = W
  refine congrArg W (funext fun a => Fin.ext ?_)
  match a with
  | ⟨0, _⟩ => blk_simp [idx3 t, if_pos ht, hi]
  | ⟨1, _⟩ => blk_simp [idx3 t, hl]

theorem block3 (c : Dev nD) (t : Fin cfg0.N) (r : Fin 1024) (k : Fin 512) (i : Fin 4096) (l : Fin 1024) (ht : t.val / 8 = 3)
    (hi : i.val = t.val % 4 * 1024 + r.val) (hl : l.val = min (t.val / 4 - 6) 1 * 512 + k.val) :
    (iblk m c 4 t : FVec Ideal S1024x512 .bf16) (ix2 r k) = slab3 m c (ix2 i l) := by
  show slab3 m c (((cfg0.win 4).blk t).view.emb (ix2 r k)) = _
  generalize slab3 m c = W
  refine congrArg W (funext fun a => Fin.ext ?_)
  match a with
  | ⟨0, _⟩ => blk_simp [idx4 t, if_pos ht, hi]
  | ⟨1, _⟩ => blk_simp [idx4 t, hl]

theorem block4 (c : Dev nD) (t : Fin cfg0.N) (r : Fin 1024) (k : Fin 512) (i : Fin 4096) (l : Fin 1024) (ht : t.val / 8 = 4)
    (hi : i.val = t.val % 4 * 1024 + r.val) (hl : l.val = min (t.val / 4 - 8) 1 * 512 + k.val) :
    (iblk m c 5 t : FVec Ideal S1024x512 .bf16) (ix2 r k) = slab4 m c (ix2 i l) := by
  show slab4 m c (((cfg0.win 5).blk t).view.emb (ix2 r k)) = _
  generalize slab4 m c = W
  refine congrArg W (funext fun a => Fin.ext ?_)
  match a with
  | ⟨0, _⟩ => blk_simp [idx5 t, if_pos ht, hi]
  | ⟨1, _⟩ => blk_simp [idx5 t, hl]

theorem block5 (c : Dev nD) (t : Fin cfg0.N) (r : Fin 1024) (k : Fin 512) (i : Fin 4096) (l : Fin 1024) (ht : t.val / 8 = 5)
    (hi : i.val = t.val % 4 * 1024 + r.val) (hl : l.val = min (t.val / 4 - 10) 1 * 512 + k.val) :
    (iblk m c 6 t : FVec Ideal S1024x512 .bf16) (ix2 r k) = slab5 m c (ix2 i l) := by
  show slab5 m c (((cfg0.win 6).blk t).view.emb (ix2 r k)) = _
  generalize slab5 m c = W
  refine congrArg W (funext fun a => Fin.ext ?_)
  match a with
  | ⟨0, _⟩ => blk_simp [idx6 t, if_pos ht, hi]
  | ⟨1, _⟩ => blk_simp [idx6 t, hl]

theorem block6 (c : Dev nD) (t : Fin cfg0.N) (r : Fin 1024) (k : Fin 512) (i : Fin 4096) (l : Fin 1024) (ht : t.val / 8 = 6)
    (hi : i.val = t.val % 4 * 1024 + r.val) (hl : l.val = min (t.val / 4 - 12) 1 * 512 + k.val) :
    (iblk m c 7 t : FVec Ideal S1024x512 .bf16) (ix2 r k) = slab6 m c (ix2 i l) := by
  show slab6 m c (((cfg0.win 7).blk t).view.emb (ix2 r k)) = _
  generalize slab6 m c = W
  refine congrArg W (funext fun a => Fin.ext ?_)
  match a with
  | ⟨0, _⟩ => blk_simp [idx7 t, if_pos ht, hi]
  | ⟨1, _⟩ => blk_simp [idx7 t, hl]

theorem block7 (c : Dev nD) (t : Fin cfg0.N) (r : Fin 1024) (k : Fin 512) (i : Fin 4096) (l : Fin 1024) (ht : t.val / 8 = 7)
    (hi : i.val = t.val % 4 * 1024 + r.val) (hl : l.val = min (t.val / 4 - 14) 1 * 512 + k.val) :
    (iblk m c 8 t : FVec Ideal S1024x512 .bf16) (ix2 r k) = slab7 m c (ix2 i l) := by
  show slab7 m c (((cfg0.win 8).blk t).view.emb (ix2 r k)) = _
  generalize slab7 m c = W
  refine congrArg W (funext fun a => Fin.ext ?_)
  match a with
  | ⟨0, _⟩ => blk_simp [idx8 t, if_pos ht, hi]
  | ⟨1, _⟩ => blk_simp [idx8 t, hl]

theorem block8 (c : Dev nD) (t : Fin cfg0.N) (r : Fin 1024) (k : Fin 512) (i : Fin 4096) (l : Fin 512) (ht : t.val / 8 = 8)
    (hi : i.val = t.val % 4 * 1024 + r.val) (hl : l.val = min (t.val / 4 - 16) 0 * 512 + k.val) :
    (iblk m c 9 t : FVec Ideal S1024x512 .bf16) (ix2 r k) = lora m c (ix2 i l) := by
  show lora m c (((cfg0.win 9).blk t).view.emb (ix2 r k)) = _
  generalize lora m c = W
  refine congrArg W (funext fun a => Fin.ext ?_)
  match a with
  | ⟨0, _⟩ => blk_simp [idx9 t, if_pos ht, hi]
  | ⟨1, _⟩ => blk_simp [idx9 t, hl]

/-- The block whose columns a grid point multiplies. -/
def piece (c : Dev nD) (t : Fin cfg0.N) : FVec Ideal S1024x512 .bf16 :=
  match t.val / 8 with
  | 0 => iblk m c 1 t
  | 1 => iblk m c 2 t
  | 2 => iblk m c 3 t
  | 3 => iblk m c 4 t
  | 4 => iblk m c 5 t
  | 5 => iblk m c 6 t
  | 6 => iblk m c 7 t
  | 7 => iblk m c 8 t
  | _ => iblk m c 9 t

/-- It is columns of the incoming gradient in the version's order. -/
theorem piece_apply (c : Dev nD) (t : Fin cfg0.N) (r : Fin 1024) (k : Fin 512) (i : Fin 4096) (p : Fin 8704)
    (hi : i.val = t.val % 4 * 1024 + r.val) (hp : p.val = t.val / 4 * 512 + k.val) :
    piece m c t (ix2 r k) = spread (fun q => a1 m c (ix2 i q)) p := by
  have hk := k.isLt
  have hN : t.val < 68 := lt_of_lt_of_eq t.isLt N_0
  have hc : t.val / 8 = 0 ∨ t.val / 8 = 1 ∨ t.val / 8 = 2 ∨ t.val / 8 = 3 ∨ t.val / 8 = 4 ∨ t.val / 8 = 5 ∨ t.val / 8 = 6 ∨ t.val / 8 = 7 ∨ t.val / 8 = 8 := by omega
  rcases hc with h | h | h | h | h | h | h | h | h
  · have e : piece m c t = iblk m c 1 t := by unfold piece; rw [h]; rfl
    rw [e]
    refine (block0 m c t r k i ⟨p.val - 0, by omega⟩ h hi (by dsimp only; omega)).trans ((slab0_apply m c i _).trans ?_)
    exact spread_low (fun q => a1 m c (ix2 i q)) p _ (by omega) (by dsimp only; omega)
  · have e : piece m c t = iblk m c 2 t := by unfold piece; rw [h]; rfl
    rw [e]
    refine (block1 m c t r k i ⟨p.val - 1024, by omega⟩ h hi (by dsimp only; omega)).trans ((slab1_apply m c i _).trans ?_)
    exact spread_low (fun q => a1 m c (ix2 i q)) p _ (by omega) (by dsimp only; omega)
  · have e : piece m c t = iblk m c 3 t := by unfold piece; rw [h]; rfl
    rw [e]
    refine (block2 m c t r k i ⟨p.val - 2048, by omega⟩ h hi (by dsimp only; omega)).trans ((slab2_apply m c i _).trans ?_)
    exact spread_low (fun q => a1 m c (ix2 i q)) p _ (by omega) (by dsimp only; omega)
  · have e : piece m c t = iblk m c 4 t := by unfold piece; rw [h]; rfl
    rw [e]
    refine (block3 m c t r k i ⟨p.val - 3072, by omega⟩ h hi (by dsimp only; omega)).trans ((slab3_apply m c i _).trans ?_)
    exact spread_mid (fun q => a1 m c (ix2 i q)) p _ (by omega) (by omega) (by dsimp only; omega)
  · have e : piece m c t = iblk m c 5 t := by unfold piece; rw [h]; rfl
    rw [e]
    refine (block4 m c t r k i ⟨p.val - 4096, by omega⟩ h hi (by dsimp only; omega)).trans ((slab4_apply m c i _).trans ?_)
    exact spread_mid (fun q => a1 m c (ix2 i q)) p _ (by omega) (by omega) (by dsimp only; omega)
  · have e : piece m c t = iblk m c 6 t := by unfold piece; rw [h]; rfl
    rw [e]
    refine (block5 m c t r k i ⟨p.val - 5120, by omega⟩ h hi (by dsimp only; omega)).trans ((slab5_apply m c i _).trans ?_)
    exact spread_mid (fun q => a1 m c (ix2 i q)) p _ (by omega) (by omega) (by dsimp only; omega)
  · have e : piece m c t = iblk m c 7 t := by unfold piece; rw [h]; rfl
    rw [e]
    refine (block6 m c t r k i ⟨p.val - 6144, by omega⟩ h hi (by dsimp only; omega)).trans ((slab6_apply m c i _).trans ?_)
    exact spread_mid (fun q => a1 m c (ix2 i q)) p _ (by omega) (by omega) (by dsimp only; omega)
  · have e : piece m c t = iblk m c 8 t := by unfold piece; rw [h]; rfl
    rw [e]
    refine (block7 m c t r k i ⟨p.val - 7168, by omega⟩ h hi (by dsimp only; omega)).trans ((slab7_apply m c i _).trans ?_)
    exact spread_mid (fun q => a1 m c (ix2 i q)) p _ (by omega) (by omega) (by dsimp only; omega)
  · have e : piece m c t = iblk m c 9 t := by unfold piece; rw [h]; rfl
    rw [e]
    refine (block8 m c t r k i ⟨p.val - 8192, by omega⟩ h hi (by dsimp only; omega)).trans ?_
    exact lora_apply m c i _ p (by dsimp only; omega)

/-! ## The running sum -/

/-- The product of the transpose of one block with another. -/
def prod (x : FVec Ideal S1024x512 .bf16) (y : FVec Ideal S1024x1024 .bf16) : FVec Ideal S512x1024 .f32 :=
  fun i => ∑ k : Fin 1024, x (ix2 k (i 0)) * y (ix2 k (i 1))

/-- What a step leaves in the running sum. -/
theorem pay1 (a : FVec Ideal S512x1024 .f32) (x : FVec Ideal S1024x512 .bf16) (y : FVec Ideal S1024x1024 .bf16)
    (i : S512x1024.Idx) : k0_pay1 (F := Ideal) a x y i = a i + prod x y i := by
  unfold prod
  idx_vars i
  pointwise [k0_pay1]

/-- The running sum starts at zero. -/
theorem pay6 (i : S512x1024.Idx) : k0_pay6 (F := Ideal) i = 0 := by
  idx_vars i
  pointwise [k0_pay6]

/-- What a grid point adds. -/
theorem pay_apply (c : Dev nD) (t : Fin cfg0.N) (a : FVec Ideal S512x1024 .f32) (i : S512x1024.Idx) :
    payAt (F := Ideal) m c t a i = a i + prod (piece m c t) (iblk m c 0 t) i := by
  have hN : t.val < 68 := lt_of_lt_of_eq t.isLt N_0
  have hc : t.val / 8 = 0 ∨ t.val / 8 = 1 ∨ t.val / 8 = 2 ∨ t.val / 8 = 3 ∨ t.val / 8 = 4 ∨ t.val / 8 = 5 ∨ t.val / 8 = 6 ∨ t.val / 8 = 7 ∨ t.val / 8 = 8 := by omega
  rcases hc with h | h | h | h | h | h | h | h | h
  · have e : piece m c t = iblk m c 1 t := by unfold piece; rw [h]; rfl
    have e' : payAt (F := Ideal) m c t a = k0_pay1 a (iblk m c 1 t) (iblk m c 0 t) := by unfold payAt; rw [h]; rfl
    rw [e, e']
    exact pay1 _ _ _ i
  · have e : piece m c t = iblk m c 2 t := by unfold piece; rw [h]; rfl
    have e' : payAt (F := Ideal) m c t a = k0_pay1 a (iblk m c 2 t) (iblk m c 0 t) := by unfold payAt; rw [h]; rfl
    rw [e, e']
    exact pay1 _ _ _ i
  · have e : piece m c t = iblk m c 3 t := by unfold piece; rw [h]; rfl
    have e' : payAt (F := Ideal) m c t a = k0_pay1 a (iblk m c 3 t) (iblk m c 0 t) := by unfold payAt; rw [h]; rfl
    rw [e, e']
    exact pay1 _ _ _ i
  · have e : piece m c t = iblk m c 4 t := by unfold piece; rw [h]; rfl
    have e' : payAt (F := Ideal) m c t a = k0_pay1 a (iblk m c 4 t) (iblk m c 0 t) := by unfold payAt; rw [h]; rfl
    rw [e, e']
    exact pay1 _ _ _ i
  · have e : piece m c t = iblk m c 5 t := by unfold piece; rw [h]; rfl
    have e' : payAt (F := Ideal) m c t a = k0_pay1 a (iblk m c 5 t) (iblk m c 0 t) := by unfold payAt; rw [h]; rfl
    rw [e, e']
    exact pay1 _ _ _ i
  · have e : piece m c t = iblk m c 6 t := by unfold piece; rw [h]; rfl
    have e' : payAt (F := Ideal) m c t a = k0_pay1 a (iblk m c 6 t) (iblk m c 0 t) := by unfold payAt; rw [h]; rfl
    rw [e, e']
    exact pay1 _ _ _ i
  · have e : piece m c t = iblk m c 7 t := by unfold piece; rw [h]; rfl
    have e' : payAt (F := Ideal) m c t a = k0_pay1 a (iblk m c 7 t) (iblk m c 0 t) := by unfold payAt; rw [h]; rfl
    rw [e, e']
    exact pay1 _ _ _ i
  · have e : piece m c t = iblk m c 8 t := by unfold piece; rw [h]; rfl
    have e' : payAt (F := Ideal) m c t a = k0_pay1 a (iblk m c 8 t) (iblk m c 0 t) := by unfold payAt; rw [h]; rfl
    rw [e, e']
    exact pay1 _ _ _ i
  · have e : piece m c t = iblk m c 9 t := by unfold piece; rw [h]; rfl
    have e' : payAt (F := Ideal) m c t a = k0_pay1 a (iblk m c 9 t) (iblk m c 0 t) := by unfold payAt; rw [h]; rfl
    rw [e, e']
    exact pay1 _ _ _ i

/-- The running sum at the point that stores it. -/
theorem acc (c : Dev nD) (t : Fin cfg0.N) (ht : t.val % 4 = 3) (i : S512x1024.Idx) :
    sumAt (F := Ideal) m c t.val t.isLt i = 0 + ∑ s : Fin 4, prod
      (piece m c ⟨4 * (t.val / 4) + s.val, by omega⟩) (iblk m c 0 ⟨4 * (t.val / 4) + s.val, by omega⟩) i :=
  Pipeline.eq_sum_fin_of_reset_step_apply_of_flush (fun n h => sumAt (F := Ideal) m c n h) 4 (fun _ => 0)
    (fun t => prod (piece m c t) (iblk m c 0 t))
    (fun t h j => by
      show sumAt (F := Ideal) m c t.val t.isLt j = _
      rw [sum_first m c t h, pay_apply, pay6])
    (fun t h j => by
      show sumAt (F := Ideal) m c t.val t.isLt j = _
      rw [sum_next m c t h, pay_apply]) t ht i

/-- What the launch leaves. -/
def arr (c : Dev nD) : FVec Ideal S8704x1024 .bf16 := (dats (F := Ideal) m 0 c).arrAt 10 (cfgs 0).N

/-- The launch's array, entry by entry. -/
theorem final (c : Dev nD) : arr m c
    = fun i => ∑ r : Fin 4096, spread (fun q => a1 m c (ix2 r q)) (i 0) * a0 m c (ix2 r (i 1)) := by
  refine (dats (F := Ideal) m 0 c).arrAt_eq_of_covers 10 _ (by decide +kernel) fun t hf y => ?_
  have hm := (flush0_10 t).mp hf
  blk_simp
  rw [after10]
  have ht : t.val < 68 := lt_of_lt_of_eq t.isLt N_0
  refine Eq.trans (b := sumAt (F := Ideal) m c t.val t.isLt _) rfl ?_
  refine (acc m c t hm _).trans ?_
  idx_vars y
  have he : ((View.whole main_v16).slice (win0_10.rect t)).emb (ix2 y0 y1)
      = ix2 ⟨t.val / 4 * 512 + y0.val, by omega⟩ y1 := by
    refine funext fun a => Fin.ext ?_
    match a with
    | ⟨0, _⟩ => blk_simp [idx10 t]
    | ⟨1, _⟩ => blk_simp [idx10 t]
  rw [he, zero_add]
  unfold prod
  refine Fin.sum_mul_add_congr fun s k hl => ?_
  have hs : (4 * (t.val / 4) + s.val) % 4 = s.val ∧ (4 * (t.val / 4) + s.val) / 4 = t.val / 4 := by
    constructor <;> omega
  refine congrArg₂ (· * ·) ?_ ?_
  · exact piece_apply m c _ k y0 _ _ (by dsimp only; rw [hs.1]) (by dsimp only; rw [hs.2]; rfl)
  · blk_point [iblk, V, idx0 ⟨4 * (t.val / 4) + s.val, lt_of_lt_of_eq (by omega) N_0.symm⟩]

/-- What the host makes of it. -/
abbrev res (c : Dev nD) : FVec Ideal S1024x8480 .bf16 :=
  Pipeline.afterTail₀ cfgs (dats (F := Ideal) m) 0 (V0 m) [hostOps1] c main_v25

set_option maxHeartbeats 2000000 in
/-- A column of the result is the launch's row at its place. -/
theorem res_apply (c : Dev nD) (i : Fin 1024) (j : Fin 8480) : res m c (ix2 i j) = arr m c (ix2 (place j) i) := by
  have hj := j.isLt
  have hp := place_cases j
  generalize place j = p at hp
  unfold res arr Pipeline.afterTail₀
  rw [← Pipeline.withArrays_arr (cfgs 0).spec (by decide) c (V0 m c) (fun w => (dats (F := Ideal) m 0 c).arrAt w (cfgs 0).N) 10]
  simp only [hostOps1, List.flatten_cons, List.flatten_nil, List.append_nil]
  generalize (Pipeline.withArrays (cfgs 0).spec c (V0 m c) fun w => (dats (F := Ideal) m 0 c).arrAt w (cfgs 0).N) = W
  after_reads_at
  after_reads_at
  after_reads_at
  rcases hp with hp | hp | hp | hp | hp <;> split_ifs <;> first
    | (exfalso; omega)
    | exact congrArg (fun q : Fin 8704 => (W (Proc.tc.devRef main_v16) : FVec Ideal S8704x1024 .bf16) (ix2 q i))
        (Fin.ext (by dsimp only; omega))

/-- The kernel's result is the reference's. -/
theorem result (c : Dev nD) : res m c = Cert.Reference7Ideal.Read.val_main_v7 (F := Ideal) (a0 m c) (a1 m c) := by
  funext y
  idx_vars y
  rw [res_apply, final]
  show _ = Cert.Reference7Ideal.Read.val_main_v5 (F := Ideal) (a0 m c) (a1 m c) (ix2 y0 y1)
  rw [Cert.Reference7Ideal.Read.val_main_v5_apply, Cert.Reference7Ideal.Read.val_main_v4_apply]
  refine Finset.sum_congr rfl fun k _ => ?_
  rw [Cert.Reference7Ideal.Read.val_main_v3_apply, Cert.Reference7Ideal.Read.val_main_v1_apply]
  show spread (fun q => a1 m c (ix2 k q)) (place y1) * a0 m c (ix2 k y0) = _
  rw [spread_place]
  refine congrArg₂ (· * ·) (congrArg (a1 m c) (funext fun a => ?_)) (congrArg (a0 m c) (funext fun a => ?_))
  · match a with
    | ⟨0, _⟩ => rfl
    | ⟨1, _⟩ => rfl
  · match a with
    | ⟨0, _⟩ => rfl
    | ⟨1, _⟩ => rfl

end Cert.Kernel7Ideal.Prod

end
-- ==== Proof.InProjDwBits.lean ====
module

public import proofs.«01_k».proof.Proof.InProjDwFrame
public import proofs.«01_k».proof.Kernel7
public import proofs.«01_k».proof.Proof.Gen.Kernel7

@[expose] public section

/-! The frame of the program read at bit patterns. The two programs of this call have the same text, so
the run of the one is the run of the other: their bodies agree label by label, and the rest by unfolding. -/

set_option maxRecDepth 100000

noncomputable section

namespace Cert.Kernel7.Run

open Cert.Kernel7 Cert.Kernel7.Gen
open Idealize.ShloMosaic Idealize.ShloMosaic.TcCoe
open Idealize.SL Idealize.SL.RA Idealize.SL.BI Idealize.SL.Sem

variable {F : FTy → Type} [FloatOps F]

/-- The body's row of the table of labels is the same. -/
theorem rows : (defs₀ (F := F)) = Cert.Kernel7Ideal.defs₀ :=
  congrArg Defs.onTc (funext fun l => funext fun a => match l, a with
    | ⟨0, _⟩, (_, _) => rfl)

/-- The tables of labels are the same. -/
theorem tables : (defs (F := F)) = Cert.Kernel7Ideal.defs := congrArg (Pipeline.defs pcfgs) rows

set_option maxHeartbeats 2000000 in
/-- The arguments end as they were launched, every semaphore at zero. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (congrArg (fun d => θ_run d (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)) tables).mpr (Cert.Kernel7Ideal.Run.frame_run (F := F) m ρ)

end Cert.Kernel7.Run

end
-- ==== Proof.InProj.lean ====
/- The network's first product. -/
module

public import proofs.«01_k».proof.Proof.Gen.Kernel8Ideal.Frame
public import proofs.«01_k».proof.Proof.Gen.Reference8Ideal.Read
public import proofs.«01_k».proof.Proof.Place
public import Idealize.ShloMosaic.Lib.Pipeline.ValueKit
public import Idealize.ShloMosaic.Lib.StableHlo.ReadAt

@[expose] public section

set_option maxRecDepth 16384

noncomputable section

namespace Cert.Kernel8Ideal.Prod

open Cert.Kernel8Ideal Cert.Kernel8Ideal.Gen Cert.Place
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val / 17, 0] ∧ win0_1.index t = ![t.val % 17, 0]
    ∧ win0_2.index t = ![t.val / 17, t.val % 17] :=
  (by decide +kernel : ∀ t : Fin grid0.N, _)

abbrev a0 (c : Dev nD) : FVec Ideal S4096x1024 .bf16 := m ((c.tc : Thread nD τ).loc main_arg0)
abbrev a1 (c : Dev nD) : FVec Ideal S1024x8480 .f32 := m ((c.tc : Thread nD τ).loc main_arg1)

/-- The weights as the launch finds them: transposed, their rows in the version's order. -/
def wts (c : Dev nD) : FVec Ideal S8704x1024 .bf16 := V m c main_v12

/-- What the launch leaves. -/
def arr (c : Dev nD) : FVec Ideal S4096x8704 .f32 := (dats m 0 c).arrAt 2 (cfgs 0).N

/-- What the host makes of it. -/
abbrev res (c : Dev nD) : FVec Ideal S4096x8480 .f32 := Pipeline.afterTail₀ cfgs (dats m) 0 (V0 m) [hostOps1] c main_v21

set_option maxRecDepth 200000 in
/-- A row of the launch's weights is the column of the argument that has its place there. -/
theorem wts_place (c : Dev nD) (j : Fin 8480) (k : Fin 1024) : wts m c (ix2 (place j) k) = a1 m c (ix2 k j) := by
  generalize hp : place j = p
  unfold wts V V0
  simp only [hostOps0, hostOps0_1, hostOps0_2, hostOps0_3, hostOps0_4, hostOps0_5, hostOps0_6, List.flatten_cons,
    List.flatten_nil, List.append_nil, List.cons_append, List.nil_append]
  after_reads_at
  after_reads_at
  after_reads_at
  exact ladder (fun q => a1 m c (ix2 k q)) _ j p hp

/-- A column of the result is the launch's column at its place. -/
theorem res_apply (c : Dev nD) (i : Fin 4096) (j : Fin 8480) : res m c (ix2 i j) = arr m c (ix2 i (place j)) := by
  have hj := j.isLt
  have hp := place_cases j
  generalize place j = p at hp
  unfold res arr Pipeline.afterTail₀
  rw [← Pipeline.withArrays_arr (cfgs 0).spec (by decide) c (V0 m c) (fun w => (dats m 0 c).arrAt w (cfgs 0).N) 2]
  simp only [hostOps1, List.flatten_cons, List.flatten_nil, List.append_nil]
  generalize (Pipeline.withArrays (cfgs 0).spec c (V0 m c) fun w => (dats m 0 c).arrAt w (cfgs 0).N) = W
  after_reads_at
  after_reads_at
  after_reads_at
  rcases hp with hp | hp | hp | hp | hp <;> split_ifs <;> first
    | (exfalso; omega)
    | exact congrArg (fun q : Fin 8704 => (W (Proc.tc.devRef main_v13) : FVec Ideal S4096x8704 .f32) (ix2 i q))
        (Fin.ext (by dsimp only; omega))

/-- The product of two blocks, entry by entry. -/
theorem pay1 (x : FVec Ideal S2048x1024 .bf16) (y : FVec Ideal S512x1024 .bf16) (i : Fin 2048) (j : Fin 512) :
    k0_pay1 (F := Ideal) x y (ix2 i j) = ∑ k : Fin 1024, x (ix2 i k) * y (ix2 j k) := by
  pointwise [k0_pay1]

/-- A block of the weights, entry by entry. -/
theorem wts_block (c : Dev nD) (t : Fin cfg0.N) (j : Fin 512) (k : Fin 1024) (p : Fin 8704) (hp : p.val = t.val % 17 * 512 + j.val) :
    (iblk m c 1 t : FVec Ideal S512x1024 .bf16) (ix2 j k) = wts m c (ix2 p k) := by
  show wts m c (((cfg0.win 1).blk t).view.emb (ix2 j k)) = _
  generalize wts m c = W
  refine congrArg W (funext fun a => Fin.ext ?_)
  match a with
  | ⟨0, _⟩ => blk_simp [idx t, hp]
  | ⟨1, _⟩ => blk_simp [idx t, hp]

/-- The launch's array, entry by entry. -/
theorem final (c : Dev nD) : arr m c = fun i => ∑ k : Fin 1024, a0 m c (ix2 (i 0) k) * wts m c (ix2 (i 1) k) := by
  refine (dats m 0 c).arrAt_eq_of_covers 2 _ (by decide +kernel) fun t hf y => ?_
  blk_simp
  rw [after0_2]
  have ht : t.val < 34 := lt_of_lt_of_eq t.isLt N_0
  unfold out0_2
  frame_out
  idx_vars y
  have he : ((View.whole main_v13).slice (win0_2.rect t)).emb (ix2 y0 y1)
      = ix2 ⟨t.val / 17 * 2048 + y0.val, by omega⟩ ⟨t.val % 17 * 512 + y1.val, by omega⟩ := by
    refine funext fun a => Fin.ext ?_
    match a with
    | ⟨0, _⟩ => blk_simp [idx t]
    | ⟨1, _⟩ => blk_simp [idx t]
  rw [he]
  refine (pay1 _ _ y0 y1).trans ?_
  refine Finset.sum_congr rfl fun k _ => ?_
  refine congrArg₂ (· * ·) ?_ ?_
  · blk_point [iblk, V, idx t]
  · exact wts_block m c t y1 k _ rfl

/-- The kernel's result is the reference's. -/
theorem result (c : Dev nD) : res m c = Cert.Reference8Ideal.Read.val_main_v1 (F := Ideal) (a0 m c) (a1 m c) := by
  funext y
  idx_vars y
  rw [res_apply, final, Cert.Reference8Ideal.Read.val_main_v1_apply]
  refine Finset.sum_congr rfl fun k _ => ?_
  rw [Cert.Reference8Ideal.Read.val_main_v0_apply]
  show a0 m c (ix2 y0 k) * wts m c (ix2 (place y1) k) = _
  rw [wts_place]
  refine congrArg₂ (· * ·) (congrArg (a0 m c) (funext fun a => ?_)) (congrArg (a1 m c) (funext fun a => ?_))
  · match a with
    | ⟨0, _⟩ => rfl
    | ⟨1, _⟩ => rfl
  · match a with
    | ⟨0, _⟩ => rfl
    | ⟨1, _⟩ => rfl

end Cert.Kernel8Ideal.Prod

end
-- ==== Proof.FfnIn.lean ====
/- The gated network's first product. -/
module

public import proofs.«01_k».proof.Proof.Gen.Kernel9Ideal.Frame
public import proofs.«01_k».proof.Proof.Gen.Reference9Ideal.Read
public import Idealize.ShloMosaic.Lib.Pipeline.ValueKit

@[expose] public section

set_option maxRecDepth 16384

noncomputable section

namespace Cert.Kernel9Ideal.Prod

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

abbrev a0 (c : Dev nD) : FVec Ideal S4096x1024 .bf16 := m ((c.tc : Thread nD τ).loc main_arg0)
abbrev a1 (c : Dev nD) : FVec Ideal S1024x5632 .f32 := m ((c.tc : Thread nD τ).loc main_arg1)

/-- The product of two blocks, entry by entry. -/
theorem pay1 (x : FVec Ideal S2048x1024 .bf16) (y : FVec Ideal S1408x1024 .bf16) (i : Fin 2048) (j : Fin 1408) :
    k0_pay1 (F := Ideal) x y (ix2 i j) = ∑ k : Fin 1024, x (ix2 i k) * y (ix2 j k) := by
  pointwise [k0_pay1]

/-- The kernel's array is the reference's. -/
theorem final (c : Dev nD) : (dats m 0 c).arrAt 2 (cfgs 0).N
    = Cert.Reference9Ideal.Read.val_main_v2 (F := Ideal) (a0 m c) (a1 m c) := by
  refine (dats m 0 c).arrAt_eq_of_covers 2 _ (by decide +kernel) fun t hf y => ?_
  blk_simp
  rw [after0_2]
  have ht : t.val < 8 := lt_of_lt_of_eq t.isLt N_0
  unfold out0_2
  frame_out
  idx_vars y
  have he : ((View.whole main_v2).slice (win0_2.rect t)).emb (ix2 y0 y1)
      = ix2 ⟨t.val / 4 * 2048 + y0.val, by omega⟩ ⟨t.val % 4 * 1408 + y1.val, by omega⟩ := by
    refine funext fun a => Fin.ext ?_
    match a with
    | ⟨0, _⟩ => blk_simp [idx t]
    | ⟨1, _⟩ => blk_simp [idx t]
  rw [he]
  refine (pay1 _ _ y0 y1).trans ?_
  rw [Cert.Reference9Ideal.Read.val_main_v2_apply, Cert.Reference9Ideal.Read.val_main_v1_apply]
  refine Finset.sum_congr rfl fun k _ => ?_
  rw [Cert.Reference9Ideal.Read.val_main_v0_apply]
  congr 1
  · blk_point [iblk, V, idx t]
  · blk_point [iblk, V, idx t]

end Cert.Kernel9Ideal.Prod

end
-- ==== Proof.FfnOut.lean ====
/- The gated network's second product: its columns summed in two tiles. -/
module

public import proofs.«01_k».proof.Proof.Gen.Kernel10Ideal.Frame
public import proofs.«01_k».proof.Proof.Gen.Reference10Ideal.Read
public import Idealize.ShloMosaic.Lib.Pipeline.ValueKit
public import Idealize.ShloMosaic.Lib.Pipeline.ReadBack

@[expose] public section

set_option maxRecDepth 16384

noncomputable section

namespace Cert.Kernel10Ideal.Prod

open Cert.Kernel10Ideal Cert.Kernel10Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

abbrev a0 (c : Dev nD) : FVec Ideal S4096x2816 .bf16 := m ((c.tc : Thread nD τ).loc main_arg0)
abbrev a1 (c : Dev nD) : FVec Ideal S2816x1024 .f32 := m ((c.tc : Thread nD τ).loc main_arg1)

/-- The product of two blocks, entry by entry. -/
theorem pay1 (x : FVec Ideal S1024x1408 .bf16) (y : FVec Ideal S1408x1024 .bf16) (i : Fin 1024) (j : Fin 1024) :
    k0_pay1 (F := Ideal) x y (ix2 i j) = ∑ k : Fin 1408, x (ix2 i k) * y (ix2 k j) := by
  pointwise [k0_pay1]

/-- What the first tile leaves in the running sum. -/
theorem pay2 (x : FVec Ideal S1024x1408 .bf16) (y : FVec Ideal S1408x1024 .bf16) (i : S1024x1024.Idx) :
    k0_pay2 (F := Ideal) x y i = 0 + k0_pay1 (F := Ideal) x y i := by
  unfold k0_pay2
  generalize k0_pay1 (F := Ideal) x y = z
  rw [zero_add]
  idx_vars i
  pointwise []

/-- What the second tile leaves in the running sum. -/
theorem pay3 (x : FVec Ideal S1024x1408 .bf16) (y : FVec Ideal S1408x1024 .bf16) (a : FVec Ideal S1024x1024 .f32)
    (i : S1024x1024.Idx) : k0_pay3 (F := Ideal) x y a i = a i + k0_pay1 (F := Ideal) x y i := by
  unfold k0_pay3
  generalize k0_pay1 (F := Ideal) x y = z
  idx_vars i
  pointwise []

/-- The running sum at the point that stores it. -/
theorem acc (c : Dev nD) (t : Fin cfg0.N) (ht : t.val % 2 = 1) (i : S1024x1024.Idx) :
    (outsAt0 m c t.val t.isLt).2 i = 0 + ∑ s : Fin 2, k0_pay1 (F := Ideal)
      (iblk m c 0 ⟨2 * (t.val / 2) + s.val, by omega⟩) (iblk m c 1 ⟨2 * (t.val / 2) + s.val, by omega⟩) i :=
  Pipeline.eq_sum_fin_of_reset_step_apply_of_flush (fun n h => (outsAt0 m c n h).2) 2 (fun _ => 0)
    (fun t => k0_pay1 (F := Ideal) (iblk m c 0 t) (iblk m c 1 t))
    (fun t h j => by
      show (outsAt0 m c t.val t.isLt).2 j = _
      rw [outsAt0_A m c t h (by omega) (by omega)]; frame_out; exact pay2 _ _ j)
    (fun t h j => by
      show (outsAt0 m c t.val t.isLt).2 j = (outsAt0 m c (t.val - 1) _).2 j + _
      rw [outsAt0_B m c t h (by omega) (by omega)]; frame_out
      refine (pay3 _ _ _ j).trans ?_
      rw [read_unread_whole]) t ht i

/-- What that point stores is the running sum. -/
theorem out (c : Dev nD) (t : Fin cfg0.N) (ht : t.val % 2 = 1) (i : S1024x1024.Idx) :
    (outsAt0 m c t.val t.isLt).1 i = (outsAt0 m c t.val t.isLt).2 i := by
  rw [outsAt0_B m c t (by omega) (by omega) (by omega)]
  frame_out <;> rfl

/-- The kernel's array is the reference's. -/
theorem final (c : Dev nD) : (dats m 0 c).arrAt 2 (cfgs 0).N
    = Cert.Reference10Ideal.Read.val_main_v1 (F := Ideal) (a0 m c) (a1 m c) := by
  refine (dats m 0 c).arrAt_eq_of_covers 2 _ (by decide +kernel) fun t hf y => ?_
  have hm := (flush0_2 t).mp hf
  blk_simp
  rw [after0_2]
  have ht : t.val < 8 := lt_of_lt_of_eq t.isLt N_0
  refine (out m c t hm _).trans ((acc m c t hm _).trans ?_)
  idx_vars y
  have he : ((View.whole main_v1).slice (win0_2.rect t)).emb (ix2 y0 y1)
      = ix2 ⟨t.val / 2 * 1024 + y0.val, by omega⟩ y1 := by
    refine funext fun a => Fin.ext ?_
    match a with
    | ⟨0, _⟩ => blk_simp [idx t]
    | ⟨1, _⟩ => blk_simp [idx t]
  rw [he, zero_add, Cert.Reference10Ideal.Read.val_main_v1_apply]
  refine Eq.trans (Finset.sum_congr rfl fun s _ => pay1 _ _ _ _) ?_
  refine Fin.sum_mul_add_congr fun s k hl => ?_
  rw [Cert.Reference10Ideal.Read.val_main_v0_apply]
  have hs : (⟨2 * (t.val / 2) + s.val, by omega⟩ : Fin 8).val % 2 = s.val ∧ (2 * (t.val / 2) + s.val) / 2 = t.val / 2 := by
    constructor <;> simp only [] <;> omega
  congr 1
  · blk_point [iblk, V, idx ⟨2 * (t.val / 2) + s.val, lt_of_lt_of_eq (by omega) N_0.symm⟩]
  · blk_point [iblk, V, idx ⟨2 * (t.val / 2) + s.val, lt_of_lt_of_eq (by omega) N_0.symm⟩]

end Cert.Kernel10Ideal.Prod

end
-- ==== Proof.Branch.lean ====
/- The product of a branch's result with its weight. -/
module

public import proofs.«01_k».proof.Proof.Gen.Kernel11Ideal.Frame
public import proofs.«01_k».proof.Proof.Gen.Reference11Ideal.Read
public import Idealize.ShloMosaic.Lib.Pipeline.ValueKit

@[expose] public section

set_option maxRecDepth 16384

noncomputable section

namespace Cert.Kernel11Ideal.Prod

open Cert.Kernel11Ideal Cert.Kernel11Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val, 0] ∧ win0_1.index t = ![0, 0]
    ∧ win0_2.index t = ![t.val, 0] :=
  (by decide +kernel : ∀ t : Fin grid0.N, _)

abbrev a0 (c : Dev nD) : FVec Ideal S4096x1024 .bf16 := m ((c.tc : Thread nD τ).loc main_arg0)
abbrev a1 (c : Dev nD) : FVec Ideal S1024x1024 .f32 := m ((c.tc : Thread nD τ).loc main_arg1)

/-- The product of two blocks, entry by entry. -/
theorem pay1 (x : FVec Ideal S2048x1024 .bf16) (y : FVec Ideal S1024x1024 .bf16) (i : Fin 2048) (j : Fin 1024) :
    k0_pay1 (F := Ideal) x y (ix2 i j) = ∑ k : Fin 1024, x (ix2 i k) * y (ix2 k j) := by
  pointwise [k0_pay1]

/-- The kernel's array is the reference's. -/
theorem final (c : Dev nD) : (dats m 0 c).arrAt 2 (cfgs 0).N
    = Cert.Reference11Ideal.Read.val_main_v1 (F := Ideal) (a0 m c) (a1 m c) := by
  refine (dats m 0 c).arrAt_eq_of_covers 2 _ (by decide +kernel) fun t hf y => ?_
  blk_simp
  rw [after0_2]
  have ht : t.val < 2 := lt_of_lt_of_eq t.isLt N_0
  unfold out0_2
  frame_out
  idx_vars y
  have he : ((View.whole main_v1).slice (win0_2.rect t)).emb (ix2 y0 y1)
      = ix2 ⟨t.val * 2048 + y0.val, by omega⟩ y1 := by
    refine funext fun a => Fin.ext ?_
    match a with
    | ⟨0, _⟩ => blk_simp [idx t]
    | ⟨1, _⟩ => blk_simp [idx t]
  rw [he]
  refine (pay1 _ _ y0 y1).trans ?_
  rw [Cert.Reference11Ideal.Read.val_main_v1_apply]
  refine Finset.sum_congr rfl fun k _ => ?_
  rw [Cert.Reference11Ideal.Read.val_main_v0_apply]
  congr 1
  · blk_point [iblk, V, idx t]
  · blk_point [iblk, V, idx t]

end Cert.Kernel11Ideal.Prod

end
-- ==== Proof.BranchDx.lean ====
/- The gradient of a branch's result. -/
module

public import proofs.«01_k».proof.Proof.Gen.Kernel12Ideal.Frame
public import proofs.«01_k».proof.Proof.Gen.Reference12Ideal.Read
public import Idealize.ShloMosaic.Lib.Pipeline.ValueKit

@[expose] public section

set_option maxRecDepth 16384

noncomputable section

namespace Cert.Kernel12Ideal.Prod

open Cert.Kernel12Ideal Cert.Kernel12Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val, 0] ∧ win0_1.index t = ![0, 0]
    ∧ win0_2.index t = ![t.val, 0] :=
  (by decide +kernel : ∀ t : Fin grid0.N, _)

abbrev a0 (c : Dev nD) : FVec Ideal S1024x1024 .f32 := m ((c.tc : Thread nD τ).loc main_arg0)
abbrev a1 (c : Dev nD) : FVec Ideal S4096x1024 .bf16 := m ((c.tc : Thread nD τ).loc main_arg1)

/-- The product of two blocks, entry by entry. -/
theorem pay1 (x : FVec Ideal S2048x1024 .bf16) (y : FVec Ideal S1024x1024 .bf16) (i : Fin 2048) (j : Fin 1024) :
    k0_pay1 (F := Ideal) x y (ix2 i j) = ∑ k : Fin 1024, x (ix2 i k) * y (ix2 j k) := by
  pointwise [k0_pay1]

/-- The kernel's array is the reference's. -/
theorem final (c : Dev nD) : (dats m 0 c).arrAt 2 (cfgs 0).N
    = Cert.Reference12Ideal.Read.val_main_v6 (F := Ideal) (a0 m c) (a1 m c) := by
  refine (dats m 0 c).arrAt_eq_of_covers 2 _ (by decide +kernel) fun t hf y => ?_
  blk_simp
  rw [after0_2]
  have ht : t.val < 2 := lt_of_lt_of_eq t.isLt N_0
  unfold out0_2
  frame_out
  idx_vars y
  have he : ((View.whole main_v1).slice (win0_2.rect t)).emb (ix2 y0 y1)
      = ix2 ⟨t.val * 2048 + y0.val, by omega⟩ y1 := by
    refine funext fun a => Fin.ext ?_
    match a with
    | ⟨0, _⟩ => blk_simp [idx t]
    | ⟨1, _⟩ => blk_simp [idx t]
  rw [he]
  refine (pay1 _ _ y0 y1).trans ?_
  rw [Cert.Reference12Ideal.Read.val_main_v6_apply, Cert.Reference12Ideal.Read.val_main_v5_apply]
  refine Finset.sum_congr rfl fun k _ => ?_
  rw [Cert.Reference12Ideal.Read.val_main_v2_apply]
  congr 1
  · blk_point [iblk, V, idx t]
  · blk_point [iblk, V, idx t]

end Cert.Kernel12Ideal.Prod

end
-- ==== Proof.BranchDw.lean ====
/- The gradient of a branch's weight: the batch rows summed in two tiles. -/
module

public import proofs.«01_k».proof.Proof.Gen.Kernel13Ideal.Frame
public import proofs.«01_k».proof.Proof.Gen.Reference13Ideal.Read
public import Idealize.ShloMosaic.Lib.Pipeline.ValueKit
public import Idealize.ShloMosaic.Lib.Pipeline.ReadBack

@[expose] public section

set_option maxRecDepth 16384

noncomputable section

namespace Cert.Kernel13Ideal.Prod

open Cert.Kernel13Ideal Cert.Kernel13Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val % 2, 0] ∧ win0_1.index t = ![t.val % 2, 0]
    ∧ win0_2.index t = ![0, 0] :=
  (by decide +kernel : ∀ t : Fin grid0.N, _)

abbrev a0 (c : Dev nD) : FVec Ideal S4096x1024 .bf16 := m ((c.tc : Thread nD τ).loc main_arg0)
abbrev a1 (c : Dev nD) : FVec Ideal S4096x1024 .bf16 := m ((c.tc : Thread nD τ).loc main_arg1)

/-- The product of two blocks, entry by entry. -/
theorem pay1 (x : FVec Ideal S2048x1024 .bf16) (y : FVec Ideal S2048x1024 .bf16) (i : Fin 1024) (j : Fin 1024) :
    k0_pay1 (F := Ideal) x y (ix2 i j) = ∑ k : Fin 2048, x (ix2 k i) * y (ix2 k j) := by
  pointwise [k0_pay1]

/-- What the first tile leaves in the running sum. -/
theorem pay2 (x : FVec Ideal S2048x1024 .bf16) (y : FVec Ideal S2048x1024 .bf16) (i : S1024x1024.Idx) :
    k0_pay2 (F := Ideal) x y i = 0 + k0_pay1 (F := Ideal) x y i := by
  unfold k0_pay2
  generalize k0_pay1 (F := Ideal) x y = z
  rw [zero_add]
  idx_vars i
  pointwise []

/-- What the second tile leaves in the running sum. -/
theorem pay3 (x : FVec Ideal S2048x1024 .bf16) (y : FVec Ideal S2048x1024 .bf16) (a : FVec Ideal S1024x1024 .f32)
    (i : S1024x1024.Idx) : k0_pay3 (F := Ideal) x y a i = a i + k0_pay1 (F := Ideal) x y i := by
  unfold k0_pay3
  generalize k0_pay1 (F := Ideal) x y = z
  idx_vars i
  pointwise []

/-- The running sum at the point that stores it. -/
theorem acc (c : Dev nD) (t : Fin cfg0.N) (ht : t.val % 2 = 1) (i : S1024x1024.Idx) :
    (outsAt0 m c t.val t.isLt).2 i = 0 + ∑ s : Fin 2, k0_pay1 (F := Ideal)
      (iblk m c 0 ⟨2 * (t.val / 2) + s.val, by omega⟩) (iblk m c 1 ⟨2 * (t.val / 2) + s.val, by omega⟩) i :=
  Pipeline.eq_sum_fin_of_reset_step_apply_of_flush (fun n h => (outsAt0 m c n h).2) 2 (fun _ => 0)
    (fun t => k0_pay1 (F := Ideal) (iblk m c 0 t) (iblk m c 1 t))
    (fun t h j => by
      show (outsAt0 m c t.val t.isLt).2 j = _
      rw [outsAt0_A m c t h (by omega) (by omega)]; frame_out; exact pay2 _ _ j)
    (fun t h j => by
      show (outsAt0 m c t.val t.isLt).2 j = (outsAt0 m c (t.val - 1) _).2 j + _
      rw [outsAt0_B m c t h (by omega) (by omega)]; frame_out
      refine (pay3 _ _ _ j).trans ?_
      rw [read_unread_whole]) t ht i

/-- What that point stores is the running sum. -/
theorem out (c : Dev nD) (t : Fin cfg0.N) (ht : t.val % 2 = 1) (i : S1024x1024.Idx) :
    (outsAt0 m c t.val t.isLt).1 i = (outsAt0 m c t.val t.isLt).2 i := by
  rw [outsAt0_B m c t (by omega) (by omega) (by omega)]
  frame_out <;> rfl

/-- The kernel's array is the reference's. -/
theorem final (c : Dev nD) : (dats m 0 c).arrAt 2 (cfgs 0).N
    = Cert.Reference13Ideal.Read.val_main_v7 (F := Ideal) (a0 m c) (a1 m c) := by
  refine (dats m 0 c).arrAt_eq_of_covers 2 _ (by decide +kernel) fun t hf y => ?_
  have hm := (flush0_2 t).mp hf
  blk_simp
  rw [after0_2]
  have ht : t.val < 2 := lt_of_lt_of_eq t.isLt N_0
  refine (out m c t hm _).trans ((acc m c t hm _).trans ?_)
  idx_vars y
  have he : ((View.whole main_v0).slice (win0_2.rect t)).emb (ix2 y0 y1)
      = ix2 y0 y1 := by
    refine funext fun a => Fin.ext ?_
    match a with
    | ⟨0, _⟩ => blk_simp [idx t]
    | ⟨1, _⟩ => blk_simp [idx t]
  rw [he, zero_add, Cert.Reference13Ideal.Read.val_main_v7_apply, Cert.Reference13Ideal.Read.val_main_v5_apply, Cert.Reference13Ideal.Read.val_main_v4_apply]
  refine Eq.trans (Finset.sum_congr rfl fun s _ => pay1 _ _ _ _) ?_
  refine Fin.sum_mul_add_congr fun s k hl => ?_
  rw [Cert.Reference13Ideal.Read.val_main_v3_apply, Cert.Reference13Ideal.Read.val_main_v1_apply, mul_comm]
  have hs : (2 * (t.val / 2) + s.val) % 2 = s.val := by omega
  congr 1
  · blk_point [iblk, V, idx ⟨2 * (t.val / 2) + s.val, lt_of_lt_of_eq (by omega) N_0.symm⟩]
  · blk_point [iblk, V, idx ⟨2 * (t.val / 2) + s.val, lt_of_lt_of_eq (by omega) N_0.symm⟩]

end Cert.Kernel13Ideal.Prod

end
-- ==== Proof.MemQ.lean ====
/- The memory attention's queries. -/
module

public import proofs.«01_k».proof.Proof.Gen.Kernel14Ideal.Frame
public import proofs.«01_k».proof.Proof.Gen.Reference14Ideal.Read
public import Idealize.ShloMosaic.Lib.Pipeline.ValueKit

@[expose] public section

set_option maxRecDepth 16384

noncomputable section

namespace Cert.Kernel14Ideal.Prod

open Cert.Kernel14Ideal Cert.Kernel14Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val, 0] ∧ win0_1.index t = ![0, 0]
    ∧ win0_2.index t = ![t.val, 0] :=
  (by decide +kernel : ∀ t : Fin grid0.N, _)

abbrev a0 (c : Dev nD) : FVec Ideal S4096x1024 .bf16 := m ((c.tc : Thread nD τ).loc main_arg0)
abbrev a1 (c : Dev nD) : FVec Ideal S1024x512 .f32 := m ((c.tc : Thread nD τ).loc main_arg1)

/-- The product of two blocks, entry by entry. -/
theorem pay1 (x : FVec Ideal S2048x1024 .bf16) (y : FVec Ideal S1024x512 .bf16) (i : Fin 2048) (j : Fin 512) :
    k0_pay1 (F := Ideal) x y (ix2 i j) = ∑ k : Fin 1024, x (ix2 i k) * y (ix2 k j) := by
  pointwise [k0_pay1]

/-- The kernel's array is the reference's. -/
theorem final (c : Dev nD) : (dats m 0 c).arrAt 2 (cfgs 0).N
    = Cert.Reference14Ideal.Read.val_main_v2 (F := Ideal) (a0 m c) (a1 m c) := by
  refine (dats m 0 c).arrAt_eq_of_covers 2 _ (by decide +kernel) fun t hf y => ?_
  blk_simp
  rw [after0_2]
  have ht : t.val < 2 := lt_of_lt_of_eq t.isLt N_0
  unfold out0_2
  frame_out
  idx_vars y
  have he : ((View.whole main_v1).slice (win0_2.rect t)).emb (ix2 y0 y1)
      = ix2 ⟨t.val * 2048 + y0.val, by omega⟩ y1 := by
    refine funext fun a => Fin.ext ?_
    match a with
    | ⟨0, _⟩ => blk_simp [idx t]
    | ⟨1, _⟩ => blk_simp [idx t]
  rw [he]
  refine (pay1 _ _ y0 y1).trans ?_
  rw [Cert.Reference14Ideal.Read.val_main_v2_apply, Cert.Reference14Ideal.Read.val_main_v1_apply]
  refine Finset.sum_congr rfl fun k _ => ?_
  rw [Cert.Reference14Ideal.Read.val_main_v0_apply]
  congr 1
  · blk_point [iblk, V, idx t]
  · blk_point [iblk, V, idx t]

end Cert.Kernel14Ideal.Prod

end
-- ==== Proof.MemQDx.lean ====
/- The gradient of the queries' input. -/
module

public import proofs.«01_k».proof.Proof.Gen.Kernel15Ideal.Frame
public import proofs.«01_k».proof.Proof.Gen.Reference15Ideal.Read
public import Idealize.ShloMosaic.Lib.Pipeline.ValueKit

@[expose] public section

set_option maxRecDepth 16384

noncomputable section

namespace Cert.Kernel15Ideal.Prod

open Cert.Kernel15Ideal Cert.Kernel15Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val, 0] ∧ win0_1.index t = ![0, 0]
    ∧ win0_2.index t = ![t.val, 0] :=
  (by decide +kernel : ∀ t : Fin grid0.N, _)

abbrev a0 (c : Dev nD) : FVec Ideal S1024x512 .f32 := m ((c.tc : Thread nD τ).loc main_arg0)
abbrev a1 (c : Dev nD) : FVec Ideal S4096x512 .bf16 := m ((c.tc : Thread nD τ).loc main_arg1)

/-- The product of two blocks, entry by entry. -/
theorem pay1 (x : FVec Ideal S2048x512 .bf16) (y : FVec Ideal S1024x512 .bf16) (i : Fin 2048) (j : Fin 1024) :
    k0_pay1 (F := Ideal) x y (ix2 i j) = ∑ k : Fin 512, x (ix2 i k) * y (ix2 j k) := by
  pointwise [k0_pay1]

/-- The kernel's array is the reference's. -/
theorem final (c : Dev nD) : (dats m 0 c).arrAt 2 (cfgs 0).N
    = Cert.Reference15Ideal.Read.val_main_v6 (F := Ideal) (a0 m c) (a1 m c) := by
  refine (dats m 0 c).arrAt_eq_of_covers 2 _ (by decide +kernel) fun t hf y => ?_
  blk_simp
  rw [after0_2]
  have ht : t.val < 2 := lt_of_lt_of_eq t.isLt N_0
  unfold out0_2
  frame_out
  idx_vars y
  have he : ((View.whole main_v1).slice (win0_2.rect t)).emb (ix2 y0 y1)
      = ix2 ⟨t.val * 2048 + y0.val, by omega⟩ y1 := by
    refine funext fun a => Fin.ext ?_
    match a with
    | ⟨0, _⟩ => blk_simp [idx t]
    | ⟨1, _⟩ => blk_simp [idx t]
  rw [he]
  refine (pay1 _ _ y0 y1).trans ?_
  rw [Cert.Reference15Ideal.Read.val_main_v6_apply, Cert.Reference15Ideal.Read.val_main_v5_apply]
  refine Finset.sum_congr rfl fun k _ => ?_
  rw [Cert.Reference15Ideal.Read.val_main_v2_apply]
  congr 1
  · blk_point [iblk, V, idx t]
  · blk_point [iblk, V, idx t]

end Cert.Kernel15Ideal.Prod

end
-- ==== Proof.MemQDw.lean ====
/- The gradient of the queries' weight: the batch rows summed in two tiles. -/
module

public import proofs.«01_k».proof.Proof.Gen.Kernel16Ideal.Frame
public import proofs.«01_k».proof.Proof.Gen.Reference16Ideal.Read
public import Idealize.ShloMosaic.Lib.Pipeline.ValueKit
public import Idealize.ShloMosaic.Lib.Pipeline.ReadBack

@[expose] public section

set_option maxRecDepth 16384

noncomputable section

namespace Cert.Kernel16Ideal.Prod

open Cert.Kernel16Ideal Cert.Kernel16Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val % 2, 0] ∧ win0_1.index t = ![t.val % 2, 0]
    ∧ win0_2.index t = ![0, 0] :=
  (by decide +kernel : ∀ t : Fin grid0.N, _)

abbrev a0 (c : Dev nD) : FVec Ideal S4096x1024 .bf16 := m ((c.tc : Thread nD τ).loc main_arg0)
abbrev a1 (c : Dev nD) : FVec Ideal S4096x512 .bf16 := m ((c.tc : Thread nD τ).loc main_arg1)

/-- The product of two blocks, entry by entry. -/
theorem pay1 (x : FVec Ideal S2048x1024 .bf16) (y : FVec Ideal S2048x512 .bf16) (i : Fin 1024) (j : Fin 512) :
    k0_pay1 (F := Ideal) x y (ix2 i j) = ∑ k : Fin 2048, x (ix2 k i) * y (ix2 k j) := by
  pointwise [k0_pay1]

/-- What the first tile leaves in the running sum. -/
theorem pay2 (x : FVec Ideal S2048x1024 .bf16) (y : FVec Ideal S2048x512 .bf16) (i : S1024x512.Idx) :
    k0_pay2 (F := Ideal) x y i = 0 + k0_pay1 (F := Ideal) x y i := by
  unfold k0_pay2
  generalize k0_pay1 (F := Ideal) x y = z
  rw [zero_add]
  idx_vars i
  pointwise []

/-- What the second tile leaves in the running sum. -/
theorem pay3 (x : FVec Ideal S2048x1024 .bf16) (y : FVec Ideal S2048x512 .bf16) (a : FVec Ideal S1024x512 .f32)
    (i : S1024x512.Idx) : k0_pay3 (F := Ideal) x y a i = a i + k0_pay1 (F := Ideal) x y i := by
  unfold k0_pay3
  generalize k0_pay1 (F := Ideal) x y = z
  idx_vars i
  pointwise []

/-- The running sum at the point that stores it. -/
theorem acc (c : Dev nD) (t : Fin cfg0.N) (ht : t.val % 2 = 1) (i : S1024x512.Idx) :
    (outsAt0 m c t.val t.isLt).2 i = 0 + ∑ s : Fin 2, k0_pay1 (F := Ideal)
      (iblk m c 0 ⟨2 * (t.val / 2) + s.val, by omega⟩) (iblk m c 1 ⟨2 * (t.val / 2) + s.val, by omega⟩) i :=
  Pipeline.eq_sum_fin_of_reset_step_apply_of_flush (fun n h => (outsAt0 m c n h).2) 2 (fun _ => 0)
    (fun t => k0_pay1 (F := Ideal) (iblk m c 0 t) (iblk m c 1 t))
    (fun t h j => by
      show (outsAt0 m c t.val t.isLt).2 j = _
      rw [outsAt0_A m c t h (by omega) (by omega)]; frame_out; exact pay2 _ _ j)
    (fun t h j => by
      show (outsAt0 m c t.val t.isLt).2 j = (outsAt0 m c (t.val - 1) _).2 j + _
      rw [outsAt0_B m c t h (by omega) (by omega)]; frame_out
      refine (pay3 _ _ _ j).trans ?_
      rw [read_unread_whole]) t ht i

/-- What that point stores is the running sum. -/
theorem out (c : Dev nD) (t : Fin cfg0.N) (ht : t.val % 2 = 1) (i : S1024x512.Idx) :
    (outsAt0 m c t.val t.isLt).1 i = (outsAt0 m c t.val t.isLt).2 i := by
  rw [outsAt0_B m c t (by omega) (by omega) (by omega)]
  frame_out <;> rfl

/-- The kernel's array is the reference's. -/
theorem final (c : Dev nD) : (dats m 0 c).arrAt 2 (cfgs 0).N
    = Cert.Reference16Ideal.Read.val_main_v7 (F := Ideal) (a0 m c) (a1 m c) := by
  refine (dats m 0 c).arrAt_eq_of_covers 2 _ (by decide +kernel) fun t hf y => ?_
  have hm := (flush0_2 t).mp hf
  blk_simp
  rw [after0_2]
  have ht : t.val < 2 := lt_of_lt_of_eq t.isLt N_0
  refine (out m c t hm _).trans ((acc m c t hm _).trans ?_)
  idx_vars y
  have he : ((View.whole main_v0).slice (win0_2.rect t)).emb (ix2 y0 y1)
      = ix2 y0 y1 := by
    refine funext fun a => Fin.ext ?_
    match a with
    | ⟨0, _⟩ => blk_simp [idx t]
    | ⟨1, _⟩ => blk_simp [idx t]
  rw [he, zero_add, Cert.Reference16Ideal.Read.val_main_v7_apply, Cert.Reference16Ideal.Read.val_main_v5_apply, Cert.Reference16Ideal.Read.val_main_v4_apply]
  refine Eq.trans (Finset.sum_congr rfl fun s _ => pay1 _ _ _ _) ?_
  refine Fin.sum_mul_add_congr fun s k hl => ?_
  rw [Cert.Reference16Ideal.Read.val_main_v3_apply, Cert.Reference16Ideal.Read.val_main_v1_apply, mul_comm]
  have hs : (2 * (t.val / 2) + s.val) % 2 = s.val := by omega
  congr 1
  · blk_point [iblk, V, idx ⟨2 * (t.val / 2) + s.val, lt_of_lt_of_eq (by omega) N_0.symm⟩]
  · blk_point [iblk, V, idx ⟨2 * (t.val / 2) + s.val, lt_of_lt_of_eq (by omega) N_0.symm⟩]

end Cert.Kernel16Ideal.Prod

end
-- ==== Proof.MemKv.lean ====
/- The memory attention's keys and values. -/
module

public import proofs.«01_k».proof.Proof.Gen.Kernel17Ideal.Frame
public import proofs.«01_k».proof.Proof.Gen.Reference17Ideal.Read
public import Idealize.ShloMosaic.Lib.Pipeline.ValueKit

@[expose] public section

set_option maxRecDepth 16384

noncomputable section

namespace Cert.Kernel17Ideal.Prod

open Cert.Kernel17Ideal Cert.Kernel17Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![0, 0] ∧ win0_1.index t = ![0, 0]
    ∧ win0_2.index t = ![0, 0] :=
  (by decide +kernel : ∀ t : Fin grid0.N, _)

abbrev a0 (c : Dev nD) : FVec Ideal S512x1024 .bf16 := m ((c.tc : Thread nD τ).loc main_arg0)
abbrev a1 (c : Dev nD) : FVec Ideal S1024x1024 .f32 := m ((c.tc : Thread nD τ).loc main_arg1)

/-- The product of two blocks, entry by entry. -/
theorem pay1 (x : FVec Ideal S512x1024 .bf16) (y : FVec Ideal S1024x1024 .bf16) (i : Fin 512) (j : Fin 1024) :
    k0_pay1 (F := Ideal) x y (ix2 i j) = ∑ k : Fin 1024, x (ix2 i k) * y (ix2 k j) := by
  pointwise [k0_pay1]

/-- The kernel's array is the reference's. -/
theorem final (c : Dev nD) : (dats m 0 c).arrAt 2 (cfgs 0).N
    = Cert.Reference17Ideal.Read.val_main_v2 (F := Ideal) (a0 m c) (a1 m c) := by
  refine (dats m 0 c).arrAt_eq_of_covers 2 _ (by decide +kernel) fun t hf y => ?_
  blk_simp
  rw [after0_2]
  have ht : t.val < 1 := lt_of_lt_of_eq t.isLt N_0
  unfold out0_2
  frame_out
  idx_vars y
  have he : ((View.whole main_v1).slice (win0_2.rect t)).emb (ix2 y0 y1)
      = ix2 y0 y1 := by
    refine funext fun a => Fin.ext ?_
    match a with
    | ⟨0, _⟩ => blk_simp [idx t]
    | ⟨1, _⟩ => blk_simp [idx t]
  rw [he]
  refine (pay1 _ _ y0 y1).trans ?_
  rw [Cert.Reference17Ideal.Read.val_main_v2_apply, Cert.Reference17Ideal.Read.val_main_v1_apply]
  refine Finset.sum_congr rfl fun k _ => ?_
  rw [Cert.Reference17Ideal.Read.val_main_v0_apply]
  congr 1
  · blk_point [iblk, V, idx t]
  · blk_point [iblk, V, idx t]

end Cert.Kernel17Ideal.Prod

end
-- ==== Proof.MemKvDx.lean ====
/- The gradient of the keys' and values' input. -/
module

public import proofs.«01_k».proof.Proof.Gen.Kernel18Ideal.Frame
public import proofs.«01_k».proof.Proof.Gen.Reference18Ideal.Read
public import Idealize.ShloMosaic.Lib.Pipeline.ValueKit

@[expose] public section

set_option maxRecDepth 16384

noncomputable section

namespace Cert.Kernel18Ideal.Prod

open Cert.Kernel18Ideal Cert.Kernel18Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![0, 0] ∧ win0_1.index t = ![0, 0]
    ∧ win0_2.index t = ![0, 0] :=
  (by decide +kernel : ∀ t : Fin grid0.N, _)

abbrev a0 (c : Dev nD) : FVec Ideal S1024x1024 .f32 := m ((c.tc : Thread nD τ).loc main_arg0)
abbrev a1 (c : Dev nD) : FVec Ideal S512x1024 .bf16 := m ((c.tc : Thread nD τ).loc main_arg1)

/-- The product of two blocks, entry by entry. -/
theorem pay1 (x : FVec Ideal S512x1024 .bf16) (y : FVec Ideal S1024x1024 .bf16) (i : Fin 512) (j : Fin 1024) :
    k0_pay1 (F := Ideal) x y (ix2 i j) = ∑ k : Fin 1024, x (ix2 i k) * y (ix2 j k) := by
  pointwise [k0_pay1]

/-- The kernel's array is the reference's. -/
theorem final (c : Dev nD) : (dats m 0 c).arrAt 2 (cfgs 0).N
    = Cert.Reference18Ideal.Read.val_main_v6 (F := Ideal) (a0 m c) (a1 m c) := by
  refine (dats m 0 c).arrAt_eq_of_covers 2 _ (by decide +kernel) fun t hf y => ?_
  blk_simp
  rw [after0_2]
  have ht : t.val < 1 := lt_of_lt_of_eq t.isLt N_0
  unfold out0_2
  frame_out
  idx_vars y
  have he : ((View.whole main_v1).slice (win0_2.rect t)).emb (ix2 y0 y1)
      = ix2 y0 y1 := by
    refine funext fun a => Fin.ext ?_
    match a with
    | ⟨0, _⟩ => blk_simp [idx t]
    | ⟨1, _⟩ => blk_simp [idx t]
  rw [he]
  refine (pay1 _ _ y0 y1).trans ?_
  rw [Cert.Reference18Ideal.Read.val_main_v6_apply, Cert.Reference18Ideal.Read.val_main_v5_apply]
  refine Finset.sum_congr rfl fun k _ => ?_
  rw [Cert.Reference18Ideal.Read.val_main_v2_apply]
  congr 1
  · blk_point [iblk, V, idx t]
  · blk_point [iblk, V, idx t]

end Cert.Kernel18Ideal.Prod

end
-- ==== Proof.MemKvDw.lean ====
/- The gradient of the keys' and values' weight. -/
module

public import proofs.«01_k».proof.Proof.Gen.Kernel19Ideal.Frame
public import proofs.«01_k».proof.Proof.Gen.Reference19Ideal.Read
public import Idealize.ShloMosaic.Lib.Pipeline.ValueKit

@[expose] public section

set_option maxRecDepth 16384

noncomputable section

namespace Cert.Kernel19Ideal.Prod

open Cert.Kernel19Ideal Cert.Kernel19Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![0, 0] ∧ win0_1.index t = ![0, 0]
    ∧ win0_2.index t = ![0, 0] :=
  (by decide +kernel : ∀ t : Fin grid0.N, _)

abbrev a0 (c : Dev nD) : FVec Ideal S512x1024 .bf16 := m ((c.tc : Thread nD τ).loc main_arg0)
abbrev a1 (c : Dev nD) : FVec Ideal S512x1024 .bf16 := m ((c.tc : Thread nD τ).loc main_arg1)

/-- The product of two blocks, entry by entry. -/
theorem pay1 (x : FVec Ideal S512x1024 .bf16) (y : FVec Ideal S512x1024 .bf16) (i : Fin 1024) (j : Fin 1024) :
    k0_pay1 (F := Ideal) x y (ix2 i j) = ∑ k : Fin 512, x (ix2 k i) * y (ix2 k j) := by
  pointwise [k0_pay1]

/-- The kernel's array is the reference's. -/
theorem final (c : Dev nD) : (dats m 0 c).arrAt 2 (cfgs 0).N
    = Cert.Reference19Ideal.Read.val_main_v7 (F := Ideal) (a0 m c) (a1 m c) := by
  refine (dats m 0 c).arrAt_eq_of_covers 2 _ (by decide +kernel) fun t hf y => ?_
  blk_simp
  rw [after0_2]
  have ht : t.val < 1 := lt_of_lt_of_eq t.isLt N_0
  unfold out0_2
  frame_out
  idx_vars y
  have he : ((View.whole main_v0).slice (win0_2.rect t)).emb (ix2 y0 y1)
      = ix2 y0 y1 := by
    refine funext fun a => Fin.ext ?_
    match a with
    | ⟨0, _⟩ => blk_simp [idx t]
    | ⟨1, _⟩ => blk_simp [idx t]
  rw [he]
  refine (pay1 _ _ y0 y1).trans ?_
  rw [Cert.Reference19Ideal.Read.val_main_v7_apply, Cert.Reference19Ideal.Read.val_main_v5_apply, Cert.Reference19Ideal.Read.val_main_v4_apply]
  refine Finset.sum_congr rfl fun k _ => ?_
  rw [Cert.Reference19Ideal.Read.val_main_v3_apply, Cert.Reference19Ideal.Read.val_main_v1_apply, mul_comm]
  congr 1
  · blk_point [iblk, V, idx t]
  · blk_point [iblk, V, idx t]

end Cert.Kernel19Ideal.Prod

end
-- ==== Proof.MemO.lean ====
/- The memory attention's last product. -/
module

public import proofs.«01_k».proof.Proof.Gen.Kernel20Ideal.Frame
public import proofs.«01_k».proof.Proof.Gen.Reference20Ideal.Read
public import Idealize.ShloMosaic.Lib.Pipeline.ValueKit

@[expose] public section

set_option maxRecDepth 16384

noncomputable section

namespace Cert.Kernel20Ideal.Prod

open Cert.Kernel20Ideal Cert.Kernel20Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val, 0] ∧ win0_1.index t = ![0, 0]
    ∧ win0_2.index t = ![t.val, 0] :=
  (by decide +kernel : ∀ t : Fin grid0.N, _)

abbrev a0 (c : Dev nD) : FVec Ideal S4096x512 .bf16 := m ((c.tc : Thread nD τ).loc main_arg0)
abbrev a1 (c : Dev nD) : FVec Ideal S512x1024 .f32 := m ((c.tc : Thread nD τ).loc main_arg1)

/-- The product of two blocks, entry by entry. -/
theorem pay1 (x : FVec Ideal S2048x512 .bf16) (y : FVec Ideal S512x1024 .bf16) (i : Fin 2048) (j : Fin 1024) :
    k0_pay1 (F := Ideal) x y (ix2 i j) = ∑ k : Fin 512, x (ix2 i k) * y (ix2 k j) := by
  pointwise [k0_pay1]

/-- The kernel's array is the reference's. -/
theorem final (c : Dev nD) : (dats m 0 c).arrAt 2 (cfgs 0).N
    = Cert.Reference20Ideal.Read.val_main_v1 (F := Ideal) (a0 m c) (a1 m c) := by
  refine (dats m 0 c).arrAt_eq_of_covers 2 _ (by decide +kernel) fun t hf y => ?_
  blk_simp
  rw [after0_2]
  have ht : t.val < 2 := lt_of_lt_of_eq t.isLt N_0
  unfold out0_2
  frame_out
  idx_vars y
  have he : ((View.whole main_v1).slice (win0_2.rect t)).emb (ix2 y0 y1)
      = ix2 ⟨t.val * 2048 + y0.val, by omega⟩ y1 := by
    refine funext fun a => Fin.ext ?_
    match a with
    | ⟨0, _⟩ => blk_simp [idx t]
    | ⟨1, _⟩ => blk_simp [idx t]
  rw [he]
  refine (pay1 _ _ y0 y1).trans ?_
  rw [Cert.Reference20Ideal.Read.val_main_v1_apply]
  refine Finset.sum_congr rfl fun k _ => ?_
  rw [Cert.Reference20Ideal.Read.val_main_v0_apply]
  congr 1
  · blk_point [iblk, V, idx t]
  · blk_point [iblk, V, idx t]

end Cert.Kernel20Ideal.Prod

end
-- ==== Proof.MemODx.lean ====
/- The gradient of the last product's input. -/
module

public import proofs.«01_k».proof.Proof.Gen.Kernel21Ideal.Frame
public import proofs.«01_k».proof.Proof.Gen.Reference21Ideal.Read
public import Idealize.ShloMosaic.Lib.Pipeline.ValueKit

@[expose] public section

set_option maxRecDepth 16384

noncomputable section

namespace Cert.Kernel21Ideal.Prod

open Cert.Kernel21Ideal Cert.Kernel21Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val, 0] ∧ win0_1.index t = ![0, 0]
    ∧ win0_2.index t = ![t.val, 0] :=
  (by decide +kernel : ∀ t : Fin grid0.N, _)

abbrev a0 (c : Dev nD) : FVec Ideal S512x1024 .f32 := m ((c.tc : Thread nD τ).loc main_arg0)
abbrev a1 (c : Dev nD) : FVec Ideal S4096x1024 .bf16 := m ((c.tc : Thread nD τ).loc main_arg1)

/-- The product of two blocks, entry by entry. -/
theorem pay1 (x : FVec Ideal S2048x1024 .bf16) (y : FVec Ideal S512x1024 .bf16) (i : Fin 2048) (j : Fin 512) :
    k0_pay1 (F := Ideal) x y (ix2 i j) = ∑ k : Fin 1024, x (ix2 i k) * y (ix2 j k) := by
  pointwise [k0_pay1]

/-- The kernel's array is the reference's. -/
theorem final (c : Dev nD) : (dats m 0 c).arrAt 2 (cfgs 0).N
    = Cert.Reference21Ideal.Read.val_main_v6 (F := Ideal) (a0 m c) (a1 m c) := by
  refine (dats m 0 c).arrAt_eq_of_covers 2 _ (by decide +kernel) fun t hf y => ?_
  blk_simp
  rw [after0_2]
  have ht : t.val < 2 := lt_of_lt_of_eq t.isLt N_0
  unfold out0_2
  frame_out
  idx_vars y
  have he : ((View.whole main_v1).slice (win0_2.rect t)).emb (ix2 y0 y1)
      = ix2 ⟨t.val * 2048 + y0.val, by omega⟩ y1 := by
    refine funext fun a => Fin.ext ?_
    match a with
    | ⟨0, _⟩ => blk_simp [idx t]
    | ⟨1, _⟩ => blk_simp [idx t]
  rw [he]
  refine (pay1 _ _ y0 y1).trans ?_
  rw [Cert.Reference21Ideal.Read.val_main_v6_apply, Cert.Reference21Ideal.Read.val_main_v5_apply]
  refine Finset.sum_congr rfl fun k _ => ?_
  rw [Cert.Reference21Ideal.Read.val_main_v2_apply]
  congr 1
  · blk_point [iblk, V, idx t]
  · blk_point [iblk, V, idx t]

end Cert.Kernel21Ideal.Prod

end
-- ==== Proof.MemODw.lean ====
/- The gradient of the last product's weight: the batch rows summed in two tiles. -/
module

public import proofs.«01_k».proof.Proof.Gen.Kernel22Ideal.Frame
public import proofs.«01_k».proof.Proof.Gen.Reference22Ideal.Read
public import Idealize.ShloMosaic.Lib.Pipeline.ValueKit
public import Idealize.ShloMosaic.Lib.Pipeline.ReadBack

@[expose] public section

set_option maxRecDepth 16384

noncomputable section

namespace Cert.Kernel22Ideal.Prod

open Cert.Kernel22Ideal Cert.Kernel22Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point stages. -/
theorem idx : ∀ t : Fin cfg0.N, win0_0.index t = ![t.val % 2, 0] ∧ win0_1.index t = ![t.val % 2, 0]
    ∧ win0_2.index t = ![0, 0] :=
  (by decide +kernel : ∀ t : Fin grid0.N, _)

abbrev a0 (c : Dev nD) : FVec Ideal S4096x512 .bf16 := m ((c.tc : Thread nD τ).loc main_arg0)
abbrev a1 (c : Dev nD) : FVec Ideal S4096x1024 .bf16 := m ((c.tc : Thread nD τ).loc main_arg1)

/-- The product of two blocks, entry by entry. -/
theorem pay1 (x : FVec Ideal S2048x512 .bf16) (y : FVec Ideal S2048x1024 .bf16) (i : Fin 512) (j : Fin 1024) :
    k0_pay1 (F := Ideal) x y (ix2 i j) = ∑ k : Fin 2048, x (ix2 k i) * y (ix2 k j) := by
  pointwise [k0_pay1]

/-- What the first tile leaves in the running sum. -/
theorem pay2 (x : FVec Ideal S2048x512 .bf16) (y : FVec Ideal S2048x1024 .bf16) (i : S512x1024.Idx) :
    k0_pay2 (F := Ideal) x y i = 0 + k0_pay1 (F := Ideal) x y i := by
  unfold k0_pay2
  generalize k0_pay1 (F := Ideal) x y = z
  rw [zero_add]
  idx_vars i
  pointwise []

/-- What the second tile leaves in the running sum. -/
theorem pay3 (x : FVec Ideal S2048x512 .bf16) (y : FVec Ideal S2048x1024 .bf16) (a : FVec Ideal S512x1024 .f32)
    (i : S512x1024.Idx) : k0_pay3 (F := Ideal) x y a i = a i + k0_pay1 (F := Ideal) x y i := by
  unfold k0_pay3
  generalize k0_pay1 (F := Ideal) x y = z
  idx_vars i
  pointwise []

/-- The running sum at the point that stores it. -/
theorem acc (c : Dev nD) (t : Fin cfg0.N) (ht : t.val % 2 = 1) (i : S512x1024.Idx) :
    (outsAt0 m c t.val t.isLt).2 i = 0 + ∑ s : Fin 2, k0_pay1 (F := Ideal)
      (iblk m c 0 ⟨2 * (t.val / 2) + s.val, by omega⟩) (iblk m c 1 ⟨2 * (t.val / 2) + s.val, by omega⟩) i :=
  Pipeline.eq_sum_fin_of_reset_step_apply_of_flush (fun n h => (outsAt0 m c n h).2) 2 (fun _ => 0)
    (fun t => k0_pay1 (F := Ideal) (iblk m c 0 t) (iblk m c 1 t))
    (fun t h j => by
      show (outsAt0 m c t.val t.isLt).2 j = _
      rw [outsAt0_A m c t h (by omega) (by omega)]; frame_out; exact pay2 _ _ j)
    (fun t h j => by
      show (outsAt0 m c t.val t.isLt).2 j = (outsAt0 m c (t.val - 1) _).2 j + _
      rw [outsAt0_B m c t h (by omega) (by omega)]; frame_out
      refine (pay3 _ _ _ j).trans ?_
      rw [read_unread_whole]) t ht i

/-- What that point stores is the running sum. -/
theorem out (c : Dev nD) (t : Fin cfg0.N) (ht : t.val % 2 = 1) (i : S512x1024.Idx) :
    (outsAt0 m c t.val t.isLt).1 i = (outsAt0 m c t.val t.isLt).2 i := by
  rw [outsAt0_B m c t (by omega) (by omega) (by omega)]
  frame_out <;> rfl

/-- The kernel's array is the reference's. -/
theorem final (c : Dev nD) : (dats m 0 c).arrAt 2 (cfgs 0).N
    = Cert.Reference22Ideal.Read.val_main_v7 (F := Ideal) (a0 m c) (a1 m c) := by
  refine (dats m 0 c).arrAt_eq_of_covers 2 _ (by decide +kernel) fun t hf y => ?_
  have hm := (flush0_2 t).mp hf
  blk_simp
  rw [after0_2]
  have ht : t.val < 2 := lt_of_lt_of_eq t.isLt N_0
  refine (out m c t hm _).trans ((acc m c t hm _).trans ?_)
  idx_vars y
  have he : ((View.whole main_v0).slice (win0_2.rect t)).emb (ix2 y0 y1)
      = ix2 y0 y1 := by
    refine funext fun a => Fin.ext ?_
    match a with
    | ⟨0, _⟩ => blk_simp [idx t]
    | ⟨1, _⟩ => blk_simp [idx t]
  rw [he, zero_add, Cert.Reference22Ideal.Read.val_main_v7_apply, Cert.Reference22Ideal.Read.val_main_v5_apply, Cert.Reference22Ideal.Read.val_main_v4_apply]
  refine Eq.trans (Finset.sum_congr rfl fun s _ => pay1 _ _ _ _) ?_
  refine Fin.sum_mul_add_congr fun s k hl => ?_
  rw [Cert.Reference22Ideal.Read.val_main_v3_apply, Cert.Reference22Ideal.Read.val_main_v1_apply, mul_comm]
  have hs : (2 * (t.val / 2) + s.val) % 2 = s.val := by omega
  congr 1
  · blk_point [iblk, V, idx ⟨2 * (t.val / 2) + s.val, lt_of_lt_of_eq (by omega) N_0.symm⟩]
  · blk_point [iblk, V, idx ⟨2 * (t.val / 2) + s.val, lt_of_lt_of_eq (by omega) N_0.symm⟩]

end Cert.Kernel22Ideal.Prod

end
-- ==== Proof.AdamStep.lean ====
/- One AdamW step, entry by entry: the changes of a weight, and the two moments. The constants are the step's, rounded to 32 bits. -/
module

public import Idealize.ShloMosaic.PureOps.Ideal.Laws

@[expose] public section

noncomputable section

namespace Cert.AdamStep

open Idealize.ShloMosaic

/-- A number from its 32 bits. -/
abbrev num (b : BitVec 32) : EReal := FloatOps.ofBits (F := Ideal) FTy.f32 b

/-- The first moment. -/
def moment1 (g m : EReal) : EReal := num 0x3F666666#32 * m + num 0x3DCCCCCD#32 * g

/-- The second moment. -/
def moment2 (g v : EReal) : EReal := num 0x3F7FBE77#32 * v + num 0x3A83126F#32 * (g * g)

/-- The change of the weight, from the two moments. -/
def change (m v w : EReal) : EReal :=
  num 0xBA83126F#32 * (Ideal.div (Ideal.div m (num 0x3F26BD02#32)) (Ideal.sqrt (Ideal.div v (num 0x3C231ACC#32)) + num 0x322BCC77#32)
    + num 0x3C23D70A#32 * w)

/-- Eight numbers added one after the other are their sum. -/
theorem sum_eight (f : Fin 8 → EReal) : f 0 + f 1 + f 2 + f 3 + f 4 + f 5 + f 6 + f 7 = ∑ k, f k :=
  (Fin.sum_univ_eight f).symm

end Cert.AdamStep

end
-- ==== Proof.AdamBranch.lean ====
/- The update of a branch's weight, one device's rows: eight devices' parts of the gradient are added, and one AdamW step is taken. -/
module

public import proofs.«01_k».proof.Proof.Gen.Kernel23Ideal.Frame
public import proofs.«01_k».proof.Proof.Gen.Reference23Ideal.Read
public import proofs.«01_k».proof.Proof.AdamStep
public import Idealize.ShloMosaic.Lib.Pipeline.ValueKit

@[expose] public section

set_option maxRecDepth 16384

noncomputable section

namespace Cert.Kernel23Ideal.Adam

open Cert.Kernel23Ideal Cert.Kernel23Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S8x128x1024 .bf16 := m ((c.tc : Thread nD τ).loc main_arg0)
abbrev a1 (c : Dev nD) : FVec Ideal S128x1024 .f32 := m ((c.tc : Thread nD τ).loc main_arg1)
abbrev a2 (c : Dev nD) : FVec Ideal S128x1024 .f32 := m ((c.tc : Thread nD τ).loc main_arg2)
abbrev a3 (c : Dev nD) : FVec Ideal S128x1024 .f32 := m ((c.tc : Thread nD τ).loc main_arg3)

/-- Which blocks a grid point stages. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The sum of the parts of a block. -/
theorem pay_sum (x0 : FVec Ideal S8x128x1024 .bf16) (x1 x2 x3 : FVec Ideal S128x1024 .f32) (i : Fin 128) (j : Fin 1024) :
    k0_pay5 (F := Ideal) x0 x1 x2 x3 (ix2 i j) = ∑ k : Fin 8, x0 (ix3 k i j) := by
  rw [← sum_eight fun k : Fin 8 => x0 (ix3 k i j)]
  unfold k0_pay5
  pointwise [k0_pay4]

/-- The number of grid points. -/
theorem t_lt (t : Fin cfg0.N) : t.val < 1 := lt_of_lt_of_eq t.isLt N_0

/-- The parts' block at a grid point. -/
theorem blk0 (c : Dev nD) (t : Fin cfg0.N) (k : Fin 8) (i : Fin 128) (j : Fin 1024) :
    iblk m c 0 t (ix3 k i j) = a0 m c (ix3 k i j) := by
  have ht := t_lt t
  blk_point [iblk, V, idx t]

/-- The weight's block at a grid point. -/
theorem blk1 (c : Dev nD) (t : Fin cfg0.N) (i : Fin 128) (j : Fin 1024) :
    iblk m c 1 t (ix2 i j) = a1 m c (ix2 i j) := by
  have ht := t_lt t
  blk_point [iblk, V, idx t]

/-- The first moment's block at a grid point. -/
theorem blk2 (c : Dev nD) (t : Fin cfg0.N) (i : Fin 128) (j : Fin 1024) :
    iblk m c 2 t (ix2 i j) = a2 m c (ix2 i j) := by
  have ht := t_lt t
  blk_point [iblk, V, idx t]

/-- The second moment's block at a grid point. -/
theorem blk3 (c : Dev nD) (t : Fin cfg0.N) (i : Fin 128) (j : Fin 1024) :
    iblk m c 3 t (ix2 i j) = a3 m c (ix2 i j) := by
  have ht := t_lt t
  blk_point [iblk, V, idx t]

/-- A payload at an entry: the first moment. -/
theorem pay_m (g v : FVec Ideal S128x1024 .f32) (i : Fin 128) (j : Fin 1024) :
    k0_pay1 (F := Ideal) g v (ix2 i j) = moment1 (g (ix2 i j)) (v (ix2 i j)) := by
  unfold moment1
  pointwise [k0_pay1]

/-- A payload at an entry: the second moment. -/
theorem pay_v (g v : FVec Ideal S128x1024 .f32) (i : Fin 128) (j : Fin 1024) :
    k0_pay2 (F := Ideal) g v (ix2 i j) = moment2 (g (ix2 i j)) (v (ix2 i j)) := by
  unfold moment2
  pointwise [k0_pay2]

/-- A payload at an entry: the change of the weight. -/
theorem pay_d (g x v w : FVec Ideal S128x1024 .f32) (i : Fin 128) (j : Fin 1024) :
    k0_pay3 (F := Ideal) g x v w (ix2 i j)
      = change (moment1 (g (ix2 i j)) (x (ix2 i j))) (moment2 (g (ix2 i j)) (v (ix2 i j))) (w (ix2 i j)) := by
  rw [← pay_m, ← pay_v]
  unfold k0_pay3 change
  generalize k0_pay1 (F := Ideal) g x = y
  generalize k0_pay2 (F := Ideal) g v = z
  pointwise []

/-- The reference's gradient at an entry. -/
theorem ref_g (x0 : FVec Ideal S8x128x1024 .bf16) (i : Fin 128) (j : Fin 1024) :
    Cert.Reference23Ideal.Read.val_main_v1 (F := Ideal) x0 (ix2 i j) = ∑ k : Fin 8, x0 (ix3 k i j) := by
  rw [Cert.Reference23Ideal.Read.val_main_v1_apply]
  rw [show (Cert.Reference23Ideal.Read.val_main_cst (F := Ideal)) (Shape.Idx.first Cert.Reference23Ideal.Gen.h_S_) = (0 : EReal) from Ideal.ofBits_zero_f32, zero_add]
  refine Finset.sum_congr rfl fun k _ => ?_
  exact congrArg x0 (funext fun a => Fin.ext (by match a with | ⟨0, _⟩ => rfl | ⟨1, _⟩ => rfl | ⟨2, _⟩ => rfl))

/-- The reference's new first moment at an entry. -/
theorem ref_m (x0 : FVec Ideal S8x128x1024 .bf16) (x2 : FVec Ideal S128x1024 .f32) (p : S128x1024.Idx) :
    Cert.Reference23Ideal.Read.val_main_v6 (F := Ideal) x0 x2 p = moment1 (Cert.Reference23Ideal.Read.val_main_v1 (F := Ideal) x0 p) (x2 p) := by
  unfold moment1
  rw [Cert.Reference23Ideal.Read.val_main_v6_apply]
  simp only [Cert.Reference23Ideal.Read.val_main_v2_apply, Cert.Reference23Ideal.Read.val_main_v3_apply, Cert.Reference23Ideal.Read.val_main_v4_apply, Cert.Reference23Ideal.Read.val_main_v5_apply, Cert.Reference23Ideal.Read.val_main_cst_0_apply, Cert.Reference23Ideal.Read.val_main_cst_1_apply]
  rfl

/-- The reference's new second moment at an entry. -/
theorem ref_v (x0 : FVec Ideal S8x128x1024 .bf16) (x3 : FVec Ideal S128x1024 .f32) (p : S128x1024.Idx) :
    Cert.Reference23Ideal.Read.val_main_v12 (F := Ideal) x0 x3 p = moment2 (Cert.Reference23Ideal.Read.val_main_v1 (F := Ideal) x0 p) (x3 p) := by
  unfold moment2
  rw [Cert.Reference23Ideal.Read.val_main_v12_apply]
  simp only [Cert.Reference23Ideal.Read.val_main_v7_apply, Cert.Reference23Ideal.Read.val_main_v8_apply, Cert.Reference23Ideal.Read.val_main_v9_apply, Cert.Reference23Ideal.Read.val_main_v10_apply, Cert.Reference23Ideal.Read.val_main_v11_apply, Cert.Reference23Ideal.Read.val_main_cst_2_apply, Cert.Reference23Ideal.Read.val_main_cst_3_apply]
  rfl

/-- The reference's change of the weight at an entry. -/
theorem ref_d (x0 : FVec Ideal S8x128x1024 .bf16) (x1 x2 x3 : FVec Ideal S128x1024 .f32) (p : S128x1024.Idx) :
    Cert.Reference23Ideal.Read.val_main_v25 (F := Ideal) x0 x1 x2 x3 p
      = change (Cert.Reference23Ideal.Read.val_main_v6 (F := Ideal) x0 x2 p) (Cert.Reference23Ideal.Read.val_main_v12 (F := Ideal) x0 x3 p) (x1 p) := by
  unfold change
  rw [Cert.Reference23Ideal.Read.val_main_v25_apply]
  simp only [Cert.Reference23Ideal.Read.val_main_v13_apply, Cert.Reference23Ideal.Read.val_main_v14_apply, Cert.Reference23Ideal.Read.val_main_v15_apply, Cert.Reference23Ideal.Read.val_main_v16_apply, Cert.Reference23Ideal.Read.val_main_v17_apply, Cert.Reference23Ideal.Read.val_main_v18_apply, Cert.Reference23Ideal.Read.val_main_v19_apply, Cert.Reference23Ideal.Read.val_main_v20_apply, Cert.Reference23Ideal.Read.val_main_v21_apply, Cert.Reference23Ideal.Read.val_main_v22_apply, Cert.Reference23Ideal.Read.val_main_v23_apply, Cert.Reference23Ideal.Read.val_main_v24_apply, Cert.Reference23Ideal.Read.val_main_cst_4_apply, Cert.Reference23Ideal.Read.val_main_cst_5_apply, Cert.Reference23Ideal.Read.val_main_cst_6_apply, Cert.Reference23Ideal.Read.val_main_cst_7_apply, Cert.Reference23Ideal.Read.val_main_cst_8_apply]
  rfl

/-- The gradient that the launch leaves. -/
theorem final4 (c : Dev nD) : (dats m 0 c).arrAt 4 (cfgs 0).N
    = Cert.Reference23Ideal.Read.val_main_v1 (F := Ideal) (a0 m c) := by
  refine (dats m 0 c).arrAt_eq_of_covers 4 _ (by decide +kernel) fun t _ y => ?_
  blk_simp
  rw [after0_4]
  unfold out0_4
  frame_out
  have ht := t_lt t
  idx_vars y
  revert y0 y1
  intro i j
  have he : ((View.whole main_v0_0).slice (win0_4.rect t)).emb (ix2 i j) = ix2 i j := by
    refine funext fun a => Fin.ext ?_
    match a with
    | ⟨0, _⟩ => blk_simp [idx t]
    | ⟨1, _⟩ => blk_simp [idx t]
  rw [he]
  refine (pay_sum _ _ _ _ i j).trans ?_
  rw [ref_g]
  exact Finset.sum_congr rfl fun k _ => blk0 m c t k i j

/-- The change of the weight that the launch leaves. -/
theorem final5 (c : Dev nD) : (dats m 0 c).arrAt 5 (cfgs 0).N
    = Cert.Reference23Ideal.Read.val_main_v25 (F := Ideal) (a0 m c) (a1 m c) (a2 m c) (a3 m c) := by
  refine (dats m 0 c).arrAt_eq_of_covers 5 _ (by decide +kernel) fun t _ y => ?_
  blk_simp
  rw [after0_5]
  unfold out0_5
  frame_out
  have ht := t_lt t
  idx_vars y
  revert y0 y1
  intro i j
  have he : ((View.whole main_v0_1).slice (win0_5.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference23Ideal.Read.val_main_v1 (F := Ideal) (a0 m c) (ix2 i j) := by
    refine (pay_sum _ _ _ _ i j).trans ?_
    rw [ref_g]
    exact Finset.sum_congr rfl fun k _ => blk0 m c t k i j
  rw [ref_d, ref_m, ref_v]
  refine (pay_d _ _ _ _ i j).trans ?_
  rw [hg, blk1, blk2, blk3]

/-- The first moment that the launch leaves. -/
theorem final6 (c : Dev nD) : (dats m 0 c).arrAt 6 (cfgs 0).N
    = Cert.Reference23Ideal.Read.val_main_v6 (F := Ideal) (a0 m c) (a2 m c) := by
  refine (dats m 0 c).arrAt_eq_of_covers 6 _ (by decide +kernel) fun t _ y => ?_
  blk_simp
  rw [after0_6]
  unfold out0_6
  frame_out
  have ht := t_lt t
  idx_vars y
  revert y0 y1
  intro i j
  have he : ((View.whole main_v0_2).slice (win0_6.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference23Ideal.Read.val_main_v1 (F := Ideal) (a0 m c) (ix2 i j) := by
    refine (pay_sum _ _ _ _ i j).trans ?_
    rw [ref_g]
    exact Finset.sum_congr rfl fun k _ => blk0 m c t k i j
  rw [ref_m]
  refine (pay_m _ _ i j).trans ?_
  rw [hg, blk2]

/-- The second moment that the launch leaves. -/
theorem final7 (c : Dev nD) : (dats m 0 c).arrAt 7 (cfgs 0).N
    = Cert.Reference23Ideal.Read.val_main_v12 (F := Ideal) (a0 m c) (a3 m c) := by
  refine (dats m 0 c).arrAt_eq_of_covers 7 _ (by decide +kernel) fun t _ y => ?_
  blk_simp
  rw [after0_7]
  unfold out0_7
  frame_out
  have ht := t_lt t
  idx_vars y
  revert y0 y1
  intro i j
  have he : ((View.whole main_v0_3).slice (win0_7.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference23Ideal.Read.val_main_v1 (F := Ideal) (a0 m c) (ix2 i j) := by
    refine (pay_sum _ _ _ _ i j).trans ?_
    rw [ref_g]
    exact Finset.sum_congr rfl fun k _ => blk0 m c t k i j
  rw [ref_v]
  refine (pay_v _ _ i j).trans ?_
  rw [hg, blk3]

/-- The kernel's gradient is the reference's. -/
theorem result0 (c : Dev nD) : (dats m 0 c).arrAt 4 (cfgs 0).N
    = Cert.Reference23Ideal.Read.val_main_v1 (F := Ideal) (a0 m c) := final4 m c

/-- The kernel's change of the weight is the reference's. -/
theorem result1 (c : Dev nD) : (dats m 0 c).arrAt 5 (cfgs 0).N
    = Cert.Reference23Ideal.Read.val_main_v25 (F := Ideal) (a0 m c) (a1 m c) (a2 m c) (a3 m c) := final5 m c

/-- The kernel's first moment is the reference's. -/
theorem result2 (c : Dev nD) : (dats m 0 c).arrAt 6 (cfgs 0).N
    = Cert.Reference23Ideal.Read.val_main_v6 (F := Ideal) (a0 m c) (a2 m c) := final6 m c

/-- The kernel's second moment is the reference's. -/
theorem result3 (c : Dev nD) : (dats m 0 c).arrAt 7 (cfgs 0).N
    = Cert.Reference23Ideal.Read.val_main_v12 (F := Ideal) (a0 m c) (a3 m c) := final7 m c

end Cert.Kernel23Ideal.Adam

end
-- ==== Proof.AdamMemQ.lean ====
/- The update of the queries' weight, one device's rows: eight devices' parts of the gradient are added, and one AdamW step is taken. -/
module

public import proofs.«01_k».proof.Proof.Gen.Kernel24Ideal.Frame
public import proofs.«01_k».proof.Proof.Gen.Reference24Ideal.Read
public import proofs.«01_k».proof.Proof.AdamStep
public import Idealize.ShloMosaic.Lib.Pipeline.ValueKit

@[expose] public section

set_option maxRecDepth 16384

noncomputable section

namespace Cert.Kernel24Ideal.Adam

open Cert.Kernel24Ideal Cert.Kernel24Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S8x128x512 .bf16 := m ((c.tc : Thread nD τ).loc main_arg0)
abbrev a1 (c : Dev nD) : FVec Ideal S128x512 .f32 := m ((c.tc : Thread nD τ).loc main_arg1)
abbrev a2 (c : Dev nD) : FVec Ideal S128x512 .f32 := m ((c.tc : Thread nD τ).loc main_arg2)
abbrev a3 (c : Dev nD) : FVec Ideal S128x512 .f32 := m ((c.tc : Thread nD τ).loc main_arg3)

/-- Which blocks a grid point stages. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The sum of the parts of a block. -/
theorem pay_sum (x0 : FVec Ideal S8x128x512 .bf16) (x1 x2 x3 : FVec Ideal S128x512 .f32) (i : Fin 128) (j : Fin 512) :
    k0_pay5 (F := Ideal) x0 x1 x2 x3 (ix2 i j) = ∑ k : Fin 8, x0 (ix3 k i j) := by
  rw [← sum_eight fun k : Fin 8 => x0 (ix3 k i j)]
  unfold k0_pay5
  pointwise [k0_pay4]

/-- The number of grid points. -/
theorem t_lt (t : Fin cfg0.N) : t.val < 1 := lt_of_lt_of_eq t.isLt N_0

/-- The parts' block at a grid point. -/
theorem blk0 (c : Dev nD) (t : Fin cfg0.N) (k : Fin 8) (i : Fin 128) (j : Fin 512) :
    iblk m c 0 t (ix3 k i j) = a0 m c (ix3 k i j) := by
  have ht := t_lt t
  blk_point [iblk, V, idx t]

/-- The weight's block at a grid point. -/
theorem blk1 (c : Dev nD) (t : Fin cfg0.N) (i : Fin 128) (j : Fin 512) :
    iblk m c 1 t (ix2 i j) = a1 m c (ix2 i j) := by
  have ht := t_lt t
  blk_point [iblk, V, idx t]

/-- The first moment's block at a grid point. -/
theorem blk2 (c : Dev nD) (t : Fin cfg0.N) (i : Fin 128) (j : Fin 512) :
    iblk m c 2 t (ix2 i j) = a2 m c (ix2 i j) := by
  have ht := t_lt t
  blk_point [iblk, V, idx t]

/-- The second moment's block at a grid point. -/
theorem blk3 (c : Dev nD) (t : Fin cfg0.N) (i : Fin 128) (j : Fin 512) :
    iblk m c 3 t (ix2 i j) = a3 m c (ix2 i j) := by
  have ht := t_lt t
  blk_point [iblk, V, idx t]

/-- A payload at an entry: the first moment. -/
theorem pay_m (g v : FVec Ideal S128x512 .f32) (i : Fin 128) (j : Fin 512) :
    k0_pay1 (F := Ideal) g v (ix2 i j) = moment1 (g (ix2 i j)) (v (ix2 i j)) := by
  unfold moment1
  pointwise [k0_pay1]

/-- A payload at an entry: the second moment. -/
theorem pay_v (g v : FVec Ideal S128x512 .f32) (i : Fin 128) (j : Fin 512) :
    k0_pay2 (F := Ideal) g v (ix2 i j) = moment2 (g (ix2 i j)) (v (ix2 i j)) := by
  unfold moment2
  pointwise [k0_pay2]

/-- A payload at an entry: the change of the weight. -/
theorem pay_d (g x v w : FVec Ideal S128x512 .f32) (i : Fin 128) (j : Fin 512) :
    k0_pay3 (F := Ideal) g x v w (ix2 i j)
      = change (moment1 (g (ix2 i j)) (x (ix2 i j))) (moment2 (g (ix2 i j)) (v (ix2 i j))) (w (ix2 i j)) := by
  rw [← pay_m, ← pay_v]
  unfold k0_pay3 change
  generalize k0_pay1 (F := Ideal) g x = y
  generalize k0_pay2 (F := Ideal) g v = z
  pointwise []

/-- The reference's gradient at an entry. -/
theorem ref_g (x0 : FVec Ideal S8x128x512 .bf16) (i : Fin 128) (j : Fin 512) :
    Cert.Reference24Ideal.Read.val_main_v1 (F := Ideal) x0 (ix2 i j) = ∑ k : Fin 8, x0 (ix3 k i j) := by
  rw [Cert.Reference24Ideal.Read.val_main_v1_apply]
  rw [show (Cert.Reference24Ideal.Read.val_main_cst (F := Ideal)) (Shape.Idx.first Cert.Reference24Ideal.Gen.h_S_) = (0 : EReal) from Ideal.ofBits_zero_f32, zero_add]
  refine Finset.sum_congr rfl fun k _ => ?_
  exact congrArg x0 (funext fun a => Fin.ext (by match a with | ⟨0, _⟩ => rfl | ⟨1, _⟩ => rfl | ⟨2, _⟩ => rfl))

/-- The reference's new first moment at an entry. -/
theorem ref_m (x0 : FVec Ideal S8x128x512 .bf16) (x2 : FVec Ideal S128x512 .f32) (p : S128x512.Idx) :
    Cert.Reference24Ideal.Read.val_main_v6 (F := Ideal) x0 x2 p = moment1 (Cert.Reference24Ideal.Read.val_main_v1 (F := Ideal) x0 p) (x2 p) := by
  unfold moment1
  rw [Cert.Reference24Ideal.Read.val_main_v6_apply]
  simp only [Cert.Reference24Ideal.Read.val_main_v2_apply, Cert.Reference24Ideal.Read.val_main_v3_apply, Cert.Reference24Ideal.Read.val_main_v4_apply, Cert.Reference24Ideal.Read.val_main_v5_apply, Cert.Reference24Ideal.Read.val_main_cst_0_apply, Cert.Reference24Ideal.Read.val_main_cst_1_apply]
  rfl

/-- The reference's new second moment at an entry. -/
theorem ref_v (x0 : FVec Ideal S8x128x512 .bf16) (x3 : FVec Ideal S128x512 .f32) (p : S128x512.Idx) :
    Cert.Reference24Ideal.Read.val_main_v12 (F := Ideal) x0 x3 p = moment2 (Cert.Reference24Ideal.Read.val_main_v1 (F := Ideal) x0 p) (x3 p) := by
  unfold moment2
  rw [Cert.Reference24Ideal.Read.val_main_v12_apply]
  simp only [Cert.Reference24Ideal.Read.val_main_v7_apply, Cert.Reference24Ideal.Read.val_main_v8_apply, Cert.Reference24Ideal.Read.val_main_v9_apply, Cert.Reference24Ideal.Read.val_main_v10_apply, Cert.Reference24Ideal.Read.val_main_v11_apply, Cert.Reference24Ideal.Read.val_main_cst_2_apply, Cert.Reference24Ideal.Read.val_main_cst_3_apply]
  rfl

/-- The reference's change of the weight at an entry. -/
theorem ref_d (x0 : FVec Ideal S8x128x512 .bf16) (x1 x2 x3 : FVec Ideal S128x512 .f32) (p : S128x512.Idx) :
    Cert.Reference24Ideal.Read.val_main_v25 (F := Ideal) x0 x1 x2 x3 p
      = change (Cert.Reference24Ideal.Read.val_main_v6 (F := Ideal) x0 x2 p) (Cert.Reference24Ideal.Read.val_main_v12 (F := Ideal) x0 x3 p) (x1 p) := by
  unfold change
  rw [Cert.Reference24Ideal.Read.val_main_v25_apply]
  simp only [Cert.Reference24Ideal.Read.val_main_v13_apply, Cert.Reference24Ideal.Read.val_main_v14_apply, Cert.Reference24Ideal.Read.val_main_v15_apply, Cert.Reference24Ideal.Read.val_main_v16_apply, Cert.Reference24Ideal.Read.val_main_v17_apply, Cert.Reference24Ideal.Read.val_main_v18_apply, Cert.Reference24Ideal.Read.val_main_v19_apply, Cert.Reference24Ideal.Read.val_main_v20_apply, Cert.Reference24Ideal.Read.val_main_v21_apply, Cert.Reference24Ideal.Read.val_main_v22_apply, Cert.Reference24Ideal.Read.val_main_v23_apply, Cert.Reference24Ideal.Read.val_main_v24_apply, Cert.Reference24Ideal.Read.val_main_cst_4_apply, Cert.Reference24Ideal.Read.val_main_cst_5_apply, Cert.Reference24Ideal.Read.val_main_cst_6_apply, Cert.Reference24Ideal.Read.val_main_cst_7_apply, Cert.Reference24Ideal.Read.val_main_cst_8_apply]
  rfl

/-- The gradient that the launch leaves. -/
theorem final4 (c : Dev nD) : (dats m 0 c).arrAt 4 (cfgs 0).N
    = Cert.Reference24Ideal.Read.val_main_v1 (F := Ideal) (a0 m c) := by
  refine (dats m 0 c).arrAt_eq_of_covers 4 _ (by decide +kernel) fun t _ y => ?_
  blk_simp
  rw [after0_4]
  unfold out0_4
  frame_out
  have ht := t_lt t
  idx_vars y
  revert y0 y1
  intro i j
  have he : ((View.whole main_v0_0).slice (win0_4.rect t)).emb (ix2 i j) = ix2 i j := by
    refine funext fun a => Fin.ext ?_
    match a with
    | ⟨0, _⟩ => blk_simp [idx t]
    | ⟨1, _⟩ => blk_simp [idx t]
  rw [he]
  refine (pay_sum _ _ _ _ i j).trans ?_
  rw [ref_g]
  exact Finset.sum_congr rfl fun k _ => blk0 m c t k i j

/-- The change of the weight that the launch leaves. -/
theorem final5 (c : Dev nD) : (dats m 0 c).arrAt 5 (cfgs 0).N
    = Cert.Reference24Ideal.Read.val_main_v25 (F := Ideal) (a0 m c) (a1 m c) (a2 m c) (a3 m c) := by
  refine (dats m 0 c).arrAt_eq_of_covers 5 _ (by decide +kernel) fun t _ y => ?_
  blk_simp
  rw [after0_5]
  unfold out0_5
  frame_out
  have ht := t_lt t
  idx_vars y
  revert y0 y1
  intro i j
  have he : ((View.whole main_v0_1).slice (win0_5.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference24Ideal.Read.val_main_v1 (F := Ideal) (a0 m c) (ix2 i j) := by
    refine (pay_sum _ _ _ _ i j).trans ?_
    rw [ref_g]
    exact Finset.sum_congr rfl fun k _ => blk0 m c t k i j
  rw [ref_d, ref_m, ref_v]
  refine (pay_d _ _ _ _ i j).trans ?_
  rw [hg, blk1, blk2, blk3]

/-- The first moment that the launch leaves. -/
theorem final6 (c : Dev nD) : (dats m 0 c).arrAt 6 (cfgs 0).N
    = Cert.Reference24Ideal.Read.val_main_v6 (F := Ideal) (a0 m c) (a2 m c) := by
  refine (dats m 0 c).arrAt_eq_of_covers 6 _ (by decide +kernel) fun t _ y => ?_
  blk_simp
  rw [after0_6]
  unfold out0_6
  frame_out
  have ht := t_lt t
  idx_vars y
  revert y0 y1
  intro i j
  have he : ((View.whole main_v0_2).slice (win0_6.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference24Ideal.Read.val_main_v1 (F := Ideal) (a0 m c) (ix2 i j) := by
    refine (pay_sum _ _ _ _ i j).trans ?_
    rw [ref_g]
    exact Finset.sum_congr rfl fun k _ => blk0 m c t k i j
  rw [ref_m]
  refine (pay_m _ _ i j).trans ?_
  rw [hg, blk2]

/-- The second moment that the launch leaves. -/
theorem final7 (c : Dev nD) : (dats m 0 c).arrAt 7 (cfgs 0).N
    = Cert.Reference24Ideal.Read.val_main_v12 (F := Ideal) (a0 m c) (a3 m c) := by
  refine (dats m 0 c).arrAt_eq_of_covers 7 _ (by decide +kernel) fun t _ y => ?_
  blk_simp
  rw [after0_7]
  unfold out0_7
  frame_out
  have ht := t_lt t
  idx_vars y
  revert y0 y1
  intro i j
  have he : ((View.whole main_v0_3).slice (win0_7.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference24Ideal.Read.val_main_v1 (F := Ideal) (a0 m c) (ix2 i j) := by
    refine (pay_sum _ _ _ _ i j).trans ?_
    rw [ref_g]
    exact Finset.sum_congr rfl fun k _ => blk0 m c t k i j
  rw [ref_v]
  refine (pay_v _ _ i j).trans ?_
  rw [hg, blk3]

/-- The kernel's gradient is the reference's. -/
theorem result0 (c : Dev nD) : (dats m 0 c).arrAt 4 (cfgs 0).N
    = Cert.Reference24Ideal.Read.val_main_v1 (F := Ideal) (a0 m c) := final4 m c

/-- The kernel's change of the weight is the reference's. -/
theorem result1 (c : Dev nD) : (dats m 0 c).arrAt 5 (cfgs 0).N
    = Cert.Reference24Ideal.Read.val_main_v25 (F := Ideal) (a0 m c) (a1 m c) (a2 m c) (a3 m c) := final5 m c

/-- The kernel's first moment is the reference's. -/
theorem result2 (c : Dev nD) : (dats m 0 c).arrAt 6 (cfgs 0).N
    = Cert.Reference24Ideal.Read.val_main_v6 (F := Ideal) (a0 m c) (a2 m c) := final6 m c

/-- The kernel's second moment is the reference's. -/
theorem result3 (c : Dev nD) : (dats m 0 c).arrAt 7 (cfgs 0).N
    = Cert.Reference24Ideal.Read.val_main_v12 (F := Ideal) (a0 m c) (a3 m c) := final7 m c

end Cert.Kernel24Ideal.Adam

end
-- ==== Proof.AdamFfnOut.lean ====
/- The update of the gated network's output weights, one device's rows: eight devices' parts of the gradient are added, and one AdamW step is taken. -/
module

public import proofs.«01_k».proof.Proof.Gen.Kernel25Ideal.Frame
public import proofs.«01_k».proof.Proof.Gen.Reference25Ideal.Read
public import proofs.«01_k».proof.Proof.AdamStep
public import Idealize.ShloMosaic.Lib.Pipeline.ValueKit

@[expose] public section

set_option maxRecDepth 16384

noncomputable section

namespace Cert.Kernel25Ideal.Adam

open Cert.Kernel25Ideal Cert.Kernel25Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S8x352x1024 .bf16 := m ((c.tc : Thread nD τ).loc main_arg0)
abbrev a1 (c : Dev nD) : FVec Ideal S352x1024 .f32 := m ((c.tc : Thread nD τ).loc main_arg1)
abbrev a2 (c : Dev nD) : FVec Ideal S352x1024 .f32 := m ((c.tc : Thread nD τ).loc main_arg2)
abbrev a3 (c : Dev nD) : FVec Ideal S352x1024 .f32 := m ((c.tc : Thread nD τ).loc main_arg3)

/-- Which blocks a grid point stages. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum of the parts of a block. -/
theorem pay_sum (x0 : FVec Ideal S8x32x1024 .bf16) (x1 x2 x3 : FVec Ideal S32x1024 .f32) (i : Fin 32) (j : Fin 1024) :
    k0_pay5 (F := Ideal) x0 x1 x2 x3 (ix2 i j) = ∑ k : Fin 8, x0 (ix3 k i j) := by
  rw [← sum_eight fun k : Fin 8 => x0 (ix3 k i j)]
  unfold k0_pay5
  pointwise [k0_pay4]

/-- The number of grid points. -/
theorem t_lt (t : Fin cfg0.N) : t.val < 11 := lt_of_lt_of_eq t.isLt N_0

/-- The parts' block at a grid point. -/
theorem blk0 (c : Dev nD) (t : Fin cfg0.N) (k : Fin 8) (i : Fin 32) (j : Fin 1024) :
    iblk m c 0 t (ix3 k i j) = a0 m c (ix3 k ⟨t.val * 32 + i.val, by have := t_lt t; omega⟩ j) := by
  have ht := t_lt t
  blk_point [iblk, V, idx t]

/-- The weight's block at a grid point. -/
theorem blk1 (c : Dev nD) (t : Fin cfg0.N) (i : Fin 32) (j : Fin 1024) :
    iblk m c 1 t (ix2 i j) = a1 m c (ix2 ⟨t.val * 32 + i.val, by have := t_lt t; omega⟩ j) := by
  have ht := t_lt t
  blk_point [iblk, V, idx t]

/-- The first moment's block at a grid point. -/
theorem blk2 (c : Dev nD) (t : Fin cfg0.N) (i : Fin 32) (j : Fin 1024) :
    iblk m c 2 t (ix2 i j) = a2 m c (ix2 ⟨t.val * 32 + i.val, by have := t_lt t; omega⟩ j) := by
  have ht := t_lt t
  blk_point [iblk, V, idx t]

/-- The second moment's block at a grid point. -/
theorem blk3 (c : Dev nD) (t : Fin cfg0.N) (i : Fin 32) (j : Fin 1024) :
    iblk m c 3 t (ix2 i j) = a3 m c (ix2 ⟨t.val * 32 + i.val, by have := t_lt t; omega⟩ j) := by
  have ht := t_lt t
  blk_point [iblk, V, idx t]

/-- A payload at an entry: the first moment. -/
theorem pay_m (g v : FVec Ideal S32x1024 .f32) (i : Fin 32) (j : Fin 1024) :
    k0_pay1 (F := Ideal) g v (ix2 i j) = moment1 (g (ix2 i j)) (v (ix2 i j)) := by
  unfold moment1
  pointwise [k0_pay1]

/-- A payload at an entry: the second moment. -/
theorem pay_v (g v : FVec Ideal S32x1024 .f32) (i : Fin 32) (j : Fin 1024) :
    k0_pay2 (F := Ideal) g v (ix2 i j) = moment2 (g (ix2 i j)) (v (ix2 i j)) := by
  unfold moment2
  pointwise [k0_pay2]

/-- A payload at an entry: the change of the weight. -/
theorem pay_d (g x v w : FVec Ideal S32x1024 .f32) (i : Fin 32) (j : Fin 1024) :
    k0_pay3 (F := Ideal) g x v w (ix2 i j)
      = change (moment1 (g (ix2 i j)) (x (ix2 i j))) (moment2 (g (ix2 i j)) (v (ix2 i j))) (w (ix2 i j)) := by
  rw [← pay_m, ← pay_v]
  unfold k0_pay3 change
  generalize k0_pay1 (F := Ideal) g x = y
  generalize k0_pay2 (F := Ideal) g v = z
  pointwise []

/-- The reference's gradient at an entry. -/
theorem ref_g (x0 : FVec Ideal S8x352x1024 .bf16) (i : Fin 352) (j : Fin 1024) :
    Cert.Reference25Ideal.Read.val_main_v1 (F := Ideal) x0 (ix2 i j) = ∑ k : Fin 8, x0 (ix3 k i j) := by
  rw [Cert.Reference25Ideal.Read.val_main_v1_apply]
  rw [show (Cert.Reference25Ideal.Read.val_main_cst (F := Ideal)) (Shape.Idx.first Cert.Reference25Ideal.Gen.h_S_) = (0 : EReal) from Ideal.ofBits_zero_f32, zero_add]
  refine Finset.sum_congr rfl fun k _ => ?_
  exact congrArg x0 (funext fun a => Fin.ext (by match a with | ⟨0, _⟩ => rfl | ⟨1, _⟩ => rfl | ⟨2, _⟩ => rfl))

/-- The reference's new first moment at an entry. -/
theorem ref_m (x0 : FVec Ideal S8x352x1024 .bf16) (x2 : FVec Ideal S352x1024 .f32) (p : S352x1024.Idx) :
    Cert.Reference25Ideal.Read.val_main_v6 (F := Ideal) x0 x2 p = moment1 (Cert.Reference25Ideal.Read.val_main_v1 (F := Ideal) x0 p) (x2 p) := by
  unfold moment1
  rw [Cert.Reference25Ideal.Read.val_main_v6_apply]
  simp only [Cert.Reference25Ideal.Read.val_main_v2_apply, Cert.Reference25Ideal.Read.val_main_v3_apply, Cert.Reference25Ideal.Read.val_main_v4_apply, Cert.Reference25Ideal.Read.val_main_v5_apply, Cert.Reference25Ideal.Read.val_main_cst_0_apply, Cert.Reference25Ideal.Read.val_main_cst_1_apply]
  rfl

/-- The reference's new second moment at an entry. -/
theorem ref_v (x0 : FVec Ideal S8x352x1024 .bf16) (x3 : FVec Ideal S352x1024 .f32) (p : S352x1024.Idx) :
    Cert.Reference25Ideal.Read.val_main_v12 (F := Ideal) x0 x3 p = moment2 (Cert.Reference25Ideal.Read.val_main_v1 (F := Ideal) x0 p) (x3 p) := by
  unfold moment2
  rw [Cert.Reference25Ideal.Read.val_main_v12_apply]
  simp only [Cert.Reference25Ideal.Read.val_main_v7_apply, Cert.Reference25Ideal.Read.val_main_v8_apply, Cert.Reference25Ideal.Read.val_main_v9_apply, Cert.Reference25Ideal.Read.val_main_v10_apply, Cert.Reference25Ideal.Read.val_main_v11_apply, Cert.Reference25Ideal.Read.val_main_cst_2_apply, Cert.Reference25Ideal.Read.val_main_cst_3_apply]
  rfl

/-- The reference's change of the weight at an entry. -/
theorem ref_d (x0 : FVec Ideal S8x352x1024 .bf16) (x1 x2 x3 : FVec Ideal S352x1024 .f32) (p : S352x1024.Idx) :
    Cert.Reference25Ideal.Read.val_main_v25 (F := Ideal) x0 x1 x2 x3 p
      = change (Cert.Reference25Ideal.Read.val_main_v6 (F := Ideal) x0 x2 p) (Cert.Reference25Ideal.Read.val_main_v12 (F := Ideal) x0 x3 p) (x1 p) := by
  unfold change
  rw [Cert.Reference25Ideal.Read.val_main_v25_apply]
  simp only [Cert.Reference25Ideal.Read.val_main_v13_apply, Cert.Reference25Ideal.Read.val_main_v14_apply, Cert.Reference25Ideal.Read.val_main_v15_apply, Cert.Reference25Ideal.Read.val_main_v16_apply, Cert.Reference25Ideal.Read.val_main_v17_apply, Cert.Reference25Ideal.Read.val_main_v18_apply, Cert.Reference25Ideal.Read.val_main_v19_apply, Cert.Reference25Ideal.Read.val_main_v20_apply, Cert.Reference25Ideal.Read.val_main_v21_apply, Cert.Reference25Ideal.Read.val_main_v22_apply, Cert.Reference25Ideal.Read.val_main_v23_apply, Cert.Reference25Ideal.Read.val_main_v24_apply, Cert.Reference25Ideal.Read.val_main_cst_4_apply, Cert.Reference25Ideal.Read.val_main_cst_5_apply, Cert.Reference25Ideal.Read.val_main_cst_6_apply, Cert.Reference25Ideal.Read.val_main_cst_7_apply, Cert.Reference25Ideal.Read.val_main_cst_8_apply]
  rfl

/-- The gradient that the launch leaves. -/
theorem final4 (c : Dev nD) : (dats m 0 c).arrAt 4 (cfgs 0).N
    = Cert.Reference25Ideal.Read.val_main_v1 (F := Ideal) (a0 m c) := by
  refine (dats m 0 c).arrAt_eq_of_covers 4 _ (by decide +kernel) fun t _ y => ?_
  blk_simp
  rw [after0_4]
  unfold out0_4
  frame_out
  have ht := t_lt t
  idx_vars y
  revert y0 y1
  intro i j
  have he : ((View.whole main_v0_0).slice (win0_4.rect t)).emb (ix2 i j) = ix2 ⟨t.val * 32 + i.val, by have := t_lt t; omega⟩ j := by
    refine funext fun a => Fin.ext ?_
    match a with
    | ⟨0, _⟩ => blk_simp [idx t]
    | ⟨1, _⟩ => blk_simp [idx t]
  rw [he]
  refine (pay_sum _ _ _ _ i j).trans ?_
  rw [ref_g]
  exact Finset.sum_congr rfl fun k _ => blk0 m c t k i j

/-- The change of the weight that the launch leaves. -/
theorem final5 (c : Dev nD) : (dats m 0 c).arrAt 5 (cfgs 0).N
    = Cert.Reference25Ideal.Read.val_main_v25 (F := Ideal) (a0 m c) (a1 m c) (a2 m c) (a3 m c) := by
  refine (dats m 0 c).arrAt_eq_of_covers 5 _ (by decide +kernel) fun t _ y => ?_
  blk_simp
  rw [after0_5]
  unfold out0_5
  frame_out
  have ht := t_lt t
  idx_vars y
  revert y0 y1
  intro i j
  have he : ((View.whole main_v0_1).slice (win0_5.rect t)).emb (ix2 i j) = ix2 ⟨t.val * 32 + i.val, by have := t_lt t; omega⟩ j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference25Ideal.Read.val_main_v1 (F := Ideal) (a0 m c) (ix2 ⟨t.val * 32 + i.val, by have := t_lt t; omega⟩ j) := by
    refine (pay_sum _ _ _ _ i j).trans ?_
    rw [ref_g]
    exact Finset.sum_congr rfl fun k _ => blk0 m c t k i j
  rw [ref_d, ref_m, ref_v]
  refine (pay_d _ _ _ _ i j).trans ?_
  rw [hg, blk1, blk2, blk3]

/-- The first moment that the launch leaves. -/
theorem final6 (c : Dev nD) : (dats m 0 c).arrAt 6 (cfgs 0).N
    = Cert.Reference25Ideal.Read.val_main_v6 (F := Ideal) (a0 m c) (a2 m c) := by
  refine (dats m 0 c).arrAt_eq_of_covers 6 _ (by decide +kernel) fun t _ y => ?_
  blk_simp
  rw [after0_6]
  unfold out0_6
  frame_out
  have ht := t_lt t
  idx_vars y
  revert y0 y1
  intro i j
  have he : ((View.whole main_v0_2).slice (win0_6.rect t)).emb (ix2 i j) = ix2 ⟨t.val * 32 + i.val, by have := t_lt t; omega⟩ j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference25Ideal.Read.val_main_v1 (F := Ideal) (a0 m c) (ix2 ⟨t.val * 32 + i.val, by have := t_lt t; omega⟩ j) := by
    refine (pay_sum _ _ _ _ i j).trans ?_
    rw [ref_g]
    exact Finset.sum_congr rfl fun k _ => blk0 m c t k i j
  rw [ref_m]
  refine (pay_m _ _ i j).trans ?_
  rw [hg, blk2]

/-- The second moment that the launch leaves. -/
theorem final7 (c : Dev nD) : (dats m 0 c).arrAt 7 (cfgs 0).N
    = Cert.Reference25Ideal.Read.val_main_v12 (F := Ideal) (a0 m c) (a3 m c) := by
  refine (dats m 0 c).arrAt_eq_of_covers 7 _ (by decide +kernel) fun t _ y => ?_
  blk_simp
  rw [after0_7]
  unfold out0_7
  frame_out
  have ht := t_lt t
  idx_vars y
  revert y0 y1
  intro i j
  have he : ((View.whole main_v0_3).slice (win0_7.rect t)).emb (ix2 i j) = ix2 ⟨t.val * 32 + i.val, by have := t_lt t; omega⟩ j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference25Ideal.Read.val_main_v1 (F := Ideal) (a0 m c) (ix2 ⟨t.val * 32 + i.val, by have := t_lt t; omega⟩ j) := by
    refine (pay_sum _ _ _ _ i j).trans ?_
    rw [ref_g]
    exact Finset.sum_congr rfl fun k _ => blk0 m c t k i j
  rw [ref_v]
  refine (pay_v _ _ i j).trans ?_
  rw [hg, blk3]

/-- The kernel's gradient is the reference's. -/
theorem result0 (c : Dev nD) : (dats m 0 c).arrAt 4 (cfgs 0).N
    = Cert.Reference25Ideal.Read.val_main_v1 (F := Ideal) (a0 m c) := final4 m c

/-- The kernel's change of the weight is the reference's. -/
theorem result1 (c : Dev nD) : (dats m 0 c).arrAt 5 (cfgs 0).N
    = Cert.Reference25Ideal.Read.val_main_v25 (F := Ideal) (a0 m c) (a1 m c) (a2 m c) (a3 m c) := final5 m c

/-- The kernel's first moment is the reference's. -/
theorem result2 (c : Dev nD) : (dats m 0 c).arrAt 6 (cfgs 0).N
    = Cert.Reference25Ideal.Read.val_main_v6 (F := Ideal) (a0 m c) (a2 m c) := final6 m c

/-- The kernel's second moment is the reference's. -/
theorem result3 (c : Dev nD) : (dats m 0 c).arrAt 7 (cfgs 0).N
    = Cert.Reference25Ideal.Read.val_main_v12 (F := Ideal) (a0 m c) (a3 m c) := final7 m c

end Cert.Kernel25Ideal.Adam

end
-- ==== Proof.AdamDecay.lean ====
/- The update of a low-rank weight of the decay, one device's rows: eight devices' parts of the gradient are added, and one AdamW step is taken. -/
module

public import proofs.«01_k».proof.Proof.Gen.Kernel26Ideal.Frame
public import proofs.«01_k».proof.Proof.Gen.Reference26Ideal.Read
public import proofs.«01_k».proof.Proof.AdamStep
public import Idealize.ShloMosaic.Lib.Pipeline.ValueKit

@[expose] public section

set_option maxRecDepth 16384

noncomputable section

namespace Cert.Kernel26Ideal.Adam

open Cert.Kernel26Ideal Cert.Kernel26Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S8x64x128 .bf16 := m ((c.tc : Thread nD τ).loc main_arg0)
abbrev a1 (c : Dev nD) : FVec Ideal S64x128 .f32 := m ((c.tc : Thread nD τ).loc main_arg1)
abbrev a2 (c : Dev nD) : FVec Ideal S64x128 .f32 := m ((c.tc : Thread nD τ).loc main_arg2)
abbrev a3 (c : Dev nD) : FVec Ideal S64x128 .f32 := m ((c.tc : Thread nD τ).loc main_arg3)

/-- Which blocks a grid point stages. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The sum of the parts of a block. -/
theorem pay_sum (x0 : FVec Ideal S8x64x128 .bf16) (x1 x2 x3 : FVec Ideal S64x128 .f32) (i : Fin 64) (j : Fin 128) :
    k0_pay5 (F := Ideal) x0 x1 x2 x3 (ix2 i j) = ∑ k : Fin 8, x0 (ix3 k i j) := by
  rw [← sum_eight fun k : Fin 8 => x0 (ix3 k i j)]
  unfold k0_pay5
  pointwise [k0_pay4]

/-- The number of grid points. -/
theorem t_lt (t : Fin cfg0.N) : t.val < 1 := lt_of_lt_of_eq t.isLt N_0

/-- The parts' block at a grid point. -/
theorem blk0 (c : Dev nD) (t : Fin cfg0.N) (k : Fin 8) (i : Fin 64) (j : Fin 128) :
    iblk m c 0 t (ix3 k i j) = a0 m c (ix3 k i j) := by
  have ht := t_lt t
  blk_point [iblk, V, idx t]

/-- The weight's block at a grid point. -/
theorem blk1 (c : Dev nD) (t : Fin cfg0.N) (i : Fin 64) (j : Fin 128) :
    iblk m c 1 t (ix2 i j) = a1 m c (ix2 i j) := by
  have ht := t_lt t
  blk_point [iblk, V, idx t]

/-- The first moment's block at a grid point. -/
theorem blk2 (c : Dev nD) (t : Fin cfg0.N) (i : Fin 64) (j : Fin 128) :
    iblk m c 2 t (ix2 i j) = a2 m c (ix2 i j) := by
  have ht := t_lt t
  blk_point [iblk, V, idx t]

/-- The second moment's block at a grid point. -/
theorem blk3 (c : Dev nD) (t : Fin cfg0.N) (i : Fin 64) (j : Fin 128) :
    iblk m c 3 t (ix2 i j) = a3 m c (ix2 i j) := by
  have ht := t_lt t
  blk_point [iblk, V, idx t]

/-- A payload at an entry: the first moment. -/
theorem pay_m (g v : FVec Ideal S64x128 .f32) (i : Fin 64) (j : Fin 128) :
    k0_pay1 (F := Ideal) g v (ix2 i j) = moment1 (g (ix2 i j)) (v (ix2 i j)) := by
  unfold moment1
  pointwise [k0_pay1]

/-- A payload at an entry: the second moment. -/
theorem pay_v (g v : FVec Ideal S64x128 .f32) (i : Fin 64) (j : Fin 128) :
    k0_pay2 (F := Ideal) g v (ix2 i j) = moment2 (g (ix2 i j)) (v (ix2 i j)) := by
  unfold moment2
  pointwise [k0_pay2]

/-- A payload at an entry: the change of the weight. -/
theorem pay_d (g x v w : FVec Ideal S64x128 .f32) (i : Fin 64) (j : Fin 128) :
    k0_pay3 (F := Ideal) g x v w (ix2 i j)
      = change (moment1 (g (ix2 i j)) (x (ix2 i j))) (moment2 (g (ix2 i j)) (v (ix2 i j))) (w (ix2 i j)) := by
  rw [← pay_m, ← pay_v]
  unfold k0_pay3 change
  generalize k0_pay1 (F := Ideal) g x = y
  generalize k0_pay2 (F := Ideal) g v = z
  pointwise []

/-- The reference's gradient at an entry. -/
theorem ref_g (x0 : FVec Ideal S8x64x128 .bf16) (i : Fin 64) (j : Fin 128) :
    Cert.Reference26Ideal.Read.val_main_v1 (F := Ideal) x0 (ix2 i j) = ∑ k : Fin 8, x0 (ix3 k i j) := by
  rw [Cert.Reference26Ideal.Read.val_main_v1_apply]
  rw [show (Cert.Reference26Ideal.Read.val_main_cst (F := Ideal)) (Shape.Idx.first Cert.Reference26Ideal.Gen.h_S_) = (0 : EReal) from Ideal.ofBits_zero_f32, zero_add]
  refine Finset.sum_congr rfl fun k _ => ?_
  exact congrArg x0 (funext fun a => Fin.ext (by match a with | ⟨0, _⟩ => rfl | ⟨1, _⟩ => rfl | ⟨2, _⟩ => rfl))

/-- The reference's new first moment at an entry. -/
theorem ref_m (x0 : FVec Ideal S8x64x128 .bf16) (x2 : FVec Ideal S64x128 .f32) (p : S64x128.Idx) :
    Cert.Reference26Ideal.Read.val_main_v6 (F := Ideal) x0 x2 p = moment1 (Cert.Reference26Ideal.Read.val_main_v1 (F := Ideal) x0 p) (x2 p) := by
  unfold moment1
  rw [Cert.Reference26Ideal.Read.val_main_v6_apply]
  simp only [Cert.Reference26Ideal.Read.val_main_v2_apply, Cert.Reference26Ideal.Read.val_main_v3_apply, Cert.Reference26Ideal.Read.val_main_v4_apply, Cert.Reference26Ideal.Read.val_main_v5_apply, Cert.Reference26Ideal.Read.val_main_cst_0_apply, Cert.Reference26Ideal.Read.val_main_cst_1_apply]
  rfl

/-- The reference's new second moment at an entry. -/
theorem ref_v (x0 : FVec Ideal S8x64x128 .bf16) (x3 : FVec Ideal S64x128 .f32) (p : S64x128.Idx) :
    Cert.Reference26Ideal.Read.val_main_v12 (F := Ideal) x0 x3 p = moment2 (Cert.Reference26Ideal.Read.val_main_v1 (F := Ideal) x0 p) (x3 p) := by
  unfold moment2
  rw [Cert.Reference26Ideal.Read.val_main_v12_apply]
  simp only [Cert.Reference26Ideal.Read.val_main_v7_apply, Cert.Reference26Ideal.Read.val_main_v8_apply, Cert.Reference26Ideal.Read.val_main_v9_apply, Cert.Reference26Ideal.Read.val_main_v10_apply, Cert.Reference26Ideal.Read.val_main_v11_apply, Cert.Reference26Ideal.Read.val_main_cst_2_apply, Cert.Reference26Ideal.Read.val_main_cst_3_apply]
  rfl

/-- The reference's change of the weight at an entry. -/
theorem ref_d (x0 : FVec Ideal S8x64x128 .bf16) (x1 x2 x3 : FVec Ideal S64x128 .f32) (p : S64x128.Idx) :
    Cert.Reference26Ideal.Read.val_main_v25 (F := Ideal) x0 x1 x2 x3 p
      = change (Cert.Reference26Ideal.Read.val_main_v6 (F := Ideal) x0 x2 p) (Cert.Reference26Ideal.Read.val_main_v12 (F := Ideal) x0 x3 p) (x1 p) := by
  unfold change
  rw [Cert.Reference26Ideal.Read.val_main_v25_apply]
  simp only [Cert.Reference26Ideal.Read.val_main_v13_apply, Cert.Reference26Ideal.Read.val_main_v14_apply, Cert.Reference26Ideal.Read.val_main_v15_apply, Cert.Reference26Ideal.Read.val_main_v16_apply, Cert.Reference26Ideal.Read.val_main_v17_apply, Cert.Reference26Ideal.Read.val_main_v18_apply, Cert.Reference26Ideal.Read.val_main_v19_apply, Cert.Reference26Ideal.Read.val_main_v20_apply, Cert.Reference26Ideal.Read.val_main_v21_apply, Cert.Reference26Ideal.Read.val_main_v22_apply, Cert.Reference26Ideal.Read.val_main_v23_apply, Cert.Reference26Ideal.Read.val_main_v24_apply, Cert.Reference26Ideal.Read.val_main_cst_4_apply, Cert.Reference26Ideal.Read.val_main_cst_5_apply, Cert.Reference26Ideal.Read.val_main_cst_6_apply, Cert.Reference26Ideal.Read.val_main_cst_7_apply, Cert.Reference26Ideal.Read.val_main_cst_8_apply]
  rfl

/-- The gradient that the launch leaves. -/
theorem final4 (c : Dev nD) : (dats m 0 c).arrAt 4 (cfgs 0).N
    = Cert.Reference26Ideal.Read.val_main_v1 (F := Ideal) (a0 m c) := by
  refine (dats m 0 c).arrAt_eq_of_covers 4 _ (by decide +kernel) fun t _ y => ?_
  blk_simp
  rw [after0_4]
  unfold out0_4
  frame_out
  have ht := t_lt t
  idx_vars y
  revert y0 y1
  intro i j
  have he : ((View.whole main_v0_0).slice (win0_4.rect t)).emb (ix2 i j) = ix2 i j := by
    refine funext fun a => Fin.ext ?_
    match a with
    | ⟨0, _⟩ => blk_simp [idx t]
    | ⟨1, _⟩ => blk_simp [idx t]
  rw [he]
  refine (pay_sum _ _ _ _ i j).trans ?_
  rw [ref_g]
  exact Finset.sum_congr rfl fun k _ => blk0 m c t k i j

/-- The change of the weight that the launch leaves. -/
theorem final5 (c : Dev nD) : (dats m 0 c).arrAt 5 (cfgs 0).N
    = Cert.Reference26Ideal.Read.val_main_v25 (F := Ideal) (a0 m c) (a1 m c) (a2 m c) (a3 m c) := by
  refine (dats m 0 c).arrAt_eq_of_covers 5 _ (by decide +kernel) fun t _ y => ?_
  blk_simp
  rw [after0_5]
  unfold out0_5
  frame_out
  have ht := t_lt t
  idx_vars y
  revert y0 y1
  intro i j
  have he : ((View.whole main_v0_1).slice (win0_5.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference26Ideal.Read.val_main_v1 (F := Ideal) (a0 m c) (ix2 i j) := by
    refine (pay_sum _ _ _ _ i j).trans ?_
    rw [ref_g]
    exact Finset.sum_congr rfl fun k _ => blk0 m c t k i j
  rw [ref_d, ref_m, ref_v]
  refine (pay_d _ _ _ _ i j).trans ?_
  rw [hg, blk1, blk2, blk3]

/-- The first moment that the launch leaves. -/
theorem final6 (c : Dev nD) : (dats m 0 c).arrAt 6 (cfgs 0).N
    = Cert.Reference26Ideal.Read.val_main_v6 (F := Ideal) (a0 m c) (a2 m c) := by
  refine (dats m 0 c).arrAt_eq_of_covers 6 _ (by decide +kernel) fun t _ y => ?_
  blk_simp
  rw [after0_6]
  unfold out0_6
  frame_out
  have ht := t_lt t
  idx_vars y
  revert y0 y1
  intro i j
  have he : ((View.whole main_v0_2).slice (win0_6.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference26Ideal.Read.val_main_v1 (F := Ideal) (a0 m c) (ix2 i j) := by
    refine (pay_sum _ _ _ _ i j).trans ?_
    rw [ref_g]
    exact Finset.sum_congr rfl fun k _ => blk0 m c t k i j
  rw [ref_m]
  refine (pay_m _ _ i j).trans ?_
  rw [hg, blk2]

/-- The second moment that the launch leaves. -/
theorem final7 (c : Dev nD) : (dats m 0 c).arrAt 7 (cfgs 0).N
    = Cert.Reference26Ideal.Read.val_main_v12 (F := Ideal) (a0 m c) (a3 m c) := by
  refine (dats m 0 c).arrAt_eq_of_covers 7 _ (by decide +kernel) fun t _ y => ?_
  blk_simp
  rw [after0_7]
  unfold out0_7
  frame_out
  have ht := t_lt t
  idx_vars y
  revert y0 y1
  intro i j
  have he : ((View.whole main_v0_3).slice (win0_7.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference26Ideal.Read.val_main_v1 (F := Ideal) (a0 m c) (ix2 i j) := by
    refine (pay_sum _ _ _ _ i j).trans ?_
    rw [ref_g]
    exact Finset.sum_congr rfl fun k _ => blk0 m c t k i j
  rw [ref_v]
  refine (pay_v _ _ i j).trans ?_
  rw [hg, blk3]

/-- The kernel's gradient is the reference's. -/
theorem result0 (c : Dev nD) : (dats m 0 c).arrAt 4 (cfgs 0).N
    = Cert.Reference26Ideal.Read.val_main_v1 (F := Ideal) (a0 m c) := final4 m c

/-- The kernel's change of the weight is the reference's. -/
theorem result1 (c : Dev nD) : (dats m 0 c).arrAt 5 (cfgs 0).N
    = Cert.Reference26Ideal.Read.val_main_v25 (F := Ideal) (a0 m c) (a1 m c) (a2 m c) (a3 m c) := final5 m c

/-- The kernel's first moment is the reference's. -/
theorem result2 (c : Dev nD) : (dats m 0 c).arrAt 6 (cfgs 0).N
    = Cert.Reference26Ideal.Read.val_main_v6 (F := Ideal) (a0 m c) (a2 m c) := final6 m c

/-- The kernel's second moment is the reference's. -/
theorem result3 (c : Dev nD) : (dats m 0 c).arrAt 7 (cfgs 0).N
    = Cert.Reference26Ideal.Read.val_main_v12 (F := Ideal) (a0 m c) (a3 m c) := final7 m c

end Cert.Kernel26Ideal.Adam

end
-- ==== Proof.AdamGate.lean ====
/- The update of the low-rank weight of the gate, one device's rows: eight devices' parts of the gradient are added, and one AdamW step is taken. -/
module

public import proofs.«01_k».proof.Proof.Gen.Kernel27Ideal.Frame
public import proofs.«01_k».proof.Proof.Gen.Reference27Ideal.Read
public import proofs.«01_k».proof.Proof.AdamStep
public import Idealize.ShloMosaic.Lib.Pipeline.ValueKit

@[expose] public section

set_option maxRecDepth 16384

noncomputable section

namespace Cert.Kernel27Ideal.Adam

open Cert.Kernel27Ideal Cert.Kernel27Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S8x160x128 .bf16 := m ((c.tc : Thread nD τ).loc main_arg0)
abbrev a1 (c : Dev nD) : FVec Ideal S160x128 .f32 := m ((c.tc : Thread nD τ).loc main_arg1)
abbrev a2 (c : Dev nD) : FVec Ideal S160x128 .f32 := m ((c.tc : Thread nD τ).loc main_arg2)
abbrev a3 (c : Dev nD) : FVec Ideal S160x128 .f32 := m ((c.tc : Thread nD τ).loc main_arg3)

/-- Which blocks a grid point stages. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum of the parts of a block. -/
theorem pay_sum (x0 : FVec Ideal S8x80x128 .bf16) (x1 x2 x3 : FVec Ideal S80x128 .f32) (i : Fin 80) (j : Fin 128) :
    k0_pay5 (F := Ideal) x0 x1 x2 x3 (ix2 i j) = ∑ k : Fin 8, x0 (ix3 k i j) := by
  rw [← sum_eight fun k : Fin 8 => x0 (ix3 k i j)]
  unfold k0_pay5
  pointwise [k0_pay4]

/-- The number of grid points. -/
theorem t_lt (t : Fin cfg0.N) : t.val < 2 := lt_of_lt_of_eq t.isLt N_0

/-- The parts' block at a grid point. -/
theorem blk0 (c : Dev nD) (t : Fin cfg0.N) (k : Fin 8) (i : Fin 80) (j : Fin 128) :
    iblk m c 0 t (ix3 k i j) = a0 m c (ix3 k ⟨t.val * 80 + i.val, by have := t_lt t; omega⟩ j) := by
  have ht := t_lt t
  blk_point [iblk, V, idx t]

/-- The weight's block at a grid point. -/
theorem blk1 (c : Dev nD) (t : Fin cfg0.N) (i : Fin 80) (j : Fin 128) :
    iblk m c 1 t (ix2 i j) = a1 m c (ix2 ⟨t.val * 80 + i.val, by have := t_lt t; omega⟩ j) := by
  have ht := t_lt t
  blk_point [iblk, V, idx t]

/-- The first moment's block at a grid point. -/
theorem blk2 (c : Dev nD) (t : Fin cfg0.N) (i : Fin 80) (j : Fin 128) :
    iblk m c 2 t (ix2 i j) = a2 m c (ix2 ⟨t.val * 80 + i.val, by have := t_lt t; omega⟩ j) := by
  have ht := t_lt t
  blk_point [iblk, V, idx t]

/-- The second moment's block at a grid point. -/
theorem blk3 (c : Dev nD) (t : Fin cfg0.N) (i : Fin 80) (j : Fin 128) :
    iblk m c 3 t (ix2 i j) = a3 m c (ix2 ⟨t.val * 80 + i.val, by have := t_lt t; omega⟩ j) := by
  have ht := t_lt t
  blk_point [iblk, V, idx t]

/-- A payload at an entry: the first moment. -/
theorem pay_m (g v : FVec Ideal S80x128 .f32) (i : Fin 80) (j : Fin 128) :
    k0_pay1 (F := Ideal) g v (ix2 i j) = moment1 (g (ix2 i j)) (v (ix2 i j)) := by
  unfold moment1
  pointwise [k0_pay1]

/-- A payload at an entry: the second moment. -/
theorem pay_v (g v : FVec Ideal S80x128 .f32) (i : Fin 80) (j : Fin 128) :
    k0_pay2 (F := Ideal) g v (ix2 i j) = moment2 (g (ix2 i j)) (v (ix2 i j)) := by
  unfold moment2
  pointwise [k0_pay2]

/-- A payload at an entry: the change of the weight. -/
theorem pay_d (g x v w : FVec Ideal S80x128 .f32) (i : Fin 80) (j : Fin 128) :
    k0_pay3 (F := Ideal) g x v w (ix2 i j)
      = change (moment1 (g (ix2 i j)) (x (ix2 i j))) (moment2 (g (ix2 i j)) (v (ix2 i j))) (w (ix2 i j)) := by
  rw [← pay_m, ← pay_v]
  unfold k0_pay3 change
  generalize k0_pay1 (F := Ideal) g x = y
  generalize k0_pay2 (F := Ideal) g v = z
  pointwise []

/-- The reference's gradient at an entry. -/
theorem ref_g (x0 : FVec Ideal S8x160x128 .bf16) (i : Fin 160) (j : Fin 128) :
    Cert.Reference27Ideal.Read.val_main_v1 (F := Ideal) x0 (ix2 i j) = ∑ k : Fin 8, x0 (ix3 k i j) := by
  rw [Cert.Reference27Ideal.Read.val_main_v1_apply]
  rw [show (Cert.Reference27Ideal.Read.val_main_cst (F := Ideal)) (Shape.Idx.first Cert.Reference27Ideal.Gen.h_S_) = (0 : EReal) from Ideal.ofBits_zero_f32, zero_add]
  refine Finset.sum_congr rfl fun k _ => ?_
  exact congrArg x0 (funext fun a => Fin.ext (by match a with | ⟨0, _⟩ => rfl | ⟨1, _⟩ => rfl | ⟨2, _⟩ => rfl))

/-- The reference's new first moment at an entry. -/
theorem ref_m (x0 : FVec Ideal S8x160x128 .bf16) (x2 : FVec Ideal S160x128 .f32) (p : S160x128.Idx) :
    Cert.Reference27Ideal.Read.val_main_v6 (F := Ideal) x0 x2 p = moment1 (Cert.Reference27Ideal.Read.val_main_v1 (F := Ideal) x0 p) (x2 p) := by
  unfold moment1
  rw [Cert.Reference27Ideal.Read.val_main_v6_apply]
  simp only [Cert.Reference27Ideal.Read.val_main_v2_apply, Cert.Reference27Ideal.Read.val_main_v3_apply, Cert.Reference27Ideal.Read.val_main_v4_apply, Cert.Reference27Ideal.Read.val_main_v5_apply, Cert.Reference27Ideal.Read.val_main_cst_0_apply, Cert.Reference27Ideal.Read.val_main_cst_1_apply]
  rfl

/-- The reference's new second moment at an entry. -/
theorem ref_v (x0 : FVec Ideal S8x160x128 .bf16) (x3 : FVec Ideal S160x128 .f32) (p : S160x128.Idx) :
    Cert.Reference27Ideal.Read.val_main_v12 (F := Ideal) x0 x3 p = moment2 (Cert.Reference27Ideal.Read.val_main_v1 (F := Ideal) x0 p) (x3 p) := by
  unfold moment2
  rw [Cert.Reference27Ideal.Read.val_main_v12_apply]
  simp only [Cert.Reference27Ideal.Read.val_main_v7_apply, Cert.Reference27Ideal.Read.val_main_v8_apply, Cert.Reference27Ideal.Read.val_main_v9_apply, Cert.Reference27Ideal.Read.val_main_v10_apply, Cert.Reference27Ideal.Read.val_main_v11_apply, Cert.Reference27Ideal.Read.val_main_cst_2_apply, Cert.Reference27Ideal.Read.val_main_cst_3_apply]
  rfl

/-- The reference's change of the weight at an entry. -/
theorem ref_d (x0 : FVec Ideal S8x160x128 .bf16) (x1 x2 x3 : FVec Ideal S160x128 .f32) (p : S160x128.Idx) :
    Cert.Reference27Ideal.Read.val_main_v25 (F := Ideal) x0 x1 x2 x3 p
      = change (Cert.Reference27Ideal.Read.val_main_v6 (F := Ideal) x0 x2 p) (Cert.Reference27Ideal.Read.val_main_v12 (F := Ideal) x0 x3 p) (x1 p) := by
  unfold change
  rw [Cert.Reference27Ideal.Read.val_main_v25_apply]
  simp only [Cert.Reference27Ideal.Read.val_main_v13_apply, Cert.Reference27Ideal.Read.val_main_v14_apply, Cert.Reference27Ideal.Read.val_main_v15_apply, Cert.Reference27Ideal.Read.val_main_v16_apply, Cert.Reference27Ideal.Read.val_main_v17_apply, Cert.Reference27Ideal.Read.val_main_v18_apply, Cert.Reference27Ideal.Read.val_main_v19_apply, Cert.Reference27Ideal.Read.val_main_v20_apply, Cert.Reference27Ideal.Read.val_main_v21_apply, Cert.Reference27Ideal.Read.val_main_v22_apply, Cert.Reference27Ideal.Read.val_main_v23_apply, Cert.Reference27Ideal.Read.val_main_v24_apply, Cert.Reference27Ideal.Read.val_main_cst_4_apply, Cert.Reference27Ideal.Read.val_main_cst_5_apply, Cert.Reference27Ideal.Read.val_main_cst_6_apply, Cert.Reference27Ideal.Read.val_main_cst_7_apply, Cert.Reference27Ideal.Read.val_main_cst_8_apply]
  rfl

/-- The gradient that the launch leaves. -/
theorem final4 (c : Dev nD) : (dats m 0 c).arrAt 4 (cfgs 0).N
    = Cert.Reference27Ideal.Read.val_main_v1 (F := Ideal) (a0 m c) := by
  refine (dats m 0 c).arrAt_eq_of_covers 4 _ (by decide +kernel) fun t _ y => ?_
  blk_simp
  rw [after0_4]
  unfold out0_4
  frame_out
  have ht := t_lt t
  idx_vars y
  revert y0 y1
  intro i j
  have he : ((View.whole main_v0_0).slice (win0_4.rect t)).emb (ix2 i j) = ix2 ⟨t.val * 80 + i.val, by have := t_lt t; omega⟩ j := by
    refine funext fun a => Fin.ext ?_
    match a with
    | ⟨0, _⟩ => blk_simp [idx t]
    | ⟨1, _⟩ => blk_simp [idx t]
  rw [he]
  refine (pay_sum _ _ _ _ i j).trans ?_
  rw [ref_g]
  exact Finset.sum_congr rfl fun k _ => blk0 m c t k i j

/-- The change of the weight that the launch leaves. -/
theorem final5 (c : Dev nD) : (dats m 0 c).arrAt 5 (cfgs 0).N
    = Cert.Reference27Ideal.Read.val_main_v25 (F := Ideal) (a0 m c) (a1 m c) (a2 m c) (a3 m c) := by
  refine (dats m 0 c).arrAt_eq_of_covers 5 _ (by decide +kernel) fun t _ y => ?_
  blk_simp
  rw [after0_5]
  unfold out0_5
  frame_out
  have ht := t_lt t
  idx_vars y
  revert y0 y1
  intro i j
  have he : ((View.whole main_v0_1).slice (win0_5.rect t)).emb (ix2 i j) = ix2 ⟨t.val * 80 + i.val, by have := t_lt t; omega⟩ j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference27Ideal.Read.val_main_v1 (F := Ideal) (a0 m c) (ix2 ⟨t.val * 80 + i.val, by have := t_lt t; omega⟩ j) := by
    refine (pay_sum _ _ _ _ i j).trans ?_
    rw [ref_g]
    exact Finset.sum_congr rfl fun k _ => blk0 m c t k i j
  rw [ref_d, ref_m, ref_v]
  refine (pay_d _ _ _ _ i j).trans ?_
  rw [hg, blk1, blk2, blk3]

/-- The first moment that the launch leaves. -/
theorem final6 (c : Dev nD) : (dats m 0 c).arrAt 6 (cfgs 0).N
    = Cert.Reference27Ideal.Read.val_main_v6 (F := Ideal) (a0 m c) (a2 m c) := by
  refine (dats m 0 c).arrAt_eq_of_covers 6 _ (by decide +kernel) fun t _ y => ?_
  blk_simp
  rw [after0_6]
  unfold out0_6
  frame_out
  have ht := t_lt t
  idx_vars y
  revert y0 y1
  intro i j
  have he : ((View.whole main_v0_2).slice (win0_6.rect t)).emb (ix2 i j) = ix2 ⟨t.val * 80 + i.val, by have := t_lt t; omega⟩ j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference27Ideal.Read.val_main_v1 (F := Ideal) (a0 m c) (ix2 ⟨t.val * 80 + i.val, by have := t_lt t; omega⟩ j) := by
    refine (pay_sum _ _ _ _ i j).trans ?_
    rw [ref_g]
    exact Finset.sum_congr rfl fun k _ => blk0 m c t k i j
  rw [ref_m]
  refine (pay_m _ _ i j).trans ?_
  rw [hg, blk2]

/-- The second moment that the launch leaves. -/
theorem final7 (c : Dev nD) : (dats m 0 c).arrAt 7 (cfgs 0).N
    = Cert.Reference27Ideal.Read.val_main_v12 (F := Ideal) (a0 m c) (a3 m c) := by
  refine (dats m 0 c).arrAt_eq_of_covers 7 _ (by decide +kernel) fun t _ y => ?_
  blk_simp
  rw [after0_7]
  unfold out0_7
  frame_out
  have ht := t_lt t
  idx_vars y
  revert y0 y1
  intro i j
  have he : ((View.whole main_v0_3).slice (win0_7.rect t)).emb (ix2 i j) = ix2 ⟨t.val * 80 + i.val, by have := t_lt t; omega⟩ j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference27Ideal.Read.val_main_v1 (F := Ideal) (a0 m c) (ix2 ⟨t.val * 80 + i.val, by have := t_lt t; omega⟩ j) := by
    refine (pay_sum _ _ _ _ i j).trans ?_
    rw [ref_g]
    exact Finset.sum_congr rfl fun k _ => blk0 m c t k i j
  rw [ref_v]
  refine (pay_v _ _ i j).trans ?_
  rw [hg, blk3]

/-- The kernel's gradient is the reference's. -/
theorem result0 (c : Dev nD) : (dats m 0 c).arrAt 4 (cfgs 0).N
    = Cert.Reference27Ideal.Read.val_main_v1 (F := Ideal) (a0 m c) := final4 m c

/-- The kernel's change of the weight is the reference's. -/
theorem result1 (c : Dev nD) : (dats m 0 c).arrAt 5 (cfgs 0).N
    = Cert.Reference27Ideal.Read.val_main_v25 (F := Ideal) (a0 m c) (a1 m c) (a2 m c) (a3 m c) := final5 m c

/-- The kernel's first moment is the reference's. -/
theorem result2 (c : Dev nD) : (dats m 0 c).arrAt 6 (cfgs 0).N
    = Cert.Reference27Ideal.Read.val_main_v6 (F := Ideal) (a0 m c) (a2 m c) := final6 m c

/-- The kernel's second moment is the reference's. -/
theorem result3 (c : Dev nD) : (dats m 0 c).arrAt 7 (cfgs 0).N
    = Cert.Reference27Ideal.Read.val_main_v12 (F := Ideal) (a0 m c) (a3 m c) := final7 m c

end Cert.Kernel27Ideal.Adam

end
-- ==== Proof.AdamMemO.lean ====
/- The update of the memory attention's last weight, one device's rows: eight devices' parts of the gradient are added, and one AdamW step is taken. -/
module

public import proofs.«01_k».proof.Proof.Gen.Kernel28Ideal.Frame
public import proofs.«01_k».proof.Proof.Gen.Reference28Ideal.Read
public import proofs.«01_k».proof.Proof.AdamStep
public import Idealize.ShloMosaic.Lib.Pipeline.ValueKit

@[expose] public section

set_option maxRecDepth 16384

noncomputable section

namespace Cert.Kernel28Ideal.Adam

open Cert.Kernel28Ideal Cert.Kernel28Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S8x512x128 .bf16 := m ((c.tc : Thread nD τ).loc main_arg0)
abbrev a1 (c : Dev nD) : FVec Ideal S512x128 .f32 := m ((c.tc : Thread nD τ).loc main_arg1)
abbrev a2 (c : Dev nD) : FVec Ideal S512x128 .f32 := m ((c.tc : Thread nD τ).loc main_arg2)
abbrev a3 (c : Dev nD) : FVec Ideal S512x128 .f32 := m ((c.tc : Thread nD τ).loc main_arg3)

/-- Which blocks a grid point stages. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum of the parts of a block. -/
theorem pay_sum (x0 : FVec Ideal S8x128x128 .bf16) (x1 x2 x3 : FVec Ideal S128x128 .f32) (i : Fin 128) (j : Fin 128) :
    k0_pay5 (F := Ideal) x0 x1 x2 x3 (ix2 i j) = ∑ k : Fin 8, x0 (ix3 k i j) := by
  rw [← sum_eight fun k : Fin 8 => x0 (ix3 k i j)]
  unfold k0_pay5
  pointwise [k0_pay4]

/-- The number of grid points. -/
theorem t_lt (t : Fin cfg0.N) : t.val < 4 := lt_of_lt_of_eq t.isLt N_0

/-- The parts' block at a grid point. -/
theorem blk0 (c : Dev nD) (t : Fin cfg0.N) (k : Fin 8) (i : Fin 128) (j : Fin 128) :
    iblk m c 0 t (ix3 k i j) = a0 m c (ix3 k ⟨t.val * 128 + i.val, by have := t_lt t; omega⟩ j) := by
  have ht := t_lt t
  blk_point [iblk, V, idx t]

/-- The weight's block at a grid point. -/
theorem blk1 (c : Dev nD) (t : Fin cfg0.N) (i : Fin 128) (j : Fin 128) :
    iblk m c 1 t (ix2 i j) = a1 m c (ix2 ⟨t.val * 128 + i.val, by have := t_lt t; omega⟩ j) := by
  have ht := t_lt t
  blk_point [iblk, V, idx t]

/-- The first moment's block at a grid point. -/
theorem blk2 (c : Dev nD) (t : Fin cfg0.N) (i : Fin 128) (j : Fin 128) :
    iblk m c 2 t (ix2 i j) = a2 m c (ix2 ⟨t.val * 128 + i.val, by have := t_lt t; omega⟩ j) := by
  have ht := t_lt t
  blk_point [iblk, V, idx t]

/-- The second moment's block at a grid point. -/
theorem blk3 (c : Dev nD) (t : Fin cfg0.N) (i : Fin 128) (j : Fin 128) :
    iblk m c 3 t (ix2 i j) = a3 m c (ix2 ⟨t.val * 128 + i.val, by have := t_lt t; omega⟩ j) := by
  have ht := t_lt t
  blk_point [iblk, V, idx t]

/-- A payload at an entry: the first moment. -/
theorem pay_m (g v : FVec Ideal S128x128 .f32) (i : Fin 128) (j : Fin 128) :
    k0_pay1 (F := Ideal) g v (ix2 i j) = moment1 (g (ix2 i j)) (v (ix2 i j)) := by
  unfold moment1
  pointwise [k0_pay1]

/-- A payload at an entry: the second moment. -/
theorem pay_v (g v : FVec Ideal S128x128 .f32) (i : Fin 128) (j : Fin 128) :
    k0_pay2 (F := Ideal) g v (ix2 i j) = moment2 (g (ix2 i j)) (v (ix2 i j)) := by
  unfold moment2
  pointwise [k0_pay2]

/-- A payload at an entry: the change of the weight. -/
theorem pay_d (g x v w : FVec Ideal S128x128 .f32) (i : Fin 128) (j : Fin 128) :
    k0_pay3 (F := Ideal) g x v w (ix2 i j)
      = change (moment1 (g (ix2 i j)) (x (ix2 i j))) (moment2 (g (ix2 i j)) (v (ix2 i j))) (w (ix2 i j)) := by
  rw [← pay_m, ← pay_v]
  unfold k0_pay3 change
  generalize k0_pay1 (F := Ideal) g x = y
  generalize k0_pay2 (F := Ideal) g v = z
  pointwise []

/-- The reference's gradient at an entry. -/
theorem ref_g (x0 : FVec Ideal S8x512x128 .bf16) (i : Fin 512) (j : Fin 128) :
    Cert.Reference28Ideal.Read.val_main_v1 (F := Ideal) x0 (ix2 i j) = ∑ k : Fin 8, x0 (ix3 k i j) := by
  rw [Cert.Reference28Ideal.Read.val_main_v1_apply]
  rw [show (Cert.Reference28Ideal.Read.val_main_cst (F := Ideal)) (Shape.Idx.first Cert.Reference28Ideal.Gen.h_S_) = (0 : EReal) from Ideal.ofBits_zero_f32, zero_add]
  refine Finset.sum_congr rfl fun k _ => ?_
  exact congrArg x0 (funext fun a => Fin.ext (by match a with | ⟨0, _⟩ => rfl | ⟨1, _⟩ => rfl | ⟨2, _⟩ => rfl))

/-- The reference's new first moment at an entry. -/
theorem ref_m (x0 : FVec Ideal S8x512x128 .bf16) (x2 : FVec Ideal S512x128 .f32) (p : S512x128.Idx) :
    Cert.Reference28Ideal.Read.val_main_v6 (F := Ideal) x0 x2 p = moment1 (Cert.Reference28Ideal.Read.val_main_v1 (F := Ideal) x0 p) (x2 p) := by
  unfold moment1
  rw [Cert.Reference28Ideal.Read.val_main_v6_apply]
  simp only [Cert.Reference28Ideal.Read.val_main_v2_apply, Cert.Reference28Ideal.Read.val_main_v3_apply, Cert.Reference28Ideal.Read.val_main_v4_apply, Cert.Reference28Ideal.Read.val_main_v5_apply, Cert.Reference28Ideal.Read.val_main_cst_0_apply, Cert.Reference28Ideal.Read.val_main_cst_1_apply]
  rfl

/-- The reference's new second moment at an entry. -/
theorem ref_v (x0 : FVec Ideal S8x512x128 .bf16) (x3 : FVec Ideal S512x128 .f32) (p : S512x128.Idx) :
    Cert.Reference28Ideal.Read.val_main_v12 (F := Ideal) x0 x3 p = moment2 (Cert.Reference28Ideal.Read.val_main_v1 (F := Ideal) x0 p) (x3 p) := by
  unfold moment2
  rw [Cert.Reference28Ideal.Read.val_main_v12_apply]
  simp only [Cert.Reference28Ideal.Read.val_main_v7_apply, Cert.Reference28Ideal.Read.val_main_v8_apply, Cert.Reference28Ideal.Read.val_main_v9_apply, Cert.Reference28Ideal.Read.val_main_v10_apply, Cert.Reference28Ideal.Read.val_main_v11_apply, Cert.Reference28Ideal.Read.val_main_cst_2_apply, Cert.Reference28Ideal.Read.val_main_cst_3_apply]
  rfl

/-- The reference's change of the weight at an entry. -/
theorem ref_d (x0 : FVec Ideal S8x512x128 .bf16) (x1 x2 x3 : FVec Ideal S512x128 .f32) (p : S512x128.Idx) :
    Cert.Reference28Ideal.Read.val_main_v25 (F := Ideal) x0 x1 x2 x3 p
      = change (Cert.Reference28Ideal.Read.val_main_v6 (F := Ideal) x0 x2 p) (Cert.Reference28Ideal.Read.val_main_v12 (F := Ideal) x0 x3 p) (x1 p) := by
  unfold change
  rw [Cert.Reference28Ideal.Read.val_main_v25_apply]
  simp only [Cert.Reference28Ideal.Read.val_main_v13_apply, Cert.Reference28Ideal.Read.val_main_v14_apply, Cert.Reference28Ideal.Read.val_main_v15_apply, Cert.Reference28Ideal.Read.val_main_v16_apply, Cert.Reference28Ideal.Read.val_main_v17_apply, Cert.Reference28Ideal.Read.val_main_v18_apply, Cert.Reference28Ideal.Read.val_main_v19_apply, Cert.Reference28Ideal.Read.val_main_v20_apply, Cert.Reference28Ideal.Read.val_main_v21_apply, Cert.Reference28Ideal.Read.val_main_v22_apply, Cert.Reference28Ideal.Read.val_main_v23_apply, Cert.Reference28Ideal.Read.val_main_v24_apply, Cert.Reference28Ideal.Read.val_main_cst_4_apply, Cert.Reference28Ideal.Read.val_main_cst_5_apply, Cert.Reference28Ideal.Read.val_main_cst_6_apply, Cert.Reference28Ideal.Read.val_main_cst_7_apply, Cert.Reference28Ideal.Read.val_main_cst_8_apply]
  rfl

/-- The gradient that the launch leaves. -/
theorem final4 (c : Dev nD) : (dats m 0 c).arrAt 4 (cfgs 0).N
    = Cert.Reference28Ideal.Read.val_main_v1 (F := Ideal) (a0 m c) := by
  refine (dats m 0 c).arrAt_eq_of_covers 4 _ (by decide +kernel) fun t _ y => ?_
  blk_simp
  rw [after0_4]
  unfold out0_4
  frame_out
  have ht := t_lt t
  idx_vars y
  revert y0 y1
  intro i j
  have he : ((View.whole main_v0_0).slice (win0_4.rect t)).emb (ix2 i j) = ix2 ⟨t.val * 128 + i.val, by have := t_lt t; omega⟩ j := by
    refine funext fun a => Fin.ext ?_
    match a with
    | ⟨0, _⟩ => blk_simp [idx t]
    | ⟨1, _⟩ => blk_simp [idx t]
  rw [he]
  refine (pay_sum _ _ _ _ i j).trans ?_
  rw [ref_g]
  exact Finset.sum_congr rfl fun k _ => blk0 m c t k i j

/-- The change of the weight that the launch leaves. -/
theorem final5 (c : Dev nD) : (dats m 0 c).arrAt 5 (cfgs 0).N
    = Cert.Reference28Ideal.Read.val_main_v25 (F := Ideal) (a0 m c) (a1 m c) (a2 m c) (a3 m c) := by
  refine (dats m 0 c).arrAt_eq_of_covers 5 _ (by decide +kernel) fun t _ y => ?_
  blk_simp
  rw [after0_5]
  unfold out0_5
  frame_out
  have ht := t_lt t
  idx_vars y
  revert y0 y1
  intro i j
  have he : ((View.whole main_v0_1).slice (win0_5.rect t)).emb (ix2 i j) = ix2 ⟨t.val * 128 + i.val, by have := t_lt t; omega⟩ j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference28Ideal.Read.val_main_v1 (F := Ideal) (a0 m c) (ix2 ⟨t.val * 128 + i.val, by have := t_lt t; omega⟩ j) := by
    refine (pay_sum _ _ _ _ i j).trans ?_
    rw [ref_g]
    exact Finset.sum_congr rfl fun k _ => blk0 m c t k i j
  rw [ref_d, ref_m, ref_v]
  refine (pay_d _ _ _ _ i j).trans ?_
  rw [hg, blk1, blk2, blk3]

/-- The first moment that the launch leaves. -/
theorem final6 (c : Dev nD) : (dats m 0 c).arrAt 6 (cfgs 0).N
    = Cert.Reference28Ideal.Read.val_main_v6 (F := Ideal) (a0 m c) (a2 m c) := by
  refine (dats m 0 c).arrAt_eq_of_covers 6 _ (by decide +kernel) fun t _ y => ?_
  blk_simp
  rw [after0_6]
  unfold out0_6
  frame_out
  have ht := t_lt t
  idx_vars y
  revert y0 y1
  intro i j
  have he : ((View.whole main_v0_2).slice (win0_6.rect t)).emb (ix2 i j) = ix2 ⟨t.val * 128 + i.val, by have := t_lt t; omega⟩ j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference28Ideal.Read.val_main_v1 (F := Ideal) (a0 m c) (ix2 ⟨t.val * 128 + i.val, by have := t_lt t; omega⟩ j) := by
    refine (pay_sum _ _ _ _ i j).trans ?_
    rw [ref_g]
    exact Finset.sum_congr rfl fun k _ => blk0 m c t k i j
  rw [ref_m]
  refine (pay_m _ _ i j).trans ?_
  rw [hg, blk2]

/-- The second moment that the launch leaves. -/
theorem final7 (c : Dev nD) : (dats m 0 c).arrAt 7 (cfgs 0).N
    = Cert.Reference28Ideal.Read.val_main_v12 (F := Ideal) (a0 m c) (a3 m c) := by
  refine (dats m 0 c).arrAt_eq_of_covers 7 _ (by decide +kernel) fun t _ y => ?_
  blk_simp
  rw [after0_7]
  unfold out0_7
  frame_out
  have ht := t_lt t
  idx_vars y
  revert y0 y1
  intro i j
  have he : ((View.whole main_v0_3).slice (win0_7.rect t)).emb (ix2 i j) = ix2 ⟨t.val * 128 + i.val, by have := t_lt t; omega⟩ j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference28Ideal.Read.val_main_v1 (F := Ideal) (a0 m c) (ix2 ⟨t.val * 128 + i.val, by have := t_lt t; omega⟩ j) := by
    refine (pay_sum _ _ _ _ i j).trans ?_
    rw [ref_g]
    exact Finset.sum_congr rfl fun k _ => blk0 m c t k i j
  rw [ref_v]
  refine (pay_v _ _ i j).trans ?_
  rw [hg, blk3]

/-- The kernel's gradient is the reference's. -/
theorem result0 (c : Dev nD) : (dats m 0 c).arrAt 4 (cfgs 0).N
    = Cert.Reference28Ideal.Read.val_main_v1 (F := Ideal) (a0 m c) := final4 m c

/-- The kernel's change of the weight is the reference's. -/
theorem result1 (c : Dev nD) : (dats m 0 c).arrAt 5 (cfgs 0).N
    = Cert.Reference28Ideal.Read.val_main_v25 (F := Ideal) (a0 m c) (a1 m c) (a2 m c) (a3 m c) := final5 m c

/-- The kernel's first moment is the reference's. -/
theorem result2 (c : Dev nD) : (dats m 0 c).arrAt 6 (cfgs 0).N
    = Cert.Reference28Ideal.Read.val_main_v6 (F := Ideal) (a0 m c) (a2 m c) := final6 m c

/-- The kernel's second moment is the reference's. -/
theorem result3 (c : Dev nD) : (dats m 0 c).arrAt 7 (cfgs 0).N
    = Cert.Reference28Ideal.Read.val_main_v12 (F := Ideal) (a0 m c) (a3 m c) := final7 m c

end Cert.Kernel28Ideal.Adam

end
-- ==== Proof.AdamIn.lean ====
/- The update of the network's first weight, kept transposed, one device's rows: eight devices' parts of the gradient are added, and one AdamW step is taken. -/
module

public import proofs.«01_k».proof.Proof.Gen.Kernel29Ideal.Frame
public import proofs.«01_k».proof.Proof.Gen.Reference29Ideal.Read
public import proofs.«01_k».proof.Proof.AdamStep
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel29Ideal.Adam

open Cert.Kernel29Ideal Cert.Kernel29Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S8x1060x1024 .bf16 := m ((c.tc : Thread nD τ).loc main_arg0)
abbrev a1 (c : Dev nD) : FVec Ideal S1024x1060 .f32 := m ((c.tc : Thread nD τ).loc main_arg1)
abbrev a2 (c : Dev nD) : FVec Ideal S1024x1060 .f32 := m ((c.tc : Thread nD τ).loc main_arg2)
abbrev a3 (c : Dev nD) : FVec Ideal S1024x1060 .f32 := m ((c.tc : Thread nD τ).loc main_arg3)

/-- Which blocks a grid point stages. -/
theorem idx : ∀ t : Fin cfg0.N, win0_0.index t = ![0, 0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] :=
  (by decide +kernel : ∀ t : Fin grid0.N, _)

/-- The sum of the parts of a block. -/
theorem pay_sum (x0 : FVec Ideal S8x1060x128 .bf16) (x1 x2 x3 : FVec Ideal S1060x128 .f32) (i : Fin 1060) (j : Fin 128) :
    k0_pay5 (F := Ideal) x0 x1 x2 x3 (ix2 i j) = ∑ k : Fin 8, x0 (ix3 k i j) := by
  rw [← sum_eight fun k : Fin 8 => x0 (ix3 k i j)]
  unfold k0_pay5
  pointwise [k0_pay4]

/-- The number of grid points. -/
theorem t_lt (t : Fin cfg0.N) : t.val < 8 := lt_of_lt_of_eq t.isLt N_0

/-- The parts' block at a grid point. -/
theorem blk0 (c : Dev nD) (t : Fin cfg0.N) (k : Fin 8) (i : Fin 1060) (j : Fin 128) :
    iblk m c 0 t (ix3 k i j) = a0 m c (ix3 k i ⟨t.val * 128 + j.val, by have := t_lt t; omega⟩) := by
  have ht := t_lt t
  blk_point [iblk, V, idx t]

/-- The weight as the launch finds it, transposed. -/
def t1 (c : Dev nD) : FVec Ideal S1060x1024 .f32 := V m c main_v0

theorem t1_apply (c : Dev nD) (i : Fin 1060) (j : Fin 1024) : t1 m c (ix2 i j) = a1 m c (ix2 j i) := by
  unfold t1 V V0
  simp only [hostOps0, List.flatten_cons, List.flatten_nil, List.append_nil]
  after_reads_at

/-- The weight's block at a grid point. -/
theorem blk1 (c : Dev nD) (t : Fin cfg0.N) (i : Fin 1060) (j : Fin 128) :
    iblk m c 1 t (ix2 i j) = a1 m c (ix2 ⟨t.val * 128 + j.val, by have := t_lt t; omega⟩ i) := by
  have ht := t_lt t
  refine Eq.trans ?_ (t1_apply m c i ⟨t.val * 128 + j.val, by have := t_lt t; omega⟩)
  show t1 m c ((win0_1.blk t).view.emb (ix2 i j)) = _
  generalize t1 m c = z
  refine congrArg z (funext fun a => Fin.ext ?_)
  match a with
  | ⟨0, _⟩ => blk_simp [idx t]
  | ⟨1, _⟩ => blk_simp [idx t]

/-- The first moment as the launch finds it, transposed. -/
def t2 (c : Dev nD) : FVec Ideal S1060x1024 .f32 := V m c main_v1

theorem t2_apply (c : Dev nD) (i : Fin 1060) (j : Fin 1024) : t2 m c (ix2 i j) = a2 m c (ix2 j i) := by
  unfold t2 V V0
  simp only [hostOps0, List.flatten_cons, List.flatten_nil, List.append_nil]
  after_reads_at

/-- The first moment's block at a grid point. -/
theorem blk2 (c : Dev nD) (t : Fin cfg0.N) (i : Fin 1060) (j : Fin 128) :
    iblk m c 2 t (ix2 i j) = a2 m c (ix2 ⟨t.val * 128 + j.val, by have := t_lt t; omega⟩ i) := by
  have ht := t_lt t
  refine Eq.trans ?_ (t2_apply m c i ⟨t.val * 128 + j.val, by have := t_lt t; omega⟩)
  show t2 m c ((win0_2.blk t).view.emb (ix2 i j)) = _
  generalize t2 m c = z
  refine congrArg z (funext fun a => Fin.ext ?_)
  match a with
  | ⟨0, _⟩ => blk_simp [idx t]
  | ⟨1, _⟩ => blk_simp [idx t]

/-- The second moment as the launch finds it, transposed. -/
def t3 (c : Dev nD) : FVec Ideal S1060x1024 .f32 := V m c main_v2

theorem t3_apply (c : Dev nD) (i : Fin 1060) (j : Fin 1024) : t3 m c (ix2 i j) = a3 m c (ix2 j i) := by
  unfold t3 V V0
  simp only [hostOps0, List.flatten_cons, List.flatten_nil, List.append_nil]
  after_reads_at

/-- The second moment's block at a grid point. -/
theorem blk3 (c : Dev nD) (t : Fin cfg0.N) (i : Fin 1060) (j : Fin 128) :
    iblk m c 3 t (ix2 i j) = a3 m c (ix2 ⟨t.val * 128 + j.val, by have := t_lt t; omega⟩ i) := by
  have ht := t_lt t
  refine Eq.trans ?_ (t3_apply m c i ⟨t.val * 128 + j.val, by have := t_lt t; omega⟩)
  show t3 m c ((win0_3.blk t).view.emb (ix2 i j)) = _
  generalize t3 m c = z
  refine congrArg z (funext fun a => Fin.ext ?_)
  match a with
  | ⟨0, _⟩ => blk_simp [idx t]
  | ⟨1, _⟩ => blk_simp [idx t]

/-- A payload at an entry: the first moment. -/
theorem pay_m (g v : FVec Ideal S1060x128 .f32) (i : Fin 1060) (j : Fin 128) :
    k0_pay1 (F := Ideal) g v (ix2 i j) = moment1 (g (ix2 i j)) (v (ix2 i j)) := by
  unfold moment1
  pointwise [k0_pay1]

/-- A payload at an entry: the second moment. -/
theorem pay_v (g v : FVec Ideal S1060x128 .f32) (i : Fin 1060) (j : Fin 128) :
    k0_pay2 (F := Ideal) g v (ix2 i j) = moment2 (g (ix2 i j)) (v (ix2 i j)) := by
  unfold moment2
  pointwise [k0_pay2]

/-- A payload at an entry: the change of the weight. -/
theorem pay_d (g x v w : FVec Ideal S1060x128 .f32) (i : Fin 1060) (j : Fin 128) :
    k0_pay3 (F := Ideal) g x v w (ix2 i j)
      = change (moment1 (g (ix2 i j)) (x (ix2 i j))) (moment2 (g (ix2 i j)) (v (ix2 i j))) (w (ix2 i j)) := by
  rw [← pay_m, ← pay_v]
  unfold k0_pay3 change
  generalize k0_pay1 (F := Ideal) g x = y
  generalize k0_pay2 (F := Ideal) g v = z
  pointwise []

/-- The reference's gradient at an entry. -/
theorem ref_g (x0 : FVec Ideal S8x1060x1024 .bf16) (i : Fin 1060) (j : Fin 1024) :
    Cert.Reference29Ideal.Read.val_main_v1 (F := Ideal) x0 (ix2 i j) = ∑ k : Fin 8, x0 (ix3 k i j) := by
  rw [Cert.Reference29Ideal.Read.val_main_v1_apply]
  rw [show (Cert.Reference29Ideal.Read.val_main_cst (F := Ideal)) (Shape.Idx.first Cert.Reference29Ideal.Gen.h_S_) = (0 : EReal) from Ideal.ofBits_zero_f32, zero_add]
  refine Finset.sum_congr rfl fun k _ => ?_
  exact congrArg x0 (funext fun a => Fin.ext (by match a with | ⟨0, _⟩ => rfl | ⟨1, _⟩ => rfl | ⟨2, _⟩ => rfl))

/-- The reference transposes its gradient. -/
theorem ref_t (x0 : FVec Ideal S8x1060x1024 .bf16) (i : Fin 1060) (j : Fin 1024) :
    Cert.Reference29Ideal.Read.val_main_v2 (F := Ideal) x0 (ix2 j i) = Cert.Reference29Ideal.Read.val_main_v1 (F := Ideal) x0 (ix2 i j) := by
  rw [Cert.Reference29Ideal.Read.val_main_v2_apply]
  generalize Cert.Reference29Ideal.Read.val_main_v1 (F := Ideal) x0 = z
  exact congrArg z (funext fun a => Fin.ext (by match a with | ⟨0, _⟩ => rfl | ⟨1, _⟩ => rfl))

/-- The reference's new first moment at an entry. -/
theorem ref_m (x0 : FVec Ideal S8x1060x1024 .bf16) (x2 : FVec Ideal S1024x1060 .f32) (p : S1024x1060.Idx) :
    Cert.Reference29Ideal.Read.val_main_v7 (F := Ideal) x0 x2 p = moment1 (Cert.Reference29Ideal.Read.val_main_v2 (F := Ideal) x0 p) (x2 p) := by
  unfold moment1
  rw [Cert.Reference29Ideal.Read.val_main_v7_apply]
  simp only [Cert.Reference29Ideal.Read.val_main_v3_apply, Cert.Reference29Ideal.Read.val_main_v4_apply, Cert.Reference29Ideal.Read.val_main_v5_apply, Cert.Reference29Ideal.Read.val_main_v6_apply, Cert.Reference29Ideal.Read.val_main_cst_0_apply, Cert.Reference29Ideal.Read.val_main_cst_1_apply]
  rfl

/-- The reference's new second moment at an entry. -/
theorem ref_v (x0 : FVec Ideal S8x1060x1024 .bf16) (x3 : FVec Ideal S1024x1060 .f32) (p : S1024x1060.Idx) :
    Cert.Reference29Ideal.Read.val_main_v13 (F := Ideal) x0 x3 p = moment2 (Cert.Reference29Ideal.Read.val_main_v2 (F := Ideal) x0 p) (x3 p) := by
  unfold moment2
  rw [Cert.Reference29Ideal.Read.val_main_v13_apply]
  simp only [Cert.Reference29Ideal.Read.val_main_v8_apply, Cert.Reference29Ideal.Read.val_main_v9_apply, Cert.Reference29Ideal.Read.val_main_v10_apply, Cert.Reference29Ideal.Read.val_main_v11_apply, Cert.Reference29Ideal.Read.val_main_v12_apply, Cert.Reference29Ideal.Read.val_main_cst_2_apply, Cert.Reference29Ideal.Read.val_main_cst_3_apply]
  rfl

/-- The reference's change of the weight at an entry. -/
theorem ref_d (x0 : FVec Ideal S8x1060x1024 .bf16) (x1 x2 x3 : FVec Ideal S1024x1060 .f32) (p : S1024x1060.Idx) :
    Cert.Reference29Ideal.Read.val_main_v26 (F := Ideal) x0 x1 x2 x3 p
      = change (Cert.Reference29Ideal.Read.val_main_v7 (F := Ideal) x0 x2 p) (Cert.Reference29Ideal.Read.val_main_v13 (F := Ideal) x0 x3 p) (x1 p) := by
  unfold change
  rw [Cert.Reference29Ideal.Read.val_main_v26_apply]
  simp only [Cert.Reference29Ideal.Read.val_main_v14_apply, Cert.Reference29Ideal.Read.val_main_v15_apply, Cert.Reference29Ideal.Read.val_main_v16_apply, Cert.Reference29Ideal.Read.val_main_v17_apply, Cert.Reference29Ideal.Read.val_main_v18_apply, Cert.Reference29Ideal.Read.val_main_v19_apply, Cert.Reference29Ideal.Read.val_main_v20_apply, Cert.Reference29Ideal.Read.val_main_v21_apply, Cert.Reference29Ideal.Read.val_main_v22_apply, Cert.Reference29Ideal.Read.val_main_v23_apply, Cert.Reference29Ideal.Read.val_main_v24_apply, Cert.Reference29Ideal.Read.val_main_v25_apply, Cert.Reference29Ideal.Read.val_main_cst_4_apply, Cert.Reference29Ideal.Read.val_main_cst_5_apply, Cert.Reference29Ideal.Read.val_main_cst_6_apply, Cert.Reference29Ideal.Read.val_main_cst_7_apply, Cert.Reference29Ideal.Read.val_main_cst_8_apply]
  rfl

/-- The gradient that the launch leaves. -/
theorem final4 (c : Dev nD) : (dats m 0 c).arrAt 4 (cfgs 0).N
    = Cert.Reference29Ideal.Read.val_main_v1 (F := Ideal) (a0 m c) := by
  refine (dats m 0 c).arrAt_eq_of_covers 4 _ (by decide +kernel) fun t _ y => ?_
  blk_simp
  rw [after0_4]
  unfold out0_4
  frame_out
  have ht := t_lt t
  idx_vars y
  revert y0 y1
  intro i j
  have he : ((View.whole main_v3_0).slice (win0_4.rect t)).emb (ix2 i j) = ix2 i ⟨t.val * 128 + j.val, by have := t_lt t; omega⟩ := by
    refine funext fun a => Fin.ext ?_
    match a with
    | ⟨0, _⟩ => blk_simp [idx t]
    | ⟨1, _⟩ => blk_simp [idx t]
  rw [he]
  refine (pay_sum _ _ _ _ i j).trans ?_
  rw [ref_g]
  exact Finset.sum_congr rfl fun k _ => blk0 m c t k i j

/-- The change of the weight that the launch leaves. -/
theorem final5 (c : Dev nD) : (dats m 0 c).arrAt 5 (cfgs 0).N
    = fun p : S1060x1024.Idx => Cert.Reference29Ideal.Read.val_main_v26 (F := Ideal) (a0 m c) (a1 m c) (a2 m c) (a3 m c) (ix2 (p 1) (p 0)) := by
  refine (dats m 0 c).arrAt_eq_of_covers 5 _ (by decide +kernel) fun t _ y => ?_
  blk_simp
  rw [after0_5]
  unfold out0_5
  frame_out
  have ht := t_lt t
  idx_vars y
  revert y0 y1
  intro i j
  have he : ((View.whole main_v3_1).slice (win0_5.rect t)).emb (ix2 i j) = ix2 i ⟨t.val * 128 + j.val, by have := t_lt t; omega⟩ := by
    refine funext fun a => Fin.ext ?_
    match a with
    | ⟨0, _⟩ => blk_simp [idx t]
    | ⟨1, _⟩ => blk_simp [idx t]
  rw [he]
  show _ = Cert.Reference29Ideal.Read.val_main_v26 (F := Ideal) (a0 m c) (a1 m c) (a2 m c) (a3 m c) (ix2 ⟨t.val * 128 + j.val, by have := t_lt t; omega⟩ i)
  have hg : k0_pay5 (F := Ideal) (iblk m c 0 t) (iblk m c 1 t) (iblk m c 2 t) (iblk m c 3 t) (ix2 i j)
      = Cert.Reference29Ideal.Read.val_main_v2 (F := Ideal) (a0 m c) (ix2 ⟨t.val * 128 + j.val, by have := t_lt t; omega⟩ i) := by
    refine (pay_sum _ _ _ _ i j).trans ?_
    rw [ref_t, ref_g]
    exact Finset.sum_congr rfl fun k _ => blk0 m c t k i j
  rw [ref_d, ref_m, ref_v]
  refine (pay_d _ _ _ _ i j).trans ?_
  rw [hg, blk1, blk2, blk3]

/-- The first moment that the launch leaves. -/
theorem final6 (c : Dev nD) : (dats m 0 c).arrAt 6 (cfgs 0).N
    = fun p : S1060x1024.Idx => Cert.Reference29Ideal.Read.val_main_v7 (F := Ideal) (a0 m c) (a2 m c) (ix2 (p 1) (p 0)) := by
  refine (dats m 0 c).arrAt_eq_of_covers 6 _ (by decide +kernel) fun t _ y => ?_
  blk_simp
  rw [after0_6]
  unfold out0_6
  frame_out
  have ht := t_lt t
  idx_vars y
  revert y0 y1
  intro i j
  have he : ((View.whole main_v3_2).slice (win0_6.rect t)).emb (ix2 i j) = ix2 i ⟨t.val * 128 + j.val, by have := t_lt t; omega⟩ := by
    refine funext fun a => Fin.ext ?_
    match a with
    | ⟨0, _⟩ => blk_simp [idx t]
    | ⟨1, _⟩ => blk_simp [idx t]
  rw [he]
  show _ = Cert.Reference29Ideal.Read.val_main_v7 (F := Ideal) (a0 m c) (a2 m c) (ix2 ⟨t.val * 128 + j.val, by have := t_lt t; omega⟩ i)
  have hg : k0_pay5 (F := Ideal) (iblk m c 0 t) (iblk m c 1 t) (iblk m c 2 t) (iblk m c 3 t) (ix2 i j)
      = Cert.Reference29Ideal.Read.val_main_v2 (F := Ideal) (a0 m c) (ix2 ⟨t.val * 128 + j.val, by have := t_lt t; omega⟩ i) := by
    refine (pay_sum _ _ _ _ i j).trans ?_
    rw [ref_t, ref_g]
    exact Finset.sum_congr rfl fun k _ => blk0 m c t k i j
  rw [ref_m]
  refine (pay_m _ _ i j).trans ?_
  rw [hg, blk2]

/-- The second moment that the launch leaves. -/
theorem final7 (c : Dev nD) : (dats m 0 c).arrAt 7 (cfgs 0).N
    = fun p : S1060x1024.Idx => Cert.Reference29Ideal.Read.val_main_v13 (F := Ideal) (a0 m c) (a3 m c) (ix2 (p 1) (p 0)) := by
  refine (dats m 0 c).arrAt_eq_of_covers 7 _ (by decide +kernel) fun t _ y => ?_
  blk_simp
  rw [after0_7]
  unfold out0_7
  frame_out
  have ht := t_lt t
  idx_vars y
  revert y0 y1
  intro i j
  have he : ((View.whole main_v3_3).slice (win0_7.rect t)).emb (ix2 i j) = ix2 i ⟨t.val * 128 + j.val, by have := t_lt t; omega⟩ := by
    refine funext fun a => Fin.ext ?_
    match a with
    | ⟨0, _⟩ => blk_simp [idx t]
    | ⟨1, _⟩ => blk_simp [idx t]
  rw [he]
  show _ = Cert.Reference29Ideal.Read.val_main_v13 (F := Ideal) (a0 m c) (a3 m c) (ix2 ⟨t.val * 128 + j.val, by have := t_lt t; omega⟩ i)
  have hg : k0_pay5 (F := Ideal) (iblk m c 0 t) (iblk m c 1 t) (iblk m c 2 t) (iblk m c 3 t) (ix2 i j)
      = Cert.Reference29Ideal.Read.val_main_v2 (F := Ideal) (a0 m c) (ix2 ⟨t.val * 128 + j.val, by have := t_lt t; omega⟩ i) := by
    refine (pay_sum _ _ _ _ i j).trans ?_
    rw [ref_t, ref_g]
    exact Finset.sum_congr rfl fun k _ => blk0 m c t k i j
  rw [ref_v]
  refine (pay_v _ _ i j).trans ?_
  rw [hg, blk3]

/-- What the host's transposition leaves of the gradient. -/
theorem tail0 (c : Dev nD) : Pipeline.afterTail₀ cfgs (dats m) 0 (V0 m) [hostOps1] c main_v4
    = transpose S1024x1060 [1, 0] ((dats m 0 c).arrAt 4 (cfgs 0).N : FVec Ideal S1060x1024 .f32) transposes_S1060x1024_S1024x1060_1_0 := by
  unfold Pipeline.afterTail₀
  rw [← Pipeline.withArrays_arr (cfgs 0).spec (by decide) c (V0 m c) (fun w => (dats m 0 c).arrAt w (cfgs 0).N) 4]
  simp only [List.flatten_cons, List.flatten_nil, List.append_nil]
  unfold_abbrev_sides
  after_results

/-- The kernel's gradient is the reference's. -/
theorem result0 (c : Dev nD) : Pipeline.afterTail₀ cfgs (dats m) 0 (V0 m) [hostOps1] c main_v4
    = Cert.Reference29Ideal.Read.val_main_v2 (F := Ideal) (a0 m c) := by
  rw [tail0, final4]
  rfl

/-- What the host's transposition leaves of the change of the weight. -/
theorem tail1 (c : Dev nD) : Pipeline.afterTail₀ cfgs (dats m) 0 (V0 m) [hostOps1] c main_v5
    = transpose S1024x1060 [1, 0] ((dats m 0 c).arrAt 5 (cfgs 0).N : FVec Ideal S1060x1024 .f32) transposes_S1060x1024_S1024x1060_1_0 := by
  unfold Pipeline.afterTail₀
  rw [← Pipeline.withArrays_arr (cfgs 0).spec (by decide) c (V0 m c) (fun w => (dats m 0 c).arrAt w (cfgs 0).N) 5]
  simp only [List.flatten_cons, List.flatten_nil, List.append_nil]
  unfold_abbrev_sides
  after_results

/-- The kernel's change of the weight is the reference's. -/
theorem result1 (c : Dev nD) : Pipeline.afterTail₀ cfgs (dats m) 0 (V0 m) [hostOps1] c main_v5
    = Cert.Reference29Ideal.Read.val_main_v26 (F := Ideal) (a0 m c) (a1 m c) (a2 m c) (a3 m c) := by
  rw [tail1, final5]
  funext p
  idx_vars p
  generalize Cert.Reference29Ideal.Read.val_main_v26 (F := Ideal) (a0 m c) (a1 m c) (a2 m c) (a3 m c) = z
  pointwise []

/-- What the host's transposition leaves of the first moment. -/
theorem tail2 (c : Dev nD) : Pipeline.afterTail₀ cfgs (dats m) 0 (V0 m) [hostOps1] c main_v6
    = transpose S1024x1060 [1, 0] ((dats m 0 c).arrAt 6 (cfgs 0).N : FVec Ideal S1060x1024 .f32) transposes_S1060x1024_S1024x1060_1_0 := by
  unfold Pipeline.afterTail₀
  rw [← Pipeline.withArrays_arr (cfgs 0).spec (by decide) c (V0 m c) (fun w => (dats m 0 c).arrAt w (cfgs 0).N) 6]
  simp only [List.flatten_cons, List.flatten_nil, List.append_nil]
  unfold_abbrev_sides
  after_results

/-- The kernel's first moment is the reference's. -/
theorem result2 (c : Dev nD) : Pipeline.afterTail₀ cfgs (dats m) 0 (V0 m) [hostOps1] c main_v6
    = Cert.Reference29Ideal.Read.val_main_v7 (F := Ideal) (a0 m c) (a2 m c) := by
  rw [tail2, final6]
  funext p
  idx_vars p
  generalize Cert.Reference29Ideal.Read.val_main_v7 (F := Ideal) (a0 m c) (a2 m c) = z
  pointwise []

/-- What the host's transposition leaves of the second moment. -/
theorem tail3 (c : Dev nD) : Pipeline.afterTail₀ cfgs (dats m) 0 (V0 m) [hostOps1] c main_v7
    = transpose S1024x1060 [1, 0] ((dats m 0 c).arrAt 7 (cfgs 0).N : FVec Ideal S1060x1024 .f32) transposes_S1060x1024_S1024x1060_1_0 := by
  unfold Pipeline.afterTail₀
  rw [← Pipeline.withArrays_arr (cfgs 0).spec (by decide) c (V0 m c) (fun w => (dats m 0 c).arrAt w (cfgs 0).N) 7]
  simp only [List.flatten_cons, List.flatten_nil, List.append_nil]
  unfold_abbrev_sides
  after_results

/-- The kernel's second moment is the reference's. -/
theorem result3 (c : Dev nD) : Pipeline.afterTail₀ cfgs (dats m) 0 (V0 m) [hostOps1] c main_v7
    = Cert.Reference29Ideal.Read.val_main_v13 (F := Ideal) (a0 m c) (a3 m c) := by
  rw [tail3, final7]
  funext p
  idx_vars p
  generalize Cert.Reference29Ideal.Read.val_main_v13 (F := Ideal) (a0 m c) (a3 m c) = z
  pointwise []

end Cert.Kernel29Ideal.Adam

end
-- ==== Proof.AdamFfnIn.lean ====
/- The update of the gated network's input weights, kept transposed, one device's rows: eight devices' parts of the gradient are added, and one AdamW step is taken. -/
module

public import proofs.«01_k».proof.Proof.Gen.Kernel30Ideal.Frame
public import proofs.«01_k».proof.Proof.Gen.Reference30Ideal.Read
public import proofs.«01_k».proof.Proof.AdamStep
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel30Ideal.Adam

open Cert.Kernel30Ideal Cert.Kernel30Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S8x704x1024 .bf16 := m ((c.tc : Thread nD τ).loc main_arg0)
abbrev a1 (c : Dev nD) : FVec Ideal S1024x704 .f32 := m ((c.tc : Thread nD τ).loc main_arg1)
abbrev a2 (c : Dev nD) : FVec Ideal S1024x704 .f32 := m ((c.tc : Thread nD τ).loc main_arg2)
abbrev a3 (c : Dev nD) : FVec Ideal S1024x704 .f32 := m ((c.tc : Thread nD τ).loc main_arg3)

/-- Which blocks a grid point stages. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The sum of the parts of a block. -/
theorem pay_sum (x0 : FVec Ideal S8x64x1024 .bf16) (x1 x2 x3 : FVec Ideal S64x1024 .f32) (i : Fin 64) (j : Fin 1024) :
    k0_pay5 (F := Ideal) x0 x1 x2 x3 (ix2 i j) = ∑ k : Fin 8, x0 (ix3 k i j) := by
  rw [← sum_eight fun k : Fin 8 => x0 (ix3 k i j)]
  unfold k0_pay5
  pointwise [k0_pay4]

/-- The number of grid points. -/
theorem t_lt (t : Fin cfg0.N) : t.val < 11 := lt_of_lt_of_eq t.isLt N_0

/-- The parts' block at a grid point. -/
theorem blk0 (c : Dev nD) (t : Fin cfg0.N) (k : Fin 8) (i : Fin 64) (j : Fin 1024) :
    iblk m c 0 t (ix3 k i j) = a0 m c (ix3 k ⟨t.val * 64 + i.val, by have := t_lt t; omega⟩ j) := by
  have ht := t_lt t
  blk_point [iblk, V, idx t]

/-- The weight as the launch finds it, transposed. -/
def t1 (c : Dev nD) : FVec Ideal S704x1024 .f32 := V m c main_v0

theorem t1_apply (c : Dev nD) (i : Fin 704) (j : Fin 1024) : t1 m c (ix2 i j) = a1 m c (ix2 j i) := by
  unfold t1 V V0
  simp only [hostOps0, List.flatten_cons, List.flatten_nil, List.append_nil]
  after_reads_at

/-- The weight's block at a grid point. -/
theorem blk1 (c : Dev nD) (t : Fin cfg0.N) (i : Fin 64) (j : Fin 1024) :
    iblk m c 1 t (ix2 i j) = a1 m c (ix2 j ⟨t.val * 64 + i.val, by have := t_lt t; omega⟩) := by
  have ht := t_lt t
  refine Eq.trans ?_ (t1_apply m c ⟨t.val * 64 + i.val, by have := t_lt t; omega⟩ j)
  show t1 m c ((win0_1.blk t).view.emb (ix2 i j)) = _
  generalize t1 m c = z
  refine congrArg z (funext fun a => Fin.ext ?_)
  match a with
  | ⟨0, _⟩ => blk_simp [idx t]
  | ⟨1, _⟩ => blk_simp [idx t]

/-- The first moment as the launch finds it, transposed. -/
def t2 (c : Dev nD) : FVec Ideal S704x1024 .f32 := V m c main_v1

theorem t2_apply (c : Dev nD) (i : Fin 704) (j : Fin 1024) : t2 m c (ix2 i j) = a2 m c (ix2 j i) := by
  unfold t2 V V0
  simp only [hostOps0, List.flatten_cons, List.flatten_nil, List.append_nil]
  after_reads_at

/-- The first moment's block at a grid point. -/
theorem blk2 (c : Dev nD) (t : Fin cfg0.N) (i : Fin 64) (j : Fin 1024) :
    iblk m c 2 t (ix2 i j) = a2 m c (ix2 j ⟨t.val * 64 + i.val, by have := t_lt t; omega⟩) := by
  have ht := t_lt t
  refine Eq.trans ?_ (t2_apply m c ⟨t.val * 64 + i.val, by have := t_lt t; omega⟩ j)
  show t2 m c ((win0_2.blk t).view.emb (ix2 i j)) = _
  generalize t2 m c = z
  refine congrArg z (funext fun a => Fin.ext ?_)
  match a with
  | ⟨0, _⟩ => blk_simp [idx t]
  | ⟨1, _⟩ => blk_simp [idx t]

/-- The second moment as the launch finds it, transposed. -/
def t3 (c : Dev nD) : FVec Ideal S704x1024 .f32 := V m c main_v2

theorem t3_apply (c : Dev nD) (i : Fin 704) (j : Fin 1024) : t3 m c (ix2 i j) = a3 m c (ix2 j i) := by
  unfold t3 V V0
  simp only [hostOps0, List.flatten_cons, List.flatten_nil, List.append_nil]
  after_reads_at

/-- The second moment's block at a grid point. -/
theorem blk3 (c : Dev nD) (t : Fin cfg0.N) (i : Fin 64) (j : Fin 1024) :
    iblk m c 3 t (ix2 i j) = a3 m c (ix2 j ⟨t.val * 64 + i.val, by have := t_lt t; omega⟩) := by
  have ht := t_lt t
  refine Eq.trans ?_ (t3_apply m c ⟨t.val * 64 + i.val, by have := t_lt t; omega⟩ j)
  show t3 m c ((win0_3.blk t).view.emb (ix2 i j)) = _
  generalize t3 m c = z
  refine congrArg z (funext fun a => Fin.ext ?_)
  match a with
  | ⟨0, _⟩ => blk_simp [idx t]
  | ⟨1, _⟩ => blk_simp [idx t]

/-- A payload at an entry: the first moment. -/
theorem pay_m (g v : FVec Ideal S64x1024 .f32) (i : Fin 64) (j : Fin 1024) :
    k0_pay1 (F := Ideal) g v (ix2 i j) = moment1 (g (ix2 i j)) (v (ix2 i j)) := by
  unfold moment1
  pointwise [k0_pay1]

/-- A payload at an entry: the second moment. -/
theorem pay_v (g v : FVec Ideal S64x1024 .f32) (i : Fin 64) (j : Fin 1024) :
    k0_pay2 (F := Ideal) g v (ix2 i j) = moment2 (g (ix2 i j)) (v (ix2 i j)) := by
  unfold moment2
  pointwise [k0_pay2]

/-- A payload at an entry: the change of the weight. -/
theorem pay_d (g x v w : FVec Ideal S64x1024 .f32) (i : Fin 64) (j : Fin 1024) :
    k0_pay3 (F := Ideal) g x v w (ix2 i j)
      = change (moment1 (g (ix2 i j)) (x (ix2 i j))) (moment2 (g (ix2 i j)) (v (ix2 i j))) (w (ix2 i j)) := by
  rw [← pay_m, ← pay_v]
  unfold k0_pay3 change
  generalize k0_pay1 (F := Ideal) g x = y
  generalize k0_pay2 (F := Ideal) g v = z
  pointwise []

/-- The reference's gradient at an entry. -/
theorem ref_g (x0 : FVec Ideal S8x704x1024 .bf16) (i : Fin 704) (j : Fin 1024) :
    Cert.Reference30Ideal.Read.val_main_v1 (F := Ideal) x0 (ix2 i j) = ∑ k : Fin 8, x0 (ix3 k i j) := by
  rw [Cert.Reference30Ideal.Read.val_main_v1_apply]
  rw [show (Cert.Reference30Ideal.Read.val_main_cst (F := Ideal)) (Shape.Idx.first Cert.Reference30Ideal.Gen.h_S_) = (0 : EReal) from Ideal.ofBits_zero_f32, zero_add]
  refine Finset.sum_congr rfl fun k _ => ?_
  exact congrArg x0 (funext fun a => Fin.ext (by match a with | ⟨0, _⟩ => rfl | ⟨1, _⟩ => rfl | ⟨2, _⟩ => rfl))

/-- The reference transposes its gradient. -/
theorem ref_t (x0 : FVec Ideal S8x704x1024 .bf16) (i : Fin 704) (j : Fin 1024) :
    Cert.Reference30Ideal.Read.val_main_v2 (F := Ideal) x0 (ix2 j i) = Cert.Reference30Ideal.Read.val_main_v1 (F := Ideal) x0 (ix2 i j) := by
  rw [Cert.Reference30Ideal.Read.val_main_v2_apply]
  generalize Cert.Reference30Ideal.Read.val_main_v1 (F := Ideal) x0 = z
  exact congrArg z (funext fun a => Fin.ext (by match a with | ⟨0, _⟩ => rfl | ⟨1, _⟩ => rfl))

/-- The reference's new first moment at an entry. -/
theorem ref_m (x0 : FVec Ideal S8x704x1024 .bf16) (x2 : FVec Ideal S1024x704 .f32) (p : S1024x704.Idx) :
    Cert.Reference30Ideal.Read.val_main_v7 (F := Ideal) x0 x2 p = moment1 (Cert.Reference30Ideal.Read.val_main_v2 (F := Ideal) x0 p) (x2 p) := by
  unfold moment1
  rw [Cert.Reference30Ideal.Read.val_main_v7_apply]
  simp only [Cert.Reference30Ideal.Read.val_main_v3_apply, Cert.Reference30Ideal.Read.val_main_v4_apply, Cert.Reference30Ideal.Read.val_main_v5_apply, Cert.Reference30Ideal.Read.val_main_v6_apply, Cert.Reference30Ideal.Read.val_main_cst_0_apply, Cert.Reference30Ideal.Read.val_main_cst_1_apply]
  rfl

/-- The reference's new second moment at an entry. -/
theorem ref_v (x0 : FVec Ideal S8x704x1024 .bf16) (x3 : FVec Ideal S1024x704 .f32) (p : S1024x704.Idx) :
    Cert.Reference30Ideal.Read.val_main_v13 (F := Ideal) x0 x3 p = moment2 (Cert.Reference30Ideal.Read.val_main_v2 (F := Ideal) x0 p) (x3 p) := by
  unfold moment2
  rw [Cert.Reference30Ideal.Read.val_main_v13_apply]
  simp only [Cert.Reference30Ideal.Read.val_main_v8_apply, Cert.Reference30Ideal.Read.val_main_v9_apply, Cert.Reference30Ideal.Read.val_main_v10_apply, Cert.Reference30Ideal.Read.val_main_v11_apply, Cert.Reference30Ideal.Read.val_main_v12_apply, Cert.Reference30Ideal.Read.val_main_cst_2_apply, Cert.Reference30Ideal.Read.val_main_cst_3_apply]
  rfl

/-- The reference's change of the weight at an entry. -/
theorem ref_d (x0 : FVec Ideal S8x704x1024 .bf16) (x1 x2 x3 : FVec Ideal S1024x704 .f32) (p : S1024x704.Idx) :
    Cert.Reference30Ideal.Read.val_main_v26 (F := Ideal) x0 x1 x2 x3 p
      = change (Cert.Reference30Ideal.Read.val_main_v7 (F := Ideal) x0 x2 p) (Cert.Reference30Ideal.Read.val_main_v13 (F := Ideal) x0 x3 p) (x1 p) := by
  unfold change
  rw [Cert.Reference30Ideal.Read.val_main_v26_apply]
  simp only [Cert.Reference30Ideal.Read.val_main_v14_apply, Cert.Reference30Ideal.Read.val_main_v15_apply, Cert.Reference30Ideal.Read.val_main_v16_apply, Cert.Reference30Ideal.Read.val_main_v17_apply, Cert.Reference30Ideal.Read.val_main_v18_apply, Cert.Reference30Ideal.Read.val_main_v19_apply, Cert.Reference30Ideal.Read.val_main_v20_apply, Cert.Reference30Ideal.Read.val_main_v21_apply, Cert.Reference30Ideal.Read.val_main_v22_apply, Cert.Reference30Ideal.Read.val_main_v23_apply, Cert.Reference30Ideal.Read.val_main_v24_apply, Cert.Reference30Ideal.Read.val_main_v25_apply, Cert.Reference30Ideal.Read.val_main_cst_4_apply, Cert.Reference30Ideal.Read.val_main_cst_5_apply, Cert.Reference30Ideal.Read.val_main_cst_6_apply, Cert.Reference30Ideal.Read.val_main_cst_7_apply, Cert.Reference30Ideal.Read.val_main_cst_8_apply]
  rfl

/-- The gradient that the launch leaves. -/
theorem final4 (c : Dev nD) : (dats m 0 c).arrAt 4 (cfgs 0).N
    = Cert.Reference30Ideal.Read.val_main_v1 (F := Ideal) (a0 m c) := by
  refine (dats m 0 c).arrAt_eq_of_covers 4 _ (by decide +kernel) fun t _ y => ?_
  blk_simp
  rw [after0_4]
  unfold out0_4
  frame_out
  have ht := t_lt t
  idx_vars y
  revert y0 y1
  intro i j
  have he : ((View.whole main_v3_0).slice (win0_4.rect t)).emb (ix2 i j) = ix2 ⟨t.val * 64 + i.val, by have := t_lt t; omega⟩ j := by
    refine funext fun a => Fin.ext ?_
    match a with
    | ⟨0, _⟩ => blk_simp [idx t]
    | ⟨1, _⟩ => blk_simp [idx t]
  rw [he]
  refine (pay_sum _ _ _ _ i j).trans ?_
  rw [ref_g]
  exact Finset.sum_congr rfl fun k _ => blk0 m c t k i j

/-- The change of the weight that the launch leaves. -/
theorem final5 (c : Dev nD) : (dats m 0 c).arrAt 5 (cfgs 0).N
    = fun p : S704x1024.Idx => Cert.Reference30Ideal.Read.val_main_v26 (F := Ideal) (a0 m c) (a1 m c) (a2 m c) (a3 m c) (ix2 (p 1) (p 0)) := by
  refine (dats m 0 c).arrAt_eq_of_covers 5 _ (by decide +kernel) fun t _ y => ?_
  blk_simp
  rw [after0_5]
  unfold out0_5
  frame_out
  have ht := t_lt t
  idx_vars y
  revert y0 y1
  intro i j
  have he : ((View.whole main_v3_1).slice (win0_5.rect t)).emb (ix2 i j) = ix2 ⟨t.val * 64 + i.val, by have := t_lt t; omega⟩ j := by
    refine funext fun a => Fin.ext ?_
    match a with
    | ⟨0, _⟩ => blk_simp [idx t]
    | ⟨1, _⟩ => blk_simp [idx t]
  rw [he]
  show _ = Cert.Reference30Ideal.Read.val_main_v26 (F := Ideal) (a0 m c) (a1 m c) (a2 m c) (a3 m c) (ix2 j ⟨t.val * 64 + i.val, by have := t_lt t; omega⟩)
  have hg : k0_pay5 (F := Ideal) (iblk m c 0 t) (iblk m c 1 t) (iblk m c 2 t) (iblk m c 3 t) (ix2 i j)
      = Cert.Reference30Ideal.Read.val_main_v2 (F := Ideal) (a0 m c) (ix2 j ⟨t.val * 64 + i.val, by have := t_lt t; omega⟩) := by
    refine (pay_sum _ _ _ _ i j).trans ?_
    rw [ref_t, ref_g]
    exact Finset.sum_congr rfl fun k _ => blk0 m c t k i j
  rw [ref_d, ref_m, ref_v]
  refine (pay_d _ _ _ _ i j).trans ?_
  rw [hg, blk1, blk2, blk3]

/-- The first moment that the launch leaves. -/
theorem final6 (c : Dev nD) : (dats m 0 c).arrAt 6 (cfgs 0).N
    = fun p : S704x1024.Idx => Cert.Reference30Ideal.Read.val_main_v7 (F := Ideal) (a0 m c) (a2 m c) (ix2 (p 1) (p 0)) := by
  refine (dats m 0 c).arrAt_eq_of_covers 6 _ (by decide +kernel) fun t _ y => ?_
  blk_simp
  rw [after0_6]
  unfold out0_6
  frame_out
  have ht := t_lt t
  idx_vars y
  revert y0 y1
  intro i j
  have he : ((View.whole main_v3_2).slice (win0_6.rect t)).emb (ix2 i j) = ix2 ⟨t.val * 64 + i.val, by have := t_lt t; omega⟩ j := by
    refine funext fun a => Fin.ext ?_
    match a with
    | ⟨0, _⟩ => blk_simp [idx t]
    | ⟨1, _⟩ => blk_simp [idx t]
  rw [he]
  show _ = Cert.Reference30Ideal.Read.val_main_v7 (F := Ideal) (a0 m c) (a2 m c) (ix2 j ⟨t.val * 64 + i.val, by have := t_lt t; omega⟩)
  have hg : k0_pay5 (F := Ideal) (iblk m c 0 t) (iblk m c 1 t) (iblk m c 2 t) (iblk m c 3 t) (ix2 i j)
      = Cert.Reference30Ideal.Read.val_main_v2 (F := Ideal) (a0 m c) (ix2 j ⟨t.val * 64 + i.val, by have := t_lt t; omega⟩) := by
    refine (pay_sum _ _ _ _ i j).trans ?_
    rw [ref_t, ref_g]
    exact Finset.sum_congr rfl fun k _ => blk0 m c t k i j
  rw [ref_m]
  refine (pay_m _ _ i j).trans ?_
  rw [hg, blk2]

/-- The second moment that the launch leaves. -/
theorem final7 (c : Dev nD) : (dats m 0 c).arrAt 7 (cfgs 0).N
    = fun p : S704x1024.Idx => Cert.Reference30Ideal.Read.val_main_v13 (F := Ideal) (a0 m c) (a3 m c) (ix2 (p 1) (p 0)) := by
  refine (dats m 0 c).arrAt_eq_of_covers 7 _ (by decide +kernel) fun t _ y => ?_
  blk_simp
  rw [after0_7]
  unfold out0_7
  frame_out
  have ht := t_lt t
  idx_vars y
  revert y0 y1
  intro i j
  have he : ((View.whole main_v3_3).slice (win0_7.rect t)).emb (ix2 i j) = ix2 ⟨t.val * 64 + i.val, by have := t_lt t; omega⟩ j := by
    refine funext fun a => Fin.ext ?_
    match a with
    | ⟨0, _⟩ => blk_simp [idx t]
    | ⟨1, _⟩ => blk_simp [idx t]
  rw [he]
  show _ = Cert.Reference30Ideal.Read.val_main_v13 (F := Ideal) (a0 m c) (a3 m c) (ix2 j ⟨t.val * 64 + i.val, by have := t_lt t; omega⟩)
  have hg : k0_pay5 (F := Ideal) (iblk m c 0 t) (iblk m c 1 t) (iblk m c 2 t) (iblk m c 3 t) (ix2 i j)
      = Cert.Reference30Ideal.Read.val_main_v2 (F := Ideal) (a0 m c) (ix2 j ⟨t.val * 64 + i.val, by have := t_lt t; omega⟩) := by
    refine (pay_sum _ _ _ _ i j).trans ?_
    rw [ref_t, ref_g]
    exact Finset.sum_congr rfl fun k _ => blk0 m c t k i j
  rw [ref_v]
  refine (pay_v _ _ i j).trans ?_
  rw [hg, blk3]

/-- What the host's transposition leaves of the gradient. -/
theorem tail0 (c : Dev nD) : Pipeline.afterTail₀ cfgs (dats m) 0 (V0 m) [hostOps1] c main_v4
    = transpose S1024x704 [1, 0] ((dats m 0 c).arrAt 4 (cfgs 0).N : FVec Ideal S704x1024 .f32) transposes_S704x1024_S1024x704_1_0 := by
  unfold Pipeline.afterTail₀
  rw [← Pipeline.withArrays_arr (cfgs 0).spec (by decide) c (V0 m c) (fun w => (dats m 0 c).arrAt w (cfgs 0).N) 4]
  simp only [List.flatten_cons, List.flatten_nil, List.append_nil]
  unfold_abbrev_sides
  after_results

/-- The kernel's gradient is the reference's. -/
theorem result0 (c : Dev nD) : Pipeline.afterTail₀ cfgs (dats m) 0 (V0 m) [hostOps1] c main_v4
    = Cert.Reference30Ideal.Read.val_main_v2 (F := Ideal) (a0 m c) := by
  rw [tail0, final4]
  rfl

/-- What the host's transposition leaves of the change of the weight. -/
theorem tail1 (c : Dev nD) : Pipeline.afterTail₀ cfgs (dats m) 0 (V0 m) [hostOps1] c main_v5
    = transpose S1024x704 [1, 0] ((dats m 0 c).arrAt 5 (cfgs 0).N : FVec Ideal S704x1024 .f32) transposes_S704x1024_S1024x704_1_0 := by
  unfold Pipeline.afterTail₀
  rw [← Pipeline.withArrays_arr (cfgs 0).spec (by decide) c (V0 m c) (fun w => (dats m 0 c).arrAt w (cfgs 0).N) 5]
  simp only [List.flatten_cons, List.flatten_nil, List.append_nil]
  unfold_abbrev_sides
  after_results

/-- The kernel's change of the weight is the reference's. -/
theorem result1 (c : Dev nD) : Pipeline.afterTail₀ cfgs (dats m) 0 (V0 m) [hostOps1] c main_v5
    = Cert.Reference30Ideal.Read.val_main_v26 (F := Ideal) (a0 m c) (a1 m c) (a2 m c) (a3 m c) := by
  rw [tail1, final5]
  funext p
  idx_vars p
  generalize Cert.Reference30Ideal.Read.val_main_v26 (F := Ideal) (a0 m c) (a1 m c) (a2 m c) (a3 m c) = z
  pointwise []

/-- What the host's transposition leaves of the first moment. -/
theorem tail2 (c : Dev nD) : Pipeline.afterTail₀ cfgs (dats m) 0 (V0 m) [hostOps1] c main_v6
    = transpose S1024x704 [1, 0] ((dats m 0 c).arrAt 6 (cfgs 0).N : FVec Ideal S704x1024 .f32) transposes_S704x1024_S1024x704_1_0 := by
  unfold Pipeline.afterTail₀
  rw [← Pipeline.withArrays_arr (cfgs 0).spec (by decide) c (V0 m c) (fun w => (dats m 0 c).arrAt w (cfgs 0).N) 6]
  simp only [List.flatten_cons, List.flatten_nil, List.append_nil]
  unfold_abbrev_sides
  after_results

/-- The kernel's first moment is the reference's. -/
theorem result2 (c : Dev nD) : Pipeline.afterTail₀ cfgs (dats m) 0 (V0 m) [hostOps1] c main_v6
    = Cert.Reference30Ideal.Read.val_main_v7 (F := Ideal) (a0 m c) (a2 m c) := by
  rw [tail2, final6]
  funext p
  idx_vars p
  generalize Cert.Reference30Ideal.Read.val_main_v7 (F := Ideal) (a0 m c) (a2 m c) = z
  pointwise []

/-- What the host's transposition leaves of the second moment. -/
theorem tail3 (c : Dev nD) : Pipeline.afterTail₀ cfgs (dats m) 0 (V0 m) [hostOps1] c main_v7
    = transpose S1024x704 [1, 0] ((dats m 0 c).arrAt 7 (cfgs 0).N : FVec Ideal S704x1024 .f32) transposes_S704x1024_S1024x704_1_0 := by
  unfold Pipeline.afterTail₀
  rw [← Pipeline.withArrays_arr (cfgs 0).spec (by decide) c (V0 m c) (fun w => (dats m 0 c).arrAt w (cfgs 0).N) 7]
  simp only [List.flatten_cons, List.flatten_nil, List.append_nil]
  unfold_abbrev_sides
  after_results

/-- The kernel's second moment is the reference's. -/
theorem result3 (c : Dev nD) : Pipeline.afterTail₀ cfgs (dats m) 0 (V0 m) [hostOps1] c main_v7
    = Cert.Reference30Ideal.Read.val_main_v13 (F := Ideal) (a0 m c) (a3 m c) := by
  rw [tail3, final7]
  funext p
  idx_vars p
  generalize Cert.Reference30Ideal.Read.val_main_v13 (F := Ideal) (a0 m c) (a3 m c) = z
  pointwise []

end Cert.Kernel30Ideal.Adam

end
-- ==== Proof.GateGrad.lean ====
/- The two scalar gradients that the gated products and sums of the network need, over the extended reals. -/
module

public import Idealize.ShloMosaic.Lib.Pipeline.ValueKit

@[expose] public section

noncomputable section

namespace Cert.GateGrad

open Idealize.ShloMosaic

/-- The derivative of the logistic function at `z`. -/
def slopeOf (z : EReal) : EReal := Ideal.logistic z * (1 - Ideal.logistic z)

end Cert.GateGrad

end
-- ==== Proof.SwigluGrad.lean ====
/- The gradient of the gated product between the network's two weights, a tile of 512 rows at a time, its two halves
   written side by side. -/
module

public import proofs.«01_k».proof.Proof.GateGrad
public import proofs.«01_k».proof.Proof.Gen.Kernel31Ideal.Frame
public import proofs.«01_k».proof.Proof.Gen.Reference31Ideal.Read
public import Idealize.ShloMosaic.Lib.Pipeline.ValueKit
public import Idealize.ShloMosaic.Lib.Pipeline.ReadBack

@[expose] public section

set_option maxRecDepth 16384

noncomputable section

namespace Cert.Kernel31Ideal.Gated

open Cert.Kernel31Ideal Cert.Kernel31Ideal.Gen Cert.GateGrad
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S4096x5632 .bf16 := m ((c.tc : Thread nD τ).loc main_arg0)
abbrev a1 (c : Dev nD) : FVec Ideal S4096x2816 .bf16 := m ((c.tc : Thread nD τ).loc main_arg1)

/-- Which blocks a grid point stages: the gate and the other factor are the two halves of the columns. -/
theorem idx : ∀ t : Fin cfg0.N, win0_0.index t = ![t.val, 0] ∧ win0_1.index t = ![t.val, 1] ∧ win0_2.index t = ![t.val, 0]
    ∧ win0_3.index t = ![t.val, 0] :=
  (by decide +kernel : ∀ t : Fin grid0.N, _)

/-- The number of grid points. -/
theorem t_lt (t : Fin cfg0.N) : t.val < 8 := lt_of_lt_of_eq t.isLt N_0

/-- A row of a tile is a row of the array. -/
theorem row_lt {t : ℕ} (h : t < 8) (i : Fin 512) : t * 512 + i.val < 4096 := by omega

/-- The gate's block at a grid point. -/
theorem blk0 (c : Dev nD) (t : Fin cfg0.N) (i : Fin 512) (j : Fin 2816) :
    iblk m c 0 t (ix2 i j) = a0 m c (ix2 ⟨t.val * 512 + i.val, row_lt (t_lt t) i⟩ ⟨j.val, by omega⟩) := by
  have ht := t_lt t
  blk_point [iblk, V, idx t]

/-- The other factor's block at a grid point. -/
theorem blk1 (c : Dev nD) (t : Fin cfg0.N) (i : Fin 512) (j : Fin 2816) :
    iblk m c 1 t (ix2 i j) = a0 m c (ix2 ⟨t.val * 512 + i.val, row_lt (t_lt t) i⟩ ⟨2816 + j.val, by omega⟩) := by
  have ht := t_lt t
  blk_point [iblk, V, idx t]

/-- The block of the product's gradient at a grid point. -/
theorem blk2 (c : Dev nD) (t : Fin cfg0.N) (i : Fin 512) (j : Fin 2816) :
    iblk m c 2 t (ix2 i j) = a1 m c (ix2 ⟨t.val * 512 + i.val, row_lt (t_lt t) i⟩ j) := by
  have ht := t_lt t
  blk_point [iblk, V, idx t]

/-- The gradient of the gate at an entry: the gate `g`, the other factor `u`, the product's gradient `d`. -/
def gradGate (g u d : EReal) : EReal := d * u * Ideal.logistic g + g * (d * u) * slopeOf g

/-- The gradient of the other factor. -/
def gradUp (g d : EReal) : EReal := g * Ideal.logistic g * d

/-- A payload at an entry: the gate's gradient. -/
theorem pay_gate (g u d : FVec Ideal S512x2816 .bf16) (i : Fin 512) (j : Fin 2816) :
    k0_pay4 (F := Ideal) g u d (ix2 i j) = gradGate (g (ix2 i j)) (u (ix2 i j)) (d (ix2 i j)) := by
  unfold gradGate slopeOf
  pointwise [k0_pay4, k0_pay1, k0_pay2, k0_pay3]

/-- A payload at an entry: the other factor's gradient. -/
theorem pay_up (g d : FVec Ideal S512x2816 .bf16) (i : Fin 512) (j : Fin 2816) :
    k0_pay5 (F := Ideal) g d (ix2 i j) = gradUp (g (ix2 i j)) (d (ix2 i j)) := by
  unfold gradUp
  pointwise [k0_pay5, k0_pay1, k0_pay2, k0_pay3]

/-- The reference's left half is the gate's gradient. -/
theorem ref_left (x0 : FVec Ideal S4096x5632 .bf16) (d : FVec Ideal S4096x2816 .bf16) (r : Fin 4096) (j : Fin 2816) :
    Cert.Reference31Ideal.Read.val_main_v10 (F := Ideal) x0 d (ix2 r ⟨j.val, by omega⟩)
      = gradGate (x0 (ix2 r ⟨j.val, by omega⟩)) (x0 (ix2 r ⟨2816 + j.val, by omega⟩)) (d (ix2 r j)) := by
  have h1 : Cert.Reference31Ideal.Read.idx_main_v1 (ix2 r j) = ix2 r ⟨j.val, by omega⟩ :=
    funext fun a => Fin.ext (by match a with | ⟨0, _⟩ => rfl | ⟨1, _⟩ => rfl)
  have h2 : Cert.Reference31Ideal.Read.idx_main_v2 (ix2 r j) = ix2 r ⟨2816 + j.val, by omega⟩ :=
    funext fun a => Fin.ext (by match a with | ⟨0, _⟩ => rfl | ⟨1, _⟩ => rfl)
  rw [Cert.Reference31Ideal.Read.val_main_v10_apply]
  unfold Cert.Reference31Ideal.Read.val_main_v9
  rw [concatenate_pair_apply_left (t := Cert.Reference31Ideal.S4096x5632) (s₁ := Cert.Reference31Ideal.S4096x2816) (s₂ := Cert.Reference31Ideal.S4096x2816) 1 _ _ _ _ rfl (ix2 r j) (fun b => by match b with | ⟨0, _⟩ => rfl | ⟨1, _⟩ => rfl)]
  unfold gradGate slopeOf Ideal.logistic
  simp only [Cert.Reference31Ideal.Read.val_main_v0_apply, Cert.Reference31Ideal.Read.val_main_v1_apply, Cert.Reference31Ideal.Read.val_main_v2_apply, Cert.Reference31Ideal.Read.val_main_call0_v0_apply, Cert.Reference31Ideal.Read.val_main_call0_v1_apply, Cert.Reference31Ideal.Read.val_main_call0_cst_apply, Cert.Reference31Ideal.Read.val_main_call0_v2_apply, Cert.Reference31Ideal.Read.val_main_call0_v3_apply, Cert.Reference31Ideal.Read.val_main_call0_cst_0_apply, Cert.Reference31Ideal.Read.val_main_call0_v4_apply, Cert.Reference31Ideal.Read.val_main_v3_2_apply, Cert.Reference31Ideal.Read.val_main_call0_cst_1_apply, Cert.Reference31Ideal.Read.val_main_call0_v6_apply, Cert.Reference31Ideal.Read.val_main_call0_v7_apply, Cert.Reference31Ideal.Read.val_main_v3_1_apply, Cert.Reference31Ideal.Read.val_main_v3_0_apply, Cert.Reference31Ideal.Read.val_main_v5_apply, Cert.Reference31Ideal.Read.val_main_v6_apply, Cert.Reference31Ideal.Read.val_main_v7_apply, Cert.Reference31Ideal.Read.val_main_call1_v0_apply, Cert.Reference31Ideal.Read.val_main_call1_v1_apply, Cert.Reference31Ideal.Read.val_main_call1_v2_apply, Cert.Reference31Ideal.Read.val_main_v8_apply, h1, h2]
  rw [← Ideal.ofBits_one_f32]
  rfl

/-- The reference's right half is the other factor's gradient. -/
theorem ref_right (x0 : FVec Ideal S4096x5632 .bf16) (d : FVec Ideal S4096x2816 .bf16) (r : Fin 4096) (j : Fin 2816) :
    Cert.Reference31Ideal.Read.val_main_v10 (F := Ideal) x0 d (ix2 r ⟨2816 + j.val, by omega⟩)
      = gradUp (x0 (ix2 r ⟨j.val, by omega⟩)) (d (ix2 r j)) := by
  have h1 : Cert.Reference31Ideal.Read.idx_main_v1 (ix2 r j) = ix2 r ⟨j.val, by omega⟩ :=
    funext fun a => Fin.ext (by match a with | ⟨0, _⟩ => rfl | ⟨1, _⟩ => rfl)
  rw [Cert.Reference31Ideal.Read.val_main_v10_apply]
  unfold Cert.Reference31Ideal.Read.val_main_v9
  rw [concatenate_pair_apply_right (t := Cert.Reference31Ideal.S4096x5632) (s₁ := Cert.Reference31Ideal.S4096x2816) (s₂ := Cert.Reference31Ideal.S4096x2816) 1 _ _ _ _ rfl rfl (ix2 r j)
    (fun b hb => by match b with | ⟨0, _⟩ => rfl | ⟨1, _⟩ => exact absurd rfl hb) (Nat.add_comm _ _)]
  unfold gradUp Ideal.logistic
  simp only [Cert.Reference31Ideal.Read.val_main_v0_apply, Cert.Reference31Ideal.Read.val_main_v1_apply, Cert.Reference31Ideal.Read.val_main_v2_apply, Cert.Reference31Ideal.Read.val_main_call0_v0_apply, Cert.Reference31Ideal.Read.val_main_call0_v1_apply, Cert.Reference31Ideal.Read.val_main_call0_cst_apply, Cert.Reference31Ideal.Read.val_main_call0_v2_apply, Cert.Reference31Ideal.Read.val_main_call0_v3_apply, Cert.Reference31Ideal.Read.val_main_call0_cst_0_apply, Cert.Reference31Ideal.Read.val_main_call0_v4_apply, Cert.Reference31Ideal.Read.val_main_v3_2_apply, Cert.Reference31Ideal.Read.val_main_call0_cst_1_apply, Cert.Reference31Ideal.Read.val_main_call0_v6_apply, Cert.Reference31Ideal.Read.val_main_call0_v7_apply, Cert.Reference31Ideal.Read.val_main_v3_1_apply, Cert.Reference31Ideal.Read.val_main_v3_0_apply, Cert.Reference31Ideal.Read.val_main_v5_apply, Cert.Reference31Ideal.Read.val_main_v6_apply, Cert.Reference31Ideal.Read.val_main_v7_apply, Cert.Reference31Ideal.Read.val_main_call1_v0_apply, Cert.Reference31Ideal.Read.val_main_call1_v1_apply, Cert.Reference31Ideal.Read.val_main_call1_v2_apply, Cert.Reference31Ideal.Read.val_main_v8_apply, h1]
  rw [← Ideal.ofBits_one_f32]
  rfl

/-- The gradient that the launch leaves. -/
theorem final (c : Dev nD) : (dats m 0 c).arrAt 3 (cfgs 0).N
    = Cert.Reference31Ideal.Read.val_main_v10 (F := Ideal) (a0 m c) (a1 m c) := by
  refine (dats m 0 c).arrAt_eq_of_covers 3 _ (by decide +kernel) fun t _ y => ?_
  blk_simp
  rw [after0_3]
  have ht := t_lt t
  unfold out0_3
  refine View.canon_apply_of_pieces (fun y => Cert.Reference31Ideal.Read.val_main_v10 (F := Ideal) (a0 m c) (a1 m c)
    (((View.whole main_v0).slice (win0_3.rect t)).emb y)) _ (fun p hp x => ?_) _ (cover0_3 _ _ _)
  have he : ∀ (i : Fin 512) (q : Fin 5632), ((View.whole main_v0).slice (win0_3.rect t)).emb (ix2 i q)
      = ix2 ⟨t.val * 512 + i.val, row_lt ht i⟩ q := by
    intro i q
    refine funext fun a => Fin.ext ?_
    match a with
    | ⟨0, _⟩ => blk_simp [idx t]
    | ⟨1, _⟩ => blk_simp [idx t]
  rcases List.mem_cons.mp hp with rfl | hp
  · revert x
    intro (x : S512x2816.Idx)
    idx_vars x
    have hx : r0_2.emb (ix2 x0 x1) = ix2 x0 ⟨2816 + x1.val, by omega⟩ := by
      refine funext fun a => Fin.ext ?_
      match a with
      | ⟨0, _⟩ => blk_simp []
      | ⟨1, _⟩ => blk_simp []
    show k0_pay5 (F := Ideal) _ _ (ix2 x0 x1) = _
    beta_reduce
    rw [hx, he, ref_right]
    simp (disch := decide) only [View.ld_unit_lit']
    rw [pay_up, blk0 m c t, blk2 m c t]
  · rcases List.mem_cons.mp hp with rfl | hp
    · revert x
      intro (x : S512x2816.Idx)
      idx_vars x
      have hx : r0_1.emb (ix2 x0 x1) = ix2 x0 ⟨x1.val, by omega⟩ := by
        refine funext fun a => Fin.ext ?_
        match a with
        | ⟨0, _⟩ => blk_simp []
        | ⟨1, _⟩ => blk_simp []
      show k0_pay4 (F := Ideal) _ _ _ (ix2 x0 x1) = _
      beta_reduce
      rw [hx, he, ref_left]
      simp (disch := decide) only [View.ld_unit_lit']
      rw [pay_gate, blk0 m c t, blk1 m c t, blk2 m c t]
    · exact absurd hp List.not_mem_nil

end Cert.Kernel31Ideal.Gated

end
-- ==== Proof.MixGrad.lean ====
/- The gradient of the gated sum of the two branches, a tile of 512 rows at a time. -/
module

public import proofs.«01_k».proof.Proof.GateGrad
public import proofs.«01_k».proof.Proof.Gen.Kernel32Ideal.Frame
public import proofs.«01_k».proof.Proof.Gen.Reference32Ideal.Read
public import Idealize.ShloMosaic.Lib.Pipeline.ValueKit
public import Idealize.ShloMosaic.Lib.Pipeline.ReadBack

@[expose] public section

set_option maxRecDepth 16384

noncomputable section

namespace Cert.Kernel32Ideal.Mix

open Cert.Kernel32Ideal Cert.Kernel32Ideal.Gen Cert.GateGrad
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S4096x8704 .f32 := m ((c.tc : Thread nD τ).loc main_arg0)
abbrev a1 (c : Dev nD) : FVec Ideal S4096x1024 .f32 := m ((c.tc : Thread nD τ).loc main_arg1)
abbrev a2 (c : Dev nD) : FVec Ideal S4096x1024 .f32 := m ((c.tc : Thread nD τ).loc main_arg2)
abbrev a3 (c : Dev nD) : FVec Ideal S4096x1024 .bf16 := m ((c.tc : Thread nD τ).loc main_arg3)

/-- Which blocks a grid point stages: the gates are two column windows of the projection. -/
theorem idx : ∀ t : Fin cfg0.N, win0_0.index t = ![t.val, 6] ∧ win0_1.index t = ![t.val, 7] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The number of grid points. -/
theorem t_lt (t : Fin cfg0.N) : t.val < 8 := lt_of_lt_of_eq t.isLt N_0

/-- A row of a tile is a row of the array. -/
theorem row_lt {t : ℕ} (h : t < 8) (i : Fin 512) : t * 512 + i.val < 4096 := by omega

/-- The first gate's block at a grid point. -/
theorem blk0 (c : Dev nD) (t : Fin cfg0.N) (i : Fin 512) (j : Fin 1024) :
    X0_0 m c t (ix2 i j) = a0 m c (ix2 ⟨t.val * 512 + i.val, row_lt (t_lt t) i⟩ ⟨6144 + j.val, by omega⟩) := by
  have ht := t_lt t
  unfold X0_0 Pipeline.Window.fill
  rw [dif_pos (moved0_0 t _)]
  blk_point [iblk, V, idx t]

/-- The second gate's block at a grid point. -/
theorem blk1 (c : Dev nD) (t : Fin cfg0.N) (i : Fin 512) (j : Fin 1024) :
    X0_1 m c t (ix2 i j) = a0 m c (ix2 ⟨t.val * 512 + i.val, row_lt (t_lt t) i⟩ ⟨7168 + j.val, by omega⟩) := by
  have ht := t_lt t
  unfold X0_1 Pipeline.Window.fill
  rw [dif_pos (moved0_1 t _)]
  blk_point [iblk, V, idx t]

/-- The first branch's block at a grid point. -/
theorem blk2 (c : Dev nD) (t : Fin cfg0.N) (i : Fin 512) (j : Fin 1024) :
    iblk m c 2 t (ix2 i j) = a1 m c (ix2 ⟨t.val * 512 + i.val, row_lt (t_lt t) i⟩ j) := by
  have ht := t_lt t
  blk_point [iblk, V, idx t]

/-- The second branch's block at a grid point. -/
theorem blk3 (c : Dev nD) (t : Fin cfg0.N) (i : Fin 512) (j : Fin 1024) :
    iblk m c 3 t (ix2 i j) = a2 m c (ix2 ⟨t.val * 512 + i.val, row_lt (t_lt t) i⟩ j) := by
  have ht := t_lt t
  blk_point [iblk, V, idx t]

/-- The block of the mixed rows' gradient at a grid point. -/
theorem blk4 (c : Dev nD) (t : Fin cfg0.N) (i : Fin 512) (j : Fin 1024) :
    iblk m c 4 t (ix2 i j) = a3 m c (ix2 ⟨t.val * 512 + i.val, row_lt (t_lt t) i⟩ j) := by
  have ht := t_lt t
  blk_point [iblk, V, idx t]

/-- A payload at an entry: the first gate's gradient. -/
theorem pay5 (z y : FVec Ideal S512x1024 .f32) (d : FVec Ideal S512x1024 .bf16) (i : Fin 512) (j : Fin 1024) :
    k0_pay4 (F := Ideal) z y d (ix2 i j) = d (ix2 i j) * y (ix2 i j) * slopeOf (z (ix2 i j)) := by
  unfold slopeOf
  pointwise [k0_pay4, k0_pay1, k0_pay2, k0_pay3]

/-- The reference's first gate's gradient at an entry. -/
theorem ref5 (x0 : FVec Ideal S4096x8704 .f32) (y : FVec Ideal S4096x1024 .f32) (d : FVec Ideal S4096x1024 .bf16)
    (r : Fin 4096) (j : Fin 1024) : Cert.Reference32Ideal.Read.val_main_v30 (F := Ideal) x0 y d (ix2 r j)
      = d (ix2 r j) * y (ix2 r j) * slopeOf (x0 (ix2 r ⟨6144 + j.val, by omega⟩)) := by
  have hi : Cert.Reference32Ideal.Read.idx_main_v0 (ix2 r j) = ix2 r ⟨6144 + j.val, by omega⟩ :=
    funext fun a => Fin.ext (by match a with | ⟨0, _⟩ => rfl | ⟨1, _⟩ => rfl)
  unfold slopeOf Ideal.logistic
  simp only [Cert.Reference32Ideal.Read.val_main_cst_apply, Cert.Reference32Ideal.Read.val_main_cst_0_apply, Cert.Reference32Ideal.Read.val_main_cst_1_apply, Cert.Reference32Ideal.Read.val_main_v2_apply, Cert.Reference32Ideal.Read.val_main_v3_apply, Cert.Reference32Ideal.Read.val_main_v4_apply, Cert.Reference32Ideal.Read.val_main_v5_apply, Cert.Reference32Ideal.Read.val_main_v6_apply, Cert.Reference32Ideal.Read.val_main_v7_apply, Cert.Reference32Ideal.Read.val_main_v8_apply, Cert.Reference32Ideal.Read.val_main_v9_apply, Cert.Reference32Ideal.Read.val_main_v10_apply, Cert.Reference32Ideal.Read.val_main_v0_apply, Cert.Reference32Ideal.Read.val_main_v23_apply, Cert.Reference32Ideal.Read.val_main_v28_apply, Cert.Reference32Ideal.Read.val_main_v29_apply, Cert.Reference32Ideal.Read.val_main_v30_apply, hi]
  rw [← Ideal.ofBits_one_f32]
  rfl

/-- The first gate's gradient that the launch leaves. -/
theorem final5 (c : Dev nD) : (dats m 0 c).arrAt 5 (cfgs 0).N
    = Cert.Reference32Ideal.Read.val_main_v30 (F := Ideal) (a0 m c) (a1 m c) (a3 m c) := by
  refine (dats m 0 c).arrAt_eq_of_covers 5 _ (by decide +kernel) fun t _ y => ?_
  blk_simp
  rw [after0_5]
  unfold outsAt0
  frame_out
  have ht := t_lt t
  idx_vars y
  revert y0 y1
  intro i j
  have he : ((View.whole main_v0_0).slice (win0_5.rect t)).emb (ix2 i j) = ix2 ⟨t.val * 512 + i.val, row_lt ht i⟩ j := by
    refine funext fun a => Fin.ext ?_
    match a with
    | ⟨0, _⟩ => blk_simp [idx t]
    | ⟨1, _⟩ => blk_simp [idx t]
  rw [he]
  refine (pay5 _ _ _ i j).trans ?_
  rw [ref5, blk0 m c t, blk2 m c t, blk4 m c t]

/-- A payload at an entry: the second gate's gradient. -/
theorem pay6 (z y : FVec Ideal S512x1024 .f32) (d : FVec Ideal S512x1024 .bf16) (i : Fin 512) (j : Fin 1024) :
    k0_pay5 (F := Ideal) z y d (ix2 i j) = d (ix2 i j) * y (ix2 i j) * slopeOf (z (ix2 i j)) := by
  unfold slopeOf
  pointwise [k0_pay5, k0_pay1, k0_pay2, k0_pay3]

/-- The reference's second gate's gradient at an entry. -/
theorem ref6 (x0 : FVec Ideal S4096x8704 .f32) (y : FVec Ideal S4096x1024 .f32) (d : FVec Ideal S4096x1024 .bf16)
    (r : Fin 4096) (j : Fin 1024) : Cert.Reference32Ideal.Read.val_main_v31 (F := Ideal) x0 y d (ix2 r j)
      = d (ix2 r j) * y (ix2 r j) * slopeOf (x0 (ix2 r ⟨7168 + j.val, by omega⟩)) := by
  have hi : Cert.Reference32Ideal.Read.idx_main_v1 (ix2 r j) = ix2 r ⟨7168 + j.val, by omega⟩ :=
    funext fun a => Fin.ext (by match a with | ⟨0, _⟩ => rfl | ⟨1, _⟩ => rfl)
  unfold slopeOf Ideal.logistic
  simp only [Cert.Reference32Ideal.Read.val_main_cst_2_apply, Cert.Reference32Ideal.Read.val_main_cst_3_apply, Cert.Reference32Ideal.Read.val_main_cst_4_apply, Cert.Reference32Ideal.Read.val_main_v12_apply, Cert.Reference32Ideal.Read.val_main_v13_apply, Cert.Reference32Ideal.Read.val_main_v14_apply, Cert.Reference32Ideal.Read.val_main_v15_apply, Cert.Reference32Ideal.Read.val_main_v16_apply, Cert.Reference32Ideal.Read.val_main_v17_apply, Cert.Reference32Ideal.Read.val_main_v18_apply, Cert.Reference32Ideal.Read.val_main_v19_apply, Cert.Reference32Ideal.Read.val_main_v20_apply, Cert.Reference32Ideal.Read.val_main_v1_apply, Cert.Reference32Ideal.Read.val_main_v23_apply, Cert.Reference32Ideal.Read.val_main_v25_apply, Cert.Reference32Ideal.Read.val_main_v26_apply, Cert.Reference32Ideal.Read.val_main_v31_apply, hi]
  rw [← Ideal.ofBits_one_f32]
  rfl

/-- The second gate's gradient that the launch leaves. -/
theorem final6 (c : Dev nD) : (dats m 0 c).arrAt 6 (cfgs 0).N
    = Cert.Reference32Ideal.Read.val_main_v31 (F := Ideal) (a0 m c) (a2 m c) (a3 m c) := by
  refine (dats m 0 c).arrAt_eq_of_covers 6 _ (by decide +kernel) fun t _ y => ?_
  blk_simp
  rw [after0_6]
  unfold outsAt0
  frame_out
  have ht := t_lt t
  idx_vars y
  revert y0 y1
  intro i j
  have he : ((View.whole main_v0_1).slice (win0_6.rect t)).emb (ix2 i j) = ix2 ⟨t.val * 512 + i.val, row_lt ht i⟩ j := by
    refine funext fun a => Fin.ext ?_
    match a with
    | ⟨0, _⟩ => blk_simp [idx t]
    | ⟨1, _⟩ => blk_simp [idx t]
  rw [he]
  refine (pay6 _ _ _ i j).trans ?_
  rw [ref6, blk1 m c t, blk3 m c t, blk4 m c t]

/-- A payload at an entry: the first branch's gradient. -/
theorem pay7 (z : FVec Ideal S512x1024 .f32) (d : FVec Ideal S512x1024 .bf16) (i : Fin 512) (j : Fin 1024) :
    k0_pay6 (F := Ideal) z d (ix2 i j) = Ideal.logistic (z (ix2 i j)) * d (ix2 i j) := by
  pointwise [k0_pay6, k0_pay1, k0_pay2, k0_pay3]

/-- The reference's first branch's gradient at an entry. -/
theorem ref7 (x0 : FVec Ideal S4096x8704 .f32) (d : FVec Ideal S4096x1024 .bf16) (r : Fin 4096) (j : Fin 1024) :
    Cert.Reference32Ideal.Read.val_main_v32 (F := Ideal) x0 d (ix2 r j)
      = Ideal.logistic (x0 (ix2 r ⟨6144 + j.val, by omega⟩)) * d (ix2 r j) := by
  have hi : Cert.Reference32Ideal.Read.idx_main_v0 (ix2 r j) = ix2 r ⟨6144 + j.val, by omega⟩ :=
    funext fun a => Fin.ext (by match a with | ⟨0, _⟩ => rfl | ⟨1, _⟩ => rfl)
  unfold Ideal.logistic
  simp only [Cert.Reference32Ideal.Read.val_main_cst_apply, Cert.Reference32Ideal.Read.val_main_cst_0_apply, Cert.Reference32Ideal.Read.val_main_cst_1_apply, Cert.Reference32Ideal.Read.val_main_v2_apply, Cert.Reference32Ideal.Read.val_main_v3_apply, Cert.Reference32Ideal.Read.val_main_v4_apply, Cert.Reference32Ideal.Read.val_main_v5_apply, Cert.Reference32Ideal.Read.val_main_v6_apply, Cert.Reference32Ideal.Read.val_main_v7_apply, Cert.Reference32Ideal.Read.val_main_v8_apply, Cert.Reference32Ideal.Read.val_main_v9_apply, Cert.Reference32Ideal.Read.val_main_v10_apply, Cert.Reference32Ideal.Read.val_main_v0_apply, Cert.Reference32Ideal.Read.val_main_v23_apply, Cert.Reference32Ideal.Read.val_main_v27_apply, Cert.Reference32Ideal.Read.val_main_v32_apply, hi]
  rw [← Ideal.ofBits_one_f32]
  rfl

/-- The first branch's gradient that the launch leaves. -/
theorem final7 (c : Dev nD) : (dats m 0 c).arrAt 7 (cfgs 0).N
    = Cert.Reference32Ideal.Read.val_main_v32 (F := Ideal) (a0 m c) (a3 m c) := by
  refine (dats m 0 c).arrAt_eq_of_covers 7 _ (by decide +kernel) fun t _ y => ?_
  blk_simp
  rw [after0_7]
  unfold outsAt0
  frame_out
  have ht := t_lt t
  idx_vars y
  revert y0 y1
  intro i j
  have he : ((View.whole main_v0_2).slice (win0_7.rect t)).emb (ix2 i j) = ix2 ⟨t.val * 512 + i.val, row_lt ht i⟩ j := by
    refine funext fun a => Fin.ext ?_
    match a with
    | ⟨0, _⟩ => blk_simp [idx t]
    | ⟨1, _⟩ => blk_simp [idx t]
  rw [he]
  refine (pay7 _ _ i j).trans ?_
  rw [ref7, blk0 m c t, blk4 m c t]

/-- A payload at an entry: the second branch's gradient. -/
theorem pay8 (z : FVec Ideal S512x1024 .f32) (d : FVec Ideal S512x1024 .bf16) (i : Fin 512) (j : Fin 1024) :
    k0_pay7 (F := Ideal) z d (ix2 i j) = Ideal.logistic (z (ix2 i j)) * d (ix2 i j) := by
  pointwise [k0_pay7, k0_pay1, k0_pay2, k0_pay3]

/-- The reference's second branch's gradient at an entry. -/
theorem ref8 (x0 : FVec Ideal S4096x8704 .f32) (d : FVec Ideal S4096x1024 .bf16) (r : Fin 4096) (j : Fin 1024) :
    Cert.Reference32Ideal.Read.val_main_v33 (F := Ideal) x0 d (ix2 r j)
      = Ideal.logistic (x0 (ix2 r ⟨7168 + j.val, by omega⟩)) * d (ix2 r j) := by
  have hi : Cert.Reference32Ideal.Read.idx_main_v1 (ix2 r j) = ix2 r ⟨7168 + j.val, by omega⟩ :=
    funext fun a => Fin.ext (by match a with | ⟨0, _⟩ => rfl | ⟨1, _⟩ => rfl)
  unfold Ideal.logistic
  simp only [Cert.Reference32Ideal.Read.val_main_cst_2_apply, Cert.Reference32Ideal.Read.val_main_cst_3_apply, Cert.Reference32Ideal.Read.val_main_cst_4_apply, Cert.Reference32Ideal.Read.val_main_v12_apply, Cert.Reference32Ideal.Read.val_main_v13_apply, Cert.Reference32Ideal.Read.val_main_v14_apply, Cert.Reference32Ideal.Read.val_main_v15_apply, Cert.Reference32Ideal.Read.val_main_v16_apply, Cert.Reference32Ideal.Read.val_main_v17_apply, Cert.Reference32Ideal.Read.val_main_v18_apply, Cert.Reference32Ideal.Read.val_main_v19_apply, Cert.Reference32Ideal.Read.val_main_v20_apply, Cert.Reference32Ideal.Read.val_main_v1_apply, Cert.Reference32Ideal.Read.val_main_v23_apply, Cert.Reference32Ideal.Read.val_main_v24_apply, Cert.Reference32Ideal.Read.val_main_v33_apply, hi]
  rw [← Ideal.ofBits_one_f32]
  rfl

/-- The second branch's gradient that the launch leaves. -/
theorem final8 (c : Dev nD) : (dats m 0 c).arrAt 8 (cfgs 0).N
    = Cert.Reference32Ideal.Read.val_main_v33 (F := Ideal) (a0 m c) (a3 m c) := by
  refine (dats m 0 c).arrAt_eq_of_covers 8 _ (by decide +kernel) fun t _ y => ?_
  blk_simp
  rw [after0_8]
  unfold outsAt0
  frame_out
  have ht := t_lt t
  idx_vars y
  revert y0 y1
  intro i j
  have he : ((View.whole main_v0_3).slice (win0_8.rect t)).emb (ix2 i j) = ix2 ⟨t.val * 512 + i.val, row_lt ht i⟩ j := by
    refine funext fun a => Fin.ext ?_
    match a with
    | ⟨0, _⟩ => blk_simp [idx t]
    | ⟨1, _⟩ => blk_simp [idx t]
  rw [he]
  refine (pay8 _ _ i j).trans ?_
  rw [ref8, blk1 m c t, blk4 m c t]

end Cert.Kernel32Ideal.Mix

end
-- ==== Proof.NormGrad.lean ====
/- The backward pass of the normalisation before the branches, a tile of 512 rows at a time: the gradient of the
   activations, and the gradient of the gains as a sum over the tiles. -/
module

public import proofs.«01_k».proof.Proof.Gen.Kernel33Ideal.Frame
public import proofs.«01_k».proof.Proof.Gen.Reference33Ideal.Read
public import Idealize.ShloMosaic.Lib.Pipeline.ValueKit
public import Idealize.ShloMosaic.Lib.Pipeline.ReadBack

@[expose] public section

set_option maxRecDepth 16384

noncomputable section

namespace Cert.Kernel33Ideal.Norm

open Cert.Kernel33Ideal Cert.Kernel33Ideal.Gen
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S4096x1024 .f32 := m ((c.tc : Thread nD τ).loc main_arg0)
abbrev a1 (c : Dev nD) : FVec Ideal S1x1024 .f32 := m ((c.tc : Thread nD τ).loc main_arg1)
abbrev a2 (c : Dev nD) : FVec Ideal S4096x1024 .f32 := m ((c.tc : Thread nD τ).loc main_arg2)
abbrev a3 (c : Dev nD) : FVec Ideal S4096x1024 .bf16 := m ((c.tc : Thread nD τ).loc main_arg3)

/-- The width of a row, as the program writes it. -/
def width : EReal := Ideal.ofBits .f32 0x44800000#32

/-- The mean square of a row plus the small constant. -/
def power (x : Fin 1024 → EReal) : EReal := Ideal.div (∑ k, x k * x k) width + Ideal.ofBits .f32 0x358637BD#32

/-- The factor that a row is multiplied by. -/
def scale (x : Fin 1024 → EReal) : EReal := Ideal.rsqrt (power x)

/-- The gradient of a row's mean square: the row, its gains, the gradient that arrives. -/
def back (x g d : Fin 1024 → EReal) : EReal :=
  Ideal.div ((∑ k, x k * (d k * g k)) * (Ideal.ofBits .f32 0xBF000000#32 * Ideal.div (scale x) (power x))) width

/-- The gradient of an entry of a row. -/
def grad (x g d : Fin 1024 → EReal) (j : Fin 1024) : EReal :=
  d j * g j * scale x + x j * back x g d + back x g d * x j

/-- A row's mean square in a tile. -/
theorem pay_power (x : FVec Ideal S512x1024 .f32) (i : Fin 512) (j : Fin 1) :
    k0_pay3 (F := Ideal) x (ix2 i j) = power fun k => x (ix2 i k) := by
  unfold power width
  pointwise [k0_pay3]

/-- A row's factor in a tile. -/
theorem pay_scale (x : FVec Ideal S512x1024 .f32) (i : Fin 512) (j : Fin 1) :
    k0_pay4 (F := Ideal) x (ix2 i j) = scale fun k => x (ix2 i k) := by
  unfold scale
  rw [← pay_power x i j]
  rfl

/-- A tile's share of the gains' gradient. -/
theorem pay_gain (x : FVec Ideal S512x1024 .f32) (d : FVec Ideal S512x1024 .bf16) (i : Fin 1) (j : Fin 1024) :
    k0_pay6 (F := Ideal) x d (ix2 i j) = ∑ k : Fin 512, x (ix2 k j) * (scale fun l => x (ix2 k l)) * d (ix2 k j) := by
  unfold k0_pay6
  have h := pay_scale x
  revert h
  generalize k0_pay4 (F := Ideal) x = z
  intro h
  simp only [← h _ 0]
  pointwise [k0_pay5]

/-- The gradient of the activations in a tile, with what arrives along the residual added. -/
theorem pay_grad (x : FVec Ideal S512x1024 .f32) (g : FVec Ideal S1x1024 .f32) (d : FVec Ideal S512x1024 .bf16)
    (e : FVec Ideal S512x1024 .f32) (i : Fin 512) (j : Fin 1024) : k0_pay7 (F := Ideal) x g d e (ix2 i j)
      = grad (fun k => x (ix2 i k)) (fun k => g (ix2 0 k)) (fun k => d (ix2 i k)) j + e (ix2 i j) := by
  unfold k0_pay7 grad back
  have h := pay_scale x
  have h' := pay_power x
  revert h h'
  generalize k0_pay4 (F := Ideal) x = z
  generalize k0_pay3 (F := Ideal) x = z'
  intro h h'
  rw [← h i 0, ← h' i 0]
  unfold width
  pointwise [k0_pay5]
  simp only [Fin.sum_univ_one]

/-- What the first tile leaves in the gains' gradient. -/
theorem pay_first (v : FVec Ideal S1x1024 .f32) (i : S1x1024.Idx) : k0_pay2 (F := Ideal) v (k0_pay1 (F := Ideal)) i = 0 + v i := by
  idx_vars i
  pointwise [k0_pay2, k0_pay1]

/-- What a later tile leaves there. -/
theorem pay_later (v a : FVec Ideal S1x1024 .f32) (i : S1x1024.Idx) : k0_pay2 (F := Ideal) v a i = a i + v i := by
  idx_vars i
  pointwise [k0_pay2]

/-- Which blocks a grid point stages. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The number of grid points. -/
theorem t_lt (t : Fin cfg0.N) : t.val < 8 := lt_of_lt_of_eq t.isLt N_0

/-- A row of a tile is a row of the array. -/
theorem row_lt {t : ℕ} (h : t < 8) (i : Fin 512) : t * 512 + i.val < 4096 := by omega

/-- The block of activations at a grid point. -/
theorem blk0 (c : Dev nD) (t : Fin cfg0.N) (i : Fin 512) (j : Fin 1024) :
    iblk m c 0 t (ix2 i j) = a0 m c (ix2 ⟨t.val * 512 + i.val, row_lt (t_lt t) i⟩ j) := by
  have ht := t_lt t
  blk_point [iblk, V, idx t]

/-- The gains at a grid point. -/
theorem blk1 (c : Dev nD) (t : Fin cfg0.N) (i : Fin 1) (j : Fin 1024) :
    iblk m c 1 t (ix2 i j) = a1 m c (ix2 i j) := by
  have ht := t_lt t
  blk_point [iblk, V, idx t]

/-- The block of the normalised rows' gradient at a grid point. -/
theorem blk2 (c : Dev nD) (t : Fin cfg0.N) (i : Fin 512) (j : Fin 1024) :
    iblk m c 2 t (ix2 i j) = a3 m c (ix2 ⟨t.val * 512 + i.val, row_lt (t_lt t) i⟩ j) := by
  have ht := t_lt t
  blk_point [iblk, V, idx t]

/-- The block of the residual's gradient at a grid point. -/
theorem blk3 (c : Dev nD) (t : Fin cfg0.N) (i : Fin 512) (j : Fin 1024) :
    iblk m c 3 t (ix2 i j) = a2 m c (ix2 ⟨t.val * 512 + i.val, row_lt (t_lt t) i⟩ j) := by
  have ht := t_lt t
  blk_point [iblk, V, idx t]

/-- The reference's mean square of a row. -/
theorem ref_power (x : FVec Ideal S4096x1024 .f32) (i : Fin 4096) (j : Fin 1) :
    Cert.Reference33Ideal.Read.val_main_v6 (F := Ideal) x (ix2 i j) = power fun k => x (ix2 i k) := by
  unfold power width
  pointwise [Cert.Reference33Ideal.Read.val_main_v6, Cert.Reference33Ideal.Read.val_main_v5,
    Cert.Reference33Ideal.Read.val_main_v4, Cert.Reference33Ideal.Read.val_main_v3, Cert.Reference33Ideal.Read.val_main_v2,
    Cert.Reference33Ideal.Read.val_main_v1, Cert.Reference33Ideal.Read.val_main_v0, Cert.Reference33Ideal.Read.val_main_cst,
    Cert.Reference33Ideal.Read.val_main_cst_0, Cert.Reference33Ideal.Read.val_main_cst_1]

/-- The reference's factor of a row. -/
theorem ref_scale (x : FVec Ideal S4096x1024 .f32) (i : Fin 4096) (j : Fin 1) :
    Cert.Reference33Ideal.Read.val_main_v7 (F := Ideal) x (ix2 i j) = scale fun k => x (ix2 i k) := by
  unfold scale
  rw [← ref_power x i j]
  rfl

/-- The reference's gradient of the gains. -/
theorem ref_gain (x : FVec Ideal S4096x1024 .f32) (d : FVec Ideal S4096x1024 .bf16) (i : Fin 1) (j : Fin 1024) :
    Cert.Reference33Ideal.Read.val_main_v18 (F := Ideal) x d (ix2 i j)
      = ∑ k : Fin 4096, x (ix2 k j) * (scale fun l => x (ix2 k l)) * d (ix2 k j) := by
  have h := ref_scale x
  unfold Cert.Reference33Ideal.Read.val_main_v18 Cert.Reference33Ideal.Read.val_main_v17 Cert.Reference33Ideal.Read.val_main_v16
    Cert.Reference33Ideal.Read.val_main_v15 Cert.Reference33Ideal.Read.val_main_v12 Cert.Reference33Ideal.Read.val_main_v11
    Cert.Reference33Ideal.Read.val_main_cst_3
  revert h
  generalize Cert.Reference33Ideal.Read.val_main_v7 (F := Ideal) x = z
  intro h
  simp only [← h _ 0]
  pointwise []

/-- The reference's gradient of the activations. -/
theorem ref_grad (x : FVec Ideal S4096x1024 .f32) (g : FVec Ideal S1x1024 .f32) (e : FVec Ideal S4096x1024 .f32)
    (d : FVec Ideal S4096x1024 .bf16) (i : Fin 4096) (j : Fin 1024) :
    Cert.Reference33Ideal.Read.val_main_v35 (F := Ideal) x g e d (ix2 i j)
      = grad (fun k => x (ix2 i k)) (fun k => g (ix2 0 k)) (fun k => d (ix2 i k)) j + e (ix2 i j) := by
  have h := ref_scale x
  have h' := ref_power x
  unfold grad back
  unfold Cert.Reference33Ideal.Read.val_main_v35 Cert.Reference33Ideal.Read.val_main_v34 Cert.Reference33Ideal.Read.val_main_v33
    Cert.Reference33Ideal.Read.val_main_v32 Cert.Reference33Ideal.Read.val_main_v31 Cert.Reference33Ideal.Read.val_main_v30
    Cert.Reference33Ideal.Read.val_main_v29 Cert.Reference33Ideal.Read.val_main_v28 Cert.Reference33Ideal.Read.val_main_v27
    Cert.Reference33Ideal.Read.val_main_v26 Cert.Reference33Ideal.Read.val_main_v25 Cert.Reference33Ideal.Read.val_main_v24
    Cert.Reference33Ideal.Read.val_main_v23 Cert.Reference33Ideal.Read.val_main_v22 Cert.Reference33Ideal.Read.val_main_v21
    Cert.Reference33Ideal.Read.val_main_v20 Cert.Reference33Ideal.Read.val_main_v19 Cert.Reference33Ideal.Read.val_main_v15
    Cert.Reference33Ideal.Read.val_main_v10 Cert.Reference33Ideal.Read.val_main_v9 Cert.Reference33Ideal.Read.val_main_v8
    Cert.Reference33Ideal.Read.val_main_cst_2 Cert.Reference33Ideal.Read.val_main_cst_4 Cert.Reference33Ideal.Read.val_main_cst_5
    Cert.Reference33Ideal.Read.val_main_cst_6
  revert h h'
  generalize Cert.Reference33Ideal.Read.val_main_v7 (F := Ideal) x = z
  generalize Cert.Reference33Ideal.Read.val_main_v6 (F := Ideal) x = z'
  intro h h'
  rw [← h i 0, ← h' i 0]
  unfold width
  pointwise []
  simp only [Fin.sum_univ_one]

/-- What a grid point leaves in its tile of the activations' gradient. -/
theorem out4 (c : Dev nD) (t : Fin cfg0.N) (i : S512x1024.Idx) : (outsAt0 m c t.val t.isLt).1 i
    = k0_pay7 (F := Ideal) (iblk m c 0 t) (iblk m c 1 t) (iblk m c 2 t) (iblk m c 3 t) i := by
  by_cases h : t.val % 8 = 0
  · rw [outsAt0_A m c t h]
    frame_out
  · rw [outsAt0_B m c t h]
    frame_out

/-- The gains' gradient after the last point. -/
theorem out5 (c : Dev nD) (t : Fin cfg0.N) (ht : t.val % 8 = 7) (i : S1x1024.Idx) : (outsAt0 m c t.val t.isLt).2 i
    = 0 + ∑ s : Fin 8, k0_pay6 (F := Ideal) (iblk m c 0 ⟨8 * (t.val / 8) + s.val, by omega⟩)
      (iblk m c 2 ⟨8 * (t.val / 8) + s.val, by omega⟩) i :=
  Pipeline.eq_sum_fin_of_reset_step_apply_of_flush (fun n h => (outsAt0 m c n h).2) 8 (fun _ => 0)
    (fun t => k0_pay6 (F := Ideal) (iblk m c 0 t) (iblk m c 2 t))
    (fun t h j => by
      show (outsAt0 m c t.val t.isLt).2 j = _
      rw [outsAt0_A m c t h]; frame_out; exact pay_first _ j)
    (fun t h j => by
      show (outsAt0 m c t.val t.isLt).2 j = (outsAt0 m c (t.val - 1) _).2 j + _
      rw [outsAt0_B m c t h]; frame_out
      refine (pay_later _ _ j).trans ?_
      first | rfl | rw [read_unread_whole]) t ht i

/-- The gradient of the activations that the launch leaves. -/
theorem final4 (c : Dev nD) : (dats m 0 c).arrAt 4 (cfgs 0).N
    = Cert.Reference33Ideal.Read.val_main_v35 (F := Ideal) (a0 m c) (a1 m c) (a2 m c) (a3 m c) := by
  refine (dats m 0 c).arrAt_eq_of_covers 4 _ (by decide +kernel) fun t _ y => ?_
  blk_simp
  rw [after0_4]
  have ht := t_lt t
  refine (out4 m c t _).trans ?_
  idx_vars y
  have he : ((View.whole main_v0_0).slice (win0_4.rect t)).emb (ix2 y0 y1)
      = ix2 ⟨t.val * 512 + y0.val, row_lt ht y0⟩ y1 := by
    refine funext fun a => Fin.ext ?_
    match a with
    | ⟨0, _⟩ => blk_simp [idx t]
    | ⟨1, _⟩ => blk_simp [idx t]
  rw [he, ref_grad, pay_grad, blk3 m c t]
  simp only [blk0 m c t, blk1 m c t, blk2 m c t]

/-- The gradient of the gains that the launch leaves. -/
theorem final5 (c : Dev nD) : (dats m 0 c).arrAt 5 (cfgs 0).N
    = Cert.Reference33Ideal.Read.val_main_v18 (F := Ideal) (a0 m c) (a3 m c) := by
  refine (dats m 0 c).arrAt_eq_of_covers 5 _ (by decide +kernel) fun t hf y => ?_
  have hm := (flush0_5 t).mp hf
  blk_simp
  rw [after0_5]
  have ht := t_lt t
  refine (out5 m c t (by omega) _).trans ?_
  idx_vars y
  have he : ((View.whole main_v0_1).slice (win0_5.rect t)).emb (ix2 y0 y1) = ix2 y0 y1 := by
    refine funext fun a => Fin.ext ?_
    match a with
    | ⟨0, _⟩ => blk_simp [idx t]
    | ⟨1, _⟩ => blk_simp [idx t]
  rw [he, zero_add, ref_gain]
  refine Eq.trans (Finset.sum_congr rfl fun s _ => pay_gain _ _ _ _) ?_
  refine Fin.sum_mul_add_congr fun s k hl => ?_
  have hs : 8 * (t.val / 8) + s.val = s.val := by omega
  simp only [blk0 m c _, blk2 m c _, hs]

end Cert.Kernel33Ideal.Norm

end
-- ==== Proof.AdamSmall.lean ====
/- The update of the small weights, packed into one array: the eight devices' parts of the gradient are added, and one AdamW step is taken. -/
module

public import proofs.«01_k».proof.Proof.Gen.Kernel34Ideal.Frame
public import proofs.«01_k».proof.Proof.Gen.Reference34Ideal.Read
public import proofs.«01_k».proof.Proof.AdamStep
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel34Ideal.Adam

open Cert.Kernel34Ideal Cert.Kernel34Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

abbrev a0 (c : Dev nD) : FVec Ideal S8x168x128 .f32 := m ((c.tc : Thread nD τ).loc main_arg0)
abbrev a1 (c : Dev nD) : FVec Ideal S168x128 .f32 := m ((c.tc : Thread nD τ).loc main_arg1)
abbrev a2 (c : Dev nD) : FVec Ideal S168x128 .f32 := m ((c.tc : Thread nD τ).loc main_arg2)
abbrev a3 (c : Dev nD) : FVec Ideal S168x128 .f32 := m ((c.tc : Thread nD τ).loc main_arg3)

/-- Which blocks a grid point stages. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The sum of the parts of a block. -/
theorem pay_sum (x0 : FVec Ideal S8x168x128 .f32) (x1 x2 x3 : FVec Ideal S168x128 .f32) (i : Fin 168) (j : Fin 128) :
    k0_pay5 (F := Ideal) x0 x1 x2 x3 (ix2 i j) = ∑ k : Fin 8, x0 (ix3 k i j) := by
  rw [← sum_eight fun k : Fin 8 => x0 (ix3 k i j)]
  unfold k0_pay5
  pointwise [k0_pay3]

/-- The number of grid points. -/
theorem t_lt (t : Fin cfg0.N) : t.val < 1 := lt_of_lt_of_eq t.isLt N_0

/-- The parts' block at a grid point. -/
theorem blk0 (c : Dev nD) (t : Fin cfg0.N) (k : Fin 8) (i : Fin 168) (j : Fin 128) :
    iblk m c 0 t (ix3 k i j) = a0 m c (ix3 k i j) := by
  have ht := t_lt t
  blk_point [iblk, V, idx t]

/-- The weight's block at a grid point. -/
theorem blk1 (c : Dev nD) (t : Fin cfg0.N) (i : Fin 168) (j : Fin 128) :
    iblk m c 1 t (ix2 i j) = a1 m c (ix2 i j) := by
  have ht := t_lt t
  blk_point [iblk, V, idx t]

/-- The first moment's block at a grid point. -/
theorem blk2 (c : Dev nD) (t : Fin cfg0.N) (i : Fin 168) (j : Fin 128) :
    iblk m c 2 t (ix2 i j) = a2 m c (ix2 i j) := by
  have ht := t_lt t
  blk_point [iblk, V, idx t]

/-- The second moment's block at a grid point. -/
theorem blk3 (c : Dev nD) (t : Fin cfg0.N) (i : Fin 168) (j : Fin 128) :
    iblk m c 3 t (ix2 i j) = a3 m c (ix2 i j) := by
  have ht := t_lt t
  blk_point [iblk, V, idx t]

/-- A payload at an entry: the first moment. -/
theorem pay_m (x0 : FVec Ideal S8x168x128 .f32) (x1 x2 x3 : FVec Ideal S168x128 .f32) (i : Fin 168) (j : Fin 128) :
    k0_pay6 (F := Ideal) x0 x1 x2 x3 (ix2 i j) = moment1 (∑ k : Fin 8, x0 (ix3 k i j)) (x2 (ix2 i j)) := by
  unfold moment1
  rw [← sum_eight fun k : Fin 8 => x0 (ix3 k i j)]
  unfold k0_pay6
  pointwise [k0_pay4, k0_pay3]

/-- A payload at an entry: the second moment. -/
theorem pay_v (g v : FVec Ideal S168x128 .f32) (i : Fin 168) (j : Fin 128) :
    k0_pay1 (F := Ideal) g v (ix2 i j) = moment2 (g (ix2 i j)) (v (ix2 i j)) := by
  unfold moment2
  pointwise [k0_pay1]

/-- A payload at an entry: the change of the weight. -/
theorem pay_d (g x v w : FVec Ideal S168x128 .f32) (i : Fin 168) (j : Fin 128) :
    k0_pay2 (F := Ideal) g x v w (ix2 i j)
      = change (x (ix2 i j)) (moment2 (g (ix2 i j)) (v (ix2 i j))) (w (ix2 i j)) := by
  unfold change moment2
  pointwise [k0_pay2, k0_pay1]

/-- The reference's gradient at an entry. -/
theorem ref_g (x0 : FVec Ideal S8x168x128 .f32) (i : Fin 168) (j : Fin 128) :
    Cert.Reference34Ideal.Read.val_main_v0 (F := Ideal) x0 (ix2 i j) = ∑ k : Fin 8, x0 (ix3 k i j) := by
  rw [Cert.Reference34Ideal.Read.val_main_v0_apply]
  rw [show (Cert.Reference34Ideal.Read.val_main_cst (F := Ideal)) (Shape.Idx.first Cert.Reference34Ideal.Gen.h_S_) = (0 : EReal) from Ideal.ofBits_zero_f32, zero_add]
  refine Finset.sum_congr rfl fun k _ => ?_
  exact congrArg x0 (funext fun a => Fin.ext (by match a with | ⟨0, _⟩ => rfl | ⟨1, _⟩ => rfl | ⟨2, _⟩ => rfl))

/-- The reference's new first moment at an entry. -/
theorem ref_m (x0 : FVec Ideal S8x168x128 .f32) (x2 : FVec Ideal S168x128 .f32) (p : S168x128.Idx) :
    Cert.Reference34Ideal.Read.val_main_v5 (F := Ideal) x0 x2 p = moment1 (Cert.Reference34Ideal.Read.val_main_v0 (F := Ideal) x0 p) (x2 p) := by
  unfold moment1
  rw [Cert.Reference34Ideal.Read.val_main_v5_apply]
  simp only [Cert.Reference34Ideal.Read.val_main_v1_apply, Cert.Reference34Ideal.Read.val_main_v2_apply, Cert.Reference34Ideal.Read.val_main_v3_apply, Cert.Reference34Ideal.Read.val_main_v4_apply, Cert.Reference34Ideal.Read.val_main_cst_0_apply, Cert.Reference34Ideal.Read.val_main_cst_1_apply]
  rfl

/-- The reference's new second moment at an entry. -/
theorem ref_v (x0 : FVec Ideal S8x168x128 .f32) (x3 : FVec Ideal S168x128 .f32) (p : S168x128.Idx) :
    Cert.Reference34Ideal.Read.val_main_v11 (F := Ideal) x0 x3 p = moment2 (Cert.Reference34Ideal.Read.val_main_v0 (F := Ideal) x0 p) (x3 p) := by
  unfold moment2
  rw [Cert.Reference34Ideal.Read.val_main_v11_apply]
  simp only [Cert.Reference34Ideal.Read.val_main_v6_apply, Cert.Reference34Ideal.Read.val_main_v7_apply, Cert.Reference34Ideal.Read.val_main_v8_apply, Cert.Reference34Ideal.Read.val_main_v9_apply, Cert.Reference34Ideal.Read.val_main_v10_apply, Cert.Reference34Ideal.Read.val_main_cst_2_apply, Cert.Reference34Ideal.Read.val_main_cst_3_apply]
  rfl

/-- The reference's change of the weight at an entry. -/
theorem ref_d (x0 : FVec Ideal S8x168x128 .f32) (x1 x2 x3 : FVec Ideal S168x128 .f32) (p : S168x128.Idx) :
    Cert.Reference34Ideal.Read.val_main_v24 (F := Ideal) x0 x1 x2 x3 p
      = change (Cert.Reference34Ideal.Read.val_main_v5 (F := Ideal) x0 x2 p) (Cert.Reference34Ideal.Read.val_main_v11 (F := Ideal) x0 x3 p) (x1 p) := by
  unfold change
  rw [Cert.Reference34Ideal.Read.val_main_v24_apply]
  simp only [Cert.Reference34Ideal.Read.val_main_v12_apply, Cert.Reference34Ideal.Read.val_main_v13_apply, Cert.Reference34Ideal.Read.val_main_v14_apply, Cert.Reference34Ideal.Read.val_main_v15_apply, Cert.Reference34Ideal.Read.val_main_v16_apply, Cert.Reference34Ideal.Read.val_main_v17_apply, Cert.Reference34Ideal.Read.val_main_v18_apply, Cert.Reference34Ideal.Read.val_main_v19_apply, Cert.Reference34Ideal.Read.val_main_v20_apply, Cert.Reference34Ideal.Read.val_main_v21_apply, Cert.Reference34Ideal.Read.val_main_v22_apply, Cert.Reference34Ideal.Read.val_main_v23_apply, Cert.Reference34Ideal.Read.val_main_cst_4_apply, Cert.Reference34Ideal.Read.val_main_cst_5_apply, Cert.Reference34Ideal.Read.val_main_cst_6_apply, Cert.Reference34Ideal.Read.val_main_cst_7_apply, Cert.Reference34Ideal.Read.val_main_cst_8_apply]
  rfl

/-- The first moment at a grid point. -/
theorem gm (c : Dev nD) (t : Fin cfg0.N) (i : Fin 168) (j : Fin 128) :
    k0_pay6 (F := Ideal) (iblk m c 0 t) (iblk m c 1 t) (iblk m c 2 t) (iblk m c 3 t) (ix2 i j)
      = Cert.Reference34Ideal.Read.val_main_v5 (F := Ideal) (a0 m c) (a2 m c) (ix2 i j) := by
  rw [ref_m, ref_g]
  refine (pay_m _ _ _ _ i j).trans ?_
  rw [blk2]
  refine congrArg (moment1 · _) ?_
  exact Finset.sum_congr rfl fun k _ => blk0 m c t k i j

/-- The gradient that the launch leaves. -/
theorem final4 (c : Dev nD) : (dats m 0 c).arrAt 4 (cfgs 0).N
    = Cert.Reference34Ideal.Read.val_main_v0 (F := Ideal) (a0 m c) := by
  refine (dats m 0 c).arrAt_eq_of_covers 4 _ (by decide +kernel) fun t _ y => ?_
  blk_simp
  rw [after0_4]
  unfold out0_4
  frame_out
  have ht := t_lt t
  idx_vars y
  revert y0 y1
  intro i j
  have he : ((View.whole main_v0_0).slice (win0_4.rect t)).emb (ix2 i j) = ix2 i j := by
    refine funext fun a => Fin.ext ?_
    match a with
    | ⟨0, _⟩ => blk_simp [idx t]
    | ⟨1, _⟩ => blk_simp [idx t]
  rw [he]
  refine (pay_sum _ _ _ _ i j).trans ?_
  rw [ref_g]
  exact Finset.sum_congr rfl fun k _ => blk0 m c t k i j

/-- The change of the weight that the launch leaves. -/
theorem final5 (c : Dev nD) : (dats m 0 c).arrAt 5 (cfgs 0).N
    = Cert.Reference34Ideal.Read.val_main_v24 (F := Ideal) (a0 m c) (a1 m c) (a2 m c) (a3 m c) := by
  refine (dats m 0 c).arrAt_eq_of_covers 5 _ (by decide +kernel) fun t _ y => ?_
  blk_simp
  rw [after0_5]
  unfold out0_5
  frame_out
  have ht := t_lt t
  idx_vars y
  revert y0 y1
  intro i j
  have he : ((View.whole main_v0_1).slice (win0_5.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference34Ideal.Read.val_main_v0 (F := Ideal) (a0 m c) (ix2 i j) := by
    refine (pay_sum _ _ _ _ i j).trans ?_
    rw [ref_g]
    exact Finset.sum_congr rfl fun k _ => blk0 m c t k i j
  have hm := gm m c t i j
  rw [ref_d, ref_v]
  refine (pay_d _ _ _ _ i j).trans ?_
  rw [hg, hm, blk1, blk3]

/-- The first moment that the launch leaves. -/
theorem final6 (c : Dev nD) : (dats m 0 c).arrAt 6 (cfgs 0).N
    = Cert.Reference34Ideal.Read.val_main_v5 (F := Ideal) (a0 m c) (a2 m c) := by
  refine (dats m 0 c).arrAt_eq_of_covers 6 _ (by decide +kernel) fun t _ y => ?_
  blk_simp
  rw [after0_6]
  unfold out0_6
  frame_out
  have ht := t_lt t
  idx_vars y
  revert y0 y1
  intro i j
  have he : ((View.whole main_v0_2).slice (win0_6.rect t)).emb (ix2 i j) = ix2 i j := by
    refine funext fun a => Fin.ext ?_
    match a with
    | ⟨0, _⟩ => blk_simp [idx t]
    | ⟨1, _⟩ => blk_simp [idx t]
  rw [he]
  exact gm m c t i j

/-- The second moment that the launch leaves. -/
theorem final7 (c : Dev nD) : (dats m 0 c).arrAt 7 (cfgs 0).N
    = Cert.Reference34Ideal.Read.val_main_v11 (F := Ideal) (a0 m c) (a3 m c) := by
  refine (dats m 0 c).arrAt_eq_of_covers 7 _ (by decide +kernel) fun t _ y => ?_
  blk_simp
  rw [after0_7]
  unfold out0_7
  frame_out
  have ht := t_lt t
  idx_vars y
  revert y0 y1
  intro i j
  have he : ((View.whole main_v0_3).slice (win0_7.rect t)).emb (ix2 i j) = ix2 i j := by
    refine funext fun a => Fin.ext ?_
    match a with
    | ⟨0, _⟩ => blk_simp [idx t]
    | ⟨1, _⟩ => blk_simp [idx t]
  rw [he]
  have hg : k0_pay5 (F := Ideal) (iblk m c 0 t) (iblk m c 1 t) (iblk m c 2 t) (iblk m c 3 t) (ix2 i j)
      = Cert.Reference34Ideal.Read.val_main_v0 (F := Ideal) (a0 m c) (ix2 i j) := by
    refine (pay_sum _ _ _ _ i j).trans ?_
    rw [ref_g]
    exact Finset.sum_congr rfl fun k _ => blk0 m c t k i j
  rw [ref_v]
  refine (pay_v _ _ i j).trans ?_
  rw [hg, blk3]

/-- What the machine holds after the launch, before the host cuts the packed results. -/
def after (c : Dev nD) : Valuation τ sig (Elt Ideal) :=
  Pipeline.withArrays (cfgs 0).spec c (V0 m c) (fun w => (dats m 0 c).arrAt w (cfgs 0).N)

/-- What the host lines leave in a buffer. -/
abbrev cut (c : Dev nD) (r : Ref sig .tc) := Pipeline.afterTail₀ cfgs (dats m) 0 (V0 m) [hostOps1] c r

/-- The host lines start from what the launch leaves. -/
theorem cut_eq (c : Dev nD) (r : Ref sig .tc) : cut m c r = StableHlo.after hostOps1 (after m c) (Proc.devRef .tc r) := by
  unfold cut Pipeline.afterTail₀ after
  simp only [List.flatten_cons, List.flatten_nil, List.append_nil]

/-- The packed gradients. -/
theorem after4 (c : Dev nD) : after m c (Proc.devRef .tc main_v0_0) = Cert.Reference34Ideal.Read.val_main_v0 (F := Ideal) (a0 m c) :=
  (Pipeline.withArrays_arr (cfgs 0).spec (by decide) c (V0 m c) (fun w => (dats m 0 c).arrAt w (cfgs 0).N) 4).trans (final4 m c)

/-- The packed changes of the weights. -/
theorem after5 (c : Dev nD) : after m c (Proc.devRef .tc main_v0_1)
    = Cert.Reference34Ideal.Read.val_main_v24 (F := Ideal) (a0 m c) (a1 m c) (a2 m c) (a3 m c) :=
  (Pipeline.withArrays_arr (cfgs 0).spec (by decide) c (V0 m c) (fun w => (dats m 0 c).arrAt w (cfgs 0).N) 5).trans (final5 m c)

/-- The packed first moments. -/
theorem after6 (c : Dev nD) : after m c (Proc.devRef .tc main_v0_2)
    = Cert.Reference34Ideal.Read.val_main_v5 (F := Ideal) (a0 m c) (a2 m c) :=
  (Pipeline.withArrays_arr (cfgs 0).spec (by decide) c (V0 m c) (fun w => (dats m 0 c).arrAt w (cfgs 0).N) 6).trans (final6 m c)

/-- The packed second moments. -/
theorem after7 (c : Dev nD) : after m c (Proc.devRef .tc main_v0_3)
    = Cert.Reference34Ideal.Read.val_main_v11 (F := Ideal) (a0 m c) (a3 m c) :=
  (Pipeline.withArrays_arr (cfgs 0).spec (by decide) c (V0 m c) (fun w => (dats m 0 c).arrAt w (cfgs 0).N) 7).trans (final7 m c)

end Cert.Kernel34Ideal.Adam

end
-- ==== Proof.AdamSmallGrad.lean ====
/- The small weights' results, cut out of the packed ones: the gradients, and the loss. -/
module

public import proofs.«01_k».proof.Proof.AdamSmall

@[expose] public section

set_option maxRecDepth 16384

noncomputable section

namespace Cert.Kernel34Ideal.Adam

open Cert.Kernel34Ideal Cert.Kernel34Ideal.Gen
open Cert.Reference34Ideal.Read (val_main_v219 val_main_v27 val_main_v30 val_main_v33 val_main_v36 val_main_v39 val_main_v42 val_main_v45 val_main_v48 val_main_v51 val_main_v54 val_main_v57 val_main_v60 val_main_v63 val_main_v66 val_main_v69 val_main_v72)
open Idealize.ShloMosaic Idealize.ShloMosaic.TcCoe Idealize.SL.Sem

/-! Each piece of a packed result, in the order of the pieces, is the reference's. -/

variable (m : (ℓ : Loc nD τ sig) → Buf (Elt Ideal) ℓ)

theorem result0 (c : Dev nD) : cut m c main_v3 = val_main_v219 (F := Ideal) (a0 m c) := by
  rw [cut_eq]; unfold_abbrev_sides; after_results; rw [after4]; rfl

theorem result1 (c : Dev nD) : cut m c main_v6 = val_main_v27 (F := Ideal) (a0 m c) := by
  rw [cut_eq]; unfold_abbrev_sides; after_results; rw [after4]; rfl

theorem result2 (c : Dev nD) : cut m c main_v8 = val_main_v30 (F := Ideal) (a0 m c) := by
  rw [cut_eq]; unfold_abbrev_sides; after_results; rw [after4]; rfl

theorem result3 (c : Dev nD) : cut m c main_v10 = val_main_v33 (F := Ideal) (a0 m c) := by
  rw [cut_eq]; unfold_abbrev_sides; after_results; rw [after4]; rfl

theorem result4 (c : Dev nD) : cut m c main_v12 = val_main_v36 (F := Ideal) (a0 m c) := by
  rw [cut_eq]; unfold_abbrev_sides; after_results; rw [after4]; rfl

theorem result5 (c : Dev nD) : cut m c main_v14 = val_main_v39 (F := Ideal) (a0 m c) := by
  rw [cut_eq]; unfold_abbrev_sides; after_results; rw [after4]; rfl

theorem result6 (c : Dev nD) : cut m c main_v16 = val_main_v42 (F := Ideal) (a0 m c) := by
  rw [cut_eq]; unfold_abbrev_sides; after_results; rw [after4]; rfl

theorem result7 (c : Dev nD) : cut m c main_v18 = val_main_v45 (F := Ideal) (a0 m c) := by
  rw [cut_eq]; unfold_abbrev_sides; after_results; rw [after4]; rfl

theorem result8 (c : Dev nD) : cut m c main_v20 = val_main_v48 (F := Ideal) (a0 m c) := by
  rw [cut_eq]; unfold_abbrev_sides; after_results; rw [after4]; rfl

theorem result9 (c : Dev nD) : cut m c main_v22 = val_main_v51 (F := Ideal) (a0 m c) := by
  rw [cut_eq]; unfold_abbrev_sides; after_results; rw [after4]; rfl

theorem result10 (c : Dev nD) : cut m c main_v24 = val_main_v54 (F := Ideal) (a0 m c) := by
  rw [cut_eq]; unfold_abbrev_sides; after_results; rw [after4]; rfl

theorem result11 (c : Dev nD) : cut m c main_v26 = val_main_v57 (F := Ideal) (a0 m c) := by
  rw [cut_eq]; unfold_abbrev_sides; after_results; rw [after4]; rfl

theorem result12 (c : Dev nD) : cut m c main_v28 = val_main_v60 (F := Ideal) (a0 m c) := by
  rw [cut_eq]; unfold_abbrev_sides; after_results; rw [after4]; rfl

theorem result13 (c : Dev nD) : cut m c main_v30 = val_main_v63 (F := Ideal) (a0 m c) := by
  rw [cut_eq]; unfold_abbrev_sides; after_results; rw [after4]; rfl

theorem result14 (c : Dev nD) : cut m c main_v32 = val_main_v66 (F := Ideal) (a0 m c) := by
  rw [cut_eq]; unfold_abbrev_sides; after_results; rw [after4]; rfl

theorem result15 (c : Dev nD) : cut m c main_v34 = val_main_v69 (F := Ideal) (a0 m c) := by
  rw [cut_eq]; unfold_abbrev_sides; after_results; rw [after4]; rfl

theorem result16 (c : Dev nD) : cut m c main_v36 = val_main_v72 (F := Ideal) (a0 m c) := by
  rw [cut_eq]; unfold_abbrev_sides; after_results; rw [after4]; rfl

end Cert.Kernel34Ideal.Adam

end
-- ==== Proof.AdamSmallChange.lean ====
/- The small weights' results, cut out of the packed ones: the changes of the weights. -/
module

public import proofs.«01_k».proof.Proof.AdamSmall

@[expose] public section

set_option maxRecDepth 16384

noncomputable section

namespace Cert.Kernel34Ideal.Adam

open Cert.Kernel34Ideal Cert.Kernel34Ideal.Gen
open Cert.Reference34Ideal.Read (val_main_v75 val_main_v78 val_main_v81 val_main_v84 val_main_v87 val_main_v90 val_main_v93 val_main_v96 val_main_v99 val_main_v102 val_main_v105 val_main_v108 val_main_v111 val_main_v114 val_main_v117 val_main_v120)
open Idealize.ShloMosaic Idealize.ShloMosaic.TcCoe Idealize.SL.Sem

/-! Each piece of a packed result, in the order of the pieces, is the reference's. -/

variable (m : (ℓ : Loc nD τ sig) → Buf (Elt Ideal) ℓ)

theorem result17 (c : Dev nD) : cut m c main_v39 = val_main_v75 (F := Ideal) (a0 m c) (a1 m c) (a2 m c) (a3 m c) := by
  rw [cut_eq]; unfold_abbrev_sides; after_results; rw [after5]; rfl

theorem result18 (c : Dev nD) : cut m c main_v41 = val_main_v78 (F := Ideal) (a0 m c) (a1 m c) (a2 m c) (a3 m c) := by
  rw [cut_eq]; unfold_abbrev_sides; after_results; rw [after5]; rfl

theorem result19 (c : Dev nD) : cut m c main_v43 = val_main_v81 (F := Ideal) (a0 m c) (a1 m c) (a2 m c) (a3 m c) := by
  rw [cut_eq]; unfold_abbrev_sides; after_results; rw [after5]; rfl

theorem result20 (c : Dev nD) : cut m c main_v45 = val_main_v84 (F := Ideal) (a0 m c) (a1 m c) (a2 m c) (a3 m c) := by
  rw [cut_eq]; unfold_abbrev_sides; after_results; rw [after5]; rfl

theorem result21 (c : Dev nD) : cut m c main_v47 = val_main_v87 (F := Ideal) (a0 m c) (a1 m c) (a2 m c) (a3 m c) := by
  rw [cut_eq]; unfold_abbrev_sides; after_results; rw [after5]; rfl

theorem result22 (c : Dev nD) : cut m c main_v49 = val_main_v90 (F := Ideal) (a0 m c) (a1 m c) (a2 m c) (a3 m c) := by
  rw [cut_eq]; unfold_abbrev_sides; after_results; rw [after5]; rfl

theorem result23 (c : Dev nD) : cut m c main_v51 = val_main_v93 (F := Ideal) (a0 m c) (a1 m c) (a2 m c) (a3 m c) := by
  rw [cut_eq]; unfold_abbrev_sides; after_results; rw [after5]; rfl

theorem result24 (c : Dev nD) : cut m c main_v53 = val_main_v96 (F := Ideal) (a0 m c) (a1 m c) (a2 m c) (a3 m c) := by
  rw [cut_eq]; unfold_abbrev_sides; after_results; rw [after5]; rfl

theorem result25 (c : Dev nD) : cut m c main_v55 = val_main_v99 (F := Ideal) (a0 m c) (a1 m c) (a2 m c) (a3 m c) := by
  rw [cut_eq]; unfold_abbrev_sides; after_results; rw [after5]; rfl

theorem result26 (c : Dev nD) : cut m c main_v57 = val_main_v102 (F := Ideal) (a0 m c) (a1 m c) (a2 m c) (a3 m c) := by
  rw [cut_eq]; unfold_abbrev_sides; after_results; rw [after5]; rfl

theorem result27 (c : Dev nD) : cut m c main_v59 = val_main_v105 (F := Ideal) (a0 m c) (a1 m c) (a2 m c) (a3 m c) := by
  rw [cut_eq]; unfold_abbrev_sides; after_results; rw [after5]; rfl

theorem result28 (c : Dev nD) : cut m c main_v61 = val_main_v108 (F := Ideal) (a0 m c) (a1 m c) (a2 m c) (a3 m c) := by
  rw [cut_eq]; unfold_abbrev_sides; after_results; rw [after5]; rfl

theorem result29 (c : Dev nD) : cut m c main_v63 = val_main_v111 (F := Ideal) (a0 m c) (a1 m c) (a2 m c) (a3 m c) := by
  rw [cut_eq]; unfold_abbrev_sides; after_results; rw [after5]; rfl

theorem result30 (c : Dev nD) : cut m c main_v65 = val_main_v114 (F := Ideal) (a0 m c) (a1 m c) (a2 m c) (a3 m c) := by
  rw [cut_eq]; unfold_abbrev_sides; after_results; rw [after5]; rfl

theorem result31 (c : Dev nD) : cut m c main_v67 = val_main_v117 (F := Ideal) (a0 m c) (a1 m c) (a2 m c) (a3 m c) := by
  rw [cut_eq]; unfold_abbrev_sides; after_results; rw [after5]; rfl

theorem result32 (c : Dev nD) : cut m c main_v69 = val_main_v120 (F := Ideal) (a0 m c) (a1 m c) (a2 m c) (a3 m c) := by
  rw [cut_eq]; unfold_abbrev_sides; after_results; rw [after5]; rfl

end Cert.Kernel34Ideal.Adam

end
-- ==== Proof.AdamSmallMoment1.lean ====
/- The small weights' results, cut out of the packed ones: the first moments. -/
module

public import proofs.«01_k».proof.Proof.AdamSmall

@[expose] public section

set_option maxRecDepth 16384

noncomputable section

namespace Cert.Kernel34Ideal.Adam

open Cert.Kernel34Ideal Cert.Kernel34Ideal.Gen
open Cert.Reference34Ideal.Read (val_main_v123 val_main_v126 val_main_v129 val_main_v132 val_main_v135 val_main_v138 val_main_v141 val_main_v144 val_main_v147 val_main_v150 val_main_v153 val_main_v156 val_main_v159 val_main_v162 val_main_v165 val_main_v168)
open Idealize.ShloMosaic Idealize.ShloMosaic.TcCoe Idealize.SL.Sem

/-! Each piece of a packed result, in the order of the pieces, is the reference's. -/

variable (m : (ℓ : Loc nD τ sig) → Buf (Elt Ideal) ℓ)

theorem result33 (c : Dev nD) : cut m c main_v72 = val_main_v123 (F := Ideal) (a0 m c) (a2 m c) := by
  rw [cut_eq]; unfold_abbrev_sides; after_results; rw [after6]; rfl

theorem result34 (c : Dev nD) : cut m c main_v74 = val_main_v126 (F := Ideal) (a0 m c) (a2 m c) := by
  rw [cut_eq]; unfold_abbrev_sides; after_results; rw [after6]; rfl

theorem result35 (c : Dev nD) : cut m c main_v76 = val_main_v129 (F := Ideal) (a0 m c) (a2 m c) := by
  rw [cut_eq]; unfold_abbrev_sides; after_results; rw [after6]; rfl

theorem result36 (c : Dev nD) : cut m c main_v78 = val_main_v132 (F := Ideal) (a0 m c) (a2 m c) := by
  rw [cut_eq]; unfold_abbrev_sides; after_results; rw [after6]; rfl

theorem result37 (c : Dev nD) : cut m c main_v80 = val_main_v135 (F := Ideal) (a0 m c) (a2 m c) := by
  rw [cut_eq]; unfold_abbrev_sides; after_results; rw [after6]; rfl

theorem result38 (c : Dev nD) : cut m c main_v82 = val_main_v138 (F := Ideal) (a0 m c) (a2 m c) := by
  rw [cut_eq]; unfold_abbrev_sides; after_results; rw [after6]; rfl

theorem result39 (c : Dev nD) : cut m c main_v84 = val_main_v141 (F := Ideal) (a0 m c) (a2 m c) := by
  rw [cut_eq]; unfold_abbrev_sides; after_results; rw [after6]; rfl

theorem result40 (c : Dev nD) : cut m c main_v86 = val_main_v144 (F := Ideal) (a0 m c) (a2 m c) := by
  rw [cut_eq]; unfold_abbrev_sides; after_results; rw [after6]; rfl

theorem result41 (c : Dev nD) : cut m c main_v88 = val_main_v147 (F := Ideal) (a0 m c) (a2 m c) := by
  rw [cut_eq]; unfold_abbrev_sides; after_results; rw [after6]; rfl

theorem result42 (c : Dev nD) : cut m c main_v90 = val_main_v150 (F := Ideal) (a0 m c) (a2 m c) := by
  rw [cut_eq]; unfold_abbrev_sides; after_results; rw [after6]; rfl

theorem result43 (c : Dev nD) : cut m c main_v92 = val_main_v153 (F := Ideal) (a0 m c) (a2 m c) := by
  rw [cut_eq]; unfold_abbrev_sides; after_results; rw [after6]; rfl

theorem result44 (c : Dev nD) : cut m c main_v94 = val_main_v156 (F := Ideal) (a0 m c) (a2 m c) := by
  rw [cut_eq]; unfold_abbrev_sides; after_results; rw [after6]; rfl

theorem result45 (c : Dev nD) : cut m c main_v96 = val_main_v159 (F := Ideal) (a0 m c) (a2 m c) := by
  rw [cut_eq]; unfold_abbrev_sides; after_results; rw [after6]; rfl

theorem result46 (c : Dev nD) : cut m c main_v98 = val_main_v162 (F := Ideal) (a0 m c) (a2 m c) := by
  rw [cut_eq]; unfold_abbrev_sides; after_results; rw [after6]; rfl

theorem result47 (c : Dev nD) : cut m c main_v100 = val_main_v165 (F := Ideal) (a0 m c) (a2 m c) := by
  rw [cut_eq]; unfold_abbrev_sides; after_results; rw [after6]; rfl

theorem result48 (c : Dev nD) : cut m c main_v102 = val_main_v168 (F := Ideal) (a0 m c) (a2 m c) := by
  rw [cut_eq]; unfold_abbrev_sides; after_results; rw [after6]; rfl

end Cert.Kernel34Ideal.Adam

end
-- ==== Proof.AdamSmallMoment2.lean ====
/- The small weights' results, cut out of the packed ones: the second moments. -/
module

public import proofs.«01_k».proof.Proof.AdamSmall

@[expose] public section

set_option maxRecDepth 16384

noncomputable section

namespace Cert.Kernel34Ideal.Adam

open Cert.Kernel34Ideal Cert.Kernel34Ideal.Gen
open Cert.Reference34Ideal.Read (val_main_v171 val_main_v174 val_main_v177 val_main_v180 val_main_v183 val_main_v186 val_main_v189 val_main_v192 val_main_v195 val_main_v198 val_main_v201 val_main_v204 val_main_v207 val_main_v210 val_main_v213 val_main_v216)
open Idealize.ShloMosaic Idealize.ShloMosaic.TcCoe Idealize.SL.Sem

/-! Each piece of a packed result, in the order of the pieces, is the reference's. -/

variable (m : (ℓ : Loc nD τ sig) → Buf (Elt Ideal) ℓ)

theorem result49 (c : Dev nD) : cut m c main_v105 = val_main_v171 (F := Ideal) (a0 m c) (a3 m c) := by
  rw [cut_eq]; unfold_abbrev_sides; after_results; rw [after7]; rfl

theorem result50 (c : Dev nD) : cut m c main_v107 = val_main_v174 (F := Ideal) (a0 m c) (a3 m c) := by
  rw [cut_eq]; unfold_abbrev_sides; after_results; rw [after7]; rfl

theorem result51 (c : Dev nD) : cut m c main_v109 = val_main_v177 (F := Ideal) (a0 m c) (a3 m c) := by
  rw [cut_eq]; unfold_abbrev_sides; after_results; rw [after7]; rfl

theorem result52 (c : Dev nD) : cut m c main_v111 = val_main_v180 (F := Ideal) (a0 m c) (a3 m c) := by
  rw [cut_eq]; unfold_abbrev_sides; after_results; rw [after7]; rfl

theorem result53 (c : Dev nD) : cut m c main_v113 = val_main_v183 (F := Ideal) (a0 m c) (a3 m c) := by
  rw [cut_eq]; unfold_abbrev_sides; after_results; rw [after7]; rfl

theorem result54 (c : Dev nD) : cut m c main_v115 = val_main_v186 (F := Ideal) (a0 m c) (a3 m c) := by
  rw [cut_eq]; unfold_abbrev_sides; after_results; rw [after7]; rfl

theorem result55 (c : Dev nD) : cut m c main_v117 = val_main_v189 (F := Ideal) (a0 m c) (a3 m c) := by
  rw [cut_eq]; unfold_abbrev_sides; after_results; rw [after7]; rfl

theorem result56 (c : Dev nD) : cut m c main_v119 = val_main_v192 (F := Ideal) (a0 m c) (a3 m c) := by
  rw [cut_eq]; unfold_abbrev_sides; after_results; rw [after7]; rfl

theorem result57 (c : Dev nD) : cut m c main_v121 = val_main_v195 (F := Ideal) (a0 m c) (a3 m c) := by
  rw [cut_eq]; unfold_abbrev_sides; after_results; rw [after7]; rfl

theorem result58 (c : Dev nD) : cut m c main_v123 = val_main_v198 (F := Ideal) (a0 m c) (a3 m c) := by
  rw [cut_eq]; unfold_abbrev_sides; after_results; rw [after7]; rfl

theorem result59 (c : Dev nD) : cut m c main_v125 = val_main_v201 (F := Ideal) (a0 m c) (a3 m c) := by
  rw [cut_eq]; unfold_abbrev_sides; after_results; rw [after7]; rfl

theorem result60 (c : Dev nD) : cut m c main_v127 = val_main_v204 (F := Ideal) (a0 m c) (a3 m c) := by
  rw [cut_eq]; unfold_abbrev_sides; after_results; rw [after7]; rfl

theorem result61 (c : Dev nD) : cut m c main_v129 = val_main_v207 (F := Ideal) (a0 m c) (a3 m c) := by
  rw [cut_eq]; unfold_abbrev_sides; after_results; rw [after7]; rfl

theorem result62 (c : Dev nD) : cut m c main_v131 = val_main_v210 (F := Ideal) (a0 m c) (a3 m c) := by
  rw [cut_eq]; unfold_abbrev_sides; after_results; rw [after7]; rfl

theorem result63 (c : Dev nD) : cut m c main_v133 = val_main_v213 (F := Ideal) (a0 m c) (a3 m c) := by
  rw [cut_eq]; unfold_abbrev_sides; after_results; rw [after7]; rfl

theorem result64 (c : Dev nD) : cut m c main_v135 = val_main_v216 (F := Ideal) (a0 m c) (a3 m c) := by
  rw [cut_eq]; unfold_abbrev_sides; after_results; rw [after7]; rfl

end Cert.Kernel34Ideal.Adam

end
-- ==== Proof.AdamSmallClaim.lean ====
/- The small weights' update: the two programs agree on all sixty-five results, and the reference runs and leaves its arguments. -/
module

public import proofs.«01_k».proof.Defs
public import proofs.«01_k».proof.Proof.AdamSmallGrad
public import proofs.«01_k».proof.Proof.AdamSmallChange
public import proofs.«01_k».proof.Proof.AdamSmallMoment1
public import proofs.«01_k».proof.Proof.AdamSmallMoment2
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem
open Cert.Kernel34Ideal.Adam Cert.Reference34Ideal.Read

set_option maxHeartbeats 4000000 in
/-- The kernel's sixty-five results are the reference's at every entry: the update of the small weights, and the loss. -/
theorem algebraic34 : Cert.algebraic_Kernel34Ideal_Reference34Ideal := by
  pair_intro
  · run_from Cert.Kernel34Ideal.Gen.run_main m g
  · refine (θ_run Cert.Reference34Ideal.defs _ _).mono (fun r h => ?_) (Cert.Reference34Ideal.Value.run m' g')
    intro c
    have e0 : StableHlo.launchContents m' c (Proc.devRef .tc Cert.Reference34Ideal.main_arg0) = a0 m c := (hagree c).1
    have e1 : StableHlo.launchContents m' c (Proc.devRef .tc Cert.Reference34Ideal.main_arg1) = a1 m c := (hagree c).2.1
    have e2 : StableHlo.launchContents m' c (Proc.devRef .tc Cert.Reference34Ideal.main_arg2) = a2 m c := (hagree c).2.2.1
    have e3 : StableHlo.launchContents m' c (Proc.devRef .tc Cert.Reference34Ideal.main_arg3) = a3 m c := (hagree c).2.2.2
    have hc := h c
    clear h
    revert hc
    refine And.imp (fun h => h.trans ?_) ?_
    · rw [val_main_v219_eq, e0]; exact (result0 m c).symm
    refine And.imp (fun h => h.trans ?_) ?_
    · rw [val_main_v27_eq, e0]; exact (result1 m c).symm
    refine And.imp (fun h => h.trans ?_) ?_
    · rw [val_main_v30_eq, e0]; exact (result2 m c).symm
    refine And.imp (fun h => h.trans ?_) ?_
    · rw [val_main_v33_eq, e0]; exact (result3 m c).symm
    refine And.imp (fun h => h.trans ?_) ?_
    · rw [val_main_v36_eq, e0]; exact (result4 m c).symm
    refine And.imp (fun h => h.trans ?_) ?_
    · rw [val_main_v39_eq, e0]; exact (result5 m c).symm
    refine And.imp (fun h => h.trans ?_) ?_
    · rw [val_main_v42_eq, e0]; exact (result6 m c).symm
    refine And.imp (fun h => h.trans ?_) ?_
    · rw [val_main_v45_eq, e0]; exact (result7 m c).symm
    refine And.imp (fun h => h.trans ?_) ?_
    · rw [val_main_v48_eq, e0]; exact (result8 m c).symm
    refine And.imp (fun h => h.trans ?_) ?_
    · rw [val_main_v51_eq, e0]; exact (result9 m c).symm
    refine And.imp (fun h => h.trans ?_) ?_
    · rw [val_main_v54_eq, e0]; exact (result10 m c).symm
    refine And.imp (fun h => h.trans ?_) ?_
    · rw [val_main_v57_eq, e0]; exact (result11 m c).symm
    refine And.imp (fun h => h.trans ?_) ?_
    · rw [val_main_v60_eq, e0]; exact (result12 m c).symm
    refine And.imp (fun h => h.trans ?_) ?_
    · rw [val_main_v63_eq, e0]; exact (result13 m c).symm
    refine And.imp (fun h => h.trans ?_) ?_
    · rw [val_main_v66_eq, e0]; exact (result14 m c).symm
    refine And.imp (fun h => h.trans ?_) ?_
    · rw [val_main_v69_eq, e0]; exact (result15 m c).symm
    refine And.imp (fun h => h.trans ?_) ?_
    · rw [val_main_v72_eq, e0]; exact (result16 m c).symm
    refine And.imp (fun h => h.trans ?_) ?_
    · rw [val_main_v75_eq, e0, e1, e2, e3]; exact (result17 m c).symm
    refine And.imp (fun h => h.trans ?_) ?_
    · rw [val_main_v78_eq, e0, e1, e2, e3]; exact (result18 m c).symm
    refine And.imp (fun h => h.trans ?_) ?_
    · rw [val_main_v81_eq, e0, e1, e2, e3]; exact (result19 m c).symm
    refine And.imp (fun h => h.trans ?_) ?_
    · rw [val_main_v84_eq, e0, e1, e2, e3]; exact (result20 m c).symm
    refine And.imp (fun h => h.trans ?_) ?_
    · rw [val_main_v87_eq, e0, e1, e2, e3]; exact (result21 m c).symm
    refine And.imp (fun h => h.trans ?_) ?_
    · rw [val_main_v90_eq, e0, e1, e2, e3]; exact (result22 m c).symm
    refine And.imp (fun h => h.trans ?_) ?_
    · rw [val_main_v93_eq, e0, e1, e2, e3]; exact (result23 m c).symm
    refine And.imp (fun h => h.trans ?_) ?_
    · rw [val_main_v96_eq, e0, e1, e2, e3]; exact (result24 m c).symm
    refine And.imp (fun h => h.trans ?_) ?_
    · rw [val_main_v99_eq, e0, e1, e2, e3]; exact (result25 m c).symm
    refine And.imp (fun h => h.trans ?_) ?_
    · rw [val_main_v102_eq, e0, e1, e2, e3]; exact (result26 m c).symm
    refine And.imp (fun h => h.trans ?_) ?_
    · rw [val_main_v105_eq, e0, e1, e2, e3]; exact (result27 m c).symm
    refine And.imp (fun h => h.trans ?_) ?_
    · rw [val_main_v108_eq, e0, e1, e2, e3]; exact (result28 m c).symm
    refine And.imp (fun h => h.trans ?_) ?_
    · rw [val_main_v111_eq, e0, e1, e2, e3]; exact (result29 m c).symm
    refine And.imp (fun h => h.trans ?_) ?_
    · rw [val_main_v114_eq, e0, e1, e2, e3]; exact (result30 m c).symm
    refine And.imp (fun h => h.trans ?_) ?_
    · rw [val_main_v117_eq, e0, e1, e2, e3]; exact (result31 m c).symm
    refine And.imp (fun h => h.trans ?_) ?_
    · rw [val_main_v120_eq, e0, e1, e2, e3]; exact (result32 m c).symm
    refine And.imp (fun h => h.trans ?_) ?_
    · rw [val_main_v123_eq, e0, e2]; exact (result33 m c).symm
    refine And.imp (fun h => h.trans ?_) ?_
    · rw [val_main_v126_eq, e0, e2]; exact (result34 m c).symm
    refine And.imp (fun h => h.trans ?_) ?_
    · rw [val_main_v129_eq, e0, e2]; exact (result35 m c).symm
    refine And.imp (fun h => h.trans ?_) ?_
    · rw [val_main_v132_eq, e0, e2]; exact (result36 m c).symm
    refine And.imp (fun h => h.trans ?_) ?_
    · rw [val_main_v135_eq, e0, e2]; exact (result37 m c).symm
    refine And.imp (fun h => h.trans ?_) ?_
    · rw [val_main_v138_eq, e0, e2]; exact (result38 m c).symm
    refine And.imp (fun h => h.trans ?_) ?_
    · rw [val_main_v141_eq, e0, e2]; exact (result39 m c).symm
    refine And.imp (fun h => h.trans ?_) ?_
    · rw [val_main_v144_eq, e0, e2]; exact (result40 m c).symm
    refine And.imp (fun h => h.trans ?_) ?_
    · rw [val_main_v147_eq, e0, e2]; exact (result41 m c).symm
    refine And.imp (fun h => h.trans ?_) ?_
    · rw [val_main_v150_eq, e0, e2]; exact (result42 m c).symm
    refine And.imp (fun h => h.trans ?_) ?_
    · rw [val_main_v153_eq, e0, e2]; exact (result43 m c).symm
    refine And.imp (fun h => h.trans ?_) ?_
    · rw [val_main_v156_eq, e0, e2]; exact (result44 m c).symm
    refine And.imp (fun h => h.trans ?_) ?_
    · rw [val_main_v159_eq, e0, e2]; exact (result45 m c).symm
    refine And.imp (fun h => h.trans ?_) ?_
    · rw [val_main_v162_eq, e0, e2]; exact (result46 m c).symm
    refine And.imp (fun h => h.trans ?_) ?_
    · rw [val_main_v165_eq, e0, e2]; exact (result47 m c).symm
    refine And.imp (fun h => h.trans ?_) ?_
    · rw [val_main_v168_eq, e0, e2]; exact (result48 m c).symm
    refine And.imp (fun h => h.trans ?_) ?_
    · rw [val_main_v171_eq, e0, e3]; exact (result49 m c).symm
    refine And.imp (fun h => h.trans ?_) ?_
    · rw [val_main_v174_eq, e0, e3]; exact (result50 m c).symm
    refine And.imp (fun h => h.trans ?_) ?_
    · rw [val_main_v177_eq, e0, e3]; exact (result51 m c).symm
    refine And.imp (fun h => h.trans ?_) ?_
    · rw [val_main_v180_eq, e0, e3]; exact (result52 m c).symm
    refine And.imp (fun h => h.trans ?_) ?_
    · rw [val_main_v183_eq, e0, e3]; exact (result53 m c).symm
    refine And.imp (fun h => h.trans ?_) ?_
    · rw [val_main_v186_eq, e0, e3]; exact (result54 m c).symm
    refine And.imp (fun h => h.trans ?_) ?_
    · rw [val_main_v189_eq, e0, e3]; exact (result55 m c).symm
    refine And.imp (fun h => h.trans ?_) ?_
    · rw [val_main_v192_eq, e0, e3]; exact (result56 m c).symm
    refine And.imp (fun h => h.trans ?_) ?_
    · rw [val_main_v195_eq, e0, e3]; exact (result57 m c).symm
    refine And.imp (fun h => h.trans ?_) ?_
    · rw [val_main_v198_eq, e0, e3]; exact (result58 m c).symm
    refine And.imp (fun h => h.trans ?_) ?_
    · rw [val_main_v201_eq, e0, e3]; exact (result59 m c).symm
    refine And.imp (fun h => h.trans ?_) ?_
    · rw [val_main_v204_eq, e0, e3]; exact (result60 m c).symm
    refine And.imp (fun h => h.trans ?_) ?_
    · rw [val_main_v207_eq, e0, e3]; exact (result61 m c).symm
    refine And.imp (fun h => h.trans ?_) ?_
    · rw [val_main_v210_eq, e0, e3]; exact (result62 m c).symm
    refine And.imp (fun h => h.trans ?_) ?_
    · rw [val_main_v213_eq, e0, e3]; exact (result63 m c).symm
    refine And.imp (fun h => h.trans ?_) ?_
    · rw [val_main_v216_eq, e0, e3]; exact (result64 m c).symm
    exact id

/-- The reference runs and leaves its arguments; it has no semaphores. -/
theorem reference_frame34 : Cert.quiescent_Reference34Ideal := fun m ρ _ =>
  (θ_run Cert.Reference34Ideal.defs _ _).mono
    (fun r h => ⟨fun c => (h c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2, Idealize.ShloMosaic.sem_eq_zero_of_no_sems (by decide) r.2⟩)
    (Cert.Reference34Ideal.Value.run (F := Ideal) m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Frame
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Reference29Ideal.Read
public import proofs.«01_k».proof.Proof.Gen.Kernel30.Frame
public import proofs.«01_k».proof.Proof.Gen.Kernel30Ideal.Frame
public import proofs.«01_k».proof.Proof.Gen.Reference30Ideal.Read
public import proofs.«01_k».proof.Proof.Gen.Kernel31.Frame
public import proofs.«01_k».proof.Proof.Gen.Kernel31Ideal.Frame
public import proofs.«01_k».proof.Proof.Gen.Reference31Ideal.Read
public import proofs.«01_k».proof.Proof.Gen.Kernel32.Frame
public import proofs.«01_k».proof.Proof.Gen.Kernel32Ideal.Frame
public import proofs.«01_k».proof.Proof.Gen.Reference32Ideal.Read
public import proofs.«01_k».proof.Proof.Gen.Kernel33.Frame
public import proofs.«01_k».proof.Proof.Gen.Kernel33Ideal.Frame
public import proofs.«01_k».proof.Proof.Gen.Reference33Ideal.Read
public import proofs.«01_k».proof.Proof.Gen.Kernel34.Frame
public import proofs.«01_k».proof.Proof.Gen.Kernel34Ideal.Frame
public import proofs.«01_k».proof.Proof.Gen.Reference34Ideal.Read
public import proofs.«01_k».proof.Proof.CrossPre
public import proofs.«01_k».proof.Proof.FfnOutDx
public import proofs.«01_k».proof.Proof.FfnOutDw
public import proofs.«01_k».proof.Proof.FfnInDx
public import proofs.«01_k».proof.Proof.FfnInDw
public import proofs.«01_k».proof.Proof.InProjDx
public import proofs.«01_k».proof.Proof.InProjDw
public import proofs.«01_k».proof.Proof.InProjDwBits
public import proofs.«01_k».proof.Proof.InProj
public import proofs.«01_k».proof.Proof.FfnIn
public import proofs.«01_k».proof.Proof.FfnOut
public import proofs.«01_k».proof.Proof.Branch
public import proofs.«01_k».proof.Proof.BranchDx
public import proofs.«01_k».proof.Proof.BranchDw
public import proofs.«01_k».proof.Proof.MemQ
public import proofs.«01_k».proof.Proof.MemQDx
public import proofs.«01_k».proof.Proof.MemQDw
public import proofs.«01_k».proof.Proof.MemKv
public import proofs.«01_k».proof.Proof.MemKvDx
public import proofs.«01_k».proof.Proof.MemKvDw
public import proofs.«01_k».proof.Proof.MemO
public import proofs.«01_k».proof.Proof.MemODx
public import proofs.«01_k».proof.Proof.MemODw
public import proofs.«01_k».proof.Proof.AdamBranch
public import proofs.«01_k».proof.Proof.AdamMemQ
public import proofs.«01_k».proof.Proof.AdamFfnOut
public import proofs.«01_k».proof.Proof.AdamDecay
public import proofs.«01_k».proof.Proof.AdamGate
public import proofs.«01_k».proof.Proof.AdamMemO
public import proofs.«01_k».proof.Proof.AdamIn
public import proofs.«01_k».proof.Proof.AdamFfnIn
public import proofs.«01_k».proof.Proof.SwigluGrad
public import proofs.«01_k».proof.Proof.MixGrad
public import proofs.«01_k».proof.Proof.NormGrad
public import proofs.«01_k».proof.Proof.AdamSmallClaim
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The kernel's results are the reference's at every entry, when the argument arrays hold real numbers. -/
theorem cross_algebraic : Cert.algebraic_KernelIdeal_ReferenceIdeal_pre_finite := by
  pair_intro
  · run_from Cert.KernelIdeal.Gen.run_main m g
  · run_from Cert.ReferenceIdeal.Value.run m' g'
    · rw [Cert.ReferenceIdeal.Read.val_main_v71_eq, (hagree c).1, (hagree c).2.1, (hagree c).2.2]
      exact (Cert.KernelIdeal.Cross.final4 (Cert.KernelIdeal.Cross.fin3 hpre c)).symm
    · rw [Cert.ReferenceIdeal.Read.val_main_v72_eq, (hagree c).1, (hagree c).2.1, (hagree c).2.2]
      exact (Cert.KernelIdeal.Cross.result2 c (Cert.KernelIdeal.Cross.fin3 hpre c)).symm

/-- The reference runs and leaves its arguments; it has no semaphores. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel's result is the reference's at every entry: the gradient of the gated activations. -/
theorem algebraic2 : Cert.algebraic_Kernel2Ideal_Reference2Ideal := by
  pair_intro
  · run_from Cert.Kernel2Ideal.Gen.run_main m g
  · run_from Cert.Reference2Ideal.Value.run m' g'
    rw [Cert.Reference2Ideal.Read.val_main_v6_eq]
    exact (Cert.Kernel2Ideal.Prod.final m c).symm

/-- The reference runs and leaves its arguments; it has no semaphores. -/
theorem reference_frame2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel's result is the reference's at every entry: the gradient of the gated network's output weights. -/
theorem algebraic3 : Cert.algebraic_Kernel3Ideal_Reference3Ideal := by
  pair_intro
  · run_from Cert.Kernel3Ideal.Gen.run_main m g
  · run_from Cert.Reference3Ideal.Value.run m' g'
    rw [Cert.Reference3Ideal.Read.val_main_v7_eq]
    exact (Cert.Kernel3Ideal.Prod.final m c).symm

/-- The reference runs and leaves its arguments; it has no semaphores. -/
theorem reference_frame3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The kernel's result is the reference's at every entry: the gradient of the gated network's input. -/
theorem algebraic4 : Cert.algebraic_Kernel4Ideal_Reference4Ideal := by
  pair_intro
  · run_from Cert.Kernel4Ideal.Gen.run_main m g
  · run_from Cert.Reference4Ideal.Value.run m' g'
    rw [Cert.Reference4Ideal.Read.val_main_v6_eq]
    exact (Cert.Kernel4Ideal.Prod.final m c).symm

/-- The reference runs and leaves its arguments; it has no semaphores. -/
theorem reference_frame4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The kernel's result is the reference's at every entry: the gradient of the gated network's input weights. -/
theorem algebraic5 : Cert.algebraic_Kernel5Ideal_Reference5Ideal := by
  pair_intro
  · run_from Cert.Kernel5Ideal.Gen.run_main m g
  · run_from Cert.Reference5Ideal.Value.run m' g'
    rw [Cert.Reference5Ideal.Read.val_main_v7_eq]
    exact (Cert.Kernel5Ideal.Prod.result m c).symm

/-- The reference runs and leaves its arguments; it has no semaphores. -/
theorem reference_frame5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The kernel's result is the reference's at every entry: the gradient of the network's input through its first product. -/
theorem algebraic6 : Cert.algebraic_Kernel6Ideal_Reference6Ideal := by
  pair_intro
  · run_from Cert.Kernel6Ideal.Gen.run_main m g
    · exact Cert.Kernel6Ideal.Gen.V_main_arg0 m c
    · exact Cert.Kernel6Ideal.Gen.V_main_arg1 m c
  · run_from Cert.Reference6Ideal.Value.run m' g'
    rw [Cert.Reference6Ideal.Read.val_main_v6_eq]
    exact (Cert.Kernel6Ideal.Prod.final m c).symm

/-- The reference runs and leaves its arguments; it has no semaphores. -/
theorem reference_frame6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The kernel's result is the reference's at every entry: the gradient of the network's first weight. -/
theorem algebraic7 : Cert.algebraic_Kernel7Ideal_Reference7Ideal := by
  pair_intro
  · run_from Cert.Kernel7Ideal.Run.run_main m g
    · exact Cert.Kernel7Ideal.Gen.W_main_arg1 m _ c
  · run_from Cert.Reference7Ideal.Value.run m' g'
    rw [Cert.Reference7Ideal.Read.val_main_v7_eq]
    exact (Cert.Kernel7Ideal.Prod.result m c).symm

/-- The reference runs and leaves its arguments; it has no semaphores. -/
theorem reference_frame7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The kernel's result is the reference's at every entry: the network's first product. -/
theorem algebraic8 : Cert.algebraic_Kernel8Ideal_Reference8Ideal := by
  pair_intro
  · run_from Cert.Kernel8Ideal.Gen.run_main m g
    · exact Cert.Kernel8Ideal.Gen.W_main_arg1 m _ c
  · run_from Cert.Reference8Ideal.Value.run m' g'
    exact (Cert.Kernel8Ideal.Prod.result m c).symm

/-- The reference runs and leaves its arguments; it has no semaphores. -/
theorem reference_frame8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The kernel's result is the reference's at every entry: the gated network's first product. -/
theorem algebraic9 : Cert.algebraic_Kernel9Ideal_Reference9Ideal := by
  pair_intro
  · run_from Cert.Kernel9Ideal.Gen.run_main m g
  · run_from Cert.Reference9Ideal.Value.run m' g'
    rw [Cert.Reference9Ideal.Read.val_main_v2_eq]
    exact (Cert.Kernel9Ideal.Prod.final m c).symm

/-- The reference runs and leaves its arguments; it has no semaphores. -/
theorem reference_frame9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The kernel's result is the reference's at every entry: the gated network's second product. -/
theorem algebraic10 : Cert.algebraic_Kernel10Ideal_Reference10Ideal := by
  pair_intro
  · run_from Cert.Kernel10Ideal.Gen.run_main m g
  · run_from Cert.Reference10Ideal.Value.run m' g'
    exact (Cert.Kernel10Ideal.Prod.final m c).symm

/-- The reference runs and leaves its arguments; it has no semaphores. -/
theorem reference_frame10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The kernel's result is the reference's at every entry: the product of a branch's result with its weight. -/
theorem algebraic11 : Cert.algebraic_Kernel11Ideal_Reference11Ideal := by
  pair_intro
  · run_from Cert.Kernel11Ideal.Gen.run_main m g
  · run_from Cert.Reference11Ideal.Value.run m' g'
    exact (Cert.Kernel11Ideal.Prod.final m c).symm

/-- The reference runs and leaves its arguments; it has no semaphores. -/
theorem reference_frame11 : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The kernel's result is the reference's at every entry: the gradient of a branch's result. -/
theorem algebraic12 : Cert.algebraic_Kernel12Ideal_Reference12Ideal := by
  pair_intro
  · run_from Cert.Kernel12Ideal.Gen.run_main m g
  · run_from Cert.Reference12Ideal.Value.run m' g'
    rw [Cert.Reference12Ideal.Read.val_main_v6_eq]
    exact (Cert.Kernel12Ideal.Prod.final m c).symm

/-- The reference runs and leaves its arguments; it has no semaphores. -/
theorem reference_frame12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The kernel's result is the reference's at every entry: the gradient of a branch's weight. -/
theorem algebraic13 : Cert.algebraic_Kernel13Ideal_Reference13Ideal := by
  pair_intro
  · run_from Cert.Kernel13Ideal.Gen.run_main m g
  · run_from Cert.Reference13Ideal.Value.run m' g'
    rw [Cert.Reference13Ideal.Read.val_main_v7_eq]
    exact (Cert.Kernel13Ideal.Prod.final m c).symm

/-- The reference runs and leaves its arguments; it has no semaphores. -/
theorem reference_frame13 : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- The kernel's result is the reference's at every entry: the memory attention's queries. -/
theorem algebraic14 : Cert.algebraic_Kernel14Ideal_Reference14Ideal := by
  pair_intro
  · run_from Cert.Kernel14Ideal.Gen.run_main m g
  · run_from Cert.Reference14Ideal.Value.run m' g'
    rw [Cert.Reference14Ideal.Read.val_main_v2_eq]
    exact (Cert.Kernel14Ideal.Prod.final m c).symm

/-- The reference runs and leaves its arguments; it has no semaphores. -/
theorem reference_frame14 : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- The kernel's result is the reference's at every entry: the gradient of the queries' input. -/
theorem algebraic15 : Cert.algebraic_Kernel15Ideal_Reference15Ideal := by
  pair_intro
  · run_from Cert.Kernel15Ideal.Gen.run_main m g
  · run_from Cert.Reference15Ideal.Value.run m' g'
    rw [Cert.Reference15Ideal.Read.val_main_v6_eq]
    exact (Cert.Kernel15Ideal.Prod.final m c).symm

/-- The reference runs and leaves its arguments; it has no semaphores. -/
theorem reference_frame15 : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

/-- The kernel's result is the reference's at every entry: the gradient of the queries' weight. -/
theorem algebraic16 : Cert.algebraic_Kernel16Ideal_Reference16Ideal := by
  pair_intro
  · run_from Cert.Kernel16Ideal.Gen.run_main m g
  · run_from Cert.Reference16Ideal.Value.run m' g'
    rw [Cert.Reference16Ideal.Read.val_main_v7_eq]
    exact (Cert.Kernel16Ideal.Prod.final m c).symm

/-- The reference runs and leaves its arguments; it has no semaphores. -/
theorem reference_frame16 : Cert.quiescent_Reference16Ideal := fun m ρ _ =>
  (θ_run Cert.Reference16Ideal.defs _ _).mono
    (fun r h => ⟨fun c => (h c).2, Idealize.ShloMosaic.sem_eq_zero_of_no_sems (by decide) r.2⟩)
    (Cert.Reference16Ideal.Value.run (F := Ideal) m ρ)

/-- The kernel's result is the reference's at every entry: the memory attention's keys and values. -/
theorem algebraic17 : Cert.algebraic_Kernel17Ideal_Reference17Ideal := by
  pair_intro
  · run_from Cert.Kernel17Ideal.Gen.run_main m g
  · run_from Cert.Reference17Ideal.Value.run m' g'
    rw [Cert.Reference17Ideal.Read.val_main_v2_eq]
    exact (Cert.Kernel17Ideal.Prod.final m c).symm

/-- The reference runs and leaves its arguments; it has no semaphores. -/
theorem reference_frame17 : Cert.quiescent_Reference17Ideal := fun m ρ _ =>
  (θ_run Cert.Reference17Ideal.defs _ _).mono
    (fun r h => ⟨fun c => (h c).2, Idealize.ShloMosaic.sem_eq_zero_of_no_sems (by decide) r.2⟩)
    (Cert.Reference17Ideal.Value.run (F := Ideal) m ρ)

/-- The kernel's result is the reference's at every entry: the gradient of the keys' and values' input. -/
theorem algebraic18 : Cert.algebraic_Kernel18Ideal_Reference18Ideal := by
  pair_intro
  · run_from Cert.Kernel18Ideal.Gen.run_main m g
  · run_from Cert.Reference18Ideal.Value.run m' g'
    rw [Cert.Reference18Ideal.Read.val_main_v6_eq]
    exact (Cert.Kernel18Ideal.Prod.final m c).symm

/-- The reference runs and leaves its arguments; it has no semaphores. -/
theorem reference_frame18 : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run (F := Ideal) m ρ)

/-- The kernel's result is the reference's at every entry: the gradient of the keys' and values' weight. -/
theorem algebraic19 : Cert.algebraic_Kernel19Ideal_Reference19Ideal := by
  pair_intro
  · run_from Cert.Kernel19Ideal.Gen.run_main m g
  · run_from Cert.Reference19Ideal.Value.run m' g'
    rw [Cert.Reference19Ideal.Read.val_main_v7_eq]
    exact (Cert.Kernel19Ideal.Prod.final m c).symm

/-- The reference runs and leaves its arguments; it has no semaphores. -/
theorem reference_frame19 : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run (F := Ideal) m ρ)

/-- The kernel's result is the reference's at every entry: the memory attention's last product. -/
theorem algebraic20 : Cert.algebraic_Kernel20Ideal_Reference20Ideal := by
  pair_intro
  · run_from Cert.Kernel20Ideal.Gen.run_main m g
  · run_from Cert.Reference20Ideal.Value.run m' g'
    exact (Cert.Kernel20Ideal.Prod.final m c).symm

/-- The reference runs and leaves its arguments; it has no semaphores. -/
theorem reference_frame20 : Cert.quiescent_Reference20Ideal := fun m ρ _ =>
  (θ_run Cert.Reference20Ideal.defs _ _).mono
    (fun r h => ⟨fun c => (h c).2, Idealize.ShloMosaic.sem_eq_zero_of_no_sems (by decide) r.2⟩)
    (Cert.Reference20Ideal.Value.run (F := Ideal) m ρ)

/-- The kernel's result is the reference's at every entry: the gradient of the last product's input. -/
theorem algebraic21 : Cert.algebraic_Kernel21Ideal_Reference21Ideal := by
  pair_intro
  · run_from Cert.Kernel21Ideal.Gen.run_main m g
  · run_from Cert.Reference21Ideal.Value.run m' g'
    rw [Cert.Reference21Ideal.Read.val_main_v6_eq]
    exact (Cert.Kernel21Ideal.Prod.final m c).symm

/-- The reference runs and leaves its arguments; it has no semaphores. -/
theorem reference_frame21 : Cert.quiescent_Reference21Ideal := fun m ρ _ =>
  (θ_run Cert.Reference21Ideal.defs _ _).mono
    (fun r h => ⟨fun c => (h c).2, Idealize.ShloMosaic.sem_eq_zero_of_no_sems (by decide) r.2⟩)
    (Cert.Reference21Ideal.Value.run (F := Ideal) m ρ)

/-- The kernel's result is the reference's at every entry: the gradient of the last product's weight. -/
theorem algebraic22 : Cert.algebraic_Kernel22Ideal_Reference22Ideal := by
  pair_intro
  · run_from Cert.Kernel22Ideal.Gen.run_main m g
  · run_from Cert.Reference22Ideal.Value.run m' g'
    rw [Cert.Reference22Ideal.Read.val_main_v7_eq]
    exact (Cert.Kernel22Ideal.Prod.final m c).symm

/-- The reference runs and leaves its arguments; it has no semaphores. -/
theorem reference_frame22 : Cert.quiescent_Reference22Ideal := fun m ρ _ =>
  (θ_run Cert.Reference22Ideal.defs _ _).mono
    (fun r h => ⟨fun c => (h c).2, Idealize.ShloMosaic.sem_eq_zero_of_no_sems (by decide) r.2⟩)
    (Cert.Reference22Ideal.Value.run (F := Ideal) m ρ)

/-- The kernel's four results are the reference's at every entry: the update of a branch's weight. -/
theorem algebraic23 : Cert.algebraic_Kernel23Ideal_Reference23Ideal := by
  pair_intro
  · run_from Cert.Kernel23Ideal.Gen.run_main m g
  · refine (θ_run Cert.Reference23Ideal.defs _ _).mono (fun r h => ?_) (Cert.Reference23Ideal.Value.run m' g')
    intro c
    obtain ⟨h0, h1, h2, h3, ha⟩ := h c
    obtain ⟨e0, e1, e2, e3⟩ := hagree c
    refine ⟨h0.trans ?_, h1.trans ?_, h2.trans ?_, h3.trans ?_, ha⟩
    · rw [Cert.Reference23Ideal.Read.val_main_v1_eq, e0]
      exact (Cert.Kernel23Ideal.Adam.result0 m c).symm
    · rw [Cert.Reference23Ideal.Read.val_main_v25_eq, e0, e1, e2, e3]
      exact (Cert.Kernel23Ideal.Adam.result1 m c).symm
    · rw [Cert.Reference23Ideal.Read.val_main_v6_eq, e0, e2]
      exact (Cert.Kernel23Ideal.Adam.result2 m c).symm
    · rw [Cert.Reference23Ideal.Read.val_main_v12_eq, e0, e3]
      exact (Cert.Kernel23Ideal.Adam.result3 m c).symm

/-- The reference runs and leaves its arguments; it has no semaphores. -/
theorem reference_frame23 : Cert.quiescent_Reference23Ideal := fun m ρ _ =>
  (θ_run Cert.Reference23Ideal.defs _ _).mono
    (fun r h => ⟨fun c => (h c).2.2.2.2, Idealize.ShloMosaic.sem_eq_zero_of_no_sems (by decide) r.2⟩)
    (Cert.Reference23Ideal.Value.run (F := Ideal) m ρ)

/-- The kernel's four results are the reference's at every entry: the update of the queries' weight. -/
theorem algebraic24 : Cert.algebraic_Kernel24Ideal_Reference24Ideal := by
  pair_intro
  · run_from Cert.Kernel24Ideal.Gen.run_main m g
  · refine (θ_run Cert.Reference24Ideal.defs _ _).mono (fun r h => ?_) (Cert.Reference24Ideal.Value.run m' g')
    intro c
    obtain ⟨h0, h1, h2, h3, ha⟩ := h c
    obtain ⟨e0, e1, e2, e3⟩ := hagree c
    refine ⟨h0.trans ?_, h1.trans ?_, h2.trans ?_, h3.trans ?_, ha⟩
    · rw [Cert.Reference24Ideal.Read.val_main_v1_eq, e0]
      exact (Cert.Kernel24Ideal.Adam.result0 m c).symm
    · rw [Cert.Reference24Ideal.Read.val_main_v25_eq, e0, e1, e2, e3]
      exact (Cert.Kernel24Ideal.Adam.result1 m c).symm
    · rw [Cert.Reference24Ideal.Read.val_main_v6_eq, e0, e2]
      exact (Cert.Kernel24Ideal.Adam.result2 m c).symm
    · rw [Cert.Reference24Ideal.Read.val_main_v12_eq, e0, e3]
      exact (Cert.Kernel24Ideal.Adam.result3 m c).symm

/-- The reference runs and leaves its arguments; it has no semaphores. -/
theorem reference_frame24 : Cert.quiescent_Reference24Ideal := fun m ρ _ =>
  (θ_run Cert.Reference24Ideal.defs _ _).mono
    (fun r h => ⟨fun c => (h c).2.2.2.2, Idealize.ShloMosaic.sem_eq_zero_of_no_sems (by decide) r.2⟩)
    (Cert.Reference24Ideal.Value.run (F := Ideal) m ρ)

/-- The kernel's four results are the reference's at every entry: the update of the gated network's output weights. -/
theorem algebraic25 : Cert.algebraic_Kernel25Ideal_Reference25Ideal := by
  pair_intro
  · run_from Cert.Kernel25Ideal.Gen.run_main m g
  · refine (θ_run Cert.Reference25Ideal.defs _ _).mono (fun r h => ?_) (Cert.Reference25Ideal.Value.run m' g')
    intro c
    obtain ⟨h0, h1, h2, h3, ha⟩ := h c
    obtain ⟨e0, e1, e2, e3⟩ := hagree c
    refine ⟨h0.trans ?_, h1.trans ?_, h2.trans ?_, h3.trans ?_, ha⟩
    · rw [Cert.Reference25Ideal.Read.val_main_v1_eq, e0]
      exact (Cert.Kernel25Ideal.Adam.result0 m c).symm
    · rw [Cert.Reference25Ideal.Read.val_main_v25_eq, e0, e1, e2, e3]
      exact (Cert.Kernel25Ideal.Adam.result1 m c).symm
    · rw [Cert.Reference25Ideal.Read.val_main_v6_eq, e0, e2]
      exact (Cert.Kernel25Ideal.Adam.result2 m c).symm
    · rw [Cert.Reference25Ideal.Read.val_main_v12_eq, e0, e3]
      exact (Cert.Kernel25Ideal.Adam.result3 m c).symm

/-- The reference runs and leaves its arguments; it has no semaphores. -/
theorem reference_frame25 : Cert.quiescent_Reference25Ideal := fun m ρ _ =>
  (θ_run Cert.Reference25Ideal.defs _ _).mono
    (fun r h => ⟨fun c => (h c).2.2.2.2, Idealize.ShloMosaic.sem_eq_zero_of_no_sems (by decide) r.2⟩)
    (Cert.Reference25Ideal.Value.run (F := Ideal) m ρ)

/-- The kernel's four results are the reference's at every entry: the update of a low-rank weight of the decay. -/
theorem algebraic26 : Cert.algebraic_Kernel26Ideal_Reference26Ideal := by
  pair_intro
  · run_from Cert.Kernel26Ideal.Gen.run_main m g
  · refine (θ_run Cert.Reference26Ideal.defs _ _).mono (fun r h => ?_) (Cert.Reference26Ideal.Value.run m' g')
    intro c
    obtain ⟨h0, h1, h2, h3, ha⟩ := h c
    obtain ⟨e0, e1, e2, e3⟩ := hagree c
    refine ⟨h0.trans ?_, h1.trans ?_, h2.trans ?_, h3.trans ?_, ha⟩
    · rw [Cert.Reference26Ideal.Read.val_main_v1_eq, e0]
      exact (Cert.Kernel26Ideal.Adam.result0 m c).symm
    · rw [Cert.Reference26Ideal.Read.val_main_v25_eq, e0, e1, e2, e3]
      exact (Cert.Kernel26Ideal.Adam.result1 m c).symm
    · rw [Cert.Reference26Ideal.Read.val_main_v6_eq, e0, e2]
      exact (Cert.Kernel26Ideal.Adam.result2 m c).symm
    · rw [Cert.Reference26Ideal.Read.val_main_v12_eq, e0, e3]
      exact (Cert.Kernel26Ideal.Adam.result3 m c).symm

/-- The reference runs and leaves its arguments; it has no semaphores. -/
theorem reference_frame26 : Cert.quiescent_Reference26Ideal := fun m ρ _ =>
  (θ_run Cert.Reference26Ideal.defs _ _).mono
    (fun r h => ⟨fun c => (h c).2.2.2.2, Idealize.ShloMosaic.sem_eq_zero_of_no_sems (by decide) r.2⟩)
    (Cert.Reference26Ideal.Value.run (F := Ideal) m ρ)

/-- The kernel's four results are the reference's at every entry: the update of the low-rank weight of the gate. -/
theorem algebraic27 : Cert.algebraic_Kernel27Ideal_Reference27Ideal := by
  pair_intro
  · run_from Cert.Kernel27Ideal.Gen.run_main m g
  · refine (θ_run Cert.Reference27Ideal.defs _ _).mono (fun r h => ?_) (Cert.Reference27Ideal.Value.run m' g')
    intro c
    obtain ⟨h0, h1, h2, h3, ha⟩ := h c
    obtain ⟨e0, e1, e2, e3⟩ := hagree c
    refine ⟨h0.trans ?_, h1.trans ?_, h2.trans ?_, h3.trans ?_, ha⟩
    · rw [Cert.Reference27Ideal.Read.val_main_v1_eq, e0]
      exact (Cert.Kernel27Ideal.Adam.result0 m c).symm
    · rw [Cert.Reference27Ideal.Read.val_main_v25_eq, e0, e1, e2, e3]
      exact (Cert.Kernel27Ideal.Adam.result1 m c).symm
    · rw [Cert.Reference27Ideal.Read.val_main_v6_eq, e0, e2]
      exact (Cert.Kernel27Ideal.Adam.result2 m c).symm
    · rw [Cert.Reference27Ideal.Read.val_main_v12_eq, e0, e3]
      exact (Cert.Kernel27Ideal.Adam.result3 m c).symm

/-- The reference runs and leaves its arguments; it has no semaphores. -/
theorem reference_frame27 : Cert.quiescent_Reference27Ideal := fun m ρ _ =>
  (θ_run Cert.Reference27Ideal.defs _ _).mono
    (fun r h => ⟨fun c => (h c).2.2.2.2, Idealize.ShloMosaic.sem_eq_zero_of_no_sems (by decide) r.2⟩)
    (Cert.Reference27Ideal.Value.run (F := Ideal) m ρ)

/-- The kernel's four results are the reference's at every entry: the update of the memory attention's last weight. -/
theorem algebraic28 : Cert.algebraic_Kernel28Ideal_Reference28Ideal := by
  pair_intro
  · run_from Cert.Kernel28Ideal.Gen.run_main m g
  · refine (θ_run Cert.Reference28Ideal.defs _ _).mono (fun r h => ?_) (Cert.Reference28Ideal.Value.run m' g')
    intro c
    obtain ⟨h0, h1, h2, h3, ha⟩ := h c
    obtain ⟨e0, e1, e2, e3⟩ := hagree c
    refine ⟨h0.trans ?_, h1.trans ?_, h2.trans ?_, h3.trans ?_, ha⟩
    · rw [Cert.Reference28Ideal.Read.val_main_v1_eq, e0]
      exact (Cert.Kernel28Ideal.Adam.result0 m c).symm
    · rw [Cert.Reference28Ideal.Read.val_main_v25_eq, e0, e1, e2, e3]
      exact (Cert.Kernel28Ideal.Adam.result1 m c).symm
    · rw [Cert.Reference28Ideal.Read.val_main_v6_eq, e0, e2]
      exact (Cert.Kernel28Ideal.Adam.result2 m c).symm
    · rw [Cert.Reference28Ideal.Read.val_main_v12_eq, e0, e3]
      exact (Cert.Kernel28Ideal.Adam.result3 m c).symm

/-- The reference runs and leaves its arguments; it has no semaphores. -/
theorem reference_frame28 : Cert.quiescent_Reference28Ideal := fun m ρ _ =>
  (θ_run Cert.Reference28Ideal.defs _ _).mono
    (fun r h => ⟨fun c => (h c).2.2.2.2, Idealize.ShloMosaic.sem_eq_zero_of_no_sems (by decide) r.2⟩)
    (Cert.Reference28Ideal.Value.run (F := Ideal) m ρ)

/-- The kernel's four results are the reference's at every entry: the update of the network's first weight. -/
theorem algebraic29 : Cert.algebraic_Kernel29Ideal_Reference29Ideal := by
  pair_intro
  · run_from Cert.Kernel29Ideal.Gen.run_main m g
    · exact Cert.Kernel29Ideal.Gen.W_main_arg1 m _ c
    · exact Cert.Kernel29Ideal.Gen.W_main_arg2 m _ c
    · exact Cert.Kernel29Ideal.Gen.W_main_arg3 m _ c
  · refine (θ_run Cert.Reference29Ideal.defs _ _).mono (fun r h => ?_) (Cert.Reference29Ideal.Value.run m' g')
    intro c
    obtain ⟨h0, h1, h2, h3, ha⟩ := h c
    obtain ⟨e0, e1, e2, e3⟩ := hagree c
    refine ⟨h0.trans ?_, h1.trans ?_, h2.trans ?_, h3.trans ?_, ha⟩
    · rw [Cert.Reference29Ideal.Read.val_main_v2_eq, e0]
      exact (Cert.Kernel29Ideal.Adam.result0 m c).symm
    · rw [Cert.Reference29Ideal.Read.val_main_v26_eq, e0, e1, e2, e3]
      exact (Cert.Kernel29Ideal.Adam.result1 m c).symm
    · rw [Cert.Reference29Ideal.Read.val_main_v7_eq, e0, e2]
      exact (Cert.Kernel29Ideal.Adam.result2 m c).symm
    · rw [Cert.Reference29Ideal.Read.val_main_v13_eq, e0, e3]
      exact (Cert.Kernel29Ideal.Adam.result3 m c).symm

/-- The reference runs and leaves its arguments; it has no semaphores. -/
theorem reference_frame29 : Cert.quiescent_Reference29Ideal := fun m ρ _ =>
  (θ_run Cert.Reference29Ideal.defs _ _).mono
    (fun r h => ⟨fun c => (h c).2.2.2.2, Idealize.ShloMosaic.sem_eq_zero_of_no_sems (by decide) r.2⟩)
    (Cert.Reference29Ideal.Value.run (F := Ideal) m ρ)

/-- The kernel's four results are the reference's at every entry: the update of the gated network's input weights. -/
theorem algebraic30 : Cert.algebraic_Kernel30Ideal_Reference30Ideal := by
  pair_intro
  · run_from Cert.Kernel30Ideal.Gen.run_main m g
    · exact Cert.Kernel30Ideal.Gen.W_main_arg1 m _ c
    · exact Cert.Kernel30Ideal.Gen.W_main_arg2 m _ c
    · exact Cert.Kernel30Ideal.Gen.W_main_arg3 m _ c
  · refine (θ_run Cert.Reference30Ideal.defs _ _).mono (fun r h => ?_) (Cert.Reference30Ideal.Value.run m' g')
    intro c
    obtain ⟨h0, h1, h2, h3, ha⟩ := h c
    obtain ⟨e0, e1, e2, e3⟩ := hagree c
    refine ⟨h0.trans ?_, h1.trans ?_, h2.trans ?_, h3.trans ?_, ha⟩
    · rw [Cert.Reference30Ideal.Read.val_main_v2_eq, e0]
      exact (Cert.Kernel30Ideal.Adam.result0 m c).symm
    · rw [Cert.Reference30Ideal.Read.val_main_v26_eq, e0, e1, e2, e3]
      exact (Cert.Kernel30Ideal.Adam.result1 m c).symm
    · rw [Cert.Reference30Ideal.Read.val_main_v7_eq, e0, e2]
      exact (Cert.Kernel30Ideal.Adam.result2 m c).symm
    · rw [Cert.Reference30Ideal.Read.val_main_v13_eq, e0, e3]
      exact (Cert.Kernel30Ideal.Adam.result3 m c).symm

/-- The reference runs and leaves its arguments; it has no semaphores. -/
theorem reference_frame30 : Cert.quiescent_Reference30Ideal := fun m ρ _ =>
  (θ_run Cert.Reference30Ideal.defs _ _).mono
    (fun r h => ⟨fun c => (h c).2.2.2.2, Idealize.ShloMosaic.sem_eq_zero_of_no_sems (by decide) r.2⟩)
    (Cert.Reference30Ideal.Value.run (F := Ideal) m ρ)

/-- The kernel's result is the reference's at every entry: the gradient of the gated product. -/
theorem algebraic31 : Cert.algebraic_Kernel31Ideal_Reference31Ideal := by
  pair_intro
  · run_from Cert.Kernel31Ideal.Gen.run_main m g
  · refine (θ_run Cert.Reference31Ideal.defs _ _).mono (fun r h => ?_) (Cert.Reference31Ideal.Value.run m' g')
    intro c
    obtain ⟨h0, ha⟩ := h c
    obtain ⟨e0, e1⟩ := hagree c
    refine ⟨h0.trans ?_, ha⟩
    · rw [Cert.Reference31Ideal.Read.val_main_v10_eq, e0, e1]
      exact (Cert.Kernel31Ideal.Gated.final m c).symm

/-- The reference runs and leaves its arguments; it has no semaphores. -/
theorem reference_frame31 : Cert.quiescent_Reference31Ideal := fun m ρ _ =>
  (θ_run Cert.Reference31Ideal.defs _ _).mono
    (fun r h => ⟨fun c => (h c).2, Idealize.ShloMosaic.sem_eq_zero_of_no_sems (by decide) r.2⟩)
    (Cert.Reference31Ideal.Value.run (F := Ideal) m ρ)

/-- The kernel's four results are the reference's at every entry: the gradients of the mixing gate, of the memory gate and of the two branches. -/
theorem algebraic32 : Cert.algebraic_Kernel32Ideal_Reference32Ideal := by
  pair_intro
  · run_from Cert.Kernel32Ideal.Gen.run_main m g
  · refine (θ_run Cert.Reference32Ideal.defs _ _).mono (fun r h => ?_) (Cert.Reference32Ideal.Value.run m' g')
    intro c
    obtain ⟨h0, h1, h2, h3, ha⟩ := h c
    obtain ⟨e0, e1, e2, e3⟩ := hagree c
    refine ⟨h0.trans ?_, h1.trans ?_, h2.trans ?_, h3.trans ?_, ha⟩
    · rw [Cert.Reference32Ideal.Read.val_main_v30_eq, e0, e1, e3]
      exact (Cert.Kernel32Ideal.Mix.final5 m c).symm
    · rw [Cert.Reference32Ideal.Read.val_main_v31_eq, e0, e2, e3]
      exact (Cert.Kernel32Ideal.Mix.final6 m c).symm
    · rw [Cert.Reference32Ideal.Read.val_main_v32_eq, e0, e3]
      exact (Cert.Kernel32Ideal.Mix.final7 m c).symm
    · rw [Cert.Reference32Ideal.Read.val_main_v33_eq, e0, e3]
      exact (Cert.Kernel32Ideal.Mix.final8 m c).symm

/-- The reference runs and leaves its arguments; it has no semaphores. -/
theorem reference_frame32 : Cert.quiescent_Reference32Ideal := fun m ρ _ =>
  (θ_run Cert.Reference32Ideal.defs _ _).mono
    (fun r h => ⟨fun c => (h c).2.2.2.2, Idealize.ShloMosaic.sem_eq_zero_of_no_sems (by decide) r.2⟩)
    (Cert.Reference32Ideal.Value.run (F := Ideal) m ρ)

/-- The kernel's two results are the reference's at every entry: the gradients of the activations and of the gains. -/
theorem algebraic33 : Cert.algebraic_Kernel33Ideal_Reference33Ideal := by
  pair_intro
  · run_from Cert.Kernel33Ideal.Gen.run_main m g
  · refine (θ_run Cert.Reference33Ideal.defs _ _).mono (fun r h => ?_) (Cert.Reference33Ideal.Value.run m' g')
    intro c
    obtain ⟨h0, h1, ha⟩ := h c
    obtain ⟨e0, e1, e2, e3⟩ := hagree c
    refine ⟨h0.trans ?_, h1.trans ?_, ha⟩
    · rw [Cert.Reference33Ideal.Read.val_main_v35_eq, e0, e1, e2, e3]
      exact (Cert.Kernel33Ideal.Norm.final4 m c).symm
    · rw [Cert.Reference33Ideal.Read.val_main_v18_eq, e0, e3]
      exact (Cert.Kernel33Ideal.Norm.final5 m c).symm

/-- The reference runs and leaves its arguments; it has no semaphores. -/
theorem reference_frame33 : Cert.quiescent_Reference33Ideal := fun m ρ _ =>
  (θ_run Cert.Reference33Ideal.defs _ _).mono
    (fun r h => ⟨fun c => (h c).2.2, Idealize.ShloMosaic.sem_eq_zero_of_no_sems (by decide) r.2⟩)
    (Cert.Reference33Ideal.Value.run (F := Ideal) m ρ)

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  reference_frame2,
  fun m ρ _ => Cert.Kernel3.Gen.frame m ρ,
  fun m ρ _ => Cert.Kernel3Ideal.Gen.frame m ρ,
  reference_frame3,
  fun m ρ _ => Cert.Kernel4.Gen.frame m ρ,
  fun m ρ _ => Cert.Kernel4Ideal.Gen.frame m ρ,
  reference_frame4,
  fun m ρ _ => Cert.Kernel5.Gen.frame m ρ,
  fun m ρ _ => Cert.Kernel5Ideal.Gen.frame m ρ,
  reference_frame5,
  fun m ρ _ => Cert.Kernel6.Gen.frame m ρ,
  fun m ρ _ => Cert.Kernel6Ideal.Gen.frame m ρ,
  reference_frame6,
  fun m ρ _ => Cert.Kernel7.Run.frame_run m ρ,
  fun m ρ _ => Cert.Kernel7Ideal.Run.frame_run m ρ,
  reference_frame7,
  fun m ρ _ => Cert.Kernel8.Gen.frame m ρ,
  fun m ρ _ => Cert.Kernel8Ideal.Gen.frame m ρ,
  reference_frame8,
  fun m ρ _ => Cert.Kernel9.Gen.frame m ρ,
  fun m ρ _ => Cert.Kernel9Ideal.Gen.frame m ρ,
  reference_frame9,
  fun m ρ _ => Cert.Kernel10.Gen.frame m ρ,
  fun m ρ _ => Cert.Kernel10Ideal.Gen.frame m ρ,
  reference_frame10,
  fun m ρ _ => Cert.Kernel11.Gen.frame m ρ,
  fun m ρ _ => Cert.Kernel11Ideal.Gen.frame m ρ,
  reference_frame11,
  fun m ρ _ => Cert.Kernel12.Gen.frame m ρ,
  fun m ρ _ => Cert.Kernel12Ideal.Gen.frame m ρ,
  reference_frame12,
  fun m ρ _ => Cert.Kernel13.Gen.frame m ρ,
  fun m ρ _ => Cert.Kernel13Ideal.Gen.frame m ρ,
  reference_frame13,
  fun m ρ _ => Cert.Kernel14.Gen.frame m ρ,
  fun m ρ _ => Cert.Kernel14Ideal.Gen.frame m ρ,
  reference_frame14,
  fun m ρ _ => Cert.Kernel15.Gen.frame m ρ,
  fun m ρ _ => Cert.Kernel15Ideal.Gen.frame m ρ,
  reference_frame15,
  fun m ρ _ => Cert.Kernel16.Gen.frame m ρ,
  fun m ρ _ => Cert.Kernel16Ideal.Gen.frame m ρ,
  reference_frame16,
  fun m ρ _ => Cert.Kernel17.Gen.frame m ρ,
  fun m ρ _ => Cert.Kernel17Ideal.Gen.frame m ρ,
  reference_frame17,
  fun m ρ _ => Cert.Kernel18.Gen.frame m ρ,
  fun m ρ _ => Cert.Kernel18Ideal.Gen.frame m ρ,
  reference_frame18,
  fun m ρ _ => Cert.Kernel19.Gen.frame m ρ,
  fun m ρ _ => Cert.Kernel19Ideal.Gen.frame m ρ,
  reference_frame19,
  fun m ρ _ => Cert.Kernel20.Gen.frame m ρ,
  fun m ρ _ => Cert.Kernel20Ideal.Gen.frame m ρ,
  reference_frame20,
  fun m ρ _ => Cert.Kernel21.Gen.frame m ρ,
  fun m ρ _ => Cert.Kernel21Ideal.Gen.frame m ρ,
  reference_frame21,
  fun m ρ _ => Cert.Kernel22.Gen.frame m ρ,
  fun m ρ _ => Cert.Kernel22Ideal.Gen.frame m ρ,
  reference_frame22,
  fun m ρ _ => Cert.Kernel23.Gen.frame m ρ,
  fun m ρ _ => Cert.Kernel23Ideal.Gen.frame m ρ,
  reference_frame23,
  fun m ρ _ => Cert.Kernel24.Gen.frame m ρ,
  fun m ρ _ => Cert.Kernel24Ideal.Gen.frame m ρ,
  reference_frame24,
  fun m ρ _ => Cert.Kernel25.Gen.frame m ρ,
  fun m ρ _ => Cert.Kernel25Ideal.Gen.frame m ρ,
  reference_frame25,
  fun m ρ _ => Cert.Kernel26.Gen.frame m ρ,
  fun m ρ _ => Cert.Kernel26Ideal.Gen.frame m ρ,
  reference_frame26,
  fun m ρ _ => Cert.Kernel27.Gen.frame m ρ,
  fun m ρ _ => Cert.Kernel27Ideal.Gen.frame m ρ,
  reference_frame27,
  fun m ρ _ => Cert.Kernel28.Gen.frame m ρ,
  fun m ρ _ => Cert.Kernel28Ideal.Gen.frame m ρ,
  reference_frame28,
  fun m ρ _ => Cert.Kernel29.Gen.frame m ρ,
  fun m ρ _ => Cert.Kernel29Ideal.Gen.frame m ρ,
  reference_frame29,
  fun m ρ _ => Cert.Kernel30.Gen.frame m ρ,
  fun m ρ _ => Cert.Kernel30Ideal.Gen.frame m ρ,
  reference_frame30,
  fun m ρ _ => Cert.Kernel31.Gen.frame m ρ,
  fun m ρ _ => Cert.Kernel31Ideal.Gen.frame m ρ,
  reference_frame31,
  fun m ρ _ => Cert.Kernel32.Gen.frame m ρ,
  fun m ρ _ => Cert.Kernel32Ideal.Gen.frame m ρ,
  reference_frame32,
  fun m ρ _ => Cert.Kernel33.Gen.frame m ρ,
  fun m ρ _ => Cert.Kernel33Ideal.Gen.frame m ρ,
  reference_frame33,
  fun m ρ _ => Cert.Kernel34.Gen.frame m ρ,
  fun m ρ _ => Cert.Kernel34Ideal.Gen.frame m ρ,
  reference_frame34,
  trivial,
  cross_algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12,
  trivial,
  algebraic13,
  trivial,
  algebraic14,
  trivial,
  algebraic15,
  trivial,
  algebraic16,
  trivial,
  algebraic17,
  trivial,
  algebraic18,
  trivial,
  algebraic19,
  trivial,
  algebraic20,
  trivial,
  algebraic21,
  trivial,
  algebraic22,
  trivial,
  algebraic23,
  trivial,
  algebraic24,
  trivial,
  algebraic25,
  trivial,
  algebraic26,
  trivial,
  algebraic27,
  trivial,
  algebraic28,
  trivial,
  algebraic29,
  trivial,
  algebraic30,
  trivial,
  algebraic31,
  trivial,
  algebraic32,
  trivial,
  algebraic33,
  trivial,
  algebraic34⟩

end Cert.Proof

end
